-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v14) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v41) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v40) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v16) = v0 c
          ∧ r.2.mem ((c.tc : Thread Cert.Reference18Ideal.nD Cert.Reference18Ideal.τ).loc Cert.Reference18Ideal.main_v17) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite.lean ====
abbrev S4096x1024 : Shape := ⟨2, ![4096, 1024]⟩
abbrev S4096x512 : Shape := ⟨2, ![4096, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x512 : S_.BroadcastsInDim S4096x512 (![] : Fin 0 → Fin S4096x512.rank)

variable [Facts]

def fn {F : FTy → Type} [FloatOps F] (main_arg0 : FVec F S4096x1024 .bf16) (main_arg1 : FVec F S4096x1024 .bf16) (main_arg2 : FVec F S4096x512 .bf16) (main_arg3 : FVec F S4096x512 .bf16) : IVec S4096x1024 1 × IVec S4096x1024 1 × IVec S4096x512 1 × IVec S4096x512 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S4096x512 .f32 := (extf .f32 · bitsLt_bf16_f32) main_arg3
  let main_v13 : FVec F S4096x512 .f32 := Host.absf main_v12
  let main_cst_2 : FVec F S_ .f32 := constant S_ .f32 0x7F800000#32
  let main_v14 : FVec F S4096x512 .f32 := broadcastInDim S4096x512 ![] bcast_S_S4096x512 main_cst_2
  let main_v15 : IVec S4096x512 1 := cmpf .olt main_v13 main_v14
  (main_v3, main_v7, main_v11, main_v15)
-- ==== Kernel.lean ====
abbrev S4096x1024 : Shape := ⟨2, ![4096, 1024]⟩
abbrev S4096x512 : Shape := ⟨2, ![4096, 512]⟩
abbrev S512x1024 : Shape := ⟨2, ![512, 1024]⟩
abbrev S512x512 : Shape := ⟨2, ![512, 512]⟩
abbrev S512x256 : Shape := ⟨2, ![512, 256]⟩
abbrev S512x1 : Shape := ⟨2, ![512, 1]⟩
abbrev S512x128 : Shape := ⟨2, ![512, 128]⟩
abbrev S512 : Shape := ⟨1, ![512]⟩

abbrev nBuf : Space → Nat
  | .hbm => 10
  | .vmem => 34
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .f32⟩
  | .hbm, ⟨6, _⟩ => ⟨S4096x1024, .bf16⟩
  | .hbm, ⟨7, _⟩ => ⟨S4096x512, .f32⟩
  | .hbm, ⟨8, _⟩ => ⟨S4096x1024, .bf16⟩
  | .hbm, ⟨9, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S4096x1024, .bf16⟩
  | .local _ .vmem, ⟨11, _⟩ => ⟨S4096x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S512x512, .f32⟩
  | .local _ .vmem, ⟨21, _⟩ => ⟨S512x512, .f32⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | .local _ .vmem, ⟨26, _⟩ => ⟨S4096x1024, .bf16⟩
  | .local _ .vmem, ⟨27, _⟩ => ⟨S4096x512, .bf16⟩
  | .local _ .vmem, ⟨28, _⟩ => ⟨S4096x512, .f32⟩
  | .local _ .vmem, ⟨29, _⟩ => ⟨S4096x512, .f32⟩
  | .local _ .vmem, ⟨30, _⟩ => ⟨S512x1024, .bf16⟩
  | .local _ .vmem, ⟨31, _⟩ => ⟨S512x1024, .bf16⟩
  | .local _ .vmem, ⟨32, _⟩ => ⟨S512x512, .bf16⟩
  | .local _ .vmem, ⟨33, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨1, ![8], ![false]⟩

@[reducible] def k0_t1_loop (i : grid0.Coords) : Scf.Loop 32 :=
  let c0_i32 : BitVec 32 := 0#32
  let arg0 : BitVec 32 := BitVec.ofNat 32 (i 0).val
  let v16 : BitVec 32 := Scalar.subi arg0 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_15 : BitVec 32 := 1#32
  ⟨c0_i32, v20, c1_i32_15⟩
def k0_mult1 (i : grid0.Coords) (k0_t1 : Fin (k0_t1_loop i).trips) : BitVec 32 :=
  let c0_i32 : BitVec 32 := 0#32
  let c1_i32_15 : BitVec 32 := 1#32
  let arg6 : BitVec 32 := Scf.iv c0_i32 c1_i32_15 k0_t1
  let c512_i32_71 : BitVec 32 := 512#32
  let v201 : BitVec 32 := Scalar.muli arg6 c512_i32_71
  v201
def k0_off1 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_71 : BitVec 32 := 512#32
  let v201 : BitVec 32 := Scalar.muli arg6 c512_i32_71
  let v202 : BitVec 32 := v201
  let v203 : Index := Scalar.indexCast v202
  let c0_72 : Index := 0#32
  ![v203.toNat, 0]
def k0_off2 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_71 : BitVec 32 := 512#32
  let v201 : BitVec 32 := Scalar.muli arg6 c512_i32_71
  let v202 : BitVec 32 := v201
  let v205 : Index := Scalar.indexCast v202
  let c0_73 : Index := 0#32
  ![v205.toNat, 0]
def k0_off3 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_71 : BitVec 32 := 512#32
  let v201 : BitVec 32 := Scalar.muli arg6 c512_i32_71
  let v202 : BitVec 32 := v201
  let v227 : Index := Scalar.indexCast v202
  let c256_79 : Index := 256#32
  ![v227.toNat, 256]
def k0_off4 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_71 : BitVec 32 := 512#32
  let v201 : BitVec 32 := Scalar.muli arg6 c512_i32_71
  let v202 : BitVec 32 := v201
  let v229 : Index := Scalar.indexCast v202
  let c128_80 : Index := 128#32
  ![v229.toNat, 128]
def k0_off5 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_71 : BitVec 32 := 512#32
  let v201 : BitVec 32 := Scalar.muli arg6 c512_i32_71
  let v202 : BitVec 32 := v201
  let v251 : Index := Scalar.indexCast v202
  let c512_86 : Index := 512#32
  ![v251.toNat, 512]
def k0_off6 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_71 : BitVec 32 := 512#32
  let v201 : BitVec 32 := Scalar.muli arg6 c512_i32_71
  let v202 : BitVec 32 := v201
  let v253 : Index := Scalar.indexCast v202
  let c256_87 : Index := 256#32
  ![v253.toNat, 256]
def k0_off7 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_71 : BitVec 32 := 512#32
  let v201 : BitVec 32 := Scalar.muli arg6 c512_i32_71
  let v202 : BitVec 32 := v201
  let v275 : Index := Scalar.indexCast v202
  let c768_93 : Index := 768#32
  ![v275.toNat, 768]
def k0_off8 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_71 : BitVec 32 := 512#32
  let v201 : BitVec 32 := Scalar.muli arg6 c512_i32_71
  let v202 : BitVec 32 := v201
  let v277 : Index := Scalar.indexCast v202
  let c384_94 : Index := 384#32
  ![v277.toNat, 384]
@[reducible] def k0_t2_loop (i : grid0.Coords) : Scf.Loop 32 :=
  let c0_i32 : BitVec 32 := 0#32
  let arg0 : BitVec 32 := BitVec.ofNat 32 (i 0).val
  let v16 : BitVec 32 := Scalar.subi arg0 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_16 : BitVec 32 := 1#32
  ⟨v20, v17, c1_i32_16⟩
def k0_mult2 (i : grid0.Coords) (k0_t2 : Fin (k0_t2_loop i).trips) : BitVec 32 :=
  let c0_i32 : BitVec 32 := 0#32
  let arg0 : BitVec 32 := BitVec.ofNat 32 (i 0).val
  let v16 : BitVec 32 := Scalar.subi arg0 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg6 : BitVec 32 := Scf.iv v20 c1_i32_16 k0_t2
  let c512_i32_71 : BitVec 32 := 512#32
  let v201 : BitVec 32 := Scalar.muli arg6 c512_i32_71
  v201
def k0_off9 (i : grid0.Coords) (k0_t2 : Fin (k0_t2_loop i).trips) : Fin 2 → Nat :=
  let c0_i32 : BitVec 32 := 0#32
  let arg0 : BitVec 32 := BitVec.ofNat 32 (i 0).val
  let v16 : BitVec 32 := Scalar.subi arg0 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg6 : BitVec 32 := Scf.iv v20 c1_i32_16 k0_t2
  let c512_i32_71 : BitVec 32 := 512#32
  let v201 : BitVec 32 := Scalar.muli arg6 c512_i32_71
  let v202 : BitVec 32 := v201
  let v203 : Index := Scalar.indexCast v202
  let c0_72 : Index := 0#32
  ![v203.toNat, 0]
def k0_off10 (i : grid0.Coords) (k0_t2 : Fin (k0_t2_loop i).trips) : Fin 2 → Nat :=
  let c0_i32 : BitVec 32 := 0#32
  let arg0 : BitVec 32 := BitVec.ofNat 32 (i 0).val
  let v16 : BitVec 32 := Scalar.subi arg0 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg6 : BitVec 32 := Scf.iv v20 c1_i32_16 k0_t2
  let c512_i32_71 : BitVec 32 := 512#32
  let v201 : BitVec 32 := Scalar.muli arg6 c512_i32_71
  let v202 : BitVec 32 := v201
  let v205 : Index := Scalar.indexCast v202
  let c0_73 : Index := 0#32
  ![v205.toNat, 0]
def k0_off11 (i : grid0.Coords) (k0_t2 : Fin (k0_t2_loop i).trips) : Fin 2 → Nat :=
  let c0_i32 : BitVec 32 := 0#32
  let arg0 : BitVec 32 := BitVec.ofNat 32 (i 0).val
  let v16 : BitVec 32 := Scalar.subi arg0 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg6 : BitVec 32 := Scf.iv v20 c1_i32_16 k0_t2
  let c512_i32_71 : BitVec 32 := 512#32
  let v201 : BitVec 32 := Scalar.muli arg6 c512_i32_71
  let v202 : BitVec 32 := v201
  let v227 : Index := Scalar.indexCast v202
  let c256_79 : Index := 256#32
  ![v227.toNat, 256]
def k0_off12 (i : grid0.Coords) (k0_t2 : Fin (k0_t2_loop i).trips) : Fin 2 → Nat :=
  let c0_i32 : BitVec 32 := 0#32
  let arg0 : BitVec 32 := BitVec.ofNat 32 (i 0).val
  let v16 : BitVec 32 := Scalar.subi arg0 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg6 : BitVec 32 := Scf.iv v20 c1_i32_16 k0_t2
  let c512_i32_71 : BitVec 32 := 512#32
  let v201 : BitVec 32 := Scalar.muli arg6 c512_i32_71
  let v202 : BitVec 32 := v201
  let v229 : Index := Scalar.indexCast v202
  let c128_80 : Index := 128#32
  ![v229.toNat, 128]
def k0_off13 (i : grid0.Coords) (k0_t2 : Fin (k0_t2_loop i).trips) : Fin 2 → Nat :=
  let c0_i32 : BitVec 32 := 0#32
  let arg0 : BitVec 32 := BitVec.ofNat 32 (i 0).val
  let v16 : BitVec 32 := Scalar.subi arg0 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg6 : BitVec 32 := Scf.iv v20 c1_i32_16 k0_t2
  let c512_i32_71 : BitVec 32 := 512#32
  let v201 : BitVec 32 := Scalar.muli arg6 c512_i32_71
  let v202 : BitVec 32 := v201
  let v251 : Index := Scalar.indexCast v202
  let c512_86 : Index := 512#32
  ![v251.toNat, 512]
def k0_off14 (i : grid0.Coords) (k0_t2 : Fin (k0_t2_loop i).trips) : Fin 2 → Nat :=
  let c0_i32 : BitVec 32 := 0#32
  let arg0 : BitVec 32 := BitVec.ofNat 32 (i 0).val
  let v16 : BitVec 32 := Scalar.subi arg0 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg6 : BitVec 32 := Scf.iv v20 c1_i32_16 k0_t2
  let c512_i32_71 : BitVec 32 := 512#32
  let v201 : BitVec 32 := Scalar.muli arg6 c512_i32_71
  let v202 : BitVec 32 := v201
  let v253 : Index := Scalar.indexCast v202
  let c256_87 : Index := 256#32
  ![v253.toNat, 256]
def k0_off15 (i : grid0.Coords) (k0_t2 : Fin (k0_t2_loop i).trips) : Fin 2 → Nat :=
  let c0_i32 : BitVec 32 := 0#32
  let arg0 : BitVec 32 := BitVec.ofNat 32 (i 0).val
  let v16 : BitVec 32 := Scalar.subi arg0 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg6 : BitVec 32 := Scf.iv v20 c1_i32_16 k0_t2
  let c512_i32_71 : BitVec 32 := 512#32
  let v201 : BitVec 32 := Scalar.muli arg6 c512_i32_71
  let v202 : BitVec 32 := v201
  let v275 : Index := Scalar.indexCast v202
  let c768_93 : Index := 768#32
  ![v275.toNat, 768]
def k0_off16 (i : grid0.Coords) (k0_t2 : Fin (k0_t2_loop i).trips) : Fin 2 → Nat :=
  let c0_i32 : BitVec 32 := 0#32
  let arg0 : BitVec 32 := BitVec.ofNat 32 (i 0).val
  let v16 : BitVec 32 := Scalar.subi arg0 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg6 : BitVec 32 := Scf.iv v20 c1_i32_16 k0_t2
  let c512_i32_71 : BitVec 32 := 512#32
  let v201 : BitVec 32 := Scalar.muli arg6 c512_i32_71
  let v202 : BitVec 32 := v201
  let v277 : Index := Scalar.indexCast v202
  let c384_94 : Index := 384#32
  ![v277.toNat, 384]
def k0_mult3 (i : grid0.Coords) : BitVec 32 :=
  let arg0 : BitVec 32 := BitVec.ofNat 32 (i 0).val
  let c512_i32 : BitVec 32 := 512#32
  let v23 : BitVec 32 := Scalar.muli arg0 c512_i32
  v23
def k0_off17 (i : grid0.Coords) : Fin 2 → Nat :=
  let arg0 : BitVec 32 := BitVec.ofNat 32 (i 0).val
  let c512_i32 : BitVec 32 := 512#32
  let v23 : BitVec 32 := Scalar.muli arg0 c512_i32
  let v24 : BitVec 32 := v23
  let v25 : Index := Scalar.indexCast v24
  let c0_17 : Index := 0#32
  ![v25.toNat, 0]
def k0_off18 (i : grid0.Coords) : Fin 2 → Nat :=
  let arg0 : BitVec 32 := BitVec.ofNat 32 (i 0).val
  let c512_i32 : BitVec 32 := 512#32
  let v23 : BitVec 32 := Scalar.muli arg0 c512_i32
  let v24 : BitVec 32 := v23
  let v27 : Index := Scalar.indexCast v24
  let c0_18 : Index := 0#32
  ![v27.toNat, 0]
def k0_off19 (i : grid0.Coords) : Fin 2 → Nat :=
  let arg0 : BitVec 32 := BitVec.ofNat 32 (i 0).val
  let c512_i32 : BitVec 32 := 512#32
  let v23 : BitVec 32 := Scalar.muli arg0 c512_i32
  let v24 : BitVec 32 := v23
  let v60 : Index := Scalar.indexCast v24
  let c256_27 : Index := 256#32
  ![v60.toNat, 256]
def k0_off20 (i : grid0.Coords) : Fin 2 → Nat :=
  let arg0 : BitVec 32 := BitVec.ofNat 32 (i 0).val
  let c512_i32 : BitVec 32 := 512#32
  let v23 : BitVec 32 := Scalar.muli arg0 c512_i32
  let v24 : BitVec 32 := v23
  let v62 : Index := Scalar.indexCast v24
  let c128 : Index := 128#32
  ![v62.toNat, 128]
def k0_off21 (i : grid0.Coords) : Fin 2 → Nat :=
  let arg0 : BitVec 32 := BitVec.ofNat 32 (i 0).val
  let c512_i32 : BitVec 32 := 512#32
  let v23 : BitVec 32 := Scalar.muli arg0 c512_i32
  let v24 : BitVec 32 := v23
  let v95 : Index := Scalar.indexCast v24
  let c512_36 : Index := 512#32
  ![v95.toNat, 512]
def k0_off22 (i : grid0.Coords) : Fin 2 → Nat :=
  let arg0 : BitVec 32 := BitVec.ofNat 32 (i 0).val
  let c512_i32 : BitVec 32 := 512#32
  let v23 : BitVec 32 := Scalar.muli arg0 c512_i32
  let v24 : BitVec 32 := v23
  let v97 : Index := Scalar.indexCast v24
  let c256_37 : Index := 256#32
  ![v97.toNat, 256]
def k0_off23 (i : grid0.Coords) : Fin 2 → Nat :=
  let arg0 : BitVec 32 := BitVec.ofNat 32 (i 0).val
  let c512_i32 : BitVec 32 := 512#32
  let v23 : BitVec 32 := Scalar.muli arg0 c512_i32
  let v24 : BitVec 32 := v23
  let v130 : Index := Scalar.indexCast v24
  let c768_46 : Index := 768#32
  ![v130.toNat, 768]
def k0_off24 (i : grid0.Coords) : Fin 2 → Nat :=
  let arg0 : BitVec 32 := BitVec.ofNat 32 (i 0).val
  let c512_i32 : BitVec 32 := 512#32
  let v23 : BitVec 32 := Scalar.muli arg0 c512_i32
  let v24 : BitVec 32 := v23
  let v132 : Index := Scalar.indexCast v24
  let c384 : Index := 384#32
  ![v132.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop (i : grid1.Coords) : Scf.Loop 32 :=
  let c0_i32 : BitVec 32 := 0#32
  let arg0 : BitVec 32 := BitVec.ofNat 32 (i 0).val
  let v48 : BitVec 32 := Scalar.subi arg0 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_33 : BitVec 32 := 1#32
  ⟨c0_i32, v52, c1_i32_33⟩
def k1_mult1 (i : grid1.Coords) (k1_t1 : Fin (k1_t1_loop i).trips) : BitVec 32 :=
  let c0_i32 : BitVec 32 := 0#32
  let c1_i32_33 : BitVec 32 := 1#32
  let arg9 : BitVec 32 := Scf.iv c0_i32 c1_i32_33 k1_t1
  let c512_i32_91 : BitVec 32 := 512#32
  let v197 : BitVec 32 := Scalar.muli arg9 c512_i32_91
  v197
def k1_off1 (i : grid1.Coords) (k1_t1 : Fin (k1_t1_loop i).trips) : Fin 2 → Nat :=
  let c0_i32 : BitVec 32 := 0#32
  let c1_i32_33 : BitVec 32 := 1#32
  let arg9 : BitVec 32 := Scf.iv c0_i32 c1_i32_33 k1_t1
  let c512_i32_91 : BitVec 32 := 512#32
  let v197 : BitVec 32 := Scalar.muli arg9 c512_i32_91
  let v198 : BitVec 32 := v197
  let v199 : Index := Scalar.indexCast v198
  let c0_92 : Index := 0#32
  ![v199.toNat, 0]
def k1_off2 (i : grid1.Coords) (k1_t1 : Fin (k1_t1_loop i).trips) : Fin 2 → Nat :=
  let c0_i32 : BitVec 32 := 0#32
  let c1_i32_33 : BitVec 32 := 1#32
  let arg9 : BitVec 32 := Scf.iv c0_i32 c1_i32_33 k1_t1
  let c512_i32_91 : BitVec 32 := 512#32
  let v197 : BitVec 32 := Scalar.muli arg9 c512_i32_91
  let v198 : BitVec 32 := v197
  let v201 : Index := Scalar.indexCast v198
  let c0_93 : Index := 0#32
  ![v201.toNat, 0]
def k1_off3 (i : grid1.Coords) (k1_t1 : Fin (k1_t1_loop i).trips) : Fin 2 → Nat :=
  let c0_i32 : BitVec 32 := 0#32
  let c1_i32_33 : BitVec 32 := 1#32
  let arg9 : BitVec 32 := Scf.iv c0_i32 c1_i32_33 k1_t1
  let c512_i32_91 : BitVec 32 := 512#32
  let v197 : BitVec 32 := Scalar.muli arg9 c512_i32_91
  let v198 : BitVec 32 := v197
  let v218 : Index := Scalar.indexCast v198
  let c256_99 : Index := 256#32
  ![v218.toNat, 256]
def k1_off4 (i : grid1.Coords) (k1_t1 : Fin (k1_t1_loop i).trips) : Fin 2 → Nat :=
  let c0_i32 : BitVec 32 := 0#32
  let c1_i32_33 : BitVec 32 := 1#32
  let arg9 : BitVec 32 := Scf.iv c0_i32 c1_i32_33 k1_t1
  let c512_i32_91 : BitVec 32 := 512#32
  let v197 : BitVec 32 := Scalar.muli arg9 c512_i32_91
  let v198 : BitVec 32 := v197
  let v220 : Index := Scalar.indexCast v198
  let c128_100 : Index := 128#32
  ![v220.toNat, 128]
def k1_off5 (i : grid1.Coords) (k1_t1 : Fin (k1_t1_loop i).trips) : Fin 2 → Nat :=
  let c0_i32 : BitVec 32 := 0#32
  let c1_i32_33 : BitVec 32 := 1#32
  let arg9 : BitVec 32 := Scf.iv c0_i32 c1_i32_33 k1_t1
  let c512_i32_91 : BitVec 32 := 512#32
  let v197 : BitVec 32 := Scalar.muli arg9 c512_i32_91
  let v198 : BitVec 32 := v197
  let v237 : Index := Scalar.indexCast v198
  let c512_106 : Index := 512#32
  ![v237.toNat, 512]
def k1_off6 (i : grid1.Coords) (k1_t1 : Fin (k1_t1_loop i).trips) : Fin 2 → Nat :=
  let c0_i32 : BitVec 32 := 0#32
  let c1_i32_33 : BitVec 32 := 1#32
  let arg9 : BitVec 32 := Scf.iv c0_i32 c1_i32_33 k1_t1
  let c512_i32_91 : BitVec 32 := 512#32
  let v197 : BitVec 32 := Scalar.muli arg9 c512_i32_91
  let v198 : BitVec 32 := v197
  let v239 : Index := Scalar.indexCast v198
  let c256_107 : Index := 256#32
  ![v239.toNat, 256]
def k1_off7 (i : grid1.Coords) (k1_t1 : Fin (k1_t1_loop i).trips) : Fin 2 → Nat :=
  let c0_i32 : BitVec 32 := 0#32
  let c1_i32_33 : BitVec 32 := 1#32
  let arg9 : BitVec 32 := Scf.iv c0_i32 c1_i32_33 k1_t1
  let c512_i32_91 : BitVec 32 := 512#32
  let v197 : BitVec 32 := Scalar.muli arg9 c512_i32_91
  let v198 : BitVec 32 := v197
  let v256 : Index := Scalar.indexCast v198
  let c768_113 : Index := 768#32
  ![v256.toNat, 768]
def k1_off8 (i : grid1.Coords) (k1_t1 : Fin (k1_t1_loop i).trips) : Fin 2 → Nat :=
  let c0_i32 : BitVec 32 := 0#32
  let c1_i32_33 : BitVec 32 := 1#32
  let arg9 : BitVec 32 := Scf.iv c0_i32 c1_i32_33 k1_t1
  let c512_i32_91 : BitVec 32 := 512#32
  let v197 : BitVec 32 := Scalar.muli arg9 c512_i32_91
  let v198 : BitVec 32 := v197
  let v258 : Index := Scalar.indexCast v198
  let c384_114 : Index := 384#32
  ![v258.toNat, 384]
@[reducible] def k1_t2_loop (i : grid1.Coords) : Scf.Loop 32 :=
  let c0_i32 : BitVec 32 := 0#32
  let arg0 : BitVec 32 := BitVec.ofNat 32 (i 0).val
  let v48 : BitVec 32 := Scalar.subi arg0 c0_i32
  let c1_i32 : BitVec 32 := 1#32
  let v50 : BitVec 32 := Scalar.divsi v48 c1_i32
  let v51 : BitVec 32 := Scalar.muli v50 c1_i32
  let v52 : BitVec 32 := Scalar.addi c0_i32 v51
  let v49 : BitVec 32 := Scalar.addi c0_i32 v48
  let c1_i32_34 : BitVec 32 := 1#32
  ⟨v52, v49, c1_i32_34⟩
def k1_mult2 (i : grid1.Coords) (k1_t2 : Fin (k1_t2_loop i).trips) : BitVec 32 :=
  let c0_i32 : BitVec 32 := 0#32
  let arg0 : BitVec 32 := BitVec.ofNat 32 (i 0).val
  let v48 : BitVec 32 := Scalar.subi arg0 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_34 : BitVec 32 := 1#32
  let arg9 : BitVec 32 := Scf.iv v52 c1_i32_34 k1_t2
  let c512_i32_91 : BitVec 32 := 512#32
  let v197 : BitVec 32 := Scalar.muli arg9 c512_i32_91
  v197
def k1_off9 (i : grid1.Coords) (k1_t2 : Fin (k1_t2_loop i).trips) : Fin 2 → Nat :=
  let c0_i32 : BitVec 32 := 0#32
  let arg0 : BitVec 32 := BitVec.ofNat 32 (i 0).val
  let v48 : BitVec 32 := Scalar.subi arg0 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_34 : BitVec 32 := 1#32
  let arg9 : BitVec 32 := Scf.iv v52 c1_i32_34 k1_t2
  let c512_i32_91 : BitVec 32 := 512#32
  let v197 : BitVec 32 := Scalar.muli arg9 c512_i32_91
  let v198 : BitVec 32 := v197
  let v199 : Index := Scalar.indexCast v198
  let c0_92 : Index := 0#32
  ![v199.toNat, 0]
def k1_off10 (i : grid1.Coords) (k1_t2 : Fin (k1_t2_loop i).trips) : Fin 2 → Nat :=
  let c0_i32 : BitVec 32 := 0#32
  let arg0 : BitVec 32 := BitVec.ofNat 32 (i 0).val
  let v48 : BitVec 32 := Scalar.subi arg0 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_34 : BitVec 32 := 1#32
  let arg9 : BitVec 32 := Scf.iv v52 c1_i32_34 k1_t2
  let c512_i32_91 : BitVec 32 := 512#32
  let v197 : BitVec 32 := Scalar.muli arg9 c512_i32_91
  let v198 : BitVec 32 := v197
  let v201 : Index := Scalar.indexCast v198
  let c0_93 : Index := 0#32
  ![v201.toNat, 0]
def k1_off11 (i : grid1.Coords) (k1_t2 : Fin (k1_t2_loop i).trips) : Fin 2 → Nat :=
  let c0_i32 : BitVec 32 := 0#32
  let arg0 : BitVec 32 := BitVec.ofNat 32 (i 0).val
  let v48 : BitVec 32 := Scalar.subi arg0 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_34 : BitVec 32 := 1#32
  let arg9 : BitVec 32 := Scf.iv v52 c1_i32_34 k1_t2
  let c512_i32_91 : BitVec 32 := 512#32
  let v197 : BitVec 32 := Scalar.muli arg9 c512_i32_91
  let v198 : BitVec 32 := v197
  let v218 : Index := Scalar.indexCast v198
  let c256_99 : Index := 256#32
  ![v218.toNat, 256]
def k1_off12 (i : grid1.Coords) (k1_t2 : Fin (k1_t2_loop i).trips) : Fin 2 → Nat :=
  let c0_i32 : BitVec 32 := 0#32
  let arg0 : BitVec 32 := BitVec.ofNat 32 (i 0).val
  let v48 : BitVec 32 := Scalar.subi arg0 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_34 : BitVec 32 := 1#32
  let arg9 : BitVec 32 := Scf.iv v52 c1_i32_34 k1_t2
  let c512_i32_91 : BitVec 32 := 512#32
  let v197 : BitVec 32 := Scalar.muli arg9 c512_i32_91
  let v198 : BitVec 32 := v197
  let v220 : Index := Scalar.indexCast v198
  let c128_100 : Index := 128#32
  ![v220.toNat, 128]
def k1_off13 (i : grid1.Coords) (k1_t2 : Fin (k1_t2_loop i).trips) : Fin 2 → Nat :=
  let c0_i32 : BitVec 32 := 0#32
  let arg0 : BitVec 32 := BitVec.ofNat 32 (i 0).val
  let v48 : BitVec 32 := Scalar.subi arg0 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_34 : BitVec 32 := 1#32
  let arg9 : BitVec 32 := Scf.iv v52 c1_i32_34 k1_t2
  let c512_i32_91 : BitVec 32 := 512#32
  let v197 : BitVec 32 := Scalar.muli arg9 c512_i32_91
  let v198 : BitVec 32 := v197
  let v237 : Index := Scalar.indexCast v198
  let c512_106 : Index := 512#32
  ![v237.toNat, 512]
def k1_off14 (i : grid1.Coords) (k1_t2 : Fin (k1_t2_loop i).trips) : Fin 2 → Nat :=
  let c0_i32 : BitVec 32 := 0#32
  let arg0 : BitVec 32 := BitVec.ofNat 32 (i 0).val
  let v48 : BitVec 32 := Scalar.subi arg0 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_34 : BitVec 32 := 1#32
  let arg9 : BitVec 32 := Scf.iv v52 c1_i32_34 k1_t2
  let c512_i32_91 : BitVec 32 := 512#32
  let v197 : BitVec 32 := Scalar.muli arg9 c512_i32_91
  let v198 : BitVec 32 := v197
  let v239 : Index := Scalar.indexCast v198
  let c256_107 : Index := 256#32
  ![v239.toNat, 256]
def k1_off15 (i : grid1.Coords) (k1_t2 : Fin (k1_t2_loop i).trips) : Fin 2 → Nat :=
  let c0_i32 : BitVec 32 := 0#32
  let arg0 : BitVec 32 := BitVec.ofNat 32 (i 0).val
  let v48 : BitVec 32 := Scalar.subi arg0 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_34 : BitVec 32 := 1#32
  let arg9 : BitVec 32 := Scf.iv v52 c1_i32_34 k1_t2
  let c512_i32_91 : BitVec 32 := 512#32
  let v197 : BitVec 32 := Scalar.muli arg9 c512_i32_91
  let v198 : BitVec 32 := v197
  let v256 : Index := Scalar.indexCast v198
  let c768_113 : Index := 768#32
  ![v256.toNat, 768]
def k1_off16 (i : grid1.Coords) (k1_t2 : Fin (k1_t2_loop i).trips) : Fin 2 → Nat :=
  let c0_i32 : BitVec 32 := 0#32
  let arg0 : BitVec 32 := BitVec.ofNat 32 (i 0).val
  let v48 : BitVec 32 := Scalar.subi arg0 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_34 : BitVec 32 := 1#32
  let arg9 : BitVec 32 := Scf.iv v52 c1_i32_34 k1_t2
  let c512_i32_91 : BitVec 32 := 512#32
  let v197 : BitVec 32 := Scalar.muli arg9 c512_i32_91
  let v198 : BitVec 32 := v197
  let v258 : Index := Scalar.indexCast v198
  let c384_114 : Index := 384#32
  ![v258.toNat, 384]
def k1_mult3 (i : grid1.Coords) : BitVec 32 :=
  let arg0 : BitVec 32 := BitVec.ofNat 32 (i 0).val
  let c512_i32 : BitVec 32 := 512#32
  let v55 : BitVec 32 := Scalar.muli arg0 c512_i32
  v55
def k1_off17 (i : grid1.Coords) : Fin 2 → Nat :=
  let arg0 : BitVec 32 := BitVec.ofNat 32 (i 0).val
  let c512_i32 : BitVec 32 := 512#32
  let v55 : BitVec 32 := Scalar.muli arg0 c512_i32
  let v56 : BitVec 32 := v55
  let v57 : Index := Scalar.indexCast v56
  let c0_35 : Index := 0#32
  ![v57.toNat, 0]
def k1_off18 (i : grid1.Coords) : Fin 2 → Nat :=
  let arg0 : BitVec 32 := BitVec.ofNat 32 (i 0).val
  let c512_i32 : BitVec 32 := 512#32
  let v55 : BitVec 32 := Scalar.muli arg0 c512_i32
  let v56 : BitVec 32 := v55
  let v59 : Index := Scalar.indexCast v56
  let c0_36 : Index := 0#32
  ![v59.toNat, 0]
def k1_off19 (i : grid1.Coords) : Fin 2 → Nat :=
  let arg0 : BitVec 32 := BitVec.ofNat 32 (i 0).val
  let c512_i32 : BitVec 32 := 512#32
  let v55 : BitVec 32 := Scalar.muli arg0 c512_i32
  let v56 : BitVec 32 := v55
  let v87 : Index := Scalar.indexCast v56
  let c256_45 : Index := 256#32
  ![v87.toNat, 256]
def k1_off20 (i : grid1.Coords) : Fin 2 → Nat :=
  let arg0 : BitVec 32 := BitVec.ofNat 32 (i 0).val
  let c512_i32 : BitVec 32 := 512#32
  let v55 : BitVec 32 := Scalar.muli arg0 c512_i32
  let v56 : BitVec 32 := v55
  let v89 : Index := Scalar.indexCast v56
  let c128_46 : Index := 128#32
  ![v89.toNat, 128]
def k1_off21 (i : grid1.Coords) : Fin 2 → Nat :=
  let arg0 : BitVec 32 := BitVec.ofNat 32 (i 0).val
  let c512_i32 : BitVec 32 := 512#32
  let v55 : BitVec 32 := Scalar.muli arg0 c512_i32
  let v56 : BitVec 32 := v55
  let v117 : Index := Scalar.indexCast v56
  let c512_55 : Index := 512#32
  ![v117.toNat, 512]
def k1_off22 (i : grid1.Coords) : Fin 2 → Nat :=
  let arg0 : BitVec 32 := BitVec.ofNat 32 (i 0).val
  let c512_i32 : BitVec 32 := 512#32
  let v55 : BitVec 32 := Scalar.muli arg0 c512_i32
  let v56 : BitVec 32 := v55
  let v119 : Index := Scalar.indexCast v56
  let c256_56 : Index := 256#32
  ![v119.toNat, 256]
def k1_off23 (i : grid1.Coords) : Fin 2 → Nat :=
  let arg0 : BitVec 32 := BitVec.ofNat 32 (i 0).val
  let c512_i32 : BitVec 32 := 512#32
  let v55 : BitVec 32 := Scalar.muli arg0 c512_i32
  let v56 : BitVec 32 := v55
  let v147 : Index := Scalar.indexCast v56
  let c768_65 : Index := 768#32
  ![v147.toNat, 768]
def k1_off24 (i : grid1.Coords) : Fin 2 → Nat :=
  let arg0 : BitVec 32 := BitVec.ofNat 32 (i 0).val
  let c512_i32 : BitVec 32 := 512#32
  let v55 : BitVec 32 := Scalar.muli arg0 c512_i32
  let v56 : BitVec 32 := v55
  let v149 : Index := Scalar.indexCast v56
  let c384_66 : Index := 384#32
  ![v149.toNat, 384]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def k2_mult1 (i : grid2.Coords) : BitVec 32 :=
  let arg0 : BitVec 32 := BitVec.ofNat 32 (i 0).val
  let c512_i32 : BitVec 32 := 512#32
  let v16 : BitVec 32 := Scalar.muli arg0 c512_i32
  v16
def k2_off1 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v18 : Index := Scalar.indexCast v17
  let c0_17 : Index := 0#32
  ![v18.toNat, 0]
def k2_off2 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v20 : Index := Scalar.indexCast v17
  let c0_18 : Index := 0#32
  ![v20.toNat, 0]
def k2_off3 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v22 : Index := Scalar.indexCast v17
  let c0_19 : Index := 0#32
  ![v22.toNat, 0]
def k2_off4 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v57 : Index := Scalar.indexCast v17
  let c256_30 : Index := 256#32
  ![v57.toNat, 256]
def k2_off5 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v59 : Index := Scalar.indexCast v17
  let c128_31 : Index := 128#32
  ![v59.toNat, 128]
def k2_off6 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v61 : Index := Scalar.indexCast v17
  let c128_32 : Index := 128#32
  ![v61.toNat, 128]
def k2_off7 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v96 : Index := Scalar.indexCast v17
  let c512_43 : Index := 512#32
  ![v96.toNat, 512]
def k2_off8 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v98 : Index := Scalar.indexCast v17
  let c256_44 : Index := 256#32
  ![v98.toNat, 256]
def k2_off9 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v100 : Index := Scalar.indexCast v17
  let c256_45 : Index := 256#32
  ![v100.toNat, 256]
def k2_off10 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v135 : Index := Scalar.indexCast v17
  let c768_56 : Index := 768#32
  ![v135.toNat, 768]
def k2_off11 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v137 : Index := Scalar.indexCast v17
  let c384_57 : Index := 384#32
  ![v137.toNat, 384]
def k2_off12 (i : grid2.Coords) : Fin 2 → Nat :=
  let arg0 : BitVec 32 := BitVec.ofNat 32 (i 0).val
  let c512_i32 : BitVec 32 := 512#32
  let v16 : BitVec 32 := Scalar.muli arg0 c512_i32
  let v17 : BitVec 32 := v16
  let v139 : Index := Scalar.indexCast v17
  let c384_58 : Index := 384#32
  ![v139.toNat, 384]
@[reducible] def k2_t1_loop (i : grid2.Coords) : Scf.Loop 32 :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_70 : BitVec 32 := 1#32
  ⟨v174, v179, c1_i32_70⟩
def k2_mult2 (i : grid2.Coords) (k2_t1 : Fin (k2_t1_loop i).trips) : BitVec 32 :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  v198
def k2_off13 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v200 : Index := Scalar.indexCast v199
  let c0_89 : Index := 0#32
  ![v200.toNat, 0]
def k2_off14 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v202 : Index := Scalar.indexCast v199
  let c0_90 : Index := 0#32
  ![v202.toNat, 0]
def k2_off15 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v204 : Index := Scalar.indexCast v199
  let c0_91 : Index := 0#32
  ![v204.toNat, 0]
def k2_off16 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v228 : Index := Scalar.indexCast v199
  let c256_99 : Index := 256#32
  ![v228.toNat, 256]
def k2_off17 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v230 : Index := Scalar.indexCast v199
  let c128_100 : Index := 128#32
  ![v230.toNat, 128]
def k2_off18 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v232 : Index := Scalar.indexCast v199
  let c128_101 : Index := 128#32
  ![v232.toNat, 128]
def k2_off19 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v256 : Index := Scalar.indexCast v199
  let c512_109 : Index := 512#32
  ![v256.toNat, 512]
def k2_off20 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v258 : Index := Scalar.indexCast v199
  let c256_110 : Index := 256#32
  ![v258.toNat, 256]
def k2_off21 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v260 : Index := Scalar.indexCast v199
  let c256_111 : Index := 256#32
  ![v260.toNat, 256]
def k2_off22 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v284 : Index := Scalar.indexCast v199
  let c768_119 : Index := 768#32
  ![v284.toNat, 768]
def k2_off23 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v286 : Index := Scalar.indexCast v199
  let c384_120 : Index := 384#32
  ![v286.toNat, 384]
def k2_off24 (i : grid2.Coords) (k2_t1 : Fin (k2_t1_loop i).trips) : Fin 2 → Nat :=
  let arg0 : BitVec 32 := BitVec.ofNat 32 (i 0).val
  let c1_i32 : BitVec 32 := 1#32
  let v174 : BitVec 32 := Scalar.addi arg0 c1_i32
  let c1_i32_70 : BitVec 32 := 1#32
  let arg9 : BitVec 32 := Scf.iv v174 c1_i32_70 k2_t1
  let c512_i32_88 : BitVec 32 := 512#32
  let v198 : BitVec 32 := Scalar.muli arg9 c512_i32_88
  let v199 : BitVec 32 := v198
  let v288 : Index := Scalar.indexCast v199
  let c384_121 : Index := 384#32
  ![v288.toNat, 384]
@[reducible] def k2_t2_loop (i : grid2.Coords) : Scf.Loop 32 :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let v176 : BitVec 32 := Scalar.addi v174 v175
  let c1_i32_71 : BitVec 32 := 1#32
  ⟨v179, v176, c1_i32_71⟩
def k2_mult3 (i : grid2.Coords) (k2_t2 : Fin (k2_t2_loop i).trips) : BitVec 32 :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  v198
def k2_off25 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v200 : Index := Scalar.indexCast v199
  let c0_89 : Index := 0#32
  ![v200.toNat, 0]
def k2_off26 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v202 : Index := Scalar.indexCast v199
  let c0_90 : Index := 0#32
  ![v202.toNat, 0]
def k2_off27 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v204 : Index := Scalar.indexCast v199
  let c0_91 : Index := 0#32
  ![v204.toNat, 0]
def k2_off28 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v228 : Index := Scalar.indexCast v199
  let c256_99 : Index := 256#32
  ![v228.toNat, 256]
def k2_off29 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v230 : Index := Scalar.indexCast v199
  let c128_100 : Index := 128#32
  ![v230.toNat, 128]
def k2_off30 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v232 : Index := Scalar.indexCast v199
  let c128_101 : Index := 128#32
  ![v232.toNat, 128]
def k2_off31 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v256 : Index := Scalar.indexCast v199
  let c512_109 : Index := 512#32
  ![v256.toNat, 512]
def k2_off32 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v258 : Index := Scalar.indexCast v199
  let c256_110 : Index := 256#32
  ![v258.toNat, 256]
def k2_off33 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v260 : Index := Scalar.indexCast v199
  let c256_111 : Index := 256#32
  ![v260.toNat, 256]
def k2_off34 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v284 : Index := Scalar.indexCast v199
  let c768_119 : Index := 768#32
  ![v284.toNat, 768]
def k2_off35 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v286 : Index := Scalar.indexCast v199
  let c384_120 : Index := 384#32
  ![v286.toNat, 384]
def k2_off36 (i : grid2.Coords) (k2_t2 : Fin (k2_t2_loop i).trips) : Fin 2 → Nat :=
  let arg0 : BitVec 32 := BitVec.ofNat 32 (i 0).val
  let c1_i32 : BitVec 32 := 1#32
  let v174 : BitVec 32 := Scalar.addi arg0 c1_i32
  let c8_i32 : BitVec 32 := 8#32
  let v175 : BitVec 32 := Scalar.subi c8_i32 v174
  let c1_i32_69 : BitVec 32 := 1#32
  let v177 : BitVec 32 := Scalar.divsi v175 c1_i32_69
  let v178 : BitVec 32 := Scalar.muli v177 c1_i32_69
  let v179 : BitVec 32 := Scalar.addi v174 v178
  let c1_i32_71 : BitVec 32 := 1#32
  let arg9 : BitVec 32 := Scf.iv v179 c1_i32_71 k2_t2
  let c512_i32_88 : BitVec 32 := 512#32
  let v198 : BitVec 32 := Scalar.muli arg9 c512_i32_88
  let v199 : BitVec 32 := v198
  let v288 : Index := Scalar.indexCast v199
  let c384_121 : Index := 384#32
  ![v288.toNat, 384]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4096x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4096x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x512 : Shape := ⟨2, ![4096, 512]⟩
abbrev S4096x4x256 : Shape := ⟨3, ![4096, 4, 256]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4x4096x256 : Shape := ⟨3, ![4, 4096, 256]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x4x256, .bf16⟩
  | .hbm, ⟨5, _⟩ => ⟨S4096x4x256, .bf16⟩
  | .hbm, ⟨6, _⟩ => ⟨S4096x4x128, .bf16⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4x4096x4096, .i1⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .i1⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .i1⟩
  | .hbm, ⟨38, _⟩ => ⟨S_, .f32⟩
  | .hbm, ⟨39, _⟩ => ⟨S4x4096, .f32⟩
  | .hbm, ⟨40, _⟩ => ⟨S4x4096, .i1⟩
  | .hbm, ⟨41, _⟩ => ⟨S_, .f32⟩
  | .hbm, ⟨42, _⟩ => ⟨S4x4096, .f32⟩
  | .hbm, ⟨43, _⟩ => ⟨S_, .f32⟩
  | .hbm, ⟨44, _⟩ => ⟨S4x4096, .f32⟩
  | .hbm, ⟨45, _⟩ => ⟨S_, .f32⟩
  | .hbm, ⟨46, _⟩ => ⟨S4x4096, .f32⟩
  | .hbm, ⟨47, _⟩ => ⟨S4x4096, .f32⟩
  | .hbm, ⟨48, _⟩ => ⟨S4x4096, .f32⟩
  | .hbm, ⟨49, _⟩ => ⟨S4x4096x1, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S4x4096x4096, .f32⟩
  | .hbm, ⟨57, _⟩ => ⟨S4x4096x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x4096, .bf16⟩
  | .hbm, ⟨63, _⟩ => ⟨S4x128x4096, .f32⟩
  | .hbm, ⟨64, _⟩ => ⟨S4096x4x128, .f32⟩
  | .hbm, ⟨65, _⟩ => ⟨S4096x4x128, .bf16⟩
  | .hbm, ⟨66, _⟩ => ⟨S4096x512, .bf16⟩
  | .hbm, ⟨67, _⟩ => ⟨S4096x4x128, .bf16⟩
  | .hbm, ⟨68, _⟩ => ⟨S4096x4x128, .f32⟩
  | .hbm, ⟨69, _⟩ => ⟨S4x128x4096, .f32⟩
  | .hbm, ⟨70, _⟩ => ⟨S4x4096x4096, .f32⟩
  | .hbm, ⟨71, _⟩ => ⟨S4x4096x4096, .bf16⟩
  | .hbm, ⟨72, _⟩ => ⟨S4x128x4096, .f32⟩
  | .hbm, ⟨73, _⟩ => ⟨S4096x4x128, .f32⟩
  | .hbm, ⟨74, _⟩ => ⟨S4096x4x128, .bf16⟩
  | .hbm, ⟨75, _⟩ => ⟨S4x4096x4096, .f32⟩
  | .hbm, ⟨76, _⟩ => ⟨S4x4096x4096, .f32⟩
  | .hbm, ⟨77, _⟩ => ⟨S4x4096x4096, .f32⟩
  | .hbm, ⟨78, _⟩ => ⟨S4x4096x4096, .f32⟩
  | .hbm, ⟨79, _⟩ => ⟨S_, .f32⟩
  | .hbm, ⟨80, _⟩ => ⟨S4x4096, .f32⟩
  | .hbm, ⟨81, _⟩ => ⟨S4x4096x1, .f32⟩
  | .hbm, ⟨82, _⟩ => ⟨S4x4096x1, .f32⟩
  | .hbm, ⟨83, _⟩ => ⟨S4x4096x4096, .f32⟩
  | .hbm, ⟨84, _⟩ => ⟨S4x4096x4096, .f32⟩
  | .hbm, ⟨85, _⟩ => ⟨S_, .f32⟩
  | .hbm, ⟨86, _⟩ => ⟨S4x4096, .f32⟩
  | .hbm, ⟨87, _⟩ => ⟨S4x4096x4096, .f32⟩
  | .hbm, ⟨88, _⟩ => ⟨S4x4096x4096, .f32⟩
  | .hbm, ⟨89, _⟩ => ⟨S4x4096x4096, .f32⟩
  | .hbm, ⟨90, _⟩ => ⟨S_, .f32⟩
  | .hbm, ⟨91, _⟩ => ⟨S4x4096x4096, .f32⟩
  | .hbm, ⟨92, _⟩ => ⟨S4x4096x4096, .f32⟩
  | .hbm, ⟨93, _⟩ => ⟨S_, .f32⟩
  | .hbm, ⟨94, _⟩ => ⟨S4x4096x4096, .f32⟩
  | .hbm, ⟨95, _⟩ => ⟨S4x4096x4096, .f32⟩
  | .hbm, ⟨96, _⟩ => ⟨S4x4096x256, .f32⟩
  | .hbm, ⟨97, _⟩ => ⟨S4096x4x256, .f32⟩
  | .hbm, ⟨98, _⟩ => ⟨S4096x4x256, .bf16⟩
  | .hbm, ⟨99, _⟩ => ⟨S4x4096x256, .f32⟩
  | .hbm, ⟨100, _⟩ => ⟨S4096x4x256, .f32⟩
  | .hbm, ⟨101, _⟩ => ⟨S4096x4x256, .bf16⟩
  | .hbm, ⟨102, _⟩ => ⟨S4096x512, .bf16⟩
  | .hbm, ⟨103, _⟩ => ⟨S4096x1024, .bf16⟩
  | .hbm, ⟨104, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]
-- ==== Kernel2.lean ====
abbrev S4096x1024 : Shape := ⟨2, ![4096, 1024]⟩
abbrev S1024x6144 : Shape := ⟨2, ![1024, 6144]⟩
abbrev S4096x3072 : Shape := ⟨2, ![4096, 3072]⟩
abbrev S4096x512 : Shape := ⟨2, ![4096, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x3072, .bf16⟩
  | .hbm, ⟨3, _⟩ => ⟨S4096x3072, .bf16⟩
  | .hbm, ⟨4, _⟩ => ⟨S1024x6144, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S1024x512, .bf16⟩
  | .local _ .vmem, ⟨6, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 12], ![false, false]⟩

def k0_cond1 (i : grid0.Coords) : BitVec 1 :=
  let arg1 : BitVec 32 := BitVec.ofNat 32 (i 1).val
  let c6_i32 : BitVec 32 := 6#32
  let v0 : BitVec 1 := Scalar.cmpi .slt arg1 c6_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c6_i32_0 : BitVec 32 := 6#32
  let v3 : BitVec 1 := Scalar.cmpi .sge arg1 c6_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S1024x6144 : Shape := ⟨2, ![1024, 6144]⟩
abbrev S4096x3072 : Shape := ⟨2, ![4096, 3072]⟩
abbrev S4096x6144 : Shape := ⟨2, ![4096, 6144]⟩
abbrev S6144x1024 : Shape := ⟨2, ![6144, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x3072, .bf16⟩
  | .hbm, ⟨3, _⟩ => ⟨S4096x3072, .bf16⟩
  | .hbm, ⟨4, _⟩ => ⟨S4096x6144, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x6144, .f32⟩
  | .hbm, ⟨10, _⟩ => ⟨S6144x1024, .f32⟩
  | .hbm, ⟨11, _⟩ => ⟨S1024x6144, .f32⟩
  | .hbm, ⟨12, _⟩ => ⟨S1024x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel3.lean ====
abbrev S4096x3072 : Shape := ⟨2, ![4096, 3072]⟩
abbrev S3072x1024 : Shape := ⟨2, ![3072, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x3072 : Shape := ⟨2, ![4096, 3072]⟩
abbrev S3072x1024 : Shape := ⟨2, ![3072, 1024]⟩
abbrev S4096x1024 : Shape := ⟨2, ![4096, 1024]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x1024, .f32⟩
  | .hbm, ⟨4, _⟩ => ⟨S1024x3072, .f32⟩
  | .hbm, ⟨5, _⟩ => ⟨S3072x1024, .f32⟩
  | .hbm, ⟨6, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1024x6144 : Shape := ⟨2, ![1024, 6144]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x6144, .bf16⟩
  | .hbm, ⟨2, _⟩ => ⟨S4096x3072, .bf16⟩
  | .hbm, ⟨3, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S1024x6144 : Shape := ⟨2, ![1024, 6144]⟩
abbrev S4096x3072 : Shape := ⟨2, ![4096, 3072]⟩
abbrev S4096x6144 : Shape := ⟨2, ![4096, 6144]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .bf16⟩
  | .hbm, ⟨2, _⟩ => ⟨S4096x3072, .bf16⟩
  | .hbm, ⟨3, _⟩ => ⟨S4096x1024, .bf16⟩
  | .hbm, ⟨4, _⟩ => ⟨S4096x6144, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S_, .f32⟩
  | .hbm, ⟨9, _⟩ => ⟨S4096x3072, .f32⟩
  | .hbm, ⟨10, _⟩ => ⟨S4096x6144, .f32⟩
  | .hbm, ⟨11, _⟩ => ⟨S4096x1024, .f32⟩
  | .hbm, ⟨12, _⟩ => ⟨S4096x1024, .bf16⟩
  | .hbm, ⟨13, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x6144 : Shape := ⟨2, ![1024, 6144]⟩
abbrev S4096x3072 : Shape := ⟨2, ![4096, 3072]⟩
abbrev S512x3072 : Shape := ⟨2, ![512, 3072]⟩
abbrev S1024x3072 : Shape := ⟨2, ![1024, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S4096x3072, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference5Ideal.lean ====
abbrev S4096x1024 : Shape := ⟨2, ![4096, 1024]⟩
abbrev S1x1024 : Shape := ⟨2, ![1, 1024]⟩
abbrev S1024x6144 : Shape := ⟨2, ![1024, 6144]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S4096x3072, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x6144, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S_, .f32⟩
  | .hbm, ⟨31, _⟩ => ⟨S4096x3072, .f32⟩
  | .hbm, ⟨32, _⟩ => ⟨S4096x6144, .f32⟩
  | .hbm, ⟨33, _⟩ => ⟨S4096x1024, .f32⟩
  | .hbm, ⟨34, _⟩ => ⟨S4096x1024, .bf16⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .bf16⟩
  | .local _ .vmem, ⟨0, _⟩ => ⟨S4096x1024, .bf16⟩
  | .local _ .vmem, ⟨1, _⟩ => ⟨S4096x512, .f32⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4096x1024 : Shape := ⟨2, ![4096, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel12.lean ====
abbrev S4096x1024 : Shape := ⟨2, ![4096, 1024]⟩
abbrev S1024x2560 : Shape := ⟨2, ![1024, 2560]⟩
abbrev S4096x2560 : Shape := ⟨2, ![4096, 2560]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S4096x1024 : Shape := ⟨2, ![4096, 1024]⟩
abbrev S2560x1024 : Shape := ⟨2, ![2560, 1024]⟩
abbrev S4096x2560 : Shape := ⟨2, ![4096, 2560]⟩
abbrev S4096x512 : Shape := ⟨2, ![4096, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2560x1024, .f32⟩
  | .hbm, ⟨2, _⟩ => ⟨S4096x2560, .bf16⟩
  | .hbm, ⟨3, _⟩ => ⟨S2560x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S2560x1024 : Shape := ⟨2, ![2560, 1024]⟩
abbrev S4096x2560 : Shape := ⟨2, ![4096, 2560]⟩
abbrev S1024x2560 : Shape := ⟨2, ![1024, 2560]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2560x1024, .f32⟩
  | .hbm, ⟨2, _⟩ => ⟨S4096x2560, .bf16⟩
  | .hbm, ⟨3, _⟩ => ⟨S1024x2560, .f32⟩
  | .hbm, ⟨4, _⟩ => ⟨S1024x2560, .bf16⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S1024x2560, .bf16⟩
  | .hbm, ⟨10, _⟩ => ⟨S1024x2560, .f32⟩
  | .hbm, ⟨11, _⟩ => ⟨S2560x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S4096x3072 : Shape := ⟨2, ![4096, 3072]⟩
abbrev S3072x1024 : Shape := ⟨2, ![3072, 1024]⟩
abbrev S4096x1024 : Shape := ⟨2, ![4096, 1024]⟩
abbrev S1024x3072 : Shape := ⟨2, ![1024, 3072]⟩
abbrev S3072x512 : Shape := ⟨2, ![3072, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S4096x3072 : Shape := ⟨2, ![4096, 3072]⟩
abbrev S3072x1024 : Shape := ⟨2, ![3072, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel16.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference16Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .f32⟩
  | .hbm, ⟨26, _⟩ => ⟨S4096x1024, .bf16⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel17.lean ====
abbrev S4096x1024 : Shape := ⟨2, ![4096, 1024]⟩
abbrev S1x1024 : Shape := ⟨2, ![1, 1024]⟩
abbrev S1024x2560 : Shape := ⟨2, ![1024, 2560]⟩
abbrev S4096x2560 : Shape := ⟨2, ![4096, 2560]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .bf16⟩
  | .hbm, ⟨3, _⟩ => ⟨S4096x2560, .bf16⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S1024x2560, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference17Ideal.lean ====
abbrev S4096x1024 : Shape := ⟨2, ![4096, 1024]⟩
abbrev S1x1024 : Shape := ⟨2, ![1, 1024]⟩
abbrev S1024x2560 : Shape := ⟨2, ![1024, 2560]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .bf16⟩
  | .hbm, ⟨3, _⟩ => ⟨S4096x2560, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x2560, .f32⟩
  | .hbm, ⟨26, _⟩ => ⟨S4096x2560, .f32⟩
  | .hbm, ⟨27, _⟩ => ⟨S4096x1024, .f32⟩
  | .hbm, ⟨28, _⟩ => ⟨S4096x1024, .bf16⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel18.lean ====
abbrev S4096x3072 : Shape := ⟨2, ![4096, 3072]⟩
abbrev S3072x1024 : Shape := ⟨2, ![3072, 1024]⟩
abbrev S4096x1024 : Shape := ⟨2, ![4096, 1024]⟩
abbrev S1x1 : Shape := ⟨2, ![1, 1]⟩
abbrev S1024x3072 : Shape := ⟨2, ![1024, 3072]⟩
abbrev S3072x512 : Shape := ⟨2, ![3072, 512]⟩
abbrev S1024x512 : Shape := ⟨2, ![1024, 512]⟩
abbrev S1024 : Shape := ⟨1, ![1024]⟩
abbrev S1024x1 : Shape := ⟨2, ![1024, 1]⟩
abbrev S1 : Shape := ⟨1, ![1]⟩

abbrev nBuf : Space → Nat
  | .hbm => 6
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x1, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference18Ideal.lean ====
abbrev S4096x3072 : Shape := ⟨2, ![4096, 3072]⟩
abbrev S3072x1024 : Shape := ⟨2, ![3072, 1024]⟩
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1024, .f32⟩
  | .hbm, ⟨28, _⟩ => ⟨S4096x1024, .f32⟩
  | .hbm, ⟨29, _⟩ => ⟨S1x1, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Kernel19.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .hbm, ⟨3, _⟩ => ⟨S4096x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S4096x256 : Shape := ⟨2, ![4096, 256]⟩
abbrev S256x1024 : Shape := ⟨2, ![256, 1024]⟩
abbrev S4096x1024 : Shape := ⟨2, ![4096, 1024]⟩
abbrev S512x1024 : Shape := ⟨2, ![512, 1024]⟩
abbrev S512x256 : Shape := ⟨2, ![512, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .bf16⟩
  | .hbm, ⟨3, _⟩ => ⟨S4096x256, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .bf16⟩
  | .hbm, ⟨3, _⟩ => ⟨S4096x256, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x256, .f32⟩
  | .hbm, ⟨8, _⟩ => ⟨S4096x256, .bf16⟩
  | .hbm, ⟨9, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S4096x256 : Shape := ⟨2, ![4096, 256]⟩
abbrev S256x1024 : Shape := ⟨2, ![256, 1024]⟩
abbrev S4096x1024 : Shape := ⟨2, ![4096, 1024]⟩
abbrev S4096x512 : Shape := ⟨2, ![4096, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .f32⟩
  | .hbm, ⟨2, _⟩ => ⟨S4096x1024, .bf16⟩
  | .hbm, ⟨3, _⟩ => ⟨S256x1024, .f32⟩
  | .local _ .vmem, ⟨0, _⟩ => ⟨S4096x256, .bf16⟩
  | .local _ .vmem, ⟨1, _⟩ => ⟨S4096x512, .bf16⟩
  | .local _ .vmem, ⟨2, _⟩ => ⟨S4096x512, .bf16⟩
  | .local _ .vmem, ⟨3, _⟩ => ⟨S256x512, .f32⟩
  | .local _ .vmem, ⟨4, _⟩ => ⟨S256x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .f32⟩
  | .hbm, ⟨2, _⟩ => ⟨S4096x1024, .bf16⟩
  | .hbm, ⟨3, _⟩ => ⟨S256x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S256x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel22.lean ====
abbrev S4096x128 : Shape := ⟨2, ![4096, 128]⟩
abbrev S128x1024 : Shape := ⟨2, ![128, 1024]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S4096x1024, .bf16⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .bf16⟩
  | .local _ .vmem, ⟨4, _⟩ => ⟨S1024x1024, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S4096x128 : Shape := ⟨2, ![4096, 128]⟩
abbrev S128x1024 : Shape := ⟨2, ![128, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S4096x1024, .f32⟩
  | .hbm, ⟨3, _⟩ => ⟨S4096x1024, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel23.lean ====
abbrev S4096x128 : Shape := ⟨2, ![4096, 128]⟩
abbrev S128x1024 : Shape := ⟨2, ![128, 1024]⟩
abbrev S4096x1024 : Shape := ⟨2, ![4096, 1024]⟩
abbrev S256x1024 : Shape := ⟨2, ![256, 1024]⟩
abbrev S256x128 : Shape := ⟨2, ![256, 128]⟩

abbrev nBuf : Space → Nat
  | .hbm => 4
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S128x1024, .bf16⟩
  | .hbm, ⟨2, _⟩ => ⟨S4096x1024, .bf16⟩
  | .hbm, ⟨3, _⟩ => ⟨S4096x128, .f32⟩
  | .local _ .vmem, ⟨0, _⟩ => ⟨S256x1024, .bf16⟩
  | .local _ .vmem, ⟨1, _⟩ => ⟨S256x1024, .bf16⟩
  | .local _ .vmem, ⟨2, _⟩ => ⟨S128x1024, .bf16⟩
  | .local _ .vmem, ⟨3, _⟩ => ⟨S256x128, .f32⟩
  | .local _ .vmem, ⟨4, _⟩ => ⟨S256x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S4096x128 : Shape := ⟨2, ![4096, 128]⟩
abbrev S128x1024 : Shape := ⟨2, ![128, 1024]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x1024, .bf16⟩
  | .hbm, ⟨2, _⟩ => ⟨S4096x1024, .bf16⟩
  | .hbm, ⟨3, _⟩ => ⟨S4096x128, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x128, .f32⟩
  | .hbm, ⟨8, _⟩ => ⟨S4096x128, .bf16⟩
  | .hbm, ⟨9, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S4096x128 : Shape := ⟨2, ![4096, 128]⟩
abbrev S128x1024 : Shape := ⟨2, ![128, 1024]⟩
abbrev S4096x1024 : Shape := ⟨2, ![4096, 1024]⟩
abbrev S4096x256 : Shape := ⟨2, ![4096, 256]⟩
abbrev S128x256 : Shape := ⟨2, ![128, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S128x1024, .f32⟩
  | .hbm, ⟨2, _⟩ => ⟨S4096x1024, .bf16⟩
  | .hbm, ⟨3, _⟩ => ⟨S128x1024, .f32⟩
  | .local _ .vmem, ⟨0, _⟩ => ⟨S4096x128, .bf16⟩
  | .local _ .vmem, ⟨1, _⟩ => ⟨S4096x256, .bf16⟩
  | .local _ .vmem, ⟨2, _⟩ => ⟨S4096x256, .bf16⟩
  | .local _ .vmem, ⟨3, _⟩ => ⟨S128x256, .f32⟩
  | .local _ .vmem, ⟨4, _⟩ => ⟨S128x256, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S4096x128 : Shape := ⟨2, ![4096, 128]⟩
abbrev S128x1024 : Shape := ⟨2, ![128, 1024]⟩
abbrev S4096x1024 : Shape := ⟨2, ![4096, 1024]⟩
abbrev S1024x128 : Shape := ⟨2, ![1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x1024, .f32⟩
  | .hbm, ⟨2, _⟩ => ⟨S4096x1024, .bf16⟩
  | .hbm, ⟨3, _⟩ => ⟨S128x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S1024x128, .f32⟩
  | .hbm, ⟨8, _⟩ => ⟨S128x1024, .f32⟩
  | .hbm, ⟨9, _⟩ => ⟨S128x1024, .bf16⟩
  | .hbm, ⟨10, _⟩ => ⟨S128x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel25.lean ====
abbrev S256x1024 : Shape := ⟨2, ![256, 1024]⟩
abbrev S1024x1024 : Shape := ⟨2, ![1024, 1024]⟩
abbrev S1024x512 : Shape := ⟨2, ![1024, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .local _ .vmem, ⟨0, _⟩ => ⟨S256x1024, .bf16⟩
  | .local _ .vmem, ⟨1, _⟩ => ⟨S1024x512, .bf16⟩
  | .local _ .vmem, ⟨2, _⟩ => ⟨S1024x512, .bf16⟩
  | .local _ .vmem, ⟨3, _⟩ => ⟨S256x512, .f32⟩
  | .local _ .vmem, ⟨4, _⟩ => ⟨S256x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S256x1024 : Shape := ⟨2, ![256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .bf16⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference26Ideal.lean ====
abbrev S256x1024 : Shape := ⟨2, ![256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel27.lean ====
abbrev S256x1024 : Shape := ⟨2, ![256, 1024]⟩
abbrev S1024x1024 : Shape := ⟨2, ![1024, 1024]⟩
abbrev S512x1024 : Shape := ⟨2, ![512, 1024]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .hbm, ⟨3, _⟩ => ⟨S256x1024, .f32⟩
  | .local _ .vmem, ⟨0, _⟩ => ⟨S256x1024, .f32⟩
  | .local _ .vmem, ⟨1, _⟩ => ⟨S512x1024, .bf16⟩
  | .local _ .vmem, ⟨2, _⟩ => ⟨S512x1024, .bf16⟩
  | .local _ .vmem, ⟨3, _⟩ => ⟨S256x512, .f32⟩
  | .local _ .vmem, ⟨4, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S256x1024 : Shape := ⟨2, ![256, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .hbm, ⟨3, _⟩ => ⟨S256x1024, .bf16⟩
  | .hbm, ⟨4, _⟩ => ⟨S256x1024, .f32⟩
  | .hbm, ⟨5, _⟩ => ⟨S256x1024, .f32⟩
  | .hbm, ⟨6, _⟩ => ⟨S256x1024, .bf16⟩
  | .hbm, ⟨7, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel28.lean ====
abbrev S256x1024 : Shape := ⟨2, ![256, 1024]⟩
abbrev S1024x1024 : Shape := ⟨2, ![1024, 1024]⟩
abbrev S512x1024 : Shape := ⟨2, ![512, 1024]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .hbm, ⟨3, _⟩ => ⟨S256x1024, .f32⟩
  | .hbm, ⟨4, _⟩ => ⟨S256x1024, .f32⟩
  | .local _ .vmem, ⟨0, _⟩ => ⟨S256x1024, .f32⟩
  | .local _ .vmem, ⟨1, _⟩ => ⟨S512x1024, .bf16⟩
  | .local _ .vmem, ⟨2, _⟩ => ⟨S512x1024, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference28Ideal.lean ====
abbrev S256x1024 : Shape := ⟨2, ![256, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .hbm, ⟨3, _⟩ => ⟨S256x1024, .f32⟩
  | .hbm, ⟨4, _⟩ => ⟨S256x1024, .bf16⟩
  | .hbm, ⟨5, _⟩ => ⟨S256x1024, .f32⟩
  | .hbm, ⟨6, _⟩ => ⟨S256x1024, .f32⟩
  | .hbm, ⟨7, _⟩ => ⟨S256x1024, .bf16⟩
  | .hbm, ⟨8, _⟩ => ⟨S256x1024, .f32⟩
  | .hbm, ⟨9, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Softmax.lean ====
/-
  The mathematics of one attention head over the real numbers, and the two facts about extended reals that the
  blocked kernel needs: one block of the running softmax keeps its invariant, and at the end the running state
  gives the softmax average and the row's log-sum. No program occurs here.
-/
module

public import Idealize.ShloMosaic.PureOps.Ideal.Laws

@[expose] public section

noncomputable section

open Idealize.ShloMosaic

namespace Cert.Att

/-- The data of one head: queries, keys, values, the gradient of the output, and the factor of the scores. Rows and
    columns are natural numbers, so that a block's rows are read by adding its first row. -/
structure Head where
  q : ℕ → ℕ → ℝ
  k : ℕ → ℕ → ℝ
  v : ℕ → ℕ → ℝ
  g : ℕ → ℕ → ℝ
  c : ℝ

namespace Head

variable (H : Head)

/-- The score of query row `i` against key row `j`. -/
def sc (i j : ℕ) : ℝ := (∑ d : Fin 256, H.q i d * H.k j d) * H.c
/-- The causal weight before normalising: zero for a key after the query. -/
def E (i j : ℕ) : ℝ := if j ≤ i then Real.exp (H.sc i j) else 0
/-- The row's sum of weights. -/
def Z (i : ℕ) : ℝ := ∑ j ∈ Finset.range 4096, H.E i j
/-- The softmax probability. -/
def P (i j : ℕ) : ℝ := H.E i j / H.Z i
/-- The attention's output. -/
def O (i d : ℕ) : ℝ := ∑ j ∈ Finset.range 4096, H.P i j * H.v j d
/-- The gradient with respect to a probability. -/
def DP (i j : ℕ) : ℝ := ∑ d : Fin 128, H.g i d * H.v j d
/-- The row's inner product of the output with its gradient. -/
def D (i : ℕ) : ℝ := ∑ d : Fin 128, H.g i d * H.O i d
/-- The gradient with respect to an unscaled score. -/
def DS (i j : ℕ) : ℝ := H.P i j * (H.DP i j - H.D i) * H.c
/-- The gradient of the queries. -/
def DQ (i d : ℕ) : ℝ := ∑ j ∈ Finset.range 4096, H.DS i j * H.k j d
/-- The gradient of the keys. -/
def DK (j d : ℕ) : ℝ := ∑ i ∈ Finset.range 4096, H.DS i j * H.q i d
/-- The gradient of the values. -/
def DV (j d : ℕ) : ℝ := ∑ i ∈ Finset.range 4096, H.P i j * H.g i d

theorem E_nonneg (i j : ℕ) : 0 ≤ H.E i j := by
  unfold E; split
  · exact (Real.exp_pos _).le
  · exact le_rfl

theorem E_of_lt {i j : ℕ} (h : i < j) : H.E i j = 0 := if_neg (by omega)
theorem E_of_le {i j : ℕ} (h : j ≤ i) : H.E i j = Real.exp (H.sc i j) := if_pos h
theorem P_of_lt {i j : ℕ} (h : i < j) : H.P i j = 0 := by unfold P; rw [E_of_lt H h, zero_div]
theorem DS_of_lt {i j : ℕ} (h : i < j) : H.DS i j = 0 := by unfold DS; rw [P_of_lt H h, zero_mul, zero_mul]

/-- A row's weights sum to a positive number: the query's own key always counts. -/
theorem Z_pos {i : ℕ} (h : i < 4096) : 0 < H.Z i := by
  unfold Z
  refine lt_of_lt_of_le ?_ (Finset.single_le_sum (fun j _ => H.E_nonneg i j) (Finset.mem_range.2 h))
  rw [E_of_le H le_rfl]; exact Real.exp_pos _

/-- A row's inner product `D` is also the probability-weighted sum of `DP`. -/
theorem D_eq (i : ℕ) : H.D i = ∑ j ∈ Finset.range 4096, H.P i j * H.DP i j := by
  unfold D O DP
  simp only [Finset.mul_sum]
  rw [Finset.sum_comm]
  exact Finset.sum_congr rfl fun j _ => Finset.sum_congr rfl fun d _ => by ring

end Head

/-- A sum over all key rows stops at any bound after which the terms vanish. -/
theorem sum_stop (f : ℕ → ℝ) {n N : ℕ} (h : n ≤ N) (h0 : ∀ j, n ≤ j → f j = 0) :
    ∑ j ∈ Finset.range n, f j = ∑ j ∈ Finset.range N, f j := by
  refine Finset.sum_subset (Finset.range_mono h) fun j _ hj => h0 j ?_
  simpa using hj

/-- One further block of 512 rows of a sum. -/
theorem sum_block (f : ℕ → ℝ) (n : ℕ) :
    ∑ j ∈ Finset.range (n + 512), f j = ∑ j ∈ Finset.range n, f j + ∑ c : Fin 512, f (n + c) := by
  rw [Finset.sum_range_add, ← Finset.sum_range (fun c => f (n + c))]

/-- A finite sum of real numbers is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum over lanes, each a real or `-∞`, is a real or `-∞`; it is a real when one lane is. -/
theorem fold_max_real {n : ℕ} (x : Fin n → EReal) (htop : ∀ c, x c ≠ ⊤) (c₀ : Fin n) (h0 : x c₀ ≠ ⊥) :
    ∃ μ : ℝ, (Finset.univ : Finset (Fin n)).fold max ⊥ x = (μ : EReal) := by
  have ht : (Finset.univ : Finset (Fin n)).fold max ⊥ x < ⊤ :=
    Finset.fold_max_lt _ |>.2 ⟨bot_lt_top, fun c _ => lt_top_iff_ne_top.2 (htop c)⟩
  have hb : ⊥ < (Finset.univ : Finset (Fin n)).fold max ⊥ x :=
    lt_of_lt_of_le (bot_lt_iff_ne_bot.2 h0) (Finset.le_fold_max _ |>.2 (Or.inr ⟨c₀, Finset.mem_univ _, le_rfl⟩))
  exact ⟨_, (EReal.coe_toReal ht.ne hb.ne').symm⟩

/-- The state of the running softmax of one row: nothing read yet, or, for some real offset `μ`, the sums `S` and
    `T` of the weights and of the weighted values, both scaled by `exp (-μ)`. Which `μ` does not matter. -/
def Held {n : ℕ} (m l : EReal) (a : Fin n → EReal) (S : ℝ) (T : Fin n → ℝ) : Prop :=
  (m = ⊥ ∧ l = 0 ∧ (∀ d, a d = 0) ∧ S = 0 ∧ ∀ d, T d = 0) ∨
  ∃ μ : ℝ, m = (μ : EReal) ∧ l = ((Real.exp (-μ) * S : ℝ) : EReal) ∧ ∀ d, a d = ((Real.exp (-μ) * T d : ℝ) : EReal)

/-- One block of the running softmax: the lanes for which `p` fails are masked to `-∞` and count nothing. -/
theorem held_step {n w : ℕ} {m l : EReal} {a : Fin n → EReal} {S : ℝ} {T : Fin n → ℝ} (h : Held m l a S T)
    (x : Fin w → EReal) (s : Fin w → ℝ) (p : Fin w → Prop) [DecidablePred p]
    (hx : ∀ c, x c = if p c then (s c : EReal) else ⊥) (c₀ : Fin w) (hp : p c₀) (vv : Fin w → Fin n → ℝ)
    (m' : EReal) (hm' : m' = max m ((Finset.univ : Finset (Fin w)).fold max ⊥ x)) :
    Held m' (Ideal.exp (m - m') * l + ∑ c, Ideal.exp (x c - m'))
      (fun d => Ideal.exp (m - m') * a d + ∑ c, Ideal.exp (x c - m') * (vv c d : EReal))
      (S + ∑ c, if p c then Real.exp (s c) else 0)
      (fun d => T d + ∑ c, (if p c then Real.exp (s c) else 0) * vv c d) := by
  obtain ⟨μ₁, h₁⟩ := fold_max_real x (fun c => by rw [hx]; split <;> simp) c₀ (by rw [hx, if_pos hp]; simp)
  have hμ : ∃ μ' : ℝ, m' = (μ' : EReal) := by
    rcases h with ⟨hm, -⟩ | ⟨μ, hm, -⟩
    · exact ⟨μ₁, by rw [hm', hm, h₁]; simp⟩
    · exact ⟨max μ μ₁, by rw [hm', hm, h₁]; exact (EReal.coe_strictMono.monotone.map_max (a := μ) (b := μ₁)).symm⟩
  obtain ⟨μ', hμ'⟩ := hμ
  have hw : ∀ c, Ideal.exp (x c - m') = ((Real.exp (-μ') * (if p c then Real.exp (s c) else 0) : ℝ) : EReal) := by
    intro c
    rw [hx, hμ']
    split
    · rw [← EReal.coe_sub, Ideal.exp_coe, ← Real.exp_add]; congr 2; ring
    · rw [EReal.bot_sub, Ideal.exp_bot]; simp
  refine Or.inr ⟨μ', hμ', ?_, fun d => ?_⟩
  · rw [Finset.sum_congr rfl fun c _ => hw c, ← coe_sum]
    rcases h with ⟨hm, hl, -, hS, -⟩ | ⟨μ, hm, hl, -⟩
    · rw [hl, hS, mul_zero, zero_add, zero_add, Finset.mul_sum]
    · rw [hl, hm, hμ', ← EReal.coe_sub, Ideal.exp_coe, ← EReal.coe_mul, ← EReal.coe_add, mul_add, ← Finset.mul_sum,
        ← mul_assoc, ← Real.exp_add]
      congr 4; ring
  · simp only [hw, ← EReal.coe_mul]
    rw [← coe_sum]
    rcases h with ⟨hm, -, ha, -, hT⟩ | ⟨μ, hm, -, ha⟩
    · rw [ha, hT, mul_zero, zero_add, zero_add, Finset.mul_sum]
      simp only [mul_assoc]
    · rw [ha, hm, hμ', ← EReal.coe_sub, Ideal.exp_coe, ← EReal.coe_mul, ← EReal.coe_add, mul_add, ← mul_assoc,
        ← Real.exp_add, Finset.mul_sum]
      simp only [mul_assoc]
      congr 4; ring

/-- The state after the last block, with a positive sum of weights, gives the softmax average by one division. -/
theorem held_div {n : ℕ} {m l : EReal} {a : Fin n → EReal} {S : ℝ} {T : Fin n → ℝ} (h : Held m l a S T) (hS : 0 < S)
    (d : Fin n) : Ideal.div (a d) l = ((T d / S : ℝ) : EReal) := by
  rcases h with ⟨-, -, -, hS', -⟩ | ⟨μ, -, hl, ha⟩
  · exact absurd hS' hS.ne'
  · have he := (Real.exp_pos (-μ)).ne'
    rw [hl, ha, Ideal.div_coe (mul_ne_zero he hS.ne'), ← EReal.coe_mul]
    congr 1; field_simp

/-- … and the logarithm of the sum of weights by adding the offset back. -/
theorem held_log {n : ℕ} {m l : EReal} {a : Fin n → EReal} {S : ℝ} {T : Fin n → ℝ} (h : Held m l a S T) (hS : 0 < S) :
    m + Ideal.log l = ((Real.log S : ℝ) : EReal) := by
  rcases h with ⟨-, -, -, hS', -⟩ | ⟨μ, hm, hl, -⟩
  · exact absurd hS' hS.ne'
  · have he := Real.exp_pos (-μ)
    rw [hm, hl, Ideal.log_coe, if_neg (by have := mul_pos he hS; linarith), ← EReal.coe_add,
      Real.log_mul he.ne' hS.ne', Real.log_exp]
    congr 1; ring

end Cert.Att

end
-- ==== Proof.FwdBlock.lean ====
/-
  One block of the forward call, as functions of the vectors in registers, and what they compute at the ideal
  values: a step of one head's running softmax over 512 further keys.
-/
module

public import proofs.«01_k».proof.Proof.Softmax
public import proofs.«01_k».proof.Proof.Gen.KernelIdeal
public import Idealize.ShloMosaic.Lib.Pointwise
public import Idealize.ShloMosaic.Lib.MatmulPlain

@[expose] public section

set_option maxRecDepth 16384

noncomputable section

open Idealize.ShloMosaic Idealize.ShloMosaic.TcCoe

namespace Cert.KernelIdeal.Att

open Cert.KernelIdeal Cert.KernelIdeal.Facts₀ Cert.KernelIdeal.Facts Cert.Att

section Words

variable {F : FTy → Type} [FloatOps F] [Named F]

/-- The scores of a block of queries against a block of keys, scaled. -/
def score (q ks : Vec F S512x256 .bf16) : FVec F S512x512 .f32 :=
  mulf (matmul dot_S512x256_S512x256_S512x512_1_1_0_0_n_n none q ks (constant S512x512 .f32 0x00000000#32))
    (broadcast S512x512 (FloatOps.ofBits .f32 0x3D93CD3A#32))

/-- Which entries of the diagonal block `i` count: key column at most query row. -/
def diagMask (i : BitVec 32) : IVec S512x512 1 :=
  cmpi .sle (addi (broadcast S512x512 (Scalar.muli i 512#32)) (iota .tc S512x512 32 [1] iota_S512x512_d1_w32))
    (addi (broadcast S512x512 (Scalar.muli i 512#32)) (iota .tc S512x512 32 [0] iota_S512x512_d0_w32))

/-- The diagonal block's scores: the masked entries are the named constant. -/
def scoreDiag (i : BitVec 32) (q ks : Vec F S512x256 .bf16) : FVec F S512x512 .f32 :=
  select (diagMask i) (score q ks) (broadcast S512x512 (Named.named κ "mask" 0xF149F2CA#32))

/-- The new row offset: the larger of the old one and the block's row maximum. -/
def fwdM (m : FVec F S512x1 .f32) (s : FVec F S512x512 .f32) : FVec F S512x1 .f32 :=
  maximumf m (shapeCast S512x1 (multiReduction .maximumf [1] S512 s 0xFF800000#32 reduces_S512x512_S512 (.inl rfl) rfl)
    shapeCasts_S512_S512x1)
/-- The factor that moves the old sums to the new offset. -/
def fwdAlpha (m : FVec F S512x1 .f32) (s : FVec F S512x512 .f32) : FVec F S512x1 .f32 := exp (subf m (fwdM m s))
/-- The block's weights. -/
def fwdP (m : FVec F S512x1 .f32) (s : FVec F S512x512 .f32) : FVec F S512x512 .f32 :=
  exp (subf s (broadcastTo S512x512 (fwdM m s) broadcasts_S512x1_S512x512))
/-- The new sum of weights. -/
def fwdL (m l : FVec F S512x1 .f32) (s : FVec F S512x512 .f32) : FVec F S512x1 .f32 :=
  addf (mulf (fwdAlpha m s) l)
    (shapeCast S512x1 (multiReduction .add [1] S512 (fwdP m s) 0x00000000#32 reduces_S512x512_S512 (.inl rfl) rfl)
      shapeCasts_S512_S512x1)
/-- The new sum of weighted values. -/
def fwdA (m : FVec F S512x1 .f32) (a : FVec F S512x128 .f32) (s : FVec F S512x512 .f32) (vs : Vec F S512x128 .bf16) :
    FVec F S512x128 .f32 :=
  addf (mulf (broadcastTo S512x128 (fwdAlpha m s) broadcasts_S512x1_S512x128) a)
    (matmul dot_S512x512_S512x128_S512x128_1_0_0_1_n_n none (truncf .bf16 (fwdP m s) bitsLt_bf16_f32) vs
      (constant S512x128 .f32 0x00000000#32))
/-- The block of the output. -/
def fwdO (l : FVec F S512x1 .f32) (a : FVec F S512x128 .f32) : FVec F S512x128 .bf16 :=
  truncf .bf16 (divf a (broadcastTo S512x128 l broadcasts_S512x1_S512x128)) bitsLt_bf16_f32
/-- The block of the rows' log-sums, one copy in each lane. -/
def fwdLse (m l : FVec F S512x1 .f32) : FVec F S512x128 .f32 :=
  broadcastTo S512x128 (shapeCast S512x1 (addf m (log l)) shapeCasts_S512x1_S512x1) broadcasts_S512x1_S512x128

end Words

/-- The real number the scores are multiplied by. -/
def scale : ℝ := (Ideal.ofBits .f32 0x3D93CD3A#32).toReal

/-- The factor's word denotes that real number. -/
theorem scale_eq : Ideal.ofBits .f32 0x3D93CD3A#32 = (scale : EReal) := by
  unfold scale
  have h : Ideal.ofBits .f32 0x3D93CD3A#32 = ((9686330 * (2 ^ 27 : ℝ)⁻¹ : ℝ) : EReal) := by
    simp [Ideal.ofBits, Ideal.ieee]
  rw [h, EReal.toReal_coe]

variable (H : Head)

/-- A score is the head's score. -/
theorem score_apply (q ks : Vec Ideal S512x256 .bf16) (R N : ℕ)
    (hq : ∀ (r : Fin 512) (d : Fin 256), q (ix2 r d) = (H.q (R + r) d : EReal))
    (hk : ∀ (c : Fin 512) (d : Fin 256), ks (ix2 c d) = (H.k (N + c) d : EReal)) (hc : H.c = scale)
    (r c : Fin 512) : score (F := Ideal) q ks (ix2 r c) = (H.sc (R + r) (N + c) : EReal) := by
  unfold score Head.sc
  pointwise
  simp only [hq, hk, scale_eq, hc, ← EReal.coe_mul, ← coe_sum]

/-- The new offset at a row. -/
theorem m_apply (m : FVec Ideal S512x1 .f32) (s : FVec Ideal S512x512 .f32) (r : Fin 512) :
    fwdM m s (ix2 r (0 : Fin 1)) = max (m (ix2 r (0 : Fin 1))) (Finset.univ.fold max ⊥ fun c : Fin 512 => s (ix2 r c)) := by
  unfold fwdM
  pointwise
  rw [show Ideal.ofBits FTy.f32 4286578688#32 = ⊥ by simp [Ideal.ofBits, Ideal.ieee]]

/-- The new sum of weights at a row. -/
theorem l_apply (m l : FVec Ideal S512x1 .f32) (s : FVec Ideal S512x512 .f32) (r : Fin 512) :
    fwdL m l s (ix2 r (0 : Fin 1)) = Ideal.exp (m (ix2 r (0 : Fin 1)) - fwdM m s (ix2 r (0 : Fin 1))) * l (ix2 r (0 : Fin 1))
      + ∑ c : Fin 512, Ideal.exp (s (ix2 r c) - fwdM m s (ix2 r (0 : Fin 1))) := by
  unfold fwdL fwdAlpha fwdP
  pointwise

/-- The new sum of weighted values at a row and a lane. -/
theorem a_apply (m : FVec Ideal S512x1 .f32) (a : FVec Ideal S512x128 .f32) (s : FVec Ideal S512x512 .f32)
    (vs : Vec Ideal S512x128 .bf16) (r : Fin 512) (d : Fin 128) :
    fwdA m a s vs (ix2 r d) = Ideal.exp (m (ix2 r (0 : Fin 1)) - fwdM m s (ix2 r (0 : Fin 1))) * a (ix2 r d)
      + ∑ c : Fin 512, Ideal.exp (s (ix2 r c) - fwdM m s (ix2 r (0 : Fin 1))) * vs (ix2 c d) := by
  unfold fwdA fwdAlpha fwdP
  pointwise

/-- The diagonal mask at a row and a column. -/
theorem mask_apply (n : ℕ) (hn : n < 8) (r c : Fin 512) :
    diagMask (BitVec.ofNat 32 n) (ix2 r c) = if (c : ℕ) ≤ r then 1#1 else 0#1 := by
  unfold diagMask
  pointwise
  have h : ∀ x : Fin 512, IntOp.addi (Scalar.muli (BitVec.ofNat 32 n) 512#32) (BitVec.ofNat 32 x) = BitVec.ofNat 32 (n * 512 + x) := by
    intro x
    show BitVec.ofNat 32 n * BitVec.ofNat 32 512 + BitVec.ofNat 32 x = _
    rw [← BitVec.ofNat_mul, ← BitVec.ofNat_add]
  have h2 : ∀ x : Fin 512, (BitVec.ofNat 32 (n * 512 + x)).toInt = n * 512 + (x : ℕ) := by
    intro x
    have := x.isLt
    rw [BitVec.toInt_eq_toNat_of_lt] <;> rw [BitVec.toNat_ofNat, Nat.mod_eq_of_lt (by omega)] <;> push_cast <;> omega
  erw [h c, h r]
  show BitVec.ofBool (BitVec.sle _ _) = _
  have h3 : BitVec.sle (BitVec.ofNat 32 (n * 512 + (c : ℕ))) (BitVec.ofNat 32 (n * 512 + (r : ℕ))) = decide ((c : ℕ) ≤ r) := by
    unfold BitVec.sle
    rw [h2, h2]
    exact decide_eq_decide.2 (by omega)
  rw [h3]
  by_cases hh : (c : ℕ) ≤ r <;> simp [hh]

/-- The diagonal block's scores: `-∞` where the key comes after the query. -/
theorem scoreDiag_apply (n : ℕ) (hn : n < 8) (q ks : Vec Ideal S512x256 .bf16)
    (hq : ∀ (r : Fin 512) (d : Fin 256), q (ix2 r d) = (H.q (512 * n + r) d : EReal))
    (hk : ∀ (c : Fin 512) (d : Fin 256), ks (ix2 c d) = (H.k (512 * n + c) d : EReal)) (hc : H.c = scale)
    (r c : Fin 512) : scoreDiag (F := Ideal) (BitVec.ofNat 32 n) q ks (ix2 r c)
      = if 512 * n + (c : ℕ) ≤ 512 * n + r then (H.sc (512 * n + r) (512 * n + c) : EReal) else ⊥ := by
  unfold scoreDiag
  pointwise
  rw [mask_apply n hn, score_apply H q ks _ _ hq hk hc]
  rw [show (Named.named (F := Ideal) κ "mask" 0xF149F2CA#32 : Ideal .f32) = ⊥ from
    IdealRules.named_const.ideal_named_scalar _ _ _ _ rfl]
  by_cases hh : (c : ℕ) ≤ r
  · simp [hh, Scalar.select]
  · simp [hh, Scalar.select]

/-- A block of one head's running softmax: rows `512 i + r`, the keys before `N` already read. -/
def HeldV (i N : ℕ) (m l : FVec Ideal S512x1 .f32) (a : FVec Ideal S512x128 .f32) : Prop :=
  ∀ r : Fin 512, Held (m (ix2 r (0 : Fin 1))) (l (ix2 r (0 : Fin 1))) (fun d : Fin 128 => a (ix2 r d))
    (∑ j ∈ Finset.range N, H.E (512 * i + r) j) (fun d => ∑ j ∈ Finset.range N, H.E (512 * i + r) j * H.v j d)

/-- One step reads the next 512 keys. -/
theorem heldV_step {i N : ℕ} {m l : FVec Ideal S512x1 .f32} {a : FVec Ideal S512x128 .f32} (h : HeldV H i N m l a)
    (hN : N ≤ 512 * i) (s : FVec Ideal S512x512 .f32)
    (hs : ∀ r c : Fin 512, s (ix2 r c) = if N + (c : ℕ) ≤ 512 * i + r then (H.sc (512 * i + r) (N + c) : EReal) else ⊥)
    (vs : Vec Ideal S512x128 .bf16) (hv : ∀ (c : Fin 512) (d : Fin 128), vs (ix2 c d) = (H.v (N + c) d : EReal)) :
    HeldV H i (N + 512) (fwdM m s) (fwdL m l s) (fwdA m a s vs) := by
  intro r
  have := held_step (h r) (fun c => s (ix2 r c)) (fun c => H.sc (512 * i + r) (N + c)) (fun c => N + (c : ℕ) ≤ 512 * i + r)
    (fun c => hs r c) 0 (by show N + 0 ≤ _; omega) (fun c d => H.v (N + c) d) _ (m_apply m s r)
  rw [l_apply]
  simp only [a_apply, hv, sum_block]
  exact this

/-- An unmasked block's scores, all of whose keys come before its queries. -/
theorem score_apply_if {i N : ℕ} (hN : N + 512 ≤ 512 * i) (q ks : Vec Ideal S512x256 .bf16)
    (hq : ∀ (r : Fin 512) (d : Fin 256), q (ix2 r d) = (H.q (512 * i + r) d : EReal))
    (hk : ∀ (c : Fin 512) (d : Fin 256), ks (ix2 c d) = (H.k (N + c) d : EReal)) (hc : H.c = scale)
    (r c : Fin 512) : score (F := Ideal) q ks (ix2 r c)
      = if N + (c : ℕ) ≤ 512 * i + r then (H.sc (512 * i + r) (N + c) : EReal) else ⊥ := by
  rw [if_pos (by have := c.isLt; omega), score_apply H q ks _ _ hq hk hc]

/-- After the diagonal block every key that counts has been read. -/
theorem sum_E_stop (i : ℕ) (hi : i < 8) (r : Fin 512) (f : ℕ → ℝ) :
    ∑ j ∈ Finset.range (512 * i + 512), H.E (512 * i + r) j * f j = ∑ j ∈ Finset.range 4096, H.E (512 * i + r) j * f j :=
  sum_stop _ (by omega) fun j hj => by rw [H.E_of_lt (by have := r.isLt; omega), zero_mul]

theorem sum_E_stop' (i : ℕ) (hi : i < 8) (r : Fin 512) :
    ∑ j ∈ Finset.range (512 * i + 512), H.E (512 * i + r) j = H.Z (512 * i + r) :=
  sum_stop _ (by omega) fun j hj => by rw [H.E_of_lt (by have := r.isLt; omega)]

/-- The output block is the head's output. -/
theorem fwdO_apply {i : ℕ} (hi : i < 8) {m l : FVec Ideal S512x1 .f32} {a : FVec Ideal S512x128 .f32}
    (h : HeldV H i (512 * i + 512) m l a) (r : Fin 512) (d : Fin 128) :
    fwdO (F := Ideal) l a (ix2 r d) = (H.O (512 * i + r) d : EReal) := by
  have hz := H.Z_pos (i := 512 * i + r) (by have := r.isLt; omega)
  have := h r
  simp only [sum_E_stop H i hi, sum_E_stop' H i hi] at this
  unfold fwdO
  pointwise
  rw [held_div this hz d]
  unfold Head.O Head.P
  rw [Finset.sum_div]
  congr 1
  exact Finset.sum_congr rfl fun j _ => by ring

/-- The log-sum block is the logarithm of the row's sum of weights, in every lane. -/
theorem fwdLse_apply {i : ℕ} (hi : i < 8) {m l : FVec Ideal S512x1 .f32} {a : FVec Ideal S512x128 .f32}
    (h : HeldV H i (512 * i + 512) m l a) (r : Fin 512) (d : Fin 128) :
    fwdLse (F := Ideal) m l (ix2 r d) = (Real.log (H.Z (512 * i + r)) : EReal) := by
  have hz := H.Z_pos (i := 512 * i + r) (by have := r.isLt; omega)
  have := h r
  simp only [sum_E_stop' H i hi] at this
  unfold fwdLse
  pointwise
  exact held_log this hz

end Cert.KernelIdeal.Att

end
-- ==== Proof.BwdBlock.lean ====
/-
  One block of each gradient call, as functions of the vectors in registers, and what they compute at the ideal
  values: the probabilities from the rows' log-sums, the score gradients, and the three accumulations.
-/
module

public import proofs.«01_k».proof.Proof.FwdBlock

@[expose] public section

set_option maxRecDepth 16384

noncomputable section

open Idealize.ShloMosaic Idealize.ShloMosaic.TcCoe

namespace Cert.KernelIdeal.Att

open Cert.KernelIdeal Cert.KernelIdeal.Facts₀ Cert.KernelIdeal.Facts Cert.Att

section Words

variable {F : FTy → Type} [FloatOps F] [Named F]

/-- A block's probabilities, from its scores and the rows' log-sums. -/
def prob (s : FVec F S512x512 .f32) (lse : FVec F S512x1 .f32) : FVec F S512x512 .f32 :=
  exp (subf s (broadcastTo S512x512 lse broadcasts_S512x1_S512x512))
/-- The diagonal block's probabilities: zero for a key after the query. -/
def probDiag (i : BitVec 32) (s : FVec F S512x512 .f32) (lse : FVec F S512x1 .f32) : FVec F S512x512 .f32 :=
  select (diagMask i) (prob s lse) (broadcast S512x512 (FloatOps.ofBits .f32 0x00000000#32))
/-- The gradient with respect to the probabilities. -/
def dprob (g vs : Vec F S512x128 .bf16) : FVec F S512x512 .f32 :=
  matmul dot_S512x128_S512x128_S512x512_1_1_0_0_n_n none g vs (constant S512x512 .f32 0x00000000#32)
/-- The gradient with respect to the unscaled scores. -/
def dscore (p dp : FVec F S512x512 .f32) (delta : FVec F S512x1 .f32) : FVec F S512x512 .f32 :=
  mulf (mulf p (subf dp (broadcastTo S512x512 delta broadcasts_S512x1_S512x512)))
    (broadcast S512x512 (FloatOps.ofBits .f32 0x3D93CD3A#32))
/-- The rows' inner products of the output and its gradient. -/
def deltaOf (g o : Vec F S512x128 .bf16) : FVec F S512x1 .f32 :=
  shapeCast S512x1 (multiReduction .add [1] S512 (mulf (extf .f32 g bitsLt_bf16_f32) (extf .f32 o bitsLt_bf16_f32))
    0x00000000#32 reduces_S512x128_S512 (.inl rfl) rfl) shapeCasts_S512_S512x1
/-- One block of the queries' gradient. -/
def dqStep (acc : FVec F S512x256 .f32) (ds : FVec F S512x512 .f32) (ks : Vec F S512x256 .bf16) : FVec F S512x256 .f32 :=
  addf acc (matmul dot_S512x512_S512x256_S512x256_1_0_0_1_n_n none (truncf .bf16 ds bitsLt_bf16_f32) ks
    (constant S512x256 .f32 0x00000000#32))
/-- One block of the keys' gradient. -/
def dkStep (acc : FVec F S512x256 .f32) (ds : FVec F S512x512 .f32) (qs : Vec F S512x256 .bf16) : FVec F S512x256 .f32 :=
  addf acc (matmul dot_S512x512_S512x256_S512x256_0_0_1_1_n_n none (truncf .bf16 ds bitsLt_bf16_f32) qs
    (constant S512x256 .f32 0x00000000#32))
/-- One block of the values' gradient. -/
def dvStep (acc : FVec F S512x128 .f32) (p : FVec F S512x512 .f32) (g : Vec F S512x128 .bf16) : FVec F S512x128 .f32 :=
  addf acc (matmul dot_S512x512_S512x128_S512x128_0_0_1_1_n_n none (truncf .bf16 p bitsLt_bf16_f32) g
    (constant S512x128 .f32 0x00000000#32))

end Words

variable (H : Head)

/-- A probability that counts. -/
theorem exp_sub_log {i j : ℕ} (hi : i < 4096) (hj : j ≤ i) : Real.exp (H.sc i j - Real.log (H.Z i)) = H.P i j := by
  unfold Head.P
  rw [H.E_of_le hj, Real.exp_sub, Real.exp_log (H.Z_pos hi)]

/-- A block's probabilities are the head's, where all keys come before all queries. -/
theorem prob_apply {R N : ℕ} (hR : R + 512 ≤ 4096) (hN : N + 512 ≤ R) (s : FVec Ideal S512x512 .f32) (lse : FVec Ideal S512x1 .f32)
    (hs : ∀ r c : Fin 512, s (ix2 r c) = (H.sc (R + r) (N + c) : EReal))
    (hl : ∀ r : Fin 512, lse (ix2 r (0 : Fin 1)) = (Real.log (H.Z (R + r)) : EReal)) (r c : Fin 512) :
    prob s lse (ix2 r c) = (H.P (R + r) (N + c) : EReal) := by
  have := r.isLt
  have := c.isLt
  unfold prob
  pointwise
  rw [hs, hl, ← EReal.coe_sub, Ideal.exp_coe, exp_sub_log H (by omega) (by omega)]

/-- The diagonal block's probabilities are the head's. -/
theorem probDiag_apply (n : ℕ) (hn : n < 8) (s : FVec Ideal S512x512 .f32) (lse : FVec Ideal S512x1 .f32)
    (hs : ∀ r c : Fin 512, s (ix2 r c) = (H.sc (512 * n + r) (512 * n + c) : EReal))
    (hl : ∀ r : Fin 512, lse (ix2 r (0 : Fin 1)) = (Real.log (H.Z (512 * n + r)) : EReal)) (r c : Fin 512) :
    probDiag (BitVec.ofNat 32 n) s lse (ix2 r c) = (H.P (512 * n + r) (512 * n + c) : EReal) := by
  have := r.isLt
  unfold probDiag prob
  pointwise
  rw [mask_apply n hn, hs, hl]
  by_cases hh : (c : ℕ) ≤ r
  · rw [if_pos hh, ← EReal.coe_sub, Ideal.exp_coe, exp_sub_log H (by omega) (by omega)]
    rfl
  · rw [if_neg hh, H.P_of_lt (by omega)]
    simp [Scalar.select]

/-- The gradient with respect to a probability. -/
theorem dprob_apply {R N : ℕ} (g vs : Vec Ideal S512x128 .bf16)
    (hg : ∀ (r : Fin 512) (d : Fin 128), g (ix2 r d) = (H.g (R + r) d : EReal))
    (hv : ∀ (c : Fin 512) (d : Fin 128), vs (ix2 c d) = (H.v (N + c) d : EReal)) (r c : Fin 512) :
    dprob (F := Ideal) g vs (ix2 r c) = (H.DP (R + r) (N + c) : EReal) := by
  unfold dprob Head.DP
  pointwise
  simp only [hg, hv, ← EReal.coe_mul, ← coe_sum]

/-- The gradient with respect to an unscaled score. -/
theorem dscore_apply {R N : ℕ} (p dp : FVec Ideal S512x512 .f32) (delta : FVec Ideal S512x1 .f32)
    (hp : ∀ r c : Fin 512, p (ix2 r c) = (H.P (R + r) (N + c) : EReal))
    (hd : ∀ r c : Fin 512, dp (ix2 r c) = (H.DP (R + r) (N + c) : EReal))
    (hD : ∀ r : Fin 512, delta (ix2 r (0 : Fin 1)) = (H.D (R + r) : EReal)) (hc : H.c = scale) (r c : Fin 512) :
    dscore p dp delta (ix2 r c) = (H.DS (R + r) (N + c) : EReal) := by
  unfold dscore Head.DS
  pointwise
  rw [hp, hd, hD, scale_eq, hc, ← EReal.coe_sub, ← EReal.coe_mul, ← EReal.coe_mul]

/-- The rows' inner products. -/
theorem delta_apply {R : ℕ} (g o : Vec Ideal S512x128 .bf16)
    (hg : ∀ (r : Fin 512) (d : Fin 128), g (ix2 r d) = (H.g (R + r) d : EReal))
    (ho : ∀ (r : Fin 512) (d : Fin 128), o (ix2 r d) = (H.O (R + r) d : EReal)) (r : Fin 512) :
    deltaOf (F := Ideal) g o (ix2 r (0 : Fin 1)) = (H.D (R + r) : EReal) := by
  unfold deltaOf Head.D
  pointwise
  simp only [hg, ho, ← EReal.coe_mul, ← coe_sum]

/-- One block of the queries' gradient adds 512 keys. -/
theorem dqStep_apply {R N : ℕ} (acc : FVec Ideal S512x256 .f32) (ds : FVec Ideal S512x512 .f32) (ks : Vec Ideal S512x256 .bf16)
    (ha : ∀ (r : Fin 512) (d : Fin 256), acc (ix2 r d) = ((∑ j ∈ Finset.range N, H.DS (R + r) j * H.k j d : ℝ) : EReal))
    (hs : ∀ r c : Fin 512, ds (ix2 r c) = (H.DS (R + r) (N + c) : EReal))
    (hk : ∀ (c : Fin 512) (d : Fin 256), ks (ix2 c d) = (H.k (N + c) d : EReal)) (r : Fin 512) (d : Fin 256) :
    dqStep acc ds ks (ix2 r d) = ((∑ j ∈ Finset.range (N + 512), H.DS (R + r) j * H.k j d : ℝ) : EReal) := by
  unfold dqStep
  pointwise
  simp only [ha, hs, hk, ← EReal.coe_mul, ← coe_sum, ← EReal.coe_add, sum_block]

/-- One block of the keys' gradient adds 512 queries. -/
theorem dkStep_apply {R N : ℕ} (acc : FVec Ideal S512x256 .f32) (ds : FVec Ideal S512x512 .f32) (qs : Vec Ideal S512x256 .bf16)
    (ha : ∀ (c : Fin 512) (d : Fin 256), acc (ix2 c d) = ((∑ i ∈ Finset.range R, H.DS i (N + c) * H.q i d : ℝ) : EReal))
    (hs : ∀ r c : Fin 512, ds (ix2 r c) = (H.DS (R + r) (N + c) : EReal))
    (hq : ∀ (r : Fin 512) (d : Fin 256), qs (ix2 r d) = (H.q (R + r) d : EReal)) (c : Fin 512) (d : Fin 256) :
    dkStep acc ds qs (ix2 c d) = ((∑ i ∈ Finset.range (R + 512), H.DS i (N + c) * H.q i d : ℝ) : EReal) := by
  unfold dkStep
  pointwise
  simp only [ha, hs, hq, ← EReal.coe_mul, ← coe_sum, ← EReal.coe_add, sum_block]

/-- One block of the values' gradient adds 512 queries. -/
theorem dvStep_apply {R N : ℕ} (acc : FVec Ideal S512x128 .f32) (p : FVec Ideal S512x512 .f32) (g : Vec Ideal S512x128 .bf16)
    (ha : ∀ (c : Fin 512) (d : Fin 128), acc (ix2 c d) = ((∑ i ∈ Finset.range R, H.P i (N + c) * H.g i d : ℝ) : EReal))
    (hp : ∀ r c : Fin 512, p (ix2 r c) = (H.P (R + r) (N + c) : EReal))
    (hg : ∀ (r : Fin 512) (d : Fin 128), g (ix2 r d) = (H.g (R + r) d : EReal)) (c : Fin 512) (d : Fin 128) :
    dvStep acc p g (ix2 c d) = ((∑ i ∈ Finset.range (R + 512), H.P i (N + c) * H.g i d : ℝ) : EReal) := by
  unfold dvStep
  pointwise
  simp only [ha, hp, hg, ← EReal.coe_mul, ← coe_sum, ← EReal.coe_add, sum_block]

end Cert.KernelIdeal.Att

end
-- ==== Proof.Reads.lean ====
/-
  Reading a block of rows and columns of a whole staging buffer, and which columns of an array belong to a head.
-/
module

public import proofs.«01_k».proof.Proof.Gen.KernelIdeal
public import Idealize.ShloMosaic.Lib.Pointwise
public import Idealize.ShloMosaic.Lib.WholeRead
public import Idealize.ShloMosaic.Lib.WritesUnit

@[expose] public section

set_option maxRecDepth 16384

noncomputable section

open Idealize.ShloMosaic Idealize.ShloMosaic.TcCoe

namespace Cert.KernelIdeal.Att

/-- Lane `d` of head `h` in an array whose heads have 256 columns each. -/
abbrev wide (h : Fin 4) (d : Fin 256) : Fin 1024 := ⟨256 * h + d, by omega⟩
/-- Lane `d` of head `h` in an array whose heads have 128 columns each. -/
abbrev slim (h : Fin 4) (d : Fin 128) : Fin 512 := ⟨128 * h + d, by omega⟩

/-- A load of the part of a buffer that starts at `off`. -/
abbrev rd {F : FTy → Type} [FloatOps F] {s : Shape} {e : EltTy} (a : Memref sig .tc .vmem s e) (X : BufTy.Contents (Elt F) a.view.ty)
    {off n : Fin s.rank → ℕ} (inb : ∀ k, off k + n k ≤ s.size k) :=
  View.readAt (Elt F) a.view (Rect.unit (s := s) off n inb).toLoadRect X

/-- A load of 512 rows of one column. -/
abbrev col {F : FTy → Type} [FloatOps F] {R C : ℕ} (a : Memref sig .tc .vmem (⟨2, ![R, C]⟩ : Shape) .f32) (X : BufTy.Contents (Elt F) a.view.ty)
    {off : Fin 2 → ℕ} (inb : ∀ k : Fin 2, off k + S512x1.size k ≤ (![R, C] : Fin 2 → ℕ) k) : Vec F S512x1 .f32 :=
  shapeCast S512x1 (rd (s := (⟨2, ![R, C]⟩ : Shape)) (n := S512x1.size) a X inb) Gen.shapeCasts_S512x1_S512x1

/-- A load of a block of a whole buffer reads the buffer's array at the block's place. -/
theorem readAt_block {F : FTy → Type} {R C m n : ℕ} {e : EltTy} (a : Memref sig .tc .vmem (⟨2, ![R, C]⟩ : Shape) e) (ha : a.IsWhole)
    (x : (⟨2, ![R, C]⟩ : Shape).Idx → Elt F e) (off : Fin 2 → ℕ) (inb : ∀ k : Fin 2, off k + (![m, n] : Fin 2 → ℕ) k ≤ (![R, C] : Fin 2 → ℕ) k)
    (o0 o1 : ℕ) (h0 : off = ![o0, o1]) (r : Fin m) (d : Fin n) (r' : Fin R) (d' : Fin C) (hr : r'.val = o0 + r.val) (hd : d'.val = o1 + d.val) :
    View.readAt (Elt F) a.view (Rect.unit (s := (⟨2, ![R, C]⟩ : Shape)) off ![m, n] inb).toLoadRect (ha.unread x) (ix2 r d) = x (ix2 r' d') := by
  subst h0
  refine (Memref.IsWhole.readAt_unread ha x _ _).trans ?_
  congr 1
  funext k
  refine Fin.ext ?_
  show (![o0, o1] : Fin 2 → ℕ) k + 1 * _ = _
  rw [one_mul]
  fin_cases k
  · exact hr.symm
  · exact hd.symm

/-- After the four stores of a block's quarters, head `h`'s lanes read the `h`-th quarter. -/
theorem read_quarters {Val : EltTy → Type} {sp : Space} {κ' : Kind} {W n : ℕ} {e : EltTy} (v : View sig κ' sp (⟨2, ![512, W]⟩ : Shape) e)
    (f : v.ty.Contents Val) (o1 o2 o3 : ℕ) (h1 : o1 = n) (h2 : o2 = 2 * n) (h3 : o3 = 3 * n)
    (i0 : ∀ a : Fin 2, (![0, 0] : Fin 2 → ℕ) a + (![512, n] : Fin 2 → ℕ) a ≤ (![512, W] : Fin 2 → ℕ) a)
    (i1 : ∀ a : Fin 2, (![0, o1] : Fin 2 → ℕ) a + (![512, n] : Fin 2 → ℕ) a ≤ (![512, W] : Fin 2 → ℕ) a)
    (i2 : ∀ a : Fin 2, (![0, o2] : Fin 2 → ℕ) a + (![512, n] : Fin 2 → ℕ) a ≤ (![512, W] : Fin 2 → ℕ) a)
    (i3 : ∀ a : Fin 2, (![0, o3] : Fin 2 → ℕ) a + (![512, n] : Fin 2 → ℕ) a ≤ (![512, W] : Fin 2 → ℕ) a)
    (p0 p1 p2 p3 : (⟨2, ![512, n]⟩ : Shape).Idx → Val e) (h : Fin 4) (r : Fin 512) (d : Fin n) (l : Fin W) (hl : l.val = n * h.val + d.val) :
    v.read Val (v.writes Val f [(⟨Rect.unit (s := (⟨2, ![512, W]⟩ : Shape)) ![0, o3] ![512, n] i3, p3⟩ : View.Piece Val _ e),
      (⟨Rect.unit (s := (⟨2, ![512, W]⟩ : Shape)) ![0, o2] ![512, n] i2, p2⟩ : View.Piece Val _ e),
      (⟨Rect.unit (s := (⟨2, ![512, W]⟩ : Shape)) ![0, o1] ![512, n] i1, p1⟩ : View.Piece Val _ e),
      (⟨Rect.unit (s := (⟨2, ![512, W]⟩ : Shape)) ![0, 0] ![512, n] i0, p0⟩ : View.Piece Val _ e)]) (ix2 r l)
      = (match h with | 0 => p0 | 1 => p1 | 2 => p2 | 3 => p3 : (⟨2, ![512, n]⟩ : Shape).Idx → Val e) (ix2 r d) := by
  subst h1 h2 h3
  have hd := d.isLt
  have out : ∀ (o : ℕ) (io) (p : (⟨2, ![512, o1]⟩ : Shape).Idx → Val e) (L), (l.val < o ∨ o + o1 ≤ l.val) →
      v.read Val (v.writes Val f ((⟨Rect.unit (s := (⟨2, ![512, W]⟩ : Shape)) ![0, o] ![512, o1] io, p⟩ : View.Piece Val _ e) :: L)) (ix2 r l)
        = v.read Val (v.writes Val f L) (ix2 r l) := fun o io p L ho =>
    View.read_writes_cons_unit_of_not_mem v f io p L _ rfl (1 : Fin 2) ho
  have inn : ∀ (o : ℕ) (io) (p : (⟨2, ![512, o1]⟩ : Shape).Idx → Val e) (L), l.val = o + d.val →
      v.read Val (v.writes Val f ((⟨Rect.unit (s := (⟨2, ![512, W]⟩ : Shape)) ![0, o] ![512, o1] io, p⟩ : View.Piece Val _ e) :: L)) (ix2 r l)
        = p (ix2 r d) := fun o io p L ho =>
    View.read_writes_cons_unit_of_mem v f io p L _ (ix2 r d) rfl (fun a => by
      fin_cases a
      · exact (Nat.zero_add _).symm
      · exact ho)
  fin_cases h
  · have h' : l.val = 0 + d.val := by simpa using hl
    rw [out _ _ _ _ (.inl (by omega)), out _ _ _ _ (.inl (by omega)), out _ _ _ _ (.inl (by omega)), inn _ _ _ _ h']
  · have h' : l.val = o1 + d.val := by simpa using hl
    rw [out _ _ _ _ (.inl (by omega)), out _ _ _ _ (.inl (by omega)), inn _ _ _ _ h']
  · have h' : l.val = 2 * o1 + d.val := by rw [hl]; show o1 * 2 + _ = _; ring
    rw [out _ _ _ _ (.inl (by omega)), inn _ _ _ _ h']
  · have h' : l.val = 3 * o1 + d.val := by rw [hl]; show o1 * 3 + _ = _; ring
    rw [inn _ _ _ _ h']

end Cert.KernelIdeal.Att

end
-- ==== Proof.RegionDq.lean ====
/-
  The query-gradient region: the body runs at every grid point, what it leaves in its two output blocks, and the
  pipeline data built from that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_att_bwd_dq` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S512x1024 .bf16 := (Memref.whole cc1_stg6_0 : Memref sig .tc .vmem S512x1024 .bf16).view
/-- One staging buffer of output window 7, through which its contents are stated (`View.read_writes_of_cover`: the
    choice does not matter). -/
abbrev VO1_7 : View sig .tc .vmem S512x512 .f32 := (Memref.whole cc1_stg7_0 : Memref sig .tc .vmem S512x512 .f32).view
/-- Each window's current staging memref at point `t`, spelled as the pipeline passes it (`bodyAt1`), and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1024 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x512 .f32 := win1_7.stage (cfg1.slots t 7)
abbrev hs1_7 (t : Fin cfg1.N) : (ms1_7 t).IsWhole := hstage1_7 ((cfg1.slots t 7).cast nbuf1_7)

section Point

variable (c : Dev nD) (i : grid1.Coords) (arg1 : Memref sig .tc .vmem S512x1024 .bf16) (harg1 : arg1.IsWhole) (arg2 : Memref sig .tc .vmem S4096x1024 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x512 .f32) (harg8 : arg8.IsWhole)
    (x0 : Vec F S512x1024 .bf16) (x1 : Vec F S4096x1024 .bf16) (x2 : Vec F S4096x512 .bf16) (x3 : Vec F S512x512 .bf16) (x4 : Vec F S512x512 .f32) (x5 : Vec F S512x512 .bf16)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A :
    Σ' (L6 : List (View.Piece (Elt F) S512x1024 .bf16)), { L7 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1_att_bwd_dq i arg1 harg1 arg2 harg2 arg3 harg3 arg4 harg4 arg5 harg5 arg6 harg6 arg7 harg7 arg8 harg8) K } := by
  refine ⟨?_, ?_, fun E K => ?run⟩
  case run =>
    simp only [cc1_att_bwd_dq_eq_skeleton]; unfold cc1_att_bwd_dq_skel
    simp only [k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- The run's pieces for output 6 tile its block (4 stores of `S512x256`, checked by the kernel's evaluation: Lib/Ring.lean `Piece.tiledL`, linear in the pieces, through a loop's `@[irreducible]` trip theorem too), so they cover it. -/
theorem cover1_A_6 (y : S512x1024.Idx) :
    ∃ pc ∈ (kernelRun1_A c i arg1 harg1 arg2 harg2 arg3 harg3 arg4 harg4 arg5 harg5 arg6 harg6 arg7 harg7 arg8 harg8 x0 x1 x2 x3 x4 x5).1, y ∈ pc.1.set :=
  View.cover_of_tiledL (kernelRun1_A c i arg1 harg1 arg2 harg2 arg3 harg3 arg4 harg4 arg5 harg5 arg6 harg6 arg7 harg7 arg8 harg8 x0 x1 x2 x3 x4 x5).1 S512x256.size (by sl_kernel_rfl) y

/-- What the run leaves in output 6's staging buffer: its pieces read back over junk. -/
def out1_A_6 : Vec F S512x1024 .bf16 :=
  VO1_6.read (Elt F) (VO1_6.writes (Elt F) VO1_6.junk (kernelRun1_A c i arg1 harg1 arg2 harg2 arg3 harg3 arg4 harg4 arg5 harg5 arg6 harg6 arg7 harg7 arg8 harg8 x0 x1 x2 x3 x4 x5).1)

/-- The run's pieces for output 7 tile its block (4 stores of `S512x128`, checked by the kernel's evaluation: Lib/Ring.lean `Piece.tiledL`, linear in the pieces, through a loop's `@[irreducible]` trip theorem too), so they cover it. -/
theorem cover1_A_7 (y : S512x512.Idx) :
    ∃ pc ∈ (kernelRun1_A c i arg1 harg1 arg2 harg2 arg3 harg3 arg4 harg4 arg5 harg5 arg6 harg6 arg7 harg7 arg8 harg8 x0 x1 x2 x3 x4 x5).2.1, y ∈ pc.1.set :=
  View.cover_of_tiledL (kernelRun1_A c i arg1 harg1 arg2 harg2 arg3 harg3 arg4 harg4 arg5 harg5 arg6 harg6 arg7 harg7 arg8 harg8 x0 x1 x2 x3 x4 x5).2.1 S512x128.size (by sl_kernel_rfl) y

/-- What the run leaves in output 7's staging buffer: its pieces read back over junk. -/
def out1_A_7 : Vec F S512x512 .f32 :=
  VO1_7.read (Elt F) (VO1_7.writes (Elt F) VO1_7.junk (kernelRun1_A c i arg1 harg1 arg2 harg2 arg3 harg3 arg4 harg4 arg5 harg5 arg6 harg6 arg7 harg7 arg8 harg8 x0 x1 x2 x3 x4 x5).2.1)

end Point

/-! ## What the outputs hold after each point -/

/-- What the outputs' staging buffers hold after the body at point `t` (as a tuple, in window order): the run's contents at
    the point's memrefs and input blocks. -/
def outsAt1 (c : Dev nD) (t : Fin cfg1.N) : Vec F S512x1024 .bf16 × Vec F S512x512 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t).1
    | ⟨7, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t).1 := by dsimp only [dat1]
theorem after1_7 (c : Dev nD) (t : Fin cfg1.N) : (dat1 V c).after 7 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold outsAt1
  unfold out1_A_6 out1_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ (iblk1 V c 0 t) (iblk1 V c 1 t) (iblk1 V c 2 t) (iblk1 V c 3 t) (iblk1 V c 4 t) (iblk1 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover1_A_6 c _ _ _ _ _ _ _ _ _ _ _ _ _ _ _ _ _ _ _ _ _ _ _)
  unfold owns; iexists _; isplitr
  swap; · iexact H7
  ipureintro; exact View.read_writes_of_cover _ _ _ _ _ (cover1_A_7 c _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.DqRun.lean ====
/-
  The body of the queries' gradient at one grid point: its loop over the blocks of keys before the diagonal, the
  diagonal block, and the two blocks it stores.
-/
module

public import proofs.«01_k».proof.Proof.BwdBlock
public import proofs.«01_k».proof.Proof.Reads
public import proofs.«01_k».proof.Proof.RegionDq

@[expose] public section

set_option maxRecDepth 16384

noncomputable section

open Idealize.ShloMosaic Idealize.ShloMosaic.TcCoe Idealize.ShloMosaic.Tactic

namespace Cert.KernelIdeal.Att

open Cert.KernelIdeal Cert.KernelIdeal.Gen Cert.Att

/-- What the loop over blocks of keys carries: each head's sum so far. -/
abbrev Dq4 (F : FTy → Type) := FVec F S512x256 .f32 × FVec F S512x256 .f32 × FVec F S512x256 .f32 × FVec F S512x256 .f32

section Words

variable {F : FTy → Type} [FloatOps F] [Named F]

/-- One block of keys for all four heads, of the heads' score gradients and blocks of keys. -/
def dq4 (s0 s1 s2 s3 : FVec F S512x512 .f32) (w0 w1 w2 w3 : Vec F S512x256 .bf16) (acc : Dq4 F) : Dq4 F :=
  (dqStep acc.1 s0 w0, dqStep acc.2.1 s1 w1, dqStep acc.2.2.1 s2 w2, dqStep acc.2.2.2 s3 w3)
/-- The score gradients of a whole block of keys. -/
def ds (q k : Vec F S512x256 .bf16) (g v : Vec F S512x128 .bf16) (lse delta : FVec F S512x1 .f32) : FVec F S512x512 .f32 :=
  dscore (prob (score q k) lse) (dprob g v) delta
/-- The score gradients of the diagonal block. -/
def dsDiag (n : BitVec 32) (q k : Vec F S512x256 .bf16) (g v : Vec F S512x128 .bf16) (lse delta : FVec F S512x1 .f32) : FVec F S512x512 .f32 :=
  dscore (probDiag n (score q k) lse) (dprob g v) delta
/-- A column, once in each of 128 lanes. -/
def lanes (delta : FVec F S512x1 .f32) : FVec F S512x128 .f32 :=
  broadcastTo S512x128 (shapeCast S512x1 delta shapeCasts_S512x1_S512x1) broadcasts_S512x1_S512x128
/-- The inner products of the rows, as a vector. -/
def rowDot (g o : Vec F S512x128 .bf16) : FVec F S512 .f32 :=
  multiReduction .add [1] S512 (mulf (extf .f32 g bitsLt_bf16_f32) (extf .f32 o bitsLt_bf16_f32)) 0x00000000#32 reduces_S512x128_S512 (.inl rfl) rfl

variable (c : Dev nD) (i : grid1.Coords) (arg1 : Memref sig .tc .vmem S512x1024 .bf16) (harg1 : arg1.IsWhole) (arg2 : Memref sig .tc .vmem S4096x1024 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x512 .f32) (harg8 : arg8.IsWhole)

/-- A trip of the loop is one block of keys. -/
theorem dq_trip (a0 : BitVec 32) (v0 v1 v2 v3 : Vec F S512x256 .bf16) (v4 v5 v6 v7 : Vec F S512x128 .bf16) (l0 l1 l2 l3 : FVec F S512x1 .f32)
    (d0 : FVec F S512x1 .f32) (d1 : FVec F S512 .f32) (o2 o3 : Vec F S512x128 .bf16) (X2 : BufTy.Contents (Elt F) arg2.view.ty)
    (X3 : BufTy.Contents (Elt F) arg3.view.ty) (k : Fin (k1_t1_loop i).trips) (acc : Dq4 F) :
    tripR_k1_t1 (F := F) Variants.none c none i arg1 harg1 arg2 harg2 arg3 harg3 arg4 harg4 arg5 harg5 arg6 harg6 arg7 harg7 arg8 harg8 a0 v0 v1 v2 v3 v4 v5 v6 v7 l0 l1 l2 l3 d0 d1 o2 o3 X2 X3 k acc =
      dq4 (ds v0 (rd arg2 X2 (k1_off1_inb i k)) v4 (rd arg3 X3 (k1_off2_inb i k)) l0 d0) (ds v1 (rd arg2 X2 (k1_off3_inb i k)) v5 (rd arg3 X3 (k1_off4_inb i k)) l1 (shapeCast S512x1 d1 shapeCasts_S512_S512x1)) (ds v2 (rd arg2 X2 (k1_off5_inb i k)) v6 (rd arg3 X3 (k1_off6_inb i k)) l2 (deltaOf v6 (shapeCast S512x128 o2 shapeCasts_S512x128_S512x128))) (ds v3 (rd arg2 X2 (k1_off7_inb i k)) v7 (rd arg3 X3 (k1_off8_inb i k)) l3 (deltaOf v7 (shapeCast S512x128 o3 shapeCasts_S512x128_S512x128)))
        (rd arg2 X2 (k1_off1_inb i k)) (rd arg2 X2 (k1_off3_inb i k)) (rd arg2 X2 (k1_off5_inb i k)) (rd arg2 X2 (k1_off7_inb i k)) acc := by
  unfold tripR_k1_t1 trip_k1_t1
  dsimp only
  rfl

variable (x0 : Vec F S512x1024 .bf16) (x1 : Vec F S4096x1024 .bf16) (x2 : Vec F S4096x512 .bf16) (x3 : Vec F S512x512 .bf16) (x4 : Vec F S512x512 .f32) (x5 : Vec F S512x512 .bf16)

/-- What the loop over the whole blocks carries before trip `k`. -/
def dqSt (k : ℕ) : Dq4 F :=
  st_k1_t1 (F := F) Variants.none c none i arg1 harg1 arg2 harg2 arg3 harg3 arg4 harg4 arg5 harg5 arg6 harg6 arg7 harg7 arg8 harg8 (BitVec.ofNat 32 (i 0).val) (rd arg1 (harg1.unread x0) inb_S512x1024_S512x256_0_0) (rd arg1 (harg1.unread x0) inb_S512x1024_S512x256_0_256) (rd arg1 (harg1.unread x0) inb_S512x1024_S512x256_0_512) (rd arg1 (harg1.unread x0) inb_S512x1024_S512x256_0_768) (rd arg6 (harg6.unread x5) inb_S512x512_S512x128_0_0) (rd arg6 (harg6.unread x5) inb_S512x512_S512x128_0_128) (rd arg6 (harg6.unread x5) inb_S512x512_S512x128_0_256) (rd arg6 (harg6.unread x5) inb_S512x512_S512x128_0_384)
    (col arg5 (harg5.unread x4) inb_S512x512_S512x1_0_0) (col arg5 (harg5.unread x4) inb_S512x512_S512x1_0_128) (col arg5 (harg5.unread x4) inb_S512x512_S512x1_0_256) (col arg5 (harg5.unread x4) inb_S512x512_S512x1_0_384)
    (deltaOf (rd arg6 (harg6.unread x5) inb_S512x512_S512x128_0_0) (shapeCast S512x128 (rd arg4 (harg4.unread x3) inb_S512x512_S512x128_0_0) shapeCasts_S512x128_S512x128)) (rowDot (rd arg6 (harg6.unread x5) inb_S512x512_S512x128_0_128) (shapeCast S512x128 (rd arg4 (harg4.unread x3) inb_S512x512_S512x128_0_128) shapeCasts_S512x128_S512x128)) (rd arg4 (harg4.unread x3) inb_S512x512_S512x128_0_256) (rd arg4 (harg4.unread x3) inb_S512x512_S512x128_0_384)
    (harg2.unread x1) (harg3.unread x2) (broadcast S512x256 (FloatOps.ofBits .f32 0x00000000#32), broadcast S512x256 (FloatOps.ofBits .f32 0x00000000#32), broadcast S512x256 (FloatOps.ofBits .f32 0x00000000#32), broadcast S512x256 (FloatOps.ofBits .f32 0x00000000#32)) k

/-- What the printed program's second, empty loop leaves. -/
def dqSt2 : Dq4 F :=
  st_k1_t2 (F := F) Variants.none c none i arg1 harg1 arg2 harg2 arg3 harg3 arg4 harg4 arg5 harg5 arg6 harg6 arg7 harg7 arg8 harg8 (BitVec.ofNat 32 (i 0).val) (rd arg1 (harg1.unread x0) inb_S512x1024_S512x256_0_0) (rd arg1 (harg1.unread x0) inb_S512x1024_S512x256_0_256) (rd arg1 (harg1.unread x0) inb_S512x1024_S512x256_0_512) (rd arg1 (harg1.unread x0) inb_S512x1024_S512x256_0_768) (rd arg6 (harg6.unread x5) inb_S512x512_S512x128_0_0) (rd arg6 (harg6.unread x5) inb_S512x512_S512x128_0_128) (rd arg6 (harg6.unread x5) inb_S512x512_S512x128_0_256) (rd arg6 (harg6.unread x5) inb_S512x512_S512x128_0_384)
    (col arg5 (harg5.unread x4) inb_S512x512_S512x1_0_0) (col arg5 (harg5.unread x4) inb_S512x512_S512x1_0_128) (col arg5 (harg5.unread x4) inb_S512x512_S512x1_0_256) (col arg5 (harg5.unread x4) inb_S512x512_S512x1_0_384)
    (deltaOf (rd arg6 (harg6.unread x5) inb_S512x512_S512x128_0_0) (shapeCast S512x128 (rd arg4 (harg4.unread x3) inb_S512x512_S512x128_0_0) shapeCasts_S512x128_S512x128)) (rowDot (rd arg6 (harg6.unread x5) inb_S512x512_S512x128_0_128) (shapeCast S512x128 (rd arg4 (harg4.unread x3) inb_S512x512_S512x128_0_128) shapeCasts_S512x128_S512x128)) (rd arg4 (harg4.unread x3) inb_S512x512_S512x128_0_256) (rd arg4 (harg4.unread x3) inb_S512x512_S512x128_0_384)
    (k1_t1_loop i).ub (harg2.unread x1) (harg3.unread x2) (dqSt c i arg1 harg1 arg2 harg2 arg3 harg3 arg4 harg4 arg5 harg5 arg6 harg6 arg7 harg7 arg8 harg8 x0 x1 x2 x3 x4 x5 (k1_t1_loop i).trips) (k1_t2_loop i).trips

/-- What the diagonal block leaves. -/
def dqFin : Dq4 F :=
  dq4 (dsDiag (BitVec.ofNat 32 (i 0).val) (rd arg1 (harg1.unread x0) inb_S512x1024_S512x256_0_0) (rd arg2 (harg2.unread x1) (k1_off17_inb i)) (rd arg6 (harg6.unread x5) inb_S512x512_S512x128_0_0) (rd arg3 (harg3.unread x2) (k1_off18_inb i)) (col arg5 (harg5.unread x4) inb_S512x512_S512x1_0_0) (deltaOf (rd arg6 (harg6.unread x5) inb_S512x512_S512x128_0_0) (shapeCast S512x128 (rd arg4 (harg4.unread x3) inb_S512x512_S512x128_0_0) shapeCasts_S512x128_S512x128))) (dsDiag (BitVec.ofNat 32 (i 0).val) (rd arg1 (harg1.unread x0) inb_S512x1024_S512x256_0_256) (rd arg2 (harg2.unread x1) (k1_off19_inb i)) (rd arg6 (harg6.unread x5) inb_S512x512_S512x128_0_128) (rd arg3 (harg3.unread x2) (k1_off20_inb i)) (col arg5 (harg5.unread x4) inb_S512x512_S512x1_0_128) (deltaOf (rd arg6 (harg6.unread x5) inb_S512x512_S512x128_0_128) (shapeCast S512x128 (rd arg4 (harg4.unread x3) inb_S512x512_S512x128_0_128) shapeCasts_S512x128_S512x128))) (dsDiag (BitVec.ofNat 32 (i 0).val) (rd arg1 (harg1.unread x0) inb_S512x1024_S512x256_0_512) (rd arg2 (harg2.unread x1) (k1_off21_inb i)) (rd arg6 (harg6.unread x5) inb_S512x512_S512x128_0_256) (rd arg3 (harg3.unread x2) (k1_off22_inb i)) (col arg5 (harg5.unread x4) inb_S512x512_S512x1_0_256) (deltaOf (rd arg6 (harg6.unread x5) inb_S512x512_S512x128_0_256) (shapeCast S512x128 (rd arg4 (harg4.unread x3) inb_S512x512_S512x128_0_256) shapeCasts_S512x128_S512x128))) (dsDiag (BitVec.ofNat 32 (i 0).val) (rd arg1 (harg1.unread x0) inb_S512x1024_S512x256_0_768) (rd arg2 (harg2.unread x1) (k1_off23_inb i)) (rd arg6 (harg6.unread x5) inb_S512x512_S512x128_0_384) (rd arg3 (harg3.unread x2) (k1_off24_inb i)) (col arg5 (harg5.unread x4) inb_S512x512_S512x1_0_384) (deltaOf (rd arg6 (harg6.unread x5) inb_S512x512_S512x128_0_384) (shapeCast S512x128 (rd arg4 (harg4.unread x3) inb_S512x512_S512x128_0_384) shapeCasts_S512x128_S512x128)))
    (rd arg2 (harg2.unread x1) (k1_off17_inb i)) (rd arg2 (harg2.unread x1) (k1_off19_inb i)) (rd arg2 (harg2.unread x1) (k1_off21_inb i)) (rd arg2 (harg2.unread x1) (k1_off23_inb i))
    (dqSt2 c i arg1 harg1 arg2 harg2 arg3 harg3 arg4 harg4 arg5 harg5 arg6 harg6 arg7 harg7 arg8 harg8 x0 x1 x2 x3 x4 x5)

set_option maxHeartbeats 2000000 in
/-- The gradient's block, as the four stores. -/
theorem out1_6_eq : Run.out1_A_6 c i arg1 harg1 arg2 harg2 arg3 harg3 arg4 harg4 arg5 harg5 arg6 harg6 arg7 harg7 arg8 harg8 x0 x1 x2 x3 x4 x5 =
    Run.VO1_6.read (Elt F) (Run.VO1_6.writes (Elt F) Run.VO1_6.junk [⟨Rect.unit (s := S512x1024) ![0, 768] S512x256.size inb_S512x1024_S512x256_0_768, truncf .bf16 (dqFin c i arg1 harg1 arg2 harg2 arg3 harg3 arg4 harg4 arg5 harg5 arg6 harg6 arg7 harg7 arg8 harg8 x0 x1 x2 x3 x4 x5).2.2.2 bitsLt_bf16_f32⟩,
      ⟨Rect.unit (s := S512x1024) ![0, 512] S512x256.size inb_S512x1024_S512x256_0_512, truncf .bf16 (dqFin c i arg1 harg1 arg2 harg2 arg3 harg3 arg4 harg4 arg5 harg5 arg6 harg6 arg7 harg7 arg8 harg8 x0 x1 x2 x3 x4 x5).2.2.1 bitsLt_bf16_f32⟩,
      ⟨Rect.unit (s := S512x1024) ![0, 256] S512x256.size inb_S512x1024_S512x256_0_256, truncf .bf16 (dqFin c i arg1 harg1 arg2 harg2 arg3 harg3 arg4 harg4 arg5 harg5 arg6 harg6 arg7 harg7 arg8 harg8 x0 x1 x2 x3 x4 x5).2.1 bitsLt_bf16_f32⟩,
      ⟨Rect.unit (s := S512x1024) ![0, 0] S512x256.size inb_S512x1024_S512x256_0_0, truncf .bf16 (dqFin c i arg1 harg1 arg2 harg2 arg3 harg3 arg4 harg4 arg5 harg5 arg6 harg6 arg7 harg7 arg8 harg8 x0 x1 x2 x3 x4 x5).1 bitsLt_bf16_f32⟩]) := by
  unfold Run.out1_A_6 Run.kernelRun1_A
  refine congrArg (fun l => View.read (Elt F) Run.VO1_6 (Run.VO1_6.writes (Elt F) Run.VO1_6.junk l)) ?_
  dsimp only
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  all_goals
    sl_unfold_words
    unfold dqFin dq4 dqSt2 dqSt
    dsimp only
    unfold dqStep dsDiag dscore probDiag prob dprob deltaOf rowDot score
    rfl

set_option maxHeartbeats 2000000 in
/-- The block of inner products, as the four stores. -/
theorem out1_7_eq : Run.out1_A_7 c i arg1 harg1 arg2 harg2 arg3 harg3 arg4 harg4 arg5 harg5 arg6 harg6 arg7 harg7 arg8 harg8 x0 x1 x2 x3 x4 x5 =
    Run.VO1_7.read (Elt F) (Run.VO1_7.writes (Elt F) Run.VO1_7.junk [⟨Rect.unit (s := S512x512) ![0, 384] S512x128.size inb_S512x512_S512x128_0_384, lanes (deltaOf (rd arg6 (harg6.unread x5) inb_S512x512_S512x128_0_384) (shapeCast S512x128 (rd arg4 (harg4.unread x3) inb_S512x512_S512x128_0_384) shapeCasts_S512x128_S512x128))⟩,
      ⟨Rect.unit (s := S512x512) ![0, 256] S512x128.size inb_S512x512_S512x128_0_256, lanes (deltaOf (rd arg6 (harg6.unread x5) inb_S512x512_S512x128_0_256) (shapeCast S512x128 (rd arg4 (harg4.unread x3) inb_S512x512_S512x128_0_256) shapeCasts_S512x128_S512x128))⟩,
      ⟨Rect.unit (s := S512x512) ![0, 128] S512x128.size inb_S512x512_S512x128_0_128, lanes (deltaOf (rd arg6 (harg6.unread x5) inb_S512x512_S512x128_0_128) (shapeCast S512x128 (rd arg4 (harg4.unread x3) inb_S512x512_S512x128_0_128) shapeCasts_S512x128_S512x128))⟩,
      ⟨Rect.unit (s := S512x512) ![0, 0] S512x128.size inb_S512x512_S512x128_0_0, lanes (deltaOf (rd arg6 (harg6.unread x5) inb_S512x512_S512x128_0_0) (shapeCast S512x128 (rd arg4 (harg4.unread x3) inb_S512x512_S512x128_0_0) shapeCasts_S512x128_S512x128))⟩]) := by
  unfold Run.out1_A_7 Run.kernelRun1_A
  refine congrArg (fun l => View.read (Elt F) Run.VO1_7 (Run.VO1_7.writes (Elt F) Run.VO1_7.junk l)) ?_
  dsimp only
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  all_goals
    sl_unfold_words
    unfold lanes deltaOf
    rfl

end Words

end Cert.KernelIdeal.Att

end
-- ==== Proof.DqValue.lean ====
/-
  What the body of the queries' gradient stores at one grid point: each head's gradient rows and its rows' inner products.
-/
module

public import proofs.«01_k».proof.Proof.DqRun

@[expose] public section

set_option maxRecDepth 16384

noncomputable section

open Idealize.ShloMosaic Idealize.ShloMosaic.TcCoe Idealize.ShloMosaic.Tactic

namespace Cert.KernelIdeal.Att

open Cert.KernelIdeal Cert.KernelIdeal.Gen Cert.Att

/-- A block of a shape cast to itself. -/
theorem same_shape (x : FVec Ideal S512x128 .bf16) (hs) (f : Fin 512 → Fin 128 → EReal) (hx : ∀ r d, x (ix2 r d) = f r d) (r : Fin 512) (d : Fin 128) :
    (shapeCast S512x128 x hs) (ix2 r d) = f r d := by
  refine Eq.trans ?_ (hx r d)
  pointwise

/-- A column's copies. -/
theorem lanes_apply (x : FVec Ideal S512x1 .f32) (r : Fin 512) (d : Fin 128) : lanes x (ix2 r d) = x (ix2 r (0 : Fin 1)) := by
  unfold lanes
  pointwise

section Blocks

variable (H : Head)

/-- The score gradients of a whole block of keys. -/
theorem ds_apply {R N : ℕ} (hR : R + 512 ≤ 4096) (hN : N + 512 ≤ R) (q k : Vec Ideal S512x256 .bf16) (g v : Vec Ideal S512x128 .bf16) (lse delta : FVec Ideal S512x1 .f32)
    (hq : ∀ (r : Fin 512) (d : Fin 256), q (ix2 r d) = (H.q (R + r) d : EReal)) (hk : ∀ (r : Fin 512) (d : Fin 256), k (ix2 r d) = (H.k (N + r) d : EReal))
    (hg : ∀ (r : Fin 512) (d : Fin 128), g (ix2 r d) = (H.g (R + r) d : EReal)) (hv : ∀ (r : Fin 512) (d : Fin 128), v (ix2 r d) = (H.v (N + r) d : EReal))
    (hl : ∀ r : Fin 512, lse (ix2 r (0 : Fin 1)) = (Real.log (H.Z (R + r)) : EReal)) (hD : ∀ r : Fin 512, delta (ix2 r (0 : Fin 1)) = (H.D (R + r) : EReal))
    (hc : H.c = scale) (r c : Fin 512) : ds (F := Ideal) q k g v lse delta (ix2 r c) = (H.DS (R + r) (N + c) : EReal) :=
  dscore_apply H _ _ _ (prob_apply H hR hN _ _ (score_apply H _ _ _ _ hq hk hc) hl) (dprob_apply H _ _ hg hv) hD hc r c

/-- The score gradients of the diagonal block. -/
theorem dsDiag_apply (n : ℕ) (hn : n < 8) (q k : Vec Ideal S512x256 .bf16) (g v : Vec Ideal S512x128 .bf16) (lse delta : FVec Ideal S512x1 .f32)
    (hq : ∀ (r : Fin 512) (d : Fin 256), q (ix2 r d) = (H.q (512 * n + r) d : EReal)) (hk : ∀ (r : Fin 512) (d : Fin 256), k (ix2 r d) = (H.k (512 * n + r) d : EReal))
    (hg : ∀ (r : Fin 512) (d : Fin 128), g (ix2 r d) = (H.g (512 * n + r) d : EReal)) (hv : ∀ (r : Fin 512) (d : Fin 128), v (ix2 r d) = (H.v (512 * n + r) d : EReal))
    (hl : ∀ r : Fin 512, lse (ix2 r (0 : Fin 1)) = (Real.log (H.Z (512 * n + r)) : EReal)) (hD : ∀ r : Fin 512, delta (ix2 r (0 : Fin 1)) = (H.D (512 * n + r) : EReal))
    (hc : H.c = scale) (r c : Fin 512) : dsDiag (F := Ideal) (BitVec.ofNat 32 n) q k g v lse delta (ix2 r c) = (H.DS (512 * n + r) (512 * n + c) : EReal) :=
  dscore_apply H _ _ _ (probDiag_apply H n hn _ _ (score_apply H _ _ _ _ hq hk hc) hl) (dprob_apply H _ _ hg hv) hD hc r c

end Blocks

/-- At the point of row block `i` the loop over whole blocks makes `i` trips. -/
theorem dq_trips : ∀ i : grid1.Coords, (k1_t1_loop i).trips = (i 0).val := by decide +kernel
/-- The printed program's second loop makes none. -/
theorem dq_trips2 : ∀ i : grid1.Coords, (k1_t2_loop i).trips = 0 := by decide +kernel
/-- There are eight row blocks. -/
theorem dq_lt (i : grid1.Coords) : (i 0).val < 8 := (i 0).isLt

variable (H : Fin 4 → Head)

/-- One head's sum over the keys before `N`, for row block `i`. -/
def DqHeld (h : Head) (i N : ℕ) (acc : FVec Ideal S512x256 .f32) : Prop :=
  ∀ (r : Fin 512) (d : Fin 256), acc (ix2 r d) = ((∑ j ∈ Finset.range N, h.DS (512 * i + r) j * h.k j d : ℝ) : EReal)

/-- The four heads' sums. -/
def DqHeld4 (i N : ℕ) (acc : Dq4 Ideal) : Prop :=
  DqHeld (H 0) i N acc.1 ∧ DqHeld (H 1) i N acc.2.1 ∧ DqHeld (H 2) i N acc.2.2.1 ∧ DqHeld (H 3) i N acc.2.2.2

/-- No key is no sum. -/
theorem dqHeld_init (h : Head) (i : ℕ) : DqHeld h i 0 (broadcast S512x256 (FloatOps.ofBits (F := Ideal) .f32 0x00000000#32)) := by
  intro r d
  have hz : Ideal.ofBits .f32 0x00000000#32 = 0 := by simp [Ideal.ofBits, Ideal.ieee]
  rw [Finset.range_zero, Finset.sum_empty]
  exact hz

variable (c : Dev nD) (i : grid1.Coords) (arg1 : Memref sig .tc .vmem S512x1024 .bf16) (harg1 : arg1.IsWhole) (arg2 : Memref sig .tc .vmem S4096x1024 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x512 .f32) (harg8 : arg8.IsWhole)
variable (x0 : Vec Ideal S512x1024 .bf16) (x1 : Vec Ideal S4096x1024 .bf16) (x2 : Vec Ideal S4096x512 .bf16) (x3 : Vec Ideal S512x512 .bf16) (x4 : Vec Ideal S512x512 .f32) (x5 : Vec Ideal S512x512 .bf16)
variable (hc : ∀ h, (H h).c = scale)
  (hx0 : ∀ (h : Fin 4) (r : Fin 512) (d : Fin 256), x0 (ix2 r (wide h d)) = ((H h).q (512 * (i 0).val + r) d : EReal))
  (hx1 : ∀ (h : Fin 4) (j : Fin 4096) (d : Fin 256), x1 (ix2 j (wide h d)) = ((H h).k j d : EReal))
  (hx2 : ∀ (h : Fin 4) (j : Fin 4096) (d : Fin 128), x2 (ix2 j (slim h d)) = ((H h).v j d : EReal))
  (hx3 : ∀ (h : Fin 4) (r : Fin 512) (d : Fin 128), x3 (ix2 r (slim h d)) = ((H h).O (512 * (i 0).val + r) d : EReal))
  (hx4 : ∀ (h : Fin 4) (r : Fin 512) (d : Fin 128), x4 (ix2 r (slim h d)) = (Real.log ((H h).Z (512 * (i 0).val + r)) : EReal))
  (hx5 : ∀ (h : Fin 4) (r : Fin 512) (d : Fin 128), x5 (ix2 r (slim h d)) = ((H h).g (512 * (i 0).val + r) d : EReal))

include hx0 in
/-- A head's columns of the query block. -/
theorem dq_q (h : Fin 4) (o : ℕ) (ho : o = 256 * h.val) (inb) (r : Fin 512) (d : Fin 256) :
    View.readAt (Elt Ideal) arg1.view (Rect.unit (s := S512x1024) ![0, o] S512x256.size inb).toLoadRect (harg1.unread x0) (ix2 r d)
      = ((H h).q (512 * (i 0).val + r) d : EReal) :=
  (readAt_block arg1 harg1 x0 _ inb 0 o rfl r d r (wide h d) (by simp) (by simp [ho])).trans (hx0 h r d)

include hx1 in
/-- A head's columns of a block of keys. -/
theorem dq_k (h : Fin 4) (N : ℕ) (hN : N + 512 ≤ 4096) (off : Fin 2 → ℕ) (ho : off = ![N, 256 * h.val]) (inb) (r : Fin 512) (d : Fin 256) :
    View.readAt (Elt Ideal) arg2.view (Rect.unit (s := S4096x1024) off S512x256.size inb).toLoadRect (harg2.unread x1) (ix2 r d)
      = ((H h).k (N + r) d : EReal) :=
  (readAt_block arg2 harg2 x1 off inb N (256 * h.val) ho r d ⟨N + r, by omega⟩ (wide h d) rfl rfl).trans (hx1 h _ d)

include hx2 in
/-- A head's columns of a block of values. -/
theorem dq_v (h : Fin 4) (N : ℕ) (hN : N + 512 ≤ 4096) (off : Fin 2 → ℕ) (ho : off = ![N, 128 * h.val]) (inb) (r : Fin 512) (d : Fin 128) :
    View.readAt (Elt Ideal) arg3.view (Rect.unit (s := S4096x512) off S512x128.size inb).toLoadRect (harg3.unread x2) (ix2 r d)
      = ((H h).v (N + r) d : EReal) :=
  (readAt_block arg3 harg3 x2 off inb N (128 * h.val) ho r d ⟨N + r, by omega⟩ (slim h d) rfl rfl).trans (hx2 h _ d)

include hx3 in
/-- A head's columns of the output's block. -/
theorem dq_o (h : Fin 4) (o : ℕ) (ho : o = 128 * h.val) (inb) (r : Fin 512) (d : Fin 128) :
    View.readAt (Elt Ideal) arg4.view (Rect.unit (s := S512x512) ![0, o] S512x128.size inb).toLoadRect (harg4.unread x3) (ix2 r d)
      = ((H h).O (512 * (i 0).val + r) d : EReal) :=
  (readAt_block arg4 harg4 x3 _ inb 0 o rfl r d r (slim h d) (by simp) (by simp [ho])).trans (hx3 h r d)

include hx4 in
/-- A head's column of log-sums. -/
theorem dq_l (h : Fin 4) (o : ℕ) (ho : o = 128 * h.val) (inb) (hs) (r : Fin 512) :
    (shapeCast S512x1 (View.readAt (Elt Ideal) arg5.view (Rect.unit (s := S512x512) ![0, o] S512x1.size inb).toLoadRect (harg5.unread x4)
      : FVec Ideal S512x1 .f32) hs) (ix2 r (0 : Fin 1)) = (Real.log ((H h).Z (512 * (i 0).val + r)) : EReal) := by
  refine Eq.trans ?_ ((readAt_block arg5 harg5 x4 _ inb 0 o rfl r (0 : Fin 1) r (slim h 0) (by simp) (by simp [ho])).trans (hx4 h r 0))
  pointwise

include hx5 in
/-- A head's columns of the block of output gradients. -/
theorem dq_g (h : Fin 4) (o : ℕ) (ho : o = 128 * h.val) (inb) (r : Fin 512) (d : Fin 128) :
    View.readAt (Elt Ideal) arg6.view (Rect.unit (s := S512x512) ![0, o] S512x128.size inb).toLoadRect (harg6.unread x5) (ix2 r d)
      = ((H h).g (512 * (i 0).val + r) d : EReal) :=
  (readAt_block arg6 harg6 x5 _ inb 0 o rfl r d r (slim h d) (by simp) (by simp [ho])).trans (hx5 h r d)

include hx3 hx5 in
/-- A head's inner products, as the body computes them. -/
theorem dq_delta (h : Fin 4) (o : ℕ) (ho : o = 128 * h.val) (inb hs) (r : Fin 512) :
    deltaOf (F := Ideal) (View.readAt (Elt Ideal) arg6.view (Rect.unit (s := S512x512) ![0, o] S512x128.size inb).toLoadRect (harg6.unread x5))
      (shapeCast S512x128 (View.readAt (Elt Ideal) arg4.view (Rect.unit (s := S512x512) ![0, o] S512x128.size inb).toLoadRect (harg4.unread x3) : FVec Ideal S512x128 .bf16) hs)
      (ix2 r (0 : Fin 1)) = ((H h).D (512 * (i 0).val + r) : EReal) :=
  delta_apply (H h) _ _ (dq_g H i arg6 harg6 x5 hx5 h o ho inb) (same_shape _ hs (fun r d => ((H h).O (512 * (i 0).val + r) d : EReal)) (dq_o H i arg4 harg4 x3 hx3 h o ho inb)) r

include hc hx0 hx1 hx2 hx3 hx4 hx5 in
/-- Before trip `k` the keys before `512 k` have been summed over. -/
theorem dq_loop (k : ℕ) (hk : k ≤ (k1_t1_loop i).trips) : DqHeld4 H (i 0).val (512 * k) (dqSt c i arg1 harg1 arg2 harg2 arg3 harg3 arg4 harg4 arg5 harg5 arg6 harg6 arg7 harg7 arg8 harg8 x0 x1 x2 x3 x4 x5 k) := by
  induction k with
  | zero => exact ⟨dqHeld_init _ _, dqHeld_init _ _, dqHeld_init _ _, dqHeld_init _ _⟩
  | succ k ih =>
    have hlt : k < (k1_t1_loop i).trips := hk
    have hi := dq_trips i
    have hi8 := dq_lt i
    have h := ih (Nat.le_of_lt hlt)
    have hN : 512 * k + 512 ≤ 512 * (i 0).val := by omega
    unfold dqSt at h ⊢
    rw [st_k1_t1_succ Variants.none c none i arg1 harg1 arg2 harg2 arg3 harg3 arg4 harg4 arg5 harg5 arg6 harg6 arg7 harg7 arg8 harg8 _ _ _ _ _ _ _ _ _ _ _ _ _ _ _ _ _ _ _ _ ⟨k, hlt⟩, dq_trip]
    unfold dq4
    exact ⟨dqStep_apply (H 0) _ _ _ h.1 (ds_apply (H 0) (R := 512 * (i 0).val) (N := 512 * k) (by omega) hN _ _ _ _ _ _ (dq_q H i arg1 harg1 x0 hx0 0 0 rfl _)
        (dq_k H arg2 harg2 x1 hx1 0 (512 * k) (by omega) _ (k1_off1_eq i ⟨k, hlt⟩) _) (dq_g H i arg6 harg6 x5 hx5 0 0 rfl _)
        (dq_v H arg3 harg3 x2 hx2 0 (512 * k) (by omega) _ (k1_off2_eq i ⟨k, hlt⟩) _) (dq_l H i arg5 harg5 x4 hx4 0 0 rfl _ _)
        (dq_delta H i arg4 harg4 arg6 harg6 x3 x5 hx3 hx5 0 0 rfl _ _) (hc 0))
        (dq_k H arg2 harg2 x1 hx1 0 (512 * k) (by omega) _ (k1_off1_eq i ⟨k, hlt⟩) _),
      dqStep_apply (H 1) _ _ _ h.2.1 (ds_apply (H 1) (R := 512 * (i 0).val) (N := 512 * k) (by omega) hN _ _ _ _ _ _ (dq_q H i arg1 harg1 x0 hx0 1 256 rfl _)
        (dq_k H arg2 harg2 x1 hx1 1 (512 * k) (by omega) _ (k1_off3_eq i ⟨k, hlt⟩) _) (dq_g H i arg6 harg6 x5 hx5 1 128 rfl _)
        (dq_v H arg3 harg3 x2 hx2 1 (512 * k) (by omega) _ (k1_off4_eq i ⟨k, hlt⟩) _) (dq_l H i arg5 harg5 x4 hx4 1 128 rfl _ _)
        (dq_delta H i arg4 harg4 arg6 harg6 x3 x5 hx3 hx5 1 128 rfl _ _) (hc 1))
        (dq_k H arg2 harg2 x1 hx1 1 (512 * k) (by omega) _ (k1_off3_eq i ⟨k, hlt⟩) _),
      dqStep_apply (H 2) _ _ _ h.2.2.1 (ds_apply (H 2) (R := 512 * (i 0).val) (N := 512 * k) (by omega) hN _ _ _ _ _ _ (dq_q H i arg1 harg1 x0 hx0 2 512 rfl _)
        (dq_k H arg2 harg2 x1 hx1 2 (512 * k) (by omega) _ (k1_off5_eq i ⟨k, hlt⟩) _) (dq_g H i arg6 harg6 x5 hx5 2 256 rfl _)
        (dq_v H arg3 harg3 x2 hx2 2 (512 * k) (by omega) _ (k1_off6_eq i ⟨k, hlt⟩) _) (dq_l H i arg5 harg5 x4 hx4 2 256 rfl _ _)
        (dq_delta H i arg4 harg4 arg6 harg6 x3 x5 hx3 hx5 2 256 rfl _ _) (hc 2))
        (dq_k H arg2 harg2 x1 hx1 2 (512 * k) (by omega) _ (k1_off5_eq i ⟨k, hlt⟩) _),
      dqStep_apply (H 3) _ _ _ h.2.2.2 (ds_apply (H 3) (R := 512 * (i 0).val) (N := 512 * k) (by omega) hN _ _ _ _ _ _ (dq_q H i arg1 harg1 x0 hx0 3 768 rfl _)
        (dq_k H arg2 harg2 x1 hx1 3 (512 * k) (by omega) _ (k1_off7_eq i ⟨k, hlt⟩) _) (dq_g H i arg6 harg6 x5 hx5 3 384 rfl _)
        (dq_v H arg3 harg3 x2 hx2 3 (512 * k) (by omega) _ (k1_off8_eq i ⟨k, hlt⟩) _) (dq_l H i arg5 harg5 x4 hx4 3 384 rfl _ _)
        (dq_delta H i arg4 harg4 arg6 harg6 x3 x5 hx3 hx5 3 384 rfl _ _) (hc 3))
        (dq_k H arg2 harg2 x1 hx1 3 (512 * k) (by omega) _ (k1_off7_eq i ⟨k, hlt⟩) _)⟩

include hc hx0 hx1 hx2 hx3 hx4 hx5 in
/-- After the diagonal block every key of the rows has been summed over. -/
theorem dq_fin : DqHeld4 H (i 0).val (512 * (i 0).val + 512) (dqFin c i arg1 harg1 arg2 harg2 arg3 harg3 arg4 harg4 arg5 harg5 arg6 harg6 arg7 harg7 arg8 harg8 x0 x1 x2 x3 x4 x5) := by
  have hi8 := dq_lt i
  have h0 := dq_loop H c i arg1 harg1 arg2 harg2 arg3 harg3 arg4 harg4 arg5 harg5 arg6 harg6 arg7 harg7 arg8 harg8 x0 x1 x2 x3 x4 x5 hc hx0 hx1 hx2 hx3 hx4 hx5 _ le_rfl
  have h : DqHeld4 H (i 0).val (512 * (i 0).val) (dqSt2 c i arg1 harg1 arg2 harg2 arg3 harg3 arg4 harg4 arg5 harg5 arg6 harg6 arg7 harg7 arg8 harg8 x0 x1 x2 x3 x4 x5) := by
    unfold dqSt2
    rw [dq_trips2 i, st_k1_t2_zero]
    rw [dq_trips i] at h0 ⊢
    exact h0
  unfold dqFin dq4
  exact ⟨dqStep_apply (H 0) _ _ _ h.1 (dsDiag_apply (H 0) _ hi8 _ _ _ _ _ _ (dq_q H i arg1 harg1 x0 hx0 0 0 rfl _)
        (dq_k H arg2 harg2 x1 hx1 0 _ (by omega) _ (k1_off17_eq i) _) (dq_g H i arg6 harg6 x5 hx5 0 0 rfl _)
        (dq_v H arg3 harg3 x2 hx2 0 _ (by omega) _ (k1_off18_eq i) _) (dq_l H i arg5 harg5 x4 hx4 0 0 rfl _ _)
        (dq_delta H i arg4 harg4 arg6 harg6 x3 x5 hx3 hx5 0 0 rfl _ _) (hc 0))
        (dq_k H arg2 harg2 x1 hx1 0 _ (by omega) _ (k1_off17_eq i) _),
      dqStep_apply (H 1) _ _ _ h.2.1 (dsDiag_apply (H 1) _ hi8 _ _ _ _ _ _ (dq_q H i arg1 harg1 x0 hx0 1 256 rfl _)
        (dq_k H arg2 harg2 x1 hx1 1 _ (by omega) _ (k1_off19_eq i) _) (dq_g H i arg6 harg6 x5 hx5 1 128 rfl _)
        (dq_v H arg3 harg3 x2 hx2 1 _ (by omega) _ (k1_off20_eq i) _) (dq_l H i arg5 harg5 x4 hx4 1 128 rfl _ _)
        (dq_delta H i arg4 harg4 arg6 harg6 x3 x5 hx3 hx5 1 128 rfl _ _) (hc 1))
        (dq_k H arg2 harg2 x1 hx1 1 _ (by omega) _ (k1_off19_eq i) _),
      dqStep_apply (H 2) _ _ _ h.2.2.1 (dsDiag_apply (H 2) _ hi8 _ _ _ _ _ _ (dq_q H i arg1 harg1 x0 hx0 2 512 rfl _)
        (dq_k H arg2 harg2 x1 hx1 2 _ (by omega) _ (k1_off21_eq i) _) (dq_g H i arg6 harg6 x5 hx5 2 256 rfl _)
        (dq_v H arg3 harg3 x2 hx2 2 _ (by omega) _ (k1_off22_eq i) _) (dq_l H i arg5 harg5 x4 hx4 2 256 rfl _ _)
        (dq_delta H i arg4 harg4 arg6 harg6 x3 x5 hx3 hx5 2 256 rfl _ _) (hc 2))
        (dq_k H arg2 harg2 x1 hx1 2 _ (by omega) _ (k1_off21_eq i) _),
      dqStep_apply (H 3) _ _ _ h.2.2.2 (dsDiag_apply (H 3) _ hi8 _ _ _ _ _ _ (dq_q H i arg1 harg1 x0 hx0 3 768 rfl _)
        (dq_k H arg2 harg2 x1 hx1 3 _ (by omega) _ (k1_off23_eq i) _) (dq_g H i arg6 harg6 x5 hx5 3 384 rfl _)
        (dq_v H arg3 harg3 x2 hx2 3 _ (by omega) _ (k1_off24_eq i) _) (dq_l H i arg5 harg5 x4 hx4 3 384 rfl _ _)
        (dq_delta H i arg4 harg4 arg6 harg6 x3 x5 hx3 hx5 3 384 rfl _ _) (hc 3))
        (dq_k H arg2 harg2 x1 hx1 3 _ (by omega) _ (k1_off23_eq i) _)⟩

include hc hx0 hx1 hx2 hx3 hx4 hx5 in
/-- The block of the queries' gradient. -/
theorem out1_6_apply (h : Fin 4) (r : Fin 512) (d : Fin 256) :
    Run.out1_A_6 c i arg1 harg1 arg2 harg2 arg3 harg3 arg4 harg4 arg5 harg5 arg6 harg6 arg7 harg7 arg8 harg8 x0 x1 x2 x3 x4 x5 (ix2 r (wide h d)) = ((H h).DQ (512 * (i 0).val + r) d : EReal) := by
  have hf := dq_fin H c i arg1 harg1 arg2 harg2 arg3 harg3 arg4 harg4 arg5 harg5 arg6 harg6 arg7 harg7 arg8 harg8 x0 x1 x2 x3 x4 x5 hc hx0 hx1 hx2 hx3 hx4 hx5
  rw [out1_6_eq]
  have hi8 := dq_lt i
  have hr := r.isLt
  have stop : ∀ h : Fin 4, (∑ j ∈ Finset.range (512 * (i 0).val + 512), (H h).DS (512 * (i 0).val + r) j * (H h).k j d)
      = (H h).DQ (512 * (i 0).val + r) d := fun h => sum_stop _ (by omega) fun j hj => by
        rw [(H h).DS_of_lt (by omega), zero_mul]
  refine (read_quarters Run.VO1_6 _ 256 512 768 rfl rfl rfl _ _ _ _ _ _ _ _ h r d (wide h d) rfl).trans ?_
  fin_cases h
  · exact (hf.1 r d).trans (congrArg _ (stop 0))
  · exact (hf.2.1 r d).trans (congrArg _ (stop 1))
  · exact (hf.2.2.1 r d).trans (congrArg _ (stop 2))
  · exact (hf.2.2.2 r d).trans (congrArg _ (stop 3))

include hx3 hx5 in
/-- The block of inner products, one copy in each lane. -/
theorem out1_7_apply (h : Fin 4) (r : Fin 512) (d : Fin 128) :
    Run.out1_A_7 c i arg1 harg1 arg2 harg2 arg3 harg3 arg4 harg4 arg5 harg5 arg6 harg6 arg7 harg7 arg8 harg8 x0 x1 x2 x3 x4 x5 (ix2 r (slim h d)) = ((H h).D (512 * (i 0).val + r) : EReal) := by
  rw [out1_7_eq]
  refine (read_quarters Run.VO1_7 _ 128 256 384 rfl rfl rfl _ _ _ _ _ _ _ _ h r d (slim h d) rfl).trans ?_
  fin_cases h
  · exact (lanes_apply _ r d).trans (dq_delta H i arg4 harg4 arg6 harg6 x3 x5 hx3 hx5 0 0 rfl _ _ r)
  · exact (lanes_apply _ r d).trans (dq_delta H i arg4 harg4 arg6 harg6 x3 x5 hx3 hx5 1 128 rfl _ _ r)
  · exact (lanes_apply _ r d).trans (dq_delta H i arg4 harg4 arg6 harg6 x3 x5 hx3 hx5 2 256 rfl _ _ r)
  · exact (lanes_apply _ r d).trans (dq_delta H i arg4 harg4 arg6 harg6 x3 x5 hx3 hx5 3 384 rfl _ _ r)

end Cert.KernelIdeal.Att

end
-- ==== Proof.RegionFwd.lean ====
/-
  The forward region: the body runs at every grid point, what it leaves in its two output blocks, and the
  pipeline data built from that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_att_fwd` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S512x512 .bf16 := (Memref.whole cc0_stg3_0 : Memref sig .tc .vmem S512x512 .bf16).view
/-- One staging buffer of output window 4, through which its contents are stated (`View.read_writes_of_cover`: the
    choice does not matter). -/
abbrev VO0_4 : View sig .tc .vmem S512x512 .f32 := (Memref.whole cc0_stg4_0 : Memref sig .tc .vmem S512x512 .f32).view
/-- Each window's current staging memref at point `t`, spelled as the pipeline passes it (`bodyAt0`), and its wholeness. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)

section Point

variable (c : Dev nD) (i : grid0.Coords) (arg1 : Memref sig .tc .vmem S512x1024 .bf16) (harg1 : arg1.IsWhole) (arg2 : Memref sig .tc .vmem S4096x1024 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S512x512 .f32) (harg5 : arg5.IsWhole)
    (x0 : Vec F S512x1024 .bf16) (x1 : Vec F S4096x1024 .bf16) (x2 : Vec F S4096x512 .bf16)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A :
    Σ' (L3 : List (View.Piece (Elt F) S512x512 .bf16)), { L4 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_att_fwd i arg1 harg1 arg2 harg2 arg3 harg3 arg4 harg4 arg5 harg5) K } := by
  refine ⟨?_, ?_, fun E K => ?run⟩
  case run =>
    simp only [cc0_att_fwd_eq_skeleton]; unfold cc0_att_fwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The run's pieces for output 3 tile its block (4 stores of `S512x128`, checked by the kernel's evaluation: Lib/Ring.lean `Piece.tiledL`, linear in the pieces, through a loop's `@[irreducible]` trip theorem too), so they cover it. -/
theorem cover0_A_3 (y : S512x512.Idx) :
    ∃ pc ∈ (kernelRun0_A c i arg1 harg1 arg2 harg2 arg3 harg3 arg4 harg4 arg5 harg5 x0 x1 x2).1, y ∈ pc.1.set :=
  View.cover_of_tiledL (kernelRun0_A c i arg1 harg1 arg2 harg2 arg3 harg3 arg4 harg4 arg5 harg5 x0 x1 x2).1 S512x128.size (by sl_kernel_rfl) y

/-- What the run leaves in output 3's staging buffer: its pieces read back over junk. -/
def out0_A_3 : Vec F S512x512 .bf16 :=
  VO0_3.read (Elt F) (VO0_3.writes (Elt F) VO0_3.junk (kernelRun0_A c i arg1 harg1 arg2 harg2 arg3 harg3 arg4 harg4 arg5 harg5 x0 x1 x2).1)

/-- The run's pieces for output 4 tile its block (4 stores of `S512x128`, checked by the kernel's evaluation: Lib/Ring.lean `Piece.tiledL`, linear in the pieces, through a loop's `@[irreducible]` trip theorem too), so they cover it. -/
theorem cover0_A_4 (y : S512x512.Idx) :
    ∃ pc ∈ (kernelRun0_A c i arg1 harg1 arg2 harg2 arg3 harg3 arg4 harg4 arg5 harg5 x0 x1 x2).2.1, y ∈ pc.1.set :=
  View.cover_of_tiledL (kernelRun0_A c i arg1 harg1 arg2 harg2 arg3 harg3 arg4 harg4 arg5 harg5 x0 x1 x2).2.1 S512x128.size (by sl_kernel_rfl) y

/-- What the run leaves in output 4's staging buffer: its pieces read back over junk. -/
def out0_A_4 : Vec F S512x512 .f32 :=
  VO0_4.read (Elt F) (VO0_4.writes (Elt F) VO0_4.junk (kernelRun0_A c i arg1 harg1 arg2 harg2 arg3 harg3 arg4 harg4 arg5 harg5 x0 x1 x2).2.1)

end Point

/-! ## What the outputs hold after each point -/

/-- What the outputs' staging buffers hold after the body at point `t` (as a tuple, in window order): the run's contents at
    the point's memrefs and input blocks. -/
def outsAt0 (c : Dev nD) (t : Fin cfg0.N) : Vec F S512x512 .bf16 × Vec F S512x512 .f32 :=
  (out0_A_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _)
  unfold owns; iexists _; isplitr
  swap; · iexact H4
  ipureintro; exact View.read_writes_of_cover _ _ _ _ _ (cover0_A_4 c _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.FwdRun.lean ====
/-
  The forward call's body at one grid point: its loop over the blocks of keys before the diagonal, the diagonal block,
  and the two blocks it stores.
-/
module

public import proofs.«01_k».proof.Proof.FwdBlock
public import proofs.«01_k».proof.Proof.Reads
public import proofs.«01_k».proof.Proof.RegionFwd

@[expose] public section

set_option maxRecDepth 16384

noncomputable section

open Idealize.ShloMosaic Idealize.ShloMosaic.TcCoe Idealize.ShloMosaic.Tactic

namespace Cert.KernelIdeal.Att

open Cert.KernelIdeal Cert.KernelIdeal.Gen Cert.Att

/-- What the loop over blocks of keys carries: each head's offset, sum of weights and sum of weighted values. -/
abbrev Fwd4 (F : FTy → Type) := FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32

section Words

variable {F : FTy → Type} [FloatOps F] [Named F]

/-- One block of keys for all four heads, of the heads' scores and blocks of values. -/
def fwd4 (s0 s1 s2 s3 : FVec F S512x512 .f32) (w0 w1 w2 w3 : Vec F S512x128 .bf16) (acc : Fwd4 F) : Fwd4 F :=
  (fwdM acc.1 s0, fwdL acc.1 acc.2.1 s0, fwdA acc.1 acc.2.2.1 s0 w0,
    fwdM acc.2.2.2.1 s1, fwdL acc.2.2.2.1 acc.2.2.2.2.1 s1, fwdA acc.2.2.2.1 acc.2.2.2.2.2.1 s1 w1,
    fwdM acc.2.2.2.2.2.2.1 s2, fwdL acc.2.2.2.2.2.2.1 acc.2.2.2.2.2.2.2.1 s2, fwdA acc.2.2.2.2.2.2.1 acc.2.2.2.2.2.2.2.2.1 s2 w2,
    fwdM acc.2.2.2.2.2.2.2.2.2.1 s3, fwdL acc.2.2.2.2.2.2.2.2.2.1 acc.2.2.2.2.2.2.2.2.2.2.1 s3, fwdA acc.2.2.2.2.2.2.2.2.2.1 acc.2.2.2.2.2.2.2.2.2.2.2 s3 w3)

variable (c : Dev nD) (i : grid0.Coords) (arg1 : Memref sig .tc .vmem S512x1024 .bf16) (harg1 : arg1.IsWhole) (arg2 : Memref sig .tc .vmem S4096x1024 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S512x512 .f32) (harg5 : arg5.IsWhole)

/-- A trip of the loop is one block of keys. -/
theorem fwd_trip (v0 v1 v2 v3 : Vec F S512x256 .bf16) (X2 : BufTy.Contents (Elt F) arg2.view.ty)
    (X3 : BufTy.Contents (Elt F) arg3.view.ty) (k : Fin (k0_t1_loop i).trips) (acc : Fwd4 F) :
    tripR_k0_t1 (F := F) Variants.none c none i arg1 harg1 arg2 harg2 arg3 harg3 arg4 harg4 arg5 harg5 v0 v1 v2 v3 X2 X3 k acc =
      fwd4 (score v0 (rd arg2 X2 (k0_off1_inb i k))) (score v1 (rd arg2 X2 (k0_off3_inb i k))) (score v2 (rd arg2 X2 (k0_off5_inb i k))) (score v3 (rd arg2 X2 (k0_off7_inb i k)))
        (rd arg3 X3 (k0_off2_inb i k)) (rd arg3 X3 (k0_off4_inb i k)) (rd arg3 X3 (k0_off6_inb i k)) (rd arg3 X3 (k0_off8_inb i k)) acc := by
  unfold tripR_k0_t1 trip_k0_t1
  dsimp only
  rfl

variable (x0 : Vec F S512x1024 .bf16) (x1 : Vec F S4096x1024 .bf16) (x2 : Vec F S4096x512 .bf16)

/-- What the loop over the whole blocks carries before trip `k`. -/
def fwdSt (k : ℕ) : Fwd4 F :=
  st_k0_t1 (F := F) Variants.none c none i arg1 harg1 arg2 harg2 arg3 harg3 arg4 harg4 arg5 harg5 (rd arg1 (harg1.unread x0) inb_S512x1024_S512x256_0_0) (rd arg1 (harg1.unread x0) inb_S512x1024_S512x256_0_256) (rd arg1 (harg1.unread x0) inb_S512x1024_S512x256_0_512) (rd arg1 (harg1.unread x0) inb_S512x1024_S512x256_0_768)
    (harg2.unread x1) (harg3.unread x2) (k0_pay56, k0_pay57, k0_pay58, k0_pay59, k0_pay60, k0_pay61, k0_pay62, k0_pay63, k0_pay64, k0_pay65, k0_pay66, k0_pay67) k

/-- What the printed program's second, empty loop leaves. -/
def fwdSt2 : Fwd4 F :=
  st_k0_t2 (F := F) Variants.none c none i arg1 harg1 arg2 harg2 arg3 harg3 arg4 harg4 arg5 harg5 (rd arg1 (harg1.unread x0) inb_S512x1024_S512x256_0_0) (rd arg1 (harg1.unread x0) inb_S512x1024_S512x256_0_256) (rd arg1 (harg1.unread x0) inb_S512x1024_S512x256_0_512) (rd arg1 (harg1.unread x0) inb_S512x1024_S512x256_0_768)
    (k0_t1_loop i).ub (harg2.unread x1) (harg3.unread x2) (fwdSt c i arg1 harg1 arg2 harg2 arg3 harg3 arg4 harg4 arg5 harg5 x0 x1 x2 (k0_t1_loop i).trips) (k0_t2_loop i).trips

/-- What the diagonal block leaves. -/
def fwdFin : Fwd4 F :=
  fwd4 (scoreDiag (BitVec.ofNat 32 (i 0).val) (rd arg1 (harg1.unread x0) inb_S512x1024_S512x256_0_0) (rd arg2 (harg2.unread x1) (k0_off17_inb i))) (scoreDiag (BitVec.ofNat 32 (i 0).val) (rd arg1 (harg1.unread x0) inb_S512x1024_S512x256_0_256) (rd arg2 (harg2.unread x1) (k0_off19_inb i))) (scoreDiag (BitVec.ofNat 32 (i 0).val) (rd arg1 (harg1.unread x0) inb_S512x1024_S512x256_0_512) (rd arg2 (harg2.unread x1) (k0_off21_inb i))) (scoreDiag (BitVec.ofNat 32 (i 0).val) (rd arg1 (harg1.unread x0) inb_S512x1024_S512x256_0_768) (rd arg2 (harg2.unread x1) (k0_off23_inb i)))
    (rd arg3 (harg3.unread x2) (k0_off18_inb i)) (rd arg3 (harg3.unread x2) (k0_off20_inb i)) (rd arg3 (harg3.unread x2) (k0_off22_inb i)) (rd arg3 (harg3.unread x2) (k0_off24_inb i))
    (fwdSt2 c i arg1 harg1 arg2 harg2 arg3 harg3 arg4 harg4 arg5 harg5 x0 x1 x2)

set_option maxHeartbeats 2000000 in
/-- The output's block, as the four stores. -/
theorem out0_3_eq : Run.out0_A_3 c i arg1 harg1 arg2 harg2 arg3 harg3 arg4 harg4 arg5 harg5 x0 x1 x2 =
    Run.VO0_3.read (Elt F) (Run.VO0_3.writes (Elt F) Run.VO0_3.junk [⟨Rect.unit (s := S512x512) ![0, 384] S512x128.size inb_S512x512_S512x128_0_384, fwdO (fwdFin c i arg1 harg1 arg2 harg2 arg3 harg3 arg4 harg4 arg5 harg5 x0 x1 x2).2.2.2.2.2.2.2.2.2.2.1 (fwdFin c i arg1 harg1 arg2 harg2 arg3 harg3 arg4 harg4 arg5 harg5 x0 x1 x2).2.2.2.2.2.2.2.2.2.2.2⟩,
      ⟨Rect.unit (s := S512x512) ![0, 256] S512x128.size inb_S512x512_S512x128_0_256, fwdO (fwdFin c i arg1 harg1 arg2 harg2 arg3 harg3 arg4 harg4 arg5 harg5 x0 x1 x2).2.2.2.2.2.2.2.1 (fwdFin c i arg1 harg1 arg2 harg2 arg3 harg3 arg4 harg4 arg5 harg5 x0 x1 x2).2.2.2.2.2.2.2.2.1⟩,
      ⟨Rect.unit (s := S512x512) ![0, 128] S512x128.size inb_S512x512_S512x128_0_128, fwdO (fwdFin c i arg1 harg1 arg2 harg2 arg3 harg3 arg4 harg4 arg5 harg5 x0 x1 x2).2.2.2.2.1 (fwdFin c i arg1 harg1 arg2 harg2 arg3 harg3 arg4 harg4 arg5 harg5 x0 x1 x2).2.2.2.2.2.1⟩,
      ⟨Rect.unit (s := S512x512) ![0, 0] S512x128.size inb_S512x512_S512x128_0_0, fwdO (fwdFin c i arg1 harg1 arg2 harg2 arg3 harg3 arg4 harg4 arg5 harg5 x0 x1 x2).2.1 (fwdFin c i arg1 harg1 arg2 harg2 arg3 harg3 arg4 harg4 arg5 harg5 x0 x1 x2).2.2.1⟩]) := by
  unfold Run.out0_A_3 Run.kernelRun0_A
  refine congrArg (fun l => View.read (Elt F) Run.VO0_3 (Run.VO0_3.writes (Elt F) Run.VO0_3.junk l)) ?_
  dsimp only
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  all_goals
    sl_unfold_words
    unfold fwdFin fwd4 fwdSt2 fwdSt
    dsimp only
    unfold fwdO fwdL fwdA scoreDiag score
    rfl

set_option maxHeartbeats 2000000 in
/-- The log-sums' block, as the four stores. -/
theorem out0_4_eq : Run.out0_A_4 c i arg1 harg1 arg2 harg2 arg3 harg3 arg4 harg4 arg5 harg5 x0 x1 x2 =
    Run.VO0_4.read (Elt F) (Run.VO0_4.writes (Elt F) Run.VO0_4.junk [⟨Rect.unit (s := S512x512) ![0, 384] S512x128.size inb_S512x512_S512x128_0_384, fwdLse (fwdFin c i arg1 harg1 arg2 harg2 arg3 harg3 arg4 harg4 arg5 harg5 x0 x1 x2).2.2.2.2.2.2.2.2.2.1 (fwdFin c i arg1 harg1 arg2 harg2 arg3 harg3 arg4 harg4 arg5 harg5 x0 x1 x2).2.2.2.2.2.2.2.2.2.2.1⟩,
      ⟨Rect.unit (s := S512x512) ![0, 256] S512x128.size inb_S512x512_S512x128_0_256, fwdLse (fwdFin c i arg1 harg1 arg2 harg2 arg3 harg3 arg4 harg4 arg5 harg5 x0 x1 x2).2.2.2.2.2.2.1 (fwdFin c i arg1 harg1 arg2 harg2 arg3 harg3 arg4 harg4 arg5 harg5 x0 x1 x2).2.2.2.2.2.2.2.1⟩,
      ⟨Rect.unit (s := S512x512) ![0, 128] S512x128.size inb_S512x512_S512x128_0_128, fwdLse (fwdFin c i arg1 harg1 arg2 harg2 arg3 harg3 arg4 harg4 arg5 harg5 x0 x1 x2).2.2.2.1 (fwdFin c i arg1 harg1 arg2 harg2 arg3 harg3 arg4 harg4 arg5 harg5 x0 x1 x2).2.2.2.2.1⟩,
      ⟨Rect.unit (s := S512x512) ![0, 0] S512x128.size inb_S512x512_S512x128_0_0, fwdLse (fwdFin c i arg1 harg1 arg2 harg2 arg3 harg3 arg4 harg4 arg5 harg5 x0 x1 x2).1 (fwdFin c i arg1 harg1 arg2 harg2 arg3 harg3 arg4 harg4 arg5 harg5 x0 x1 x2).2.1⟩]) := by
  unfold Run.out0_A_4 Run.kernelRun0_A
  refine congrArg (fun l => View.read (Elt F) Run.VO0_4 (Run.VO0_4.writes (Elt F) Run.VO0_4.junk l)) ?_
  dsimp only
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  all_goals
    sl_unfold_words
    unfold fwdFin fwd4 fwdSt2 fwdSt
    dsimp only
    unfold fwdLse fwdM fwdL scoreDiag score
    rfl

end Words

end Cert.KernelIdeal.Att

end
-- ==== Proof.FwdValue.lean ====
/-
  What the forward call's body stores at one grid point: each head's output rows and the logarithms of its rows' sums.
-/
module

public import proofs.«01_k».proof.Proof.FwdRun

@[expose] public section

set_option maxRecDepth 16384

noncomputable section

open Idealize.ShloMosaic Idealize.ShloMosaic.TcCoe Idealize.ShloMosaic.Tactic

namespace Cert.KernelIdeal.Att

open Cert.KernelIdeal Cert.KernelIdeal.Gen Cert.Att

/-- At the point of row block `i` the loop over whole blocks makes `i` trips. -/
theorem fwd_trips : ∀ i : grid0.Coords, (k0_t1_loop i).trips = (i 0).val := by decide +kernel
/-- The printed program's second loop makes none. -/
theorem fwd_trips2 : ∀ i : grid0.Coords, (k0_t2_loop i).trips = 0 := by decide +kernel
/-- There are eight row blocks. -/
theorem fwd_lt (i : grid0.Coords) : (i 0).val < 8 := (i 0).isLt

variable (H : Fin 4 → Head)

/-- The four heads' running softmaxes of row block `i`, the keys before `N` already read. -/
def Held4 (i N : ℕ) (acc : Fwd4 Ideal) : Prop :=
  HeldV (H 0) i N acc.1 acc.2.1 acc.2.2.1 ∧ HeldV (H 1) i N acc.2.2.2.1 acc.2.2.2.2.1 acc.2.2.2.2.2.1
    ∧ HeldV (H 2) i N acc.2.2.2.2.2.2.1 acc.2.2.2.2.2.2.2.1 acc.2.2.2.2.2.2.2.2.1
    ∧ HeldV (H 3) i N acc.2.2.2.2.2.2.2.2.2.1 acc.2.2.2.2.2.2.2.2.2.2.1 acc.2.2.2.2.2.2.2.2.2.2.2

/-- A row block of one head, before any key, is empty. -/
theorem heldV_init (h : Head) (i : ℕ) (m l : FVec Ideal S512x1 .f32) (a : FVec Ideal S512x128 .f32)
    (hm : ∀ r : Fin 512, m (ix2 r (0 : Fin 1)) = ⊥) (hl : ∀ r : Fin 512, l (ix2 r (0 : Fin 1)) = 0)
    (ha : ∀ (r : Fin 512) (d : Fin 128), a (ix2 r d) = 0) : HeldV h i 0 m l a := by
  intro r
  refine Or.inl ⟨hm r, hl r, fun d => ha r d, ?_⟩
  simp

variable (c : Dev nD) (i : grid0.Coords) (arg1 : Memref sig .tc .vmem S512x1024 .bf16) (harg1 : arg1.IsWhole) (arg2 : Memref sig .tc .vmem S4096x1024 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S512x512 .f32) (harg5 : arg5.IsWhole)
variable (x0 : Vec Ideal S512x1024 .bf16) (x1 : Vec Ideal S4096x1024 .bf16) (x2 : Vec Ideal S4096x512 .bf16)
variable (hc : ∀ h, (H h).c = scale)
  (hx0 : ∀ (h : Fin 4) (r : Fin 512) (d : Fin 256), x0 (ix2 r (wide h d)) = ((H h).q (512 * (i 0).val + r) d : EReal))
  (hx1 : ∀ (h : Fin 4) (j : Fin 4096) (d : Fin 256), x1 (ix2 j (wide h d)) = ((H h).k j d : EReal))
  (hx2 : ∀ (h : Fin 4) (j : Fin 4096) (d : Fin 128), x2 (ix2 j (slim h d)) = ((H h).v j d : EReal))

include hx0 in
/-- A head's columns of the query block. -/
theorem q_read (h : Fin 4) (o : ℕ) (ho : o = 256 * h.val) (inb) (r : Fin 512) (d : Fin 256) :
    View.readAt (Elt Ideal) arg1.view (Rect.unit (s := S512x1024) ![0, o] S512x256.size inb).toLoadRect (harg1.unread x0) (ix2 r d)
      = ((H h).q (512 * (i 0).val + r) d : EReal) :=
  (readAt_block arg1 harg1 x0 _ inb 0 o rfl r d r (wide h d) (by simp) (by simp [ho])).trans (hx0 h r d)

include hx1 in
/-- A head's columns of a block of keys. -/
theorem k_read (h : Fin 4) (N : ℕ) (hN : N + 512 ≤ 4096) (off : Fin 2 → ℕ) (ho : off = ![N, 256 * h.val]) (inb) (r : Fin 512) (d : Fin 256) :
    View.readAt (Elt Ideal) arg2.view (Rect.unit (s := S4096x1024) off S512x256.size inb).toLoadRect (harg2.unread x1) (ix2 r d)
      = ((H h).k (N + r) d : EReal) :=
  (readAt_block arg2 harg2 x1 off inb N (256 * h.val) ho r d ⟨N + r, by omega⟩ (wide h d) rfl rfl).trans (hx1 h _ d)

include hx2 in
/-- A head's columns of a block of values. -/
theorem v_read (h : Fin 4) (N : ℕ) (hN : N + 512 ≤ 4096) (off : Fin 2 → ℕ) (ho : off = ![N, 128 * h.val]) (inb) (r : Fin 512) (d : Fin 128) :
    View.readAt (Elt Ideal) arg3.view (Rect.unit (s := S4096x512) off S512x128.size inb).toLoadRect (harg3.unread x2) (ix2 r d)
      = ((H h).v (N + r) d : EReal) :=
  (readAt_block arg3 harg3 x2 off inb N (128 * h.val) ho r d ⟨N + r, by omega⟩ (slim h d) rfl rfl).trans (hx2 h _ d)

/-- The initial carried value. -/
theorem held4_init (i : ℕ) : Held4 H i 0 (k0_pay56, k0_pay57, k0_pay58, k0_pay59, k0_pay60, k0_pay61, k0_pay62, k0_pay63, k0_pay64, k0_pay65, k0_pay66, k0_pay67) := by
  have hm : ∀ r : Fin 512, (broadcast S512x1 (Named.named (F := Ideal) κ "mask" 0xF149F2CA#32) : FVec Ideal S512x1 .f32) (ix2 r (0 : Fin 1)) = ⊥ :=
    fun _ => IdealRules.named_const.ideal_named_scalar _ _ _ _ rfl
  have hz : Ideal.ofBits .f32 0x00000000#32 = 0 := by simp [Ideal.ofBits, Ideal.ieee]
  have hl : ∀ r : Fin 512, (broadcast S512x1 (FloatOps.ofBits (F := Ideal) .f32 0x00000000#32) : FVec Ideal S512x1 .f32) (ix2 r (0 : Fin 1)) = 0 := fun _ => hz
  have ha : ∀ (r : Fin 512) (d : Fin 128), (broadcast S512x128 (FloatOps.ofBits (F := Ideal) .f32 0x00000000#32) : FVec Ideal S512x128 .f32) (ix2 r d) = 0 := fun _ _ => hz
  exact ⟨heldV_init _ _ _ _ _ hm hl ha, heldV_init _ _ _ _ _ hm hl ha, heldV_init _ _ _ _ _ hm hl ha, heldV_init _ _ _ _ _ hm hl ha⟩

include hc hx0 hx1 hx2 in
/-- Before trip `k` the keys before `512 k` have been read. -/
theorem fwd_loop (k : ℕ) (hk : k ≤ (k0_t1_loop i).trips) : Held4 H (i 0).val (512 * k) (fwdSt c i arg1 harg1 arg2 harg2 arg3 harg3 arg4 harg4 arg5 harg5 x0 x1 x2 k) := by
  induction k with
  | zero => exact held4_init H _
  | succ k ih =>
    have hlt : k < (k0_t1_loop i).trips := hk
    have hi := fwd_trips i
    have hi8 := fwd_lt i
    have h := ih (Nat.le_of_lt hlt)
    unfold fwdSt at h ⊢
    rw [st_k0_t1_succ Variants.none c none i arg1 harg1 arg2 harg2 arg3 harg3 arg4 harg4 arg5 harg5 _ _ _ _ _ _ _ ⟨k, hlt⟩, fwd_trip]
    unfold fwd4
    exact ⟨heldV_step (H 0) h.1 (by omega) _ (score_apply_if (H 0) (by omega) _ _ (q_read H i arg1 harg1 x0 hx0 0 0 rfl _)
        (k_read H arg2 harg2 x1 hx1 0 (512 * k) (by omega) _ (k0_off1_eq i ⟨k, hlt⟩) _) (hc 0)) _ (v_read H arg3 harg3 x2 hx2 0 (512 * k) (by omega) _ (k0_off2_eq i ⟨k, hlt⟩) _),
      heldV_step (H 1) h.2.1 (by omega) _ (score_apply_if (H 1) (by omega) _ _ (q_read H i arg1 harg1 x0 hx0 1 256 rfl _)
        (k_read H arg2 harg2 x1 hx1 1 (512 * k) (by omega) _ (k0_off3_eq i ⟨k, hlt⟩) _) (hc 1)) _ (v_read H arg3 harg3 x2 hx2 1 (512 * k) (by omega) _ (k0_off4_eq i ⟨k, hlt⟩) _),
      heldV_step (H 2) h.2.2.1 (by omega) _ (score_apply_if (H 2) (by omega) _ _ (q_read H i arg1 harg1 x0 hx0 2 512 rfl _)
        (k_read H arg2 harg2 x1 hx1 2 (512 * k) (by omega) _ (k0_off5_eq i ⟨k, hlt⟩) _) (hc 2)) _ (v_read H arg3 harg3 x2 hx2 2 (512 * k) (by omega) _ (k0_off6_eq i ⟨k, hlt⟩) _),
      heldV_step (H 3) h.2.2.2 (by omega) _ (score_apply_if (H 3) (by omega) _ _ (q_read H i arg1 harg1 x0 hx0 3 768 rfl _)
        (k_read H arg2 harg2 x1 hx1 3 (512 * k) (by omega) _ (k0_off7_eq i ⟨k, hlt⟩) _) (hc 3)) _ (v_read H arg3 harg3 x2 hx2 3 (512 * k) (by omega) _ (k0_off8_eq i ⟨k, hlt⟩) _)⟩

include hc hx0 hx1 hx2 in
/-- After the diagonal block every key of the rows has been read. -/
theorem fwd_fin : Held4 H (i 0).val (512 * (i 0).val + 512) (fwdFin c i arg1 harg1 arg2 harg2 arg3 harg3 arg4 harg4 arg5 harg5 x0 x1 x2) := by
  have hi8 := fwd_lt i
  have h0 := fwd_loop H c i arg1 harg1 arg2 harg2 arg3 harg3 arg4 harg4 arg5 harg5 x0 x1 x2 hc hx0 hx1 hx2 _ le_rfl
  have h : Held4 H (i 0).val (512 * (i 0).val) (fwdSt2 c i arg1 harg1 arg2 harg2 arg3 harg3 arg4 harg4 arg5 harg5 x0 x1 x2) := by
    unfold fwdSt2
    rw [fwd_trips2 i, st_k0_t2_zero]
    rw [fwd_trips i] at h0 ⊢
    exact h0
  unfold fwdFin fwd4
  exact ⟨heldV_step (H 0) h.1 le_rfl _ (scoreDiag_apply (H 0) _ hi8 _ _ (q_read H i arg1 harg1 x0 hx0 0 0 rfl _)
        (k_read H arg2 harg2 x1 hx1 0 _ (by omega) _ (k0_off17_eq i) _) (hc 0)) _ (v_read H arg3 harg3 x2 hx2 0 _ (by omega) _ (k0_off18_eq i) _),
      heldV_step (H 1) h.2.1 le_rfl _ (scoreDiag_apply (H 1) _ hi8 _ _ (q_read H i arg1 harg1 x0 hx0 1 256 rfl _)
        (k_read H arg2 harg2 x1 hx1 1 _ (by omega) _ (k0_off19_eq i) _) (hc 1)) _ (v_read H arg3 harg3 x2 hx2 1 _ (by omega) _ (k0_off20_eq i) _),
      heldV_step (H 2) h.2.2.1 le_rfl _ (scoreDiag_apply (H 2) _ hi8 _ _ (q_read H i arg1 harg1 x0 hx0 2 512 rfl _)
        (k_read H arg2 harg2 x1 hx1 2 _ (by omega) _ (k0_off21_eq i) _) (hc 2)) _ (v_read H arg3 harg3 x2 hx2 2 _ (by omega) _ (k0_off22_eq i) _),
      heldV_step (H 3) h.2.2.2 le_rfl _ (scoreDiag_apply (H 3) _ hi8 _ _ (q_read H i arg1 harg1 x0 hx0 3 768 rfl _)
        (k_read H arg2 harg2 x1 hx1 3 _ (by omega) _ (k0_off23_eq i) _) (hc 3)) _ (v_read H arg3 harg3 x2 hx2 3 _ (by omega) _ (k0_off24_eq i) _)⟩

include hc hx0 hx1 hx2 in
/-- The output's block. -/
theorem out0_3_apply (h : Fin 4) (r : Fin 512) (d : Fin 128) :
    Run.out0_A_3 c i arg1 harg1 arg2 harg2 arg3 harg3 arg4 harg4 arg5 harg5 x0 x1 x2 (ix2 r (slim h d)) = ((H h).O (512 * (i 0).val + r) d : EReal) := by
  have hf := fwd_fin H c i arg1 harg1 arg2 harg2 arg3 harg3 arg4 harg4 arg5 harg5 x0 x1 x2 hc hx0 hx1 hx2
  rw [out0_3_eq]
  have hi8 := fwd_lt i
  refine (read_quarters Run.VO0_3 _ 128 256 384 rfl rfl rfl _ _ _ _ _ _ _ _ h r d (slim h d) rfl).trans ?_
  fin_cases h
  · exact fwdO_apply (H 0) hi8 hf.1 r d
  · exact fwdO_apply (H 1) hi8 hf.2.1 r d
  · exact fwdO_apply (H 2) hi8 hf.2.2.1 r d
  · exact fwdO_apply (H 3) hi8 hf.2.2.2 r d

include hc hx0 hx1 hx2 in
/-- The block of log-sums, one copy in each lane. -/
theorem out0_4_apply (h : Fin 4) (r : Fin 512) (d : Fin 128) :
    Run.out0_A_4 c i arg1 harg1 arg2 harg2 arg3 harg3 arg4 harg4 arg5 harg5 x0 x1 x2 (ix2 r (slim h d)) = (Real.log ((H h).Z (512 * (i 0).val + r)) : EReal) := by
  have hf := fwd_fin H c i arg1 harg1 arg2 harg2 arg3 harg3 arg4 harg4 arg5 harg5 x0 x1 x2 hc hx0 hx1 hx2
  rw [out0_4_eq]
  have hi8 := fwd_lt i
  refine (read_quarters Run.VO0_4 _ 128 256 384 rfl rfl rfl _ _ _ _ _ _ _ _ h r d (slim h d) rfl).trans ?_
  fin_cases h
  · exact fwdLse_apply (H 0) hi8 hf.1 r d
  · exact fwdLse_apply (H 1) hi8 hf.2.1 r d
  · exact fwdLse_apply (H 2) hi8 hf.2.2.1 r d
  · exact fwdLse_apply (H 3) hi8 hf.2.2.2 r d

end Cert.KernelIdeal.Att

end
-- ==== Proof.FwdArray.lean ====
/-
  The arrays the forward call leaves, from the arrays it finds.
-/
module

public import proofs.«01_k».proof.Proof.FwdValue
public import Idealize.ShloMosaic.Lib.Pipeline.ValueKit.Geometry

@[expose] public section

set_option maxRecDepth 16384

noncomputable section

open Idealize.ShloMosaic Idealize.ShloMosaic.TcCoe Idealize.ShloMosaic.Tactic

namespace Cert.KernelIdeal.Att

open Cert.KernelIdeal Cert.KernelIdeal.Gen Cert.Att

/-- The block of window 0 moves with the grid point. -/
theorem fwd_index0 : ∀ t : Fin cfg0.N, win0_0.index t (0 : Fin 2) = (grid0.coords t 0).val ∧ win0_0.index t (1 : Fin 2) = 0 :=
  (by decide +kernel : ∀ t : Fin grid0.N, _)
/-- The block of window 1 is the whole array. -/
theorem fwd_index1 : ∀ t : Fin cfg0.N, win0_1.index t (0 : Fin 2) = 0 ∧ win0_1.index t (1 : Fin 2) = 0 :=
  (by decide +kernel : ∀ t : Fin grid0.N, _)
/-- The block of window 2 is the whole array. -/
theorem fwd_index2 : ∀ t : Fin cfg0.N, win0_2.index t (0 : Fin 2) = 0 ∧ win0_2.index t (1 : Fin 2) = 0 :=
  (by decide +kernel : ∀ t : Fin grid0.N, _)
/-- The block of window 3 moves with the grid point. -/
theorem fwd_index3 : ∀ t : Fin cfg0.N, win0_3.index t (0 : Fin 2) = (grid0.coords t 0).val ∧ win0_3.index t (1 : Fin 2) = 0 :=
  (by decide +kernel : ∀ t : Fin grid0.N, _)
/-- The block of window 4 moves with the grid point. -/
theorem fwd_index4 : ∀ t : Fin cfg0.N, win0_4.index t (0 : Fin 2) = (grid0.coords t 0).val ∧ win0_4.index t (1 : Fin 2) = 0 :=
  (by decide +kernel : ∀ t : Fin grid0.N, _)

/-- A row block and a row in it, as a row of the array. -/
theorem row_lt {n : ℕ} (hn : n < 8) (r : Fin 512) : 512 * n + r.val < 4096 := by omega

section Blocks

variable {F : FTy → Type} [FloatOps F] [Named F]
variable (V : (c : Dev nD) → (b : Ref sig .tc) → Buf (Elt F) ((c : Thread nD τ).loc b)) (c : Dev nD) (t : Fin cfg0.N)

/-- What window 0's block at a point holds. -/
theorem fwd_blk0 (r : Fin 512) (l : Fin 1024) (i : Fin 4096) (hi : i.val = 512 * (grid0.coords t 0).val + r.val) :
    Run.iblk0 V c 0 t (ix2 r l) = V c main_arg0 (ix2 i l) := by
  obtain ⟨e0, e1⟩ := fwd_index0 t
  show V c main_arg0 (((cfg0.win 0).blk t).view.emb (ix2 r l)) = V c main_arg0 (ix2 i l)
  congr 1
  funext a
  apply Fin.ext
  match a with
  | ⟨0, _⟩ => show win0_0.index t (0 : Fin 2) * 512 + 1 * r.val = i.val; rw [e0, hi]; omega
  | ⟨1, _⟩ => show win0_0.index t (1 : Fin 2) * 1024 + 1 * l.val = l.val; rw [e1]; omega

/-- What window 1's block at a point holds. -/
theorem fwd_blk1 (i : Fin 4096) (l : Fin 1024) :
    Run.iblk0 V c 1 t (ix2 i l) = V c main_arg1 (ix2 i l) := by
  obtain ⟨e0, e1⟩ := fwd_index1 t
  show V c main_arg1 (((cfg0.win 1).blk t).view.emb (ix2 i l)) = V c main_arg1 (ix2 i l)
  congr 1
  funext a
  apply Fin.ext
  match a with
  | ⟨0, _⟩ => show win0_1.index t (0 : Fin 2) * 4096 + 1 * i.val = i.val; rw [e0]; omega
  | ⟨1, _⟩ => show win0_1.index t (1 : Fin 2) * 1024 + 1 * l.val = l.val; rw [e1]; omega

/-- What window 2's block at a point holds. -/
theorem fwd_blk2 (i : Fin 4096) (l : Fin 512) :
    Run.iblk0 V c 2 t (ix2 i l) = V c main_arg2 (ix2 i l) := by
  obtain ⟨e0, e1⟩ := fwd_index2 t
  show V c main_arg2 (((cfg0.win 2).blk t).view.emb (ix2 i l)) = V c main_arg2 (ix2 i l)
  congr 1
  funext a
  apply Fin.ext
  match a with
  | ⟨0, _⟩ => show win0_2.index t (0 : Fin 2) * 4096 + 1 * i.val = i.val; rw [e0]; omega
  | ⟨1, _⟩ => show win0_2.index t (1 : Fin 2) * 512 + 1 * l.val = l.val; rw [e1]; omega

end Blocks

variable (V : (c : Dev nD) → (b : Ref sig .tc) → Buf (Elt Ideal) ((c : Thread nD τ).loc b)) (c : Dev nD)
variable (H : Fin 4 → Head)
variable (hc : ∀ h, (H h).c = scale)
  (hq : ∀ (h : Fin 4) (i : Fin 4096) (d : Fin 256), V c main_arg0 (ix2 i (wide h d)) = ((H h).q i d : EReal))
  (hk : ∀ (h : Fin 4) (i : Fin 4096) (d : Fin 256), V c main_arg1 (ix2 i (wide h d)) = ((H h).k i d : EReal))
  (hv : ∀ (h : Fin 4) (i : Fin 4096) (d : Fin 128), V c main_arg2 (ix2 i (slim h d)) = ((H h).v i d : EReal))

include hc hq hk hv in
/-- The output array. -/
theorem fwd_out (h : Fin 4) (i : Fin 4096) (d : Fin 128) :
    (Run.dat0 V c).arrAt 3 cfg0.N (ix2 i (slim h d)) = ((H h).O i d : EReal) := by
  refine (Run.dat0 V c).arrAt_forall_of_covers 3 (fun y v => ∀ (h : Fin 4) (i : Fin 4096) (d : Fin 128), y = ix2 i (slim h d) → v = ((H h).O i d : EReal))
    (by decide +kernel) (fun t hf y h i d e => ?_) _ (Memref.isWhole_whole _) h i d rfl
  obtain ⟨e0, e1⟩ := fwd_index3 t
  have hi8 := fwd_lt (grid0.coords t)
  have r0 : win0_3.index t (0 : Fin 2) * 512 + 1 * (y 0).val = i.val := congrArg (fun z : S4096x512.Idx => (z 0).val) e
  have r1 : win0_3.index t (1 : Fin 2) * 512 + 1 * (y 1).val = 128 * h.val + d.val := congrArg (fun z : S4096x512.Idx => (z 1).val) e
  rw [e0] at r0
  rw [e1] at r1
  have hy : y = ix2 (⟨(y 0).val, (y 0).isLt⟩ : Fin 512) (slim h d) := by
    funext a
    apply Fin.ext
    match a with
    | ⟨0, _⟩ => rfl
    | ⟨1, _⟩ => show (y 1).val = 128 * h.val + d.val; omega
  rw [hy]
  have key := out0_3_apply H c (grid0.coords t) (Run.ms0_0 t) (Run.hs0_0 t) (Run.ms0_1 t) (Run.hs0_1 t) (Run.ms0_2 t) (Run.hs0_2 t) (Run.ms0_3 t) (Run.hs0_3 t) (Run.ms0_4 t) (Run.hs0_4 t)
    (Run.iblk0 V c 0 t) (Run.iblk0 V c 1 t) (Run.iblk0 V c 2 t) hc (fun h r d => (fwd_blk0 V c t r (wide h d) ⟨_, row_lt hi8 r⟩ rfl).trans (hq h _ d))
    (fun h j d => (fwd_blk1 V c t j (wide h d)).trans (hk h j d))
    (fun h j d => (fwd_blk2 V c t j (slim h d)).trans (hv h j d)) h (⟨(y 0).val, (y 0).isLt⟩ : Fin 512) d
  refine Eq.trans ?_ (key.trans ?_)
  · show (Run.dat0 V c).after 3 t (ix2 (⟨(y 0).val, (y 0).isLt⟩ : Fin 512) (slim h d)) = _
    rw [Run.after0_3]
    unfold Run.outsAt0
    dsimp only
  · have : 512 * (grid0.coords t 0).val + (y 0).val = i.val := by omega
    show ((H h).O (512 * (grid0.coords t 0).val + (y 0).val) d : EReal) = _
    rw [this]

include hc hq hk hv in
/-- The array of log-sums. -/
theorem fwd_lse (h : Fin 4) (i : Fin 4096) (d : Fin 128) :
    (Run.dat0 V c).arrAt 4 cfg0.N (ix2 i (slim h d)) = (Real.log ((H h).Z i) : EReal) := by
  refine (Run.dat0 V c).arrAt_forall_of_covers 4 (fun y v => ∀ (h : Fin 4) (i : Fin 4096) (d : Fin 128), y = ix2 i (slim h d) → v = (Real.log ((H h).Z i) : EReal))
    (by decide +kernel) (fun t hf y h i d e => ?_) _ (Memref.isWhole_whole _) h i d rfl
  obtain ⟨e0, e1⟩ := fwd_index4 t
  have hi8 := fwd_lt (grid0.coords t)
  have r0 : win0_4.index t (0 : Fin 2) * 512 + 1 * (y 0).val = i.val := congrArg (fun z : S4096x512.Idx => (z 0).val) e
  have r1 : win0_4.index t (1 : Fin 2) * 512 + 1 * (y 1).val = 128 * h.val + d.val := congrArg (fun z : S4096x512.Idx => (z 1).val) e
  rw [e0] at r0
  rw [e1] at r1
  have hy : y = ix2 (⟨(y 0).val, (y 0).isLt⟩ : Fin 512) (slim h d) := by
    funext a
    apply Fin.ext
    match a with
    | ⟨0, _⟩ => rfl
    | ⟨1, _⟩ => show (y 1).val = 128 * h.val + d.val; omega
  rw [hy]
  have key := out0_4_apply H c (grid0.coords t) (Run.ms0_0 t) (Run.hs0_0 t) (Run.ms0_1 t) (Run.hs0_1 t) (Run.ms0_2 t) (Run.hs0_2 t) (Run.ms0_3 t) (Run.hs0_3 t) (Run.ms0_4 t) (Run.hs0_4 t)
    (Run.iblk0 V c 0 t) (Run.iblk0 V c 1 t) (Run.iblk0 V c 2 t) hc (fun h r d => (fwd_blk0 V c t r (wide h d) ⟨_, row_lt hi8 r⟩ rfl).trans (hq h _ d))
    (fun h j d => (fwd_blk1 V c t j (wide h d)).trans (hk h j d))
    (fun h j d => (fwd_blk2 V c t j (slim h d)).trans (hv h j d)) h (⟨(y 0).val, (y 0).isLt⟩ : Fin 512) d
  refine Eq.trans ?_ (key.trans ?_)
  · show (Run.dat0 V c).after 4 t (ix2 (⟨(y 0).val, (y 0).isLt⟩ : Fin 512) (slim h d)) = _
    rw [Run.after0_4]
    unfold Run.outsAt0
    dsimp only
  · have : 512 * (grid0.coords t 0).val + (y 0).val = i.val := by omega
    show (Real.log ((H h).Z (512 * (grid0.coords t 0).val + (y 0).val)) : EReal) = _
    rw [this]

end Cert.KernelIdeal.Att

end
-- ==== Proof.DqArray.lean ====
/-
  The arrays the queries' gradient call leaves, from the arrays it finds.
-/
module

public import proofs.«01_k».proof.Proof.DqValue
public import proofs.«01_k».proof.Proof.FwdArray

@[expose] public section

set_option maxRecDepth 16384

noncomputable section

open Idealize.ShloMosaic Idealize.ShloMosaic.TcCoe Idealize.ShloMosaic.Tactic

namespace Cert.KernelIdeal.Att

open Cert.KernelIdeal Cert.KernelIdeal.Gen Cert.Att

/-- The block of window 0 moves with the grid point. -/
theorem dq_index0 : ∀ t : Fin cfg1.N, win1_0.index t (0 : Fin 2) = (grid1.coords t 0).val ∧ win1_0.index t (1 : Fin 2) = 0 :=
  (by decide +kernel : ∀ t : Fin grid1.N, _)
/-- The block of window 1 is the whole array. -/
theorem dq_index1 : ∀ t : Fin cfg1.N, win1_1.index t (0 : Fin 2) = 0 ∧ win1_1.index t (1 : Fin 2) = 0 :=
  (by decide +kernel : ∀ t : Fin grid1.N, _)
/-- The block of window 2 is the whole array. -/
theorem dq_index2 : ∀ t : Fin cfg1.N, win1_2.index t (0 : Fin 2) = 0 ∧ win1_2.index t (1 : Fin 2) = 0 :=
  (by decide +kernel : ∀ t : Fin grid1.N, _)
/-- The block of window 3 moves with the grid point. -/
theorem dq_index3 : ∀ t : Fin cfg1.N, win1_3.index t (0 : Fin 2) = (grid1.coords t 0).val ∧ win1_3.index t (1 : Fin 2) = 0 :=
  (by decide +kernel : ∀ t : Fin grid1.N, _)
/-- The block of window 4 moves with the grid point. -/
theorem dq_index4 : ∀ t : Fin cfg1.N, win1_4.index t (0 : Fin 2) = (grid1.coords t 0).val ∧ win1_4.index t (1 : Fin 2) = 0 :=
  (by decide +kernel : ∀ t : Fin grid1.N, _)
/-- The block of window 5 moves with the grid point. -/
theorem dq_index5 : ∀ t : Fin cfg1.N, win1_5.index t (0 : Fin 2) = (grid1.coords t 0).val ∧ win1_5.index t (1 : Fin 2) = 0 :=
  (by decide +kernel : ∀ t : Fin grid1.N, _)
/-- The block of window 6 moves with the grid point. -/
theorem dq_index6 : ∀ t : Fin cfg1.N, win1_6.index t (0 : Fin 2) = (grid1.coords t 0).val ∧ win1_6.index t (1 : Fin 2) = 0 :=
  (by decide +kernel : ∀ t : Fin grid1.N, _)
/-- The block of window 7 moves with the grid point. -/
theorem dq_index7 : ∀ t : Fin cfg1.N, win1_7.index t (0 : Fin 2) = (grid1.coords t 0).val ∧ win1_7.index t (1 : Fin 2) = 0 :=
  (by decide +kernel : ∀ t : Fin grid1.N, _)

section Blocks

variable {F : FTy → Type} [FloatOps F] [Named F]
variable (V : (c : Dev nD) → (b : Ref sig .tc) → Buf (Elt F) ((c : Thread nD τ).loc b)) (c : Dev nD) (t : Fin cfg1.N)

/-- What window 0's block at a point holds. -/
theorem dq_blk0 (r : Fin 512) (l : Fin 1024) (i : Fin 4096) (hi : i.val = 512 * (grid1.coords t 0).val + r.val) :
    Run.iblk1 V c 0 t (ix2 r l) = V c main_arg0 (ix2 i l) := by
  obtain ⟨e0, e1⟩ := dq_index0 t
  show V c main_arg0 (((cfg1.win 0).blk t).view.emb (ix2 r l)) = V c main_arg0 (ix2 i l)
  congr 1
  funext a
  apply Fin.ext
  match a with
  | ⟨0, _⟩ => show win1_0.index t (0 : Fin 2) * 512 + 1 * r.val = i.val; rw [e0, hi]; omega
  | ⟨1, _⟩ => show win1_0.index t (1 : Fin 2) * 1024 + 1 * l.val = l.val; rw [e1]; omega

/-- What window 1's block at a point holds. -/
theorem dq_blk1 (i : Fin 4096) (l : Fin 1024) :
    Run.iblk1 V c 1 t (ix2 i l) = V c main_arg1 (ix2 i l) := by
  obtain ⟨e0, e1⟩ := dq_index1 t
  show V c main_arg1 (((cfg1.win 1).blk t).view.emb (ix2 i l)) = V c main_arg1 (ix2 i l)
  congr 1
  funext a
  apply Fin.ext
  match a with
  | ⟨0, _⟩ => show win1_1.index t (0 : Fin 2) * 4096 + 1 * i.val = i.val; rw [e0]; omega
  | ⟨1, _⟩ => show win1_1.index t (1 : Fin 2) * 1024 + 1 * l.val = l.val; rw [e1]; omega

/-- What window 2's block at a point holds. -/
theorem dq_blk2 (i : Fin 4096) (l : Fin 512) :
    Run.iblk1 V c 2 t (ix2 i l) = V c main_arg2 (ix2 i l) := by
  obtain ⟨e0, e1⟩ := dq_index2 t
  show V c main_arg2 (((cfg1.win 2).blk t).view.emb (ix2 i l)) = V c main_arg2 (ix2 i l)
  congr 1
  funext a
  apply Fin.ext
  match a with
  | ⟨0, _⟩ => show win1_2.index t (0 : Fin 2) * 4096 + 1 * i.val = i.val; rw [e0]; omega
  | ⟨1, _⟩ => show win1_2.index t (1 : Fin 2) * 512 + 1 * l.val = l.val; rw [e1]; omega

/-- What window 3's block at a point holds. -/
theorem dq_blk3 (r : Fin 512) (l : Fin 512) (i : Fin 4096) (hi : i.val = 512 * (grid1.coords t 0).val + r.val) :
    Run.iblk1 V c 3 t (ix2 r l) = V c main_v0_0 (ix2 i l) := by
  obtain ⟨e0, e1⟩ := dq_index3 t
  show V c main_v0_0 (((cfg1.win 3).blk t).view.emb (ix2 r l)) = V c main_v0_0 (ix2 i l)
  congr 1
  funext a
  apply Fin.ext
  match a with
  | ⟨0, _⟩ => show win1_3.index t (0 : Fin 2) * 512 + 1 * r.val = i.val; rw [e0, hi]; omega
  | ⟨1, _⟩ => show win1_3.index t (1 : Fin 2) * 512 + 1 * l.val = l.val; rw [e1]; omega

/-- What window 4's block at a point holds. -/
theorem dq_blk4 (r : Fin 512) (l : Fin 512) (i : Fin 4096) (hi : i.val = 512 * (grid1.coords t 0).val + r.val) :
    Run.iblk1 V c 4 t (ix2 r l) = V c main_v0_1 (ix2 i l) := by
  obtain ⟨e0, e1⟩ := dq_index4 t
  show V c main_v0_1 (((cfg1.win 4).blk t).view.emb (ix2 r l)) = V c main_v0_1 (ix2 i l)
  congr 1
  funext a
  apply Fin.ext
  match a with
  | ⟨0, _⟩ => show win1_4.index t (0 : Fin 2) * 512 + 1 * r.val = i.val; rw [e0, hi]; omega
  | ⟨1, _⟩ => show win1_4.index t (1 : Fin 2) * 512 + 1 * l.val = l.val; rw [e1]; omega

/-- What window 5's block at a point holds. -/
theorem dq_blk5 (r : Fin 512) (l : Fin 512) (i : Fin 4096) (hi : i.val = 512 * (grid1.coords t 0).val + r.val) :
    Run.iblk1 V c 5 t (ix2 r l) = V c main_arg3 (ix2 i l) := by
  obtain ⟨e0, e1⟩ := dq_index5 t
  show V c main_arg3 (((cfg1.win 5).blk t).view.emb (ix2 r l)) = V c main_arg3 (ix2 i l)
  congr 1
  funext a
  apply Fin.ext
  match a with
  | ⟨0, _⟩ => show win1_5.index t (0 : Fin 2) * 512 + 1 * r.val = i.val; rw [e0, hi]; omega
  | ⟨1, _⟩ => show win1_5.index t (1 : Fin 2) * 512 + 1 * l.val = l.val; rw [e1]; omega

end Blocks

variable (V : (c : Dev nD) → (b : Ref sig .tc) → Buf (Elt Ideal) ((c : Thread nD τ).loc b)) (c : Dev nD)
variable (H : Fin 4 → Head)
variable (hc : ∀ h, (H h).c = scale)
  (hq : ∀ (h : Fin 4) (i : Fin 4096) (d : Fin 256), V c main_arg0 (ix2 i (wide h d)) = ((H h).q i d : EReal))
  (hk : ∀ (h : Fin 4) (i : Fin 4096) (d : Fin 256), V c main_arg1 (ix2 i (wide h d)) = ((H h).k i d : EReal))
  (hv : ∀ (h : Fin 4) (i : Fin 4096) (d : Fin 128), V c main_arg2 (ix2 i (slim h d)) = ((H h).v i d : EReal))
  (ho : ∀ (h : Fin 4) (i : Fin 4096) (d : Fin 128), V c main_v0_0 (ix2 i (slim h d)) = ((H h).O i d : EReal))
  (hl : ∀ (h : Fin 4) (i : Fin 4096) (d : Fin 128), V c main_v0_1 (ix2 i (slim h d)) = (Real.log ((H h).Z i) : EReal))
  (hg : ∀ (h : Fin 4) (i : Fin 4096) (d : Fin 128), V c main_arg3 (ix2 i (slim h d)) = ((H h).g i d : EReal))

include hc hq hk hv ho hl hg in
/-- The array of the queries' gradient. -/
theorem dq_out (h : Fin 4) (i : Fin 4096) (d : Fin 256) :
    (Run.dat1 V c).arrAt 6 cfg1.N (ix2 i (wide h d)) = ((H h).DQ i d : EReal) := by
  refine (Run.dat1 V c).arrAt_forall_of_covers 6 (fun y v => ∀ (h : Fin 4) (i : Fin 4096) (d : Fin 256), y = ix2 i (wide h d) → v = ((H h).DQ i d : EReal))
    (by decide +kernel) (fun t hf y h i d e => ?_) _ (Memref.isWhole_whole _) h i d rfl
  obtain ⟨e0, e1⟩ := dq_index6 t
  have hi8 := dq_lt (grid1.coords t)
  have r0 : win1_6.index t (0 : Fin 2) * 512 + 1 * (y 0).val = i.val := congrArg (fun z : S4096x1024.Idx => (z 0).val) e
  have r1 : win1_6.index t (1 : Fin 2) * 1024 + 1 * (y 1).val = 256 * h.val + d.val := congrArg (fun z : S4096x1024.Idx => (z 1).val) e
  rw [e0] at r0
  rw [e1] at r1
  have hy : y = ix2 (⟨(y 0).val, (y 0).isLt⟩ : Fin 512) (wide h d) := by
    funext a
    apply Fin.ext
    match a with
    | ⟨0, _⟩ => rfl
    | ⟨1, _⟩ => show (y 1).val = 256 * h.val + d.val; omega
  rw [hy]
  have key := out1_6_apply H c (grid1.coords t) (Run.ms1_0 t) (Run.hs1_0 t) (Run.ms1_1 t) (Run.hs1_1 t) (Run.ms1_2 t) (Run.hs1_2 t) (Run.ms1_3 t) (Run.hs1_3 t) (Run.ms1_4 t) (Run.hs1_4 t) (Run.ms1_5 t) (Run.hs1_5 t) (Run.ms1_6 t) (Run.hs1_6 t) (Run.ms1_7 t) (Run.hs1_7 t)
    (Run.iblk1 V c 0 t) (Run.iblk1 V c 1 t) (Run.iblk1 V c 2 t) (Run.iblk1 V c 3 t) (Run.iblk1 V c 4 t) (Run.iblk1 V c 5 t) hc (fun h r d => (dq_blk0 V c t r (wide h d) ⟨_, row_lt hi8 r⟩ rfl).trans (hq h _ d))
    (fun h j d => (dq_blk1 V c t j (wide h d)).trans (hk h j d))
    (fun h j d => (dq_blk2 V c t j (slim h d)).trans (hv h j d))
    (fun h r d => (dq_blk3 V c t r (slim h d) ⟨_, row_lt hi8 r⟩ rfl).trans (ho h _ d))
    (fun h r d => (dq_blk4 V c t r (slim h d) ⟨_, row_lt hi8 r⟩ rfl).trans (hl h _ d))
    (fun h r d => (dq_blk5 V c t r (slim h d) ⟨_, row_lt hi8 r⟩ rfl).trans (hg h _ d)) h (⟨(y 0).val, (y 0).isLt⟩ : Fin 512) d
  refine Eq.trans ?_ (key.trans ?_)
  · show (Run.dat1 V c).after 6 t (ix2 (⟨(y 0).val, (y 0).isLt⟩ : Fin 512) (wide h d)) = _
    rw [Run.after1_6]
    unfold Run.outsAt1
    dsimp only
  · have : 512 * (grid1.coords t 0).val + (y 0).val = i.val := by omega
    show ((H h).DQ (512 * (grid1.coords t 0).val + (y 0).val) d : EReal) = _
    rw [this]

include ho hg in
/-- The array of inner products. -/
theorem dq_dot (h : Fin 4) (i : Fin 4096) (d : Fin 128) :
    (Run.dat1 V c).arrAt 7 cfg1.N (ix2 i (slim h d)) = ((H h).D i : EReal) := by
  refine (Run.dat1 V c).arrAt_forall_of_covers 7 (fun y v => ∀ (h : Fin 4) (i : Fin 4096) (d : Fin 128), y = ix2 i (slim h d) → v = ((H h).D i : EReal))
    (by decide +kernel) (fun t hf y h i d e => ?_) _ (Memref.isWhole_whole _) h i d rfl
  obtain ⟨e0, e1⟩ := dq_index7 t
  have hi8 := dq_lt (grid1.coords t)
  have r0 : win1_7.index t (0 : Fin 2) * 512 + 1 * (y 0).val = i.val := congrArg (fun z : S4096x512.Idx => (z 0).val) e
  have r1 : win1_7.index t (1 : Fin 2) * 512 + 1 * (y 1).val = 128 * h.val + d.val := congrArg (fun z : S4096x512.Idx => (z 1).val) e
  rw [e0] at r0
  rw [e1] at r1
  have hy : y = ix2 (⟨(y 0).val, (y 0).isLt⟩ : Fin 512) (slim h d) := by
    funext a
    apply Fin.ext
    match a with
    | ⟨0, _⟩ => rfl
    | ⟨1, _⟩ => show (y 1).val = 128 * h.val + d.val; omega
  rw [hy]
  have key := out1_7_apply H c (grid1.coords t) (Run.ms1_0 t) (Run.hs1_0 t) (Run.ms1_1 t) (Run.hs1_1 t) (Run.ms1_2 t) (Run.hs1_2 t) (Run.ms1_3 t) (Run.hs1_3 t) (Run.ms1_4 t) (Run.hs1_4 t) (Run.ms1_5 t) (Run.hs1_5 t) (Run.ms1_6 t) (Run.hs1_6 t) (Run.ms1_7 t) (Run.hs1_7 t)
    (Run.iblk1 V c 0 t) (Run.iblk1 V c 1 t) (Run.iblk1 V c 2 t) (Run.iblk1 V c 3 t) (Run.iblk1 V c 4 t) (Run.iblk1 V c 5 t) (fun h r d => (dq_blk3 V c t r (slim h d) ⟨_, row_lt hi8 r⟩ rfl).trans (ho h _ d))
    (fun h r d => (dq_blk5 V c t r (slim h d) ⟨_, row_lt hi8 r⟩ rfl).trans (hg h _ d)) h (⟨(y 0).val, (y 0).isLt⟩ : Fin 512) d
  refine Eq.trans ?_ (key.trans ?_)
  · show (Run.dat1 V c).after 7 t (ix2 (⟨(y 0).val, (y 0).isLt⟩ : Fin 512) (slim h d)) = _
    rw [Run.after1_7]
    unfold Run.outsAt1
    dsimp only
  · have : 512 * (grid1.coords t 0).val + (y 0).val = i.val := by omega
    show ((H h).D (512 * (grid1.coords t 0).val + (y 0).val) : EReal) = _
    rw [this]

end Cert.KernelIdeal.Att

end
-- ==== Proof.RegionDkvRun.lean ====
/-
  The key- and value-gradient region: the run of its body on any staging buffers, what it leaves in the two output
  blocks, and the pipeline data built from that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_att_bwd_dkv` (pipeline 2), at the entry contents `V` — class R -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 6, through which its contents are stated (`View.read_writes_of_cover`: the
    choice does not matter). -/
abbrev VO2_6 : View sig .tc .vmem S512x1024 .bf16 := (Memref.whole cc2_stg6_0 : Memref sig .tc .vmem S512x1024 .bf16).view
/-- One staging buffer of output window 7, through which its contents are stated (`View.read_writes_of_cover`: the
    choice does not matter). -/
abbrev VO2_7 : View sig .tc .vmem S512x512 .bf16 := (Memref.whole cc2_stg7_0 : Memref sig .tc .vmem S512x512 .bf16).view
/-- Each window's current staging memref at point `t`, spelled as the pipeline passes it (`bodyAt2`), and its wholeness. -/
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x512 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4096x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x1024 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x512 .bf16 := win2_7.stage (cfg2.slots t 7)
abbrev hs2_7 (t : Fin cfg2.N) : (ms2_7 t).IsWhole := hstage2_7 ((cfg2.slots t 7).cast nbuf2_7)

section Point

variable (c : Dev nD) (i : grid2.Coords) (arg1 : Memref sig .tc .vmem S512x1024 .bf16) (harg1 : arg1.IsWhole) (arg2 : Memref sig .tc .vmem S512x512 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S4096x512 .f32) (harg5 : arg5.IsWhole) (arg6 : Memref sig .tc .vmem S4096x512 .f32) (harg6 : arg6.IsWhole) (arg7 : Memref sig .tc .vmem S512x1024 .bf16) (harg7 : arg7.IsWhole) (arg8 : Memref sig .tc .vmem S512x512 .bf16) (harg8 : arg8.IsWhole)
    (x0 : Vec F S512x1024 .bf16) (x1 : Vec F S512x512 .bf16) (x2 : Vec F S4096x1024 .bf16) (x3 : Vec F S4096x512 .bf16) (x4 : Vec F S4096x512 .f32) (x5 : Vec F S4096x512 .f32)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A :
    Σ' (L6 : List (View.Piece (Elt F) S512x1024 .bf16)), { L7 : List (View.Piece (Elt F) S512x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2_att_bwd_dkv i arg1 harg1 arg2 harg2 arg3 harg3 arg4 harg4 arg5 harg5 arg6 harg6 arg7 harg7 arg8 harg8) K } := by
  refine ⟨?_, ?_, fun E K => ?run⟩
  case run =>
    simp only [cc2_att_bwd_dkv_eq_skeleton]; unfold cc2_att_bwd_dkv_skel
    simp only [k2_part5_eq_skeleton, k2_part6_eq_skeleton, k2_part7_eq_skeleton, k2_part8_eq_skeleton, k2_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- The run's pieces for output 6 tile its block (4 stores of `S512x256`, checked by the kernel's evaluation: Lib/Ring.lean `Piece.tiledL`, linear in the pieces, through a loop's `@[irreducible]` trip theorem too), so they cover it. -/
theorem cover2_A_6 (y : S512x1024.Idx) :
    ∃ pc ∈ (kernelRun2_A c i arg1 harg1 arg2 harg2 arg3 harg3 arg4 harg4 arg5 harg5 arg6 harg6 arg7 harg7 arg8 harg8 x0 x1 x2 x3 x4 x5).1, y ∈ pc.1.set :=
  View.cover_of_tiledL (kernelRun2_A c i arg1 harg1 arg2 harg2 arg3 harg3 arg4 harg4 arg5 harg5 arg6 harg6 arg7 harg7 arg8 harg8 x0 x1 x2 x3 x4 x5).1 S512x256.size (by sl_kernel_rfl) y

/-- What the run leaves in output 6's staging buffer: its pieces read back over junk. -/
def out2_A_6 : Vec F S512x1024 .bf16 :=
  VO2_6.read (Elt F) (VO2_6.writes (Elt F) VO2_6.junk (kernelRun2_A c i arg1 harg1 arg2 harg2 arg3 harg3 arg4 harg4 arg5 harg5 arg6 harg6 arg7 harg7 arg8 harg8 x0 x1 x2 x3 x4 x5).1)

/-- The run's pieces for output 7 tile its block (4 stores of `S512x128`, checked by the kernel's evaluation: Lib/Ring.lean `Piece.tiledL`, linear in the pieces, through a loop's `@[irreducible]` trip theorem too), so they cover it. -/
theorem cover2_A_7 (y : S512x512.Idx) :
    ∃ pc ∈ (kernelRun2_A c i arg1 harg1 arg2 harg2 arg3 harg3 arg4 harg4 arg5 harg5 arg6 harg6 arg7 harg7 arg8 harg8 x0 x1 x2 x3 x4 x5).2.1, y ∈ pc.1.set :=
  View.cover_of_tiledL (kernelRun2_A c i arg1 harg1 arg2 harg2 arg3 harg3 arg4 harg4 arg5 harg5 arg6 harg6 arg7 harg7 arg8 harg8 x0 x1 x2 x3 x4 x5).2.1 S512x128.size (by sl_kernel_rfl) y

/-- What the run leaves in output 7's staging buffer: its pieces read back over junk. -/
def out2_A_7 : Vec F S512x512 .bf16 :=
  VO2_7.read (Elt F) (VO2_7.writes (Elt F) VO2_7.junk (kernelRun2_A c i arg1 harg1 arg2 harg2 arg3 harg3 arg4 harg4 arg5 harg5 arg6 harg6 arg7 harg7 arg8 harg8 x0 x1 x2 x3 x4 x5).2.1)

end Point

/-! ## What the outputs hold after each point -/

/-- What the outputs' staging buffers hold after the body at point `t` (as a tuple, in window order): the run's contents at
    the point's memrefs and input blocks. -/
def outsAt2 (c : Dev nD) (t : Fin cfg2.N) : Vec F S512x1024 .bf16 × Vec F S512x512 .bf16 :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t))

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t).1
    | ⟨7, _⟩ => (outsAt2 V c t).2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t).1 := by dsimp only [dat2]
theorem after2_7 (c : Dev nD) (t : Fin cfg2.N) : (dat2 V c).after 7 t = (outsAt2 V c t).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

end Regions

end Cert.KernelIdeal.Run

end
-- ==== Proof.DkvRun.lean ====
/-
  The body of the keys' and values' gradients at one grid point: the diagonal block, the loop over the blocks of
  queries after it, and the two blocks it stores.
-/
module

public import proofs.«01_k».proof.Proof.DqRun
public import proofs.«01_k».proof.Proof.RegionDkvRun

@[expose] public section

set_option maxRecDepth 16384

noncomputable section

open Idealize.ShloMosaic Idealize.ShloMosaic.TcCoe Idealize.ShloMosaic.Tactic

namespace Cert.KernelIdeal.Att

open Cert.KernelIdeal Cert.KernelIdeal.Gen Cert.Att

/-- What the loop over blocks of queries carries: each head's two sums so far. -/
abbrev Dkv4 (F : FTy → Type) := FVec F S512x256 .f32 × FVec F S512x128 .f32 × FVec F S512x256 .f32 × FVec F S512x128 .f32 × FVec F S512x256 .f32 × FVec F S512x128 .f32 × FVec F S512x256 .f32 × FVec F S512x128 .f32

section Words

variable {F : FTy → Type} [FloatOps F] [Named F]

/-- One block of queries for all four heads: of the heads' score gradients, probabilities, queries and output gradients. -/
def dkv4 (s0 s1 s2 s3 p0 p1 p2 p3 : FVec F S512x512 .f32) (q0 q1 q2 q3 : Vec F S512x256 .bf16) (g0 g1 g2 g3 : Vec F S512x128 .bf16) (acc : Dkv4 F) : Dkv4 F :=
  (dkStep acc.1 s0 q0, dvStep acc.2.1 p0 g0, dkStep acc.2.2.1 s1 q1, dvStep acc.2.2.2.1 p1 g1, dkStep acc.2.2.2.2.1 s2 q2, dvStep acc.2.2.2.2.2.1 p2 g2, dkStep acc.2.2.2.2.2.2.1 s3 q3, dvStep acc.2.2.2.2.2.2.2 p3 g3)

variable (c : Dev nD) (i : grid2.Coords) (arg1 : Memref sig .tc .vmem S512x1024 .bf16) (harg1 : arg1.IsWhole) (arg2 : Memref sig .tc .vmem S512x512 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S4096x512 .f32) (harg5 : arg5.IsWhole) (arg6 : Memref sig .tc .vmem S4096x512 .f32) (harg6 : arg6.IsWhole) (arg7 : Memref sig .tc .vmem S512x1024 .bf16) (harg7 : arg7.IsWhole) (arg8 : Memref sig .tc .vmem S512x512 .bf16) (harg8 : arg8.IsWhole)

/-- A trip of the loop is one block of queries. -/
theorem dkv_trip (a0 : BitVec 32) (v0 v1 v2 v3 : Vec F S512x256 .bf16) (v4 v5 v6 v7 : Vec F S512x128 .bf16)
    (v14 : FVec F S512x256 .f32) (v47 : FVec F S512x128 .f32) (v56 : FVec F S512x256 .f32) (v86 : FVec F S512x128 .f32) (v95 : FVec F S512x256 .f32) (v125 : FVec F S512x128 .f32) (v134 : FVec F S512x256 .f32) (v136 : Vec F S512x256 .bf16) (v138 : Vec F S512x128 .bf16) (v144 : FVec F S512x1 .f32) (v161 : FVec F S512x512 .f32) (v164 : FVec F S512x128 .f32) (v174 : BitVec 32)
    (X3 : BufTy.Contents (Elt F) arg3.view.ty) (X4 : BufTy.Contents (Elt F) arg4.view.ty) (X5 : BufTy.Contents (Elt F) arg5.view.ty) (X6 : BufTy.Contents (Elt F) arg6.view.ty)
    (k : Fin (k2_t1_loop i).trips) (acc : Dkv4 F) :
    tripR_k2_t1 (F := F) Variants.none c none i arg1 harg1 arg2 harg2 arg3 harg3 arg4 harg4 arg5 harg5 arg6 harg6 arg7 harg7 arg8 harg8 a0 v0 v1 v2 v3 v4 v5 v6 v7 v14 v47 v56 v86 v95 v125 v134 v136 v138 v144 v161 v164 v174 X3 X4 X5 X6 k acc =
      dkv4 (ds (rd arg3 X3 (k2_off13_inb i k)) v0 (rd arg4 X4 (k2_off14_inb i k)) v4 (col arg5 X5 (k2_off15_inb i k)) (col arg6 X6 (k2_off15_inb i k))) (ds (rd arg3 X3 (k2_off16_inb i k)) v1 (rd arg4 X4 (k2_off17_inb i k)) v5 (col arg5 X5 (k2_off18_inb i k)) (col arg6 X6 (k2_off18_inb i k))) (ds (rd arg3 X3 (k2_off19_inb i k)) v2 (rd arg4 X4 (k2_off20_inb i k)) v6 (col arg5 X5 (k2_off21_inb i k)) (col arg6 X6 (k2_off21_inb i k))) (ds (rd arg3 X3 (k2_off22_inb i k)) v3 (rd arg4 X4 (k2_off23_inb i k)) v7 (col arg5 X5 (k2_off24_inb i k)) (col arg6 X6 (k2_off24_inb i k)))
        (prob (score (rd arg3 X3 (k2_off13_inb i k)) v0) (col arg5 X5 (k2_off15_inb i k))) (prob (score (rd arg3 X3 (k2_off16_inb i k)) v1) (col arg5 X5 (k2_off18_inb i k))) (prob (score (rd arg3 X3 (k2_off19_inb i k)) v2) (col arg5 X5 (k2_off21_inb i k))) (prob (score (rd arg3 X3 (k2_off22_inb i k)) v3) (col arg5 X5 (k2_off24_inb i k)))
        (rd arg3 X3 (k2_off13_inb i k)) (rd arg3 X3 (k2_off16_inb i k)) (rd arg3 X3 (k2_off19_inb i k)) (rd arg3 X3 (k2_off22_inb i k))
        (rd arg4 X4 (k2_off14_inb i k)) (rd arg4 X4 (k2_off17_inb i k)) (rd arg4 X4 (k2_off20_inb i k)) (rd arg4 X4 (k2_off23_inb i k)) acc := by
  unfold tripR_k2_t1 trip_k2_t1
  dsimp only
  rfl

variable (x0 : Vec F S512x1024 .bf16) (x1 : Vec F S512x512 .bf16) (x2 : Vec F S4096x1024 .bf16) (x3 : Vec F S4096x512 .bf16) (x4 x5 : Vec F S4096x512 .f32)

/-- What the diagonal block leaves. -/
def dkvDiag : Dkv4 F :=
  dkv4 (dsDiag (BitVec.ofNat 32 (i 0).val) (rd arg3 (harg3.unread x2) (k2_off1_inb i)) (rd arg1 (harg1.unread x0) inb_S512x1024_S512x256_0_0) (rd arg4 (harg4.unread x3) (k2_off2_inb i)) (rd arg2 (harg2.unread x1) inb_S512x512_S512x128_0_0) (col arg5 (harg5.unread x4) (k2_off3_inb i)) (col arg6 (harg6.unread x5) (k2_off3_inb i))) (dsDiag (BitVec.ofNat 32 (i 0).val) (rd arg3 (harg3.unread x2) (k2_off4_inb i)) (rd arg1 (harg1.unread x0) inb_S512x1024_S512x256_0_256) (rd arg4 (harg4.unread x3) (k2_off5_inb i)) (rd arg2 (harg2.unread x1) inb_S512x512_S512x128_0_128) (col arg5 (harg5.unread x4) (k2_off6_inb i)) (col arg6 (harg6.unread x5) (k2_off6_inb i))) (dsDiag (BitVec.ofNat 32 (i 0).val) (rd arg3 (harg3.unread x2) (k2_off7_inb i)) (rd arg1 (harg1.unread x0) inb_S512x1024_S512x256_0_512) (rd arg4 (harg4.unread x3) (k2_off8_inb i)) (rd arg2 (harg2.unread x1) inb_S512x512_S512x128_0_256) (col arg5 (harg5.unread x4) (k2_off9_inb i)) (col arg6 (harg6.unread x5) (k2_off9_inb i))) (dsDiag (BitVec.ofNat 32 (i 0).val) (rd arg3 (harg3.unread x2) (k2_off10_inb i)) (rd arg1 (harg1.unread x0) inb_S512x1024_S512x256_0_768) (rd arg4 (harg4.unread x3) (k2_off11_inb i)) (rd arg2 (harg2.unread x1) inb_S512x512_S512x128_0_384) (col arg5 (harg5.unread x4) (k2_off12_inb i)) (col arg6 (harg6.unread x5) (k2_off12_inb i)))
    (probDiag (BitVec.ofNat 32 (i 0).val) (score (rd arg3 (harg3.unread x2) (k2_off1_inb i)) (rd arg1 (harg1.unread x0) inb_S512x1024_S512x256_0_0)) (col arg5 (harg5.unread x4) (k2_off3_inb i))) (probDiag (BitVec.ofNat 32 (i 0).val) (score (rd arg3 (harg3.unread x2) (k2_off4_inb i)) (rd arg1 (harg1.unread x0) inb_S512x1024_S512x256_0_256)) (col arg5 (harg5.unread x4) (k2_off6_inb i))) (probDiag (BitVec.ofNat 32 (i 0).val) (score (rd arg3 (harg3.unread x2) (k2_off7_inb i)) (rd arg1 (harg1.unread x0) inb_S512x1024_S512x256_0_512)) (col arg5 (harg5.unread x4) (k2_off9_inb i))) (probDiag (BitVec.ofNat 32 (i 0).val) (score (rd arg3 (harg3.unread x2) (k2_off10_inb i)) (rd arg1 (harg1.unread x0) inb_S512x1024_S512x256_0_768)) (col arg5 (harg5.unread x4) (k2_off12_inb i)))
    (rd arg3 (harg3.unread x2) (k2_off1_inb i)) (rd arg3 (harg3.unread x2) (k2_off4_inb i)) (rd arg3 (harg3.unread x2) (k2_off7_inb i)) (rd arg3 (harg3.unread x2) (k2_off10_inb i))
    (rd arg4 (harg4.unread x3) (k2_off2_inb i)) (rd arg4 (harg4.unread x3) (k2_off5_inb i)) (rd arg4 (harg4.unread x3) (k2_off8_inb i)) (rd arg4 (harg4.unread x3) (k2_off11_inb i))
    ((broadcast S512x256 (FloatOps.ofBits .f32 0x00000000#32)), (broadcast S512x128 (FloatOps.ofBits .f32 0x00000000#32)), (broadcast S512x256 (FloatOps.ofBits .f32 0x00000000#32)), (broadcast S512x128 (FloatOps.ofBits .f32 0x00000000#32)), (broadcast S512x256 (FloatOps.ofBits .f32 0x00000000#32)), (broadcast S512x128 (FloatOps.ofBits .f32 0x00000000#32)), (broadcast S512x256 (FloatOps.ofBits .f32 0x00000000#32)), (broadcast S512x128 (FloatOps.ofBits .f32 0x00000000#32)))

/-- What the loop over the whole blocks carries before trip `k`. -/
def dkvSt (k : ℕ) : Dkv4 F :=
  st_k2_t1 (F := F) Variants.none c none i arg1 harg1 arg2 harg2 arg3 harg3 arg4 harg4 arg5 harg5 arg6 harg6 arg7 harg7 arg8 harg8 (BitVec.ofNat 32 (i 0).val) (rd arg1 (harg1.unread x0) inb_S512x1024_S512x256_0_0) (rd arg1 (harg1.unread x0) inb_S512x1024_S512x256_0_256) (rd arg1 (harg1.unread x0) inb_S512x1024_S512x256_0_512) (rd arg1 (harg1.unread x0) inb_S512x1024_S512x256_0_768) (rd arg2 (harg2.unread x1) inb_S512x512_S512x128_0_0) (rd arg2 (harg2.unread x1) inb_S512x512_S512x128_0_128) (rd arg2 (harg2.unread x1) inb_S512x512_S512x128_0_256) (rd arg2 (harg2.unread x1) inb_S512x512_S512x128_0_384)
    (broadcast S512x256 (FloatOps.ofBits .f32 0x00000000#32)) (dvStep (broadcast S512x128 (FloatOps.ofBits .f32 0x00000000#32)) (probDiag (BitVec.ofNat 32 (i 0).val) (score (rd arg3 (harg3.unread x2) (k2_off1_inb i)) (rd arg1 (harg1.unread x0) inb_S512x1024_S512x256_0_0)) (col arg5 (harg5.unread x4) (k2_off3_inb i))) (rd arg4 (harg4.unread x3) (k2_off2_inb i))) (dkStep (broadcast S512x256 (FloatOps.ofBits .f32 0x00000000#32)) (dsDiag (BitVec.ofNat 32 (i 0).val) (rd arg3 (harg3.unread x2) (k2_off1_inb i)) (rd arg1 (harg1.unread x0) inb_S512x1024_S512x256_0_0) (rd arg4 (harg4.unread x3) (k2_off2_inb i)) (rd arg2 (harg2.unread x1) inb_S512x512_S512x128_0_0) (col arg5 (harg5.unread x4) (k2_off3_inb i)) (col arg6 (harg6.unread x5) (k2_off3_inb i))) (rd arg3 (harg3.unread x2) (k2_off1_inb i))) (dvStep (broadcast S512x128 (FloatOps.ofBits .f32 0x00000000#32)) (probDiag (BitVec.ofNat 32 (i 0).val) (score (rd arg3 (harg3.unread x2) (k2_off4_inb i)) (rd arg1 (harg1.unread x0) inb_S512x1024_S512x256_0_256)) (col arg5 (harg5.unread x4) (k2_off6_inb i))) (rd arg4 (harg4.unread x3) (k2_off5_inb i))) (dkStep (broadcast S512x256 (FloatOps.ofBits .f32 0x00000000#32)) (dsDiag (BitVec.ofNat 32 (i 0).val) (rd arg3 (harg3.unread x2) (k2_off4_inb i)) (rd arg1 (harg1.unread x0) inb_S512x1024_S512x256_0_256) (rd arg4 (harg4.unread x3) (k2_off5_inb i)) (rd arg2 (harg2.unread x1) inb_S512x512_S512x128_0_128) (col arg5 (harg5.unread x4) (k2_off6_inb i)) (col arg6 (harg6.unread x5) (k2_off6_inb i))) (rd arg3 (harg3.unread x2) (k2_off4_inb i))) (dvStep (broadcast S512x128 (FloatOps.ofBits .f32 0x00000000#32)) (probDiag (BitVec.ofNat 32 (i 0).val) (score (rd arg3 (harg3.unread x2) (k2_off7_inb i)) (rd arg1 (harg1.unread x0) inb_S512x1024_S512x256_0_512)) (col arg5 (harg5.unread x4) (k2_off9_inb i))) (rd arg4 (harg4.unread x3) (k2_off8_inb i))) (dkStep (broadcast S512x256 (FloatOps.ofBits .f32 0x00000000#32)) (dsDiag (BitVec.ofNat 32 (i 0).val) (rd arg3 (harg3.unread x2) (k2_off7_inb i)) (rd arg1 (harg1.unread x0) inb_S512x1024_S512x256_0_512) (rd arg4 (harg4.unread x3) (k2_off8_inb i)) (rd arg2 (harg2.unread x1) inb_S512x512_S512x128_0_256) (col arg5 (harg5.unread x4) (k2_off9_inb i)) (col arg6 (harg6.unread x5) (k2_off9_inb i))) (rd arg3 (harg3.unread x2) (k2_off7_inb i))) (rd arg3 (harg3.unread x2) (k2_off10_inb i)) (rd arg4 (harg4.unread x3) (k2_off11_inb i)) (col arg6 (harg6.unread x5) (k2_off12_inb i)) (probDiag (BitVec.ofNat 32 (i 0).val) (score (rd arg3 (harg3.unread x2) (k2_off10_inb i)) (rd arg1 (harg1.unread x0) inb_S512x1024_S512x256_0_768)) (col arg5 (harg5.unread x4) (k2_off12_inb i))) (dvStep (broadcast S512x128 (FloatOps.ofBits .f32 0x00000000#32)) (probDiag (BitVec.ofNat 32 (i 0).val) (score (rd arg3 (harg3.unread x2) (k2_off10_inb i)) (rd arg1 (harg1.unread x0) inb_S512x1024_S512x256_0_768)) (col arg5 (harg5.unread x4) (k2_off12_inb i))) (rd arg4 (harg4.unread x3) (k2_off11_inb i))) (Scalar.addi (BitVec.ofNat 32 (i 0).val) 1#32)
    (harg3.unread x2) (harg4.unread x3) (harg5.unread x4) (harg6.unread x5) (dkvDiag i arg1 harg1 arg2 harg2 arg3 harg3 arg4 harg4 arg5 harg5 arg6 harg6 x0 x1 x2 x3 x4 x5) k

/-- What the printed program's second, empty loop leaves. -/
def dkvFin : Dkv4 F :=
  st_k2_t2 (F := F) Variants.none c none i arg1 harg1 arg2 harg2 arg3 harg3 arg4 harg4 arg5 harg5 arg6 harg6 arg7 harg7 arg8 harg8 (BitVec.ofNat 32 (i 0).val) (rd arg1 (harg1.unread x0) inb_S512x1024_S512x256_0_0) (rd arg1 (harg1.unread x0) inb_S512x1024_S512x256_0_256) (rd arg1 (harg1.unread x0) inb_S512x1024_S512x256_0_512) (rd arg1 (harg1.unread x0) inb_S512x1024_S512x256_0_768) (rd arg2 (harg2.unread x1) inb_S512x512_S512x128_0_0) (rd arg2 (harg2.unread x1) inb_S512x512_S512x128_0_128) (rd arg2 (harg2.unread x1) inb_S512x512_S512x128_0_256) (rd arg2 (harg2.unread x1) inb_S512x512_S512x128_0_384)
    (broadcast S512x256 (FloatOps.ofBits .f32 0x00000000#32)) (dvStep (broadcast S512x128 (FloatOps.ofBits .f32 0x00000000#32)) (probDiag (BitVec.ofNat 32 (i 0).val) (score (rd arg3 (harg3.unread x2) (k2_off1_inb i)) (rd arg1 (harg1.unread x0) inb_S512x1024_S512x256_0_0)) (col arg5 (harg5.unread x4) (k2_off3_inb i))) (rd arg4 (harg4.unread x3) (k2_off2_inb i))) (dkStep (broadcast S512x256 (FloatOps.ofBits .f32 0x00000000#32)) (dsDiag (BitVec.ofNat 32 (i 0).val) (rd arg3 (harg3.unread x2) (k2_off1_inb i)) (rd arg1 (harg1.unread x0) inb_S512x1024_S512x256_0_0) (rd arg4 (harg4.unread x3) (k2_off2_inb i)) (rd arg2 (harg2.unread x1) inb_S512x512_S512x128_0_0) (col arg5 (harg5.unread x4) (k2_off3_inb i)) (col arg6 (harg6.unread x5) (k2_off3_inb i))) (rd arg3 (harg3.unread x2) (k2_off1_inb i))) (dvStep (broadcast S512x128 (FloatOps.ofBits .f32 0x00000000#32)) (probDiag (BitVec.ofNat 32 (i 0).val) (score (rd arg3 (harg3.unread x2) (k2_off4_inb i)) (rd arg1 (harg1.unread x0) inb_S512x1024_S512x256_0_256)) (col arg5 (harg5.unread x4) (k2_off6_inb i))) (rd arg4 (harg4.unread x3) (k2_off5_inb i))) (dkStep (broadcast S512x256 (FloatOps.ofBits .f32 0x00000000#32)) (dsDiag (BitVec.ofNat 32 (i 0).val) (rd arg3 (harg3.unread x2) (k2_off4_inb i)) (rd arg1 (harg1.unread x0) inb_S512x1024_S512x256_0_256) (rd arg4 (harg4.unread x3) (k2_off5_inb i)) (rd arg2 (harg2.unread x1) inb_S512x512_S512x128_0_128) (col arg5 (harg5.unread x4) (k2_off6_inb i)) (col arg6 (harg6.unread x5) (k2_off6_inb i))) (rd arg3 (harg3.unread x2) (k2_off4_inb i))) (dvStep (broadcast S512x128 (FloatOps.ofBits .f32 0x00000000#32)) (probDiag (BitVec.ofNat 32 (i 0).val) (score (rd arg3 (harg3.unread x2) (k2_off7_inb i)) (rd arg1 (harg1.unread x0) inb_S512x1024_S512x256_0_512)) (col arg5 (harg5.unread x4) (k2_off9_inb i))) (rd arg4 (harg4.unread x3) (k2_off8_inb i))) (dkStep (broadcast S512x256 (FloatOps.ofBits .f32 0x00000000#32)) (dsDiag (BitVec.ofNat 32 (i 0).val) (rd arg3 (harg3.unread x2) (k2_off7_inb i)) (rd arg1 (harg1.unread x0) inb_S512x1024_S512x256_0_512) (rd arg4 (harg4.unread x3) (k2_off8_inb i)) (rd arg2 (harg2.unread x1) inb_S512x512_S512x128_0_256) (col arg5 (harg5.unread x4) (k2_off9_inb i)) (col arg6 (harg6.unread x5) (k2_off9_inb i))) (rd arg3 (harg3.unread x2) (k2_off7_inb i))) (rd arg3 (harg3.unread x2) (k2_off10_inb i)) (rd arg4 (harg4.unread x3) (k2_off11_inb i)) (col arg6 (harg6.unread x5) (k2_off12_inb i)) (probDiag (BitVec.ofNat 32 (i 0).val) (score (rd arg3 (harg3.unread x2) (k2_off10_inb i)) (rd arg1 (harg1.unread x0) inb_S512x1024_S512x256_0_768)) (col arg5 (harg5.unread x4) (k2_off12_inb i))) (dvStep (broadcast S512x128 (FloatOps.ofBits .f32 0x00000000#32)) (probDiag (BitVec.ofNat 32 (i 0).val) (score (rd arg3 (harg3.unread x2) (k2_off10_inb i)) (rd arg1 (harg1.unread x0) inb_S512x1024_S512x256_0_768)) (col arg5 (harg5.unread x4) (k2_off12_inb i))) (rd arg4 (harg4.unread x3) (k2_off11_inb i)))
    (k2_t1_loop i).ub (harg3.unread x2) (harg4.unread x3) (harg5.unread x4) (harg6.unread x5) (dkvSt c i arg1 harg1 arg2 harg2 arg3 harg3 arg4 harg4 arg5 harg5 arg6 harg6 arg7 harg7 arg8 harg8 x0 x1 x2 x3 x4 x5 (k2_t1_loop i).trips) (k2_t2_loop i).trips

set_option maxHeartbeats 4000000 in
/-- The block of the keys' gradient, as the four stores. -/
theorem out2_6_eq : Run.out2_A_6 c i arg1 harg1 arg2 harg2 arg3 harg3 arg4 harg4 arg5 harg5 arg6 harg6 arg7 harg7 arg8 harg8 x0 x1 x2 x3 x4 x5 =
    Run.VO2_6.read (Elt F) (Run.VO2_6.writes (Elt F) Run.VO2_6.junk [⟨Rect.unit (s := S512x1024) ![0, 768] S512x256.size inb_S512x1024_S512x256_0_768, truncf .bf16 (dkvFin c i arg1 harg1 arg2 harg2 arg3 harg3 arg4 harg4 arg5 harg5 arg6 harg6 arg7 harg7 arg8 harg8 x0 x1 x2 x3 x4 x5).2.2.2.2.2.2.1 bitsLt_bf16_f32⟩,
      ⟨Rect.unit (s := S512x1024) ![0, 512] S512x256.size inb_S512x1024_S512x256_0_512, truncf .bf16 (dkvFin c i arg1 harg1 arg2 harg2 arg3 harg3 arg4 harg4 arg5 harg5 arg6 harg6 arg7 harg7 arg8 harg8 x0 x1 x2 x3 x4 x5).2.2.2.2.1 bitsLt_bf16_f32⟩,
      ⟨Rect.unit (s := S512x1024) ![0, 256] S512x256.size inb_S512x1024_S512x256_0_256, truncf .bf16 (dkvFin c i arg1 harg1 arg2 harg2 arg3 harg3 arg4 harg4 arg5 harg5 arg6 harg6 arg7 harg7 arg8 harg8 x0 x1 x2 x3 x4 x5).2.2.1 bitsLt_bf16_f32⟩,
      ⟨Rect.unit (s := S512x1024) ![0, 0] S512x256.size inb_S512x1024_S512x256_0_0, truncf .bf16 (dkvFin c i arg1 harg1 arg2 harg2 arg3 harg3 arg4 harg4 arg5 harg5 arg6 harg6 arg7 harg7 arg8 harg8 x0 x1 x2 x3 x4 x5).1 bitsLt_bf16_f32⟩]) := by
  unfold Run.out2_A_6 Run.kernelRun2_A
  refine congrArg (fun l => View.read (Elt F) Run.VO2_6 (Run.VO2_6.writes (Elt F) Run.VO2_6.junk l)) ?_
  dsimp only
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  all_goals
    sl_unfold_words
    unfold dkvFin dkvSt dkvDiag dkv4
    dsimp only
    unfold dkStep dvStep dsDiag dscore probDiag prob dprob score
    rfl

set_option maxHeartbeats 4000000 in
/-- The block of the values' gradient, as the four stores. -/
theorem out2_7_eq : Run.out2_A_7 c i arg1 harg1 arg2 harg2 arg3 harg3 arg4 harg4 arg5 harg5 arg6 harg6 arg7 harg7 arg8 harg8 x0 x1 x2 x3 x4 x5 =
    Run.VO2_7.read (Elt F) (Run.VO2_7.writes (Elt F) Run.VO2_7.junk [⟨Rect.unit (s := S512x512) ![0, 384] S512x128.size inb_S512x512_S512x128_0_384, truncf .bf16 (dkvFin c i arg1 harg1 arg2 harg2 arg3 harg3 arg4 harg4 arg5 harg5 arg6 harg6 arg7 harg7 arg8 harg8 x0 x1 x2 x3 x4 x5).2.2.2.2.2.2.2 bitsLt_bf16_f32⟩,
      ⟨Rect.unit (s := S512x512) ![0, 256] S512x128.size inb_S512x512_S512x128_0_256, truncf .bf16 (dkvFin c i arg1 harg1 arg2 harg2 arg3 harg3 arg4 harg4 arg5 harg5 arg6 harg6 arg7 harg7 arg8 harg8 x0 x1 x2 x3 x4 x5).2.2.2.2.2.1 bitsLt_bf16_f32⟩,
      ⟨Rect.unit (s := S512x512) ![0, 128] S512x128.size inb_S512x512_S512x128_0_128, truncf .bf16 (dkvFin c i arg1 harg1 arg2 harg2 arg3 harg3 arg4 harg4 arg5 harg5 arg6 harg6 arg7 harg7 arg8 harg8 x0 x1 x2 x3 x4 x5).2.2.2.1 bitsLt_bf16_f32⟩,
      ⟨Rect.unit (s := S512x512) ![0, 0] S512x128.size inb_S512x512_S512x128_0_0, truncf .bf16 (dkvFin c i arg1 harg1 arg2 harg2 arg3 harg3 arg4 harg4 arg5 harg5 arg6 harg6 arg7 harg7 arg8 harg8 x0 x1 x2 x3 x4 x5).2.1 bitsLt_bf16_f32⟩]) := by
  unfold Run.out2_A_7 Run.kernelRun2_A
  refine congrArg (fun l => View.read (Elt F) Run.VO2_7 (Run.VO2_7.writes (Elt F) Run.VO2_7.junk l)) ?_
  dsimp only
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  all_goals
    sl_unfold_words
    unfold dkvFin dkvSt dkvDiag dkv4
    dsimp only
    unfold dkStep dvStep dsDiag dscore probDiag prob dprob score
    rfl

end Words

end Cert.KernelIdeal.Att

end
-- ==== Proof.RegionDkv.lean ====
/-
  The key- and value-gradient region: the body runs at every grid point, what it leaves in its two output blocks,
  and the pipeline data built from that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.RegionDkvRun

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

attribute [local irreducible] kernelRun2_A

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold outsAt2
  unfold out2_A_6 out2_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ (iblk2 V c 0 t) (iblk2 V c 1 t) (iblk2 V c 2 t) (iblk2 V c 3 t) (iblk2 V c 4 t) (iblk2 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover2_A_6 c _ _ _ _ _ _ _ _ _ _ _ _ _ _ _ _ _ _ _ _ _ _ _)
  unfold owns; iexists _; isplitr
  swap; · iexact H7
  ipureintro; exact View.read_writes_of_cover _ _ _ _ _ (cover2_A_7 c _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.DkvValue.lean ====
/-
  What the body of the keys' and values' gradients stores at one grid point.
-/
module

public import proofs.«01_k».proof.Proof.DkvRun
public import proofs.«01_k».proof.Proof.DqValue
public import proofs.«01_k».proof.Proof.RegionDkv

@[expose] public section

set_option maxRecDepth 16384

noncomputable section

open Idealize.ShloMosaic Idealize.ShloMosaic.TcCoe Idealize.ShloMosaic.Tactic

namespace Cert.KernelIdeal.Att

open Cert.KernelIdeal Cert.KernelIdeal.Gen Cert.Att

/-- At the point of block `j` of keys the loop makes one trip for each later block of queries. -/
theorem dkv_trips : ∀ i : grid2.Coords, (i 0).val + (k2_t1_loop i).trips + 1 = 8 := by decide +kernel
/-- The printed program's second loop makes none. -/
theorem dkv_trips2 : ∀ i : grid2.Coords, (k2_t2_loop i).trips = 0 := by decide +kernel
/-- There are eight blocks of keys. -/
theorem dkv_lt (i : grid2.Coords) : (i 0).val < 8 := (i 0).isLt

variable (H : Fin 4 → Head)

/-- One head's two sums over the queries before `R`, for block `j` of keys. -/
def DkvHeld (h : Head) (j R : ℕ) (dk : FVec Ideal S512x256 .f32) (dv : FVec Ideal S512x128 .f32) : Prop :=
  (∀ (c : Fin 512) (d : Fin 256), dk (ix2 c d) = ((∑ i ∈ Finset.range R, h.DS i (512 * j + c) * h.q i d : ℝ) : EReal))
    ∧ ∀ (c : Fin 512) (d : Fin 128), dv (ix2 c d) = ((∑ i ∈ Finset.range R, h.P i (512 * j + c) * h.g i d : ℝ) : EReal)

/-- The four heads' sums. -/
def DkvHeld4 (j R : ℕ) (acc : Dkv4 Ideal) : Prop :=
  DkvHeld (H 0) j R acc.1 acc.2.1 ∧ DkvHeld (H 1) j R acc.2.2.1 acc.2.2.2.1 ∧ DkvHeld (H 2) j R acc.2.2.2.2.1 acc.2.2.2.2.2.1 ∧ DkvHeld (H 3) j R acc.2.2.2.2.2.2.1 acc.2.2.2.2.2.2.2

/-- Before the diagonal no query counts. -/
theorem dkvHeld_init (h : Head) (j : ℕ) : DkvHeld h j (512 * j) (broadcast S512x256 (FloatOps.ofBits (F := Ideal) .f32 0x00000000#32))
    (broadcast S512x128 (FloatOps.ofBits (F := Ideal) .f32 0x00000000#32)) := by
  have hz : Ideal.ofBits .f32 0x00000000#32 = 0 := by simp [Ideal.ofBits, Ideal.ieee]
  constructor
  · intro c d
    rw [Finset.sum_eq_zero fun i hi => by rw [h.DS_of_lt (by have := Finset.mem_range.1 hi; omega), zero_mul]]
    exact hz
  · intro c d
    rw [Finset.sum_eq_zero fun i hi => by rw [h.P_of_lt (by have := Finset.mem_range.1 hi; omega), zero_mul]]
    exact hz

variable (c : Dev nD) (i : grid2.Coords) (arg1 : Memref sig .tc .vmem S512x1024 .bf16) (harg1 : arg1.IsWhole) (arg2 : Memref sig .tc .vmem S512x512 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S4096x512 .f32) (harg5 : arg5.IsWhole) (arg6 : Memref sig .tc .vmem S4096x512 .f32) (harg6 : arg6.IsWhole) (arg7 : Memref sig .tc .vmem S512x1024 .bf16) (harg7 : arg7.IsWhole) (arg8 : Memref sig .tc .vmem S512x512 .bf16) (harg8 : arg8.IsWhole)
variable (x0 : Vec Ideal S512x1024 .bf16) (x1 : Vec Ideal S512x512 .bf16) (x2 : Vec Ideal S4096x1024 .bf16) (x3 : Vec Ideal S4096x512 .bf16) (x4 x5 : Vec Ideal S4096x512 .f32)
variable (hc : ∀ h, (H h).c = scale)
  (hx0 : ∀ (h : Fin 4) (r : Fin 512) (d : Fin 256), x0 (ix2 r (wide h d)) = ((H h).k (512 * (i 0).val + r) d : EReal))
  (hx1 : ∀ (h : Fin 4) (r : Fin 512) (d : Fin 128), x1 (ix2 r (slim h d)) = ((H h).v (512 * (i 0).val + r) d : EReal))
  (hx2 : ∀ (h : Fin 4) (j : Fin 4096) (d : Fin 256), x2 (ix2 j (wide h d)) = ((H h).q j d : EReal))
  (hx3 : ∀ (h : Fin 4) (j : Fin 4096) (d : Fin 128), x3 (ix2 j (slim h d)) = ((H h).g j d : EReal))
  (hx4 : ∀ (h : Fin 4) (j : Fin 4096) (d : Fin 128), x4 (ix2 j (slim h d)) = (Real.log ((H h).Z j) : EReal))
  (hx5 : ∀ (h : Fin 4) (j : Fin 4096) (d : Fin 128), x5 (ix2 j (slim h d)) = ((H h).D j : EReal))

include hx0 in
/-- A head's columns of the block of keys. -/
theorem dkv_k (h : Fin 4) (o : ℕ) (ho : o = 256 * h.val) (inb) (r : Fin 512) (d : Fin 256) :
    View.readAt (Elt Ideal) arg1.view (Rect.unit (s := S512x1024) ![0, o] S512x256.size inb).toLoadRect (harg1.unread x0) (ix2 r d)
      = ((H h).k (512 * (i 0).val + r) d : EReal) :=
  (readAt_block arg1 harg1 x0 _ inb 0 o rfl r d r (wide h d) (by simp) (by simp [ho])).trans (hx0 h r d)

include hx1 in
/-- A head's columns of the block of values. -/
theorem dkv_v (h : Fin 4) (o : ℕ) (ho : o = 128 * h.val) (inb) (r : Fin 512) (d : Fin 128) :
    View.readAt (Elt Ideal) arg2.view (Rect.unit (s := S512x512) ![0, o] S512x128.size inb).toLoadRect (harg2.unread x1) (ix2 r d)
      = ((H h).v (512 * (i 0).val + r) d : EReal) :=
  (readAt_block arg2 harg2 x1 _ inb 0 o rfl r d r (slim h d) (by simp) (by simp [ho])).trans (hx1 h r d)

include hx2 in
/-- A head's columns of a block of queries. -/
theorem dkv_q (h : Fin 4) (N : ℕ) (hN : N + 512 ≤ 4096) (off : Fin 2 → ℕ) (ho : off = ![N, 256 * h.val]) (inb) (r : Fin 512) (d : Fin 256) :
    View.readAt (Elt Ideal) arg3.view (Rect.unit (s := S4096x1024) off S512x256.size inb).toLoadRect (harg3.unread x2) (ix2 r d)
      = ((H h).q (N + r) d : EReal) :=
  (readAt_block arg3 harg3 x2 off inb N (256 * h.val) ho r d ⟨N + r, by omega⟩ (wide h d) rfl rfl).trans (hx2 h _ d)

include hx3 in
/-- A head's columns of a block of output gradients. -/
theorem dkv_g (h : Fin 4) (N : ℕ) (hN : N + 512 ≤ 4096) (off : Fin 2 → ℕ) (ho : off = ![N, 128 * h.val]) (inb) (r : Fin 512) (d : Fin 128) :
    View.readAt (Elt Ideal) arg4.view (Rect.unit (s := S4096x512) off S512x128.size inb).toLoadRect (harg4.unread x3) (ix2 r d)
      = ((H h).g (N + r) d : EReal) :=
  (readAt_block arg4 harg4 x3 off inb N (128 * h.val) ho r d ⟨N + r, by omega⟩ (slim h d) rfl rfl).trans (hx3 h _ d)

include hx4 in
/-- A head's log-sums of a block of queries. -/
theorem dkv_l (h : Fin 4) (N : ℕ) (hN : N + 512 ≤ 4096) (off : Fin 2 → ℕ) (ho : off = ![N, 128 * h.val]) (inb) (hs) (r : Fin 512) :
    (shapeCast S512x1 (View.readAt (Elt Ideal) arg5.view (Rect.unit (s := S4096x512) off S512x1.size inb).toLoadRect (harg5.unread x4)
      : FVec Ideal S512x1 .f32) hs) (ix2 r (0 : Fin 1)) = (Real.log ((H h).Z (N + r)) : EReal) := by
  refine Eq.trans ?_ ((readAt_block arg5 harg5 x4 off inb N (128 * h.val) ho r (0 : Fin 1) ⟨N + r, by omega⟩ (slim h 0) rfl rfl).trans (hx4 h _ 0))
  pointwise

include hx5 in
/-- A head's inner products of a block of queries. -/
theorem dkv_d (h : Fin 4) (N : ℕ) (hN : N + 512 ≤ 4096) (off : Fin 2 → ℕ) (ho : off = ![N, 128 * h.val]) (inb) (hs) (r : Fin 512) :
    (shapeCast S512x1 (View.readAt (Elt Ideal) arg6.view (Rect.unit (s := S4096x512) off S512x1.size inb).toLoadRect (harg6.unread x5)
      : FVec Ideal S512x1 .f32) hs) (ix2 r (0 : Fin 1)) = ((H h).D (N + r) : EReal) := by
  refine Eq.trans ?_ ((readAt_block arg6 harg6 x5 off inb N (128 * h.val) ho r (0 : Fin 1) ⟨N + r, by omega⟩ (slim h 0) rfl rfl).trans (hx5 h _ 0))
  pointwise

include hc hx0 hx1 hx2 hx3 hx4 hx5 in
/-- After the diagonal block its queries have been summed over. -/
theorem dkv_diag : DkvHeld4 H (i 0).val (512 * (i 0).val + 512) (dkvDiag i arg1 harg1 arg2 harg2 arg3 harg3 arg4 harg4 arg5 harg5 arg6 harg6 x0 x1 x2 x3 x4 x5) := by
  have hi8 := dkv_lt i
  have hR : 512 * (i 0).val + 512 ≤ 4096 := by omega
  unfold dkvDiag dkv4
  exact ⟨⟨dkStep_apply (H 0) _ _ _ (dkvHeld_init (H 0) _).1 (dsDiag_apply (H 0) _ hi8 _ _ _ _ _ _ (dkv_q H arg3 harg3 x2 hx2 0 (512 * (i 0).val) hR _ (k2_off1_eq i) _)
        (dkv_k H i arg1 harg1 x0 hx0 0 0 rfl _) (dkv_g H arg4 harg4 x3 hx3 0 (512 * (i 0).val) hR _ (k2_off2_eq i) _)
        (dkv_v H i arg2 harg2 x1 hx1 0 0 rfl _) (dkv_l H arg5 harg5 x4 hx4 0 (512 * (i 0).val) hR _ (k2_off3_eq i) _ _)
        (dkv_d H arg6 harg6 x5 hx5 0 (512 * (i 0).val) hR _ (k2_off3_eq i) _ _) (hc 0))
        (dkv_q H arg3 harg3 x2 hx2 0 (512 * (i 0).val) hR _ (k2_off1_eq i) _),
      dvStep_apply (H 0) _ _ _ (dkvHeld_init (H 0) _).2 (probDiag_apply (H 0) _ hi8 _ _ (score_apply (H 0) _ _ _ _ (dkv_q H arg3 harg3 x2 hx2 0 (512 * (i 0).val) hR _ (k2_off1_eq i) _)
        (dkv_k H i arg1 harg1 x0 hx0 0 0 rfl _) (hc 0)) (dkv_l H arg5 harg5 x4 hx4 0 (512 * (i 0).val) hR _ (k2_off3_eq i) _ _))
        (dkv_g H arg4 harg4 x3 hx3 0 (512 * (i 0).val) hR _ (k2_off2_eq i) _)⟩,
      ⟨dkStep_apply (H 1) _ _ _ (dkvHeld_init (H 1) _).1 (dsDiag_apply (H 1) _ hi8 _ _ _ _ _ _ (dkv_q H arg3 harg3 x2 hx2 1 (512 * (i 0).val) hR _ (k2_off4_eq i) _)
        (dkv_k H i arg1 harg1 x0 hx0 1 256 rfl _) (dkv_g H arg4 harg4 x3 hx3 1 (512 * (i 0).val) hR _ (k2_off5_eq i) _)
        (dkv_v H i arg2 harg2 x1 hx1 1 128 rfl _) (dkv_l H arg5 harg5 x4 hx4 1 (512 * (i 0).val) hR _ (k2_off6_eq i) _ _)
        (dkv_d H arg6 harg6 x5 hx5 1 (512 * (i 0).val) hR _ (k2_off6_eq i) _ _) (hc 1))
        (dkv_q H arg3 harg3 x2 hx2 1 (512 * (i 0).val) hR _ (k2_off4_eq i) _),
      dvStep_apply (H 1) _ _ _ (dkvHeld_init (H 1) _).2 (probDiag_apply (H 1) _ hi8 _ _ (score_apply (H 1) _ _ _ _ (dkv_q H arg3 harg3 x2 hx2 1 (512 * (i 0).val) hR _ (k2_off4_eq i) _)
        (dkv_k H i arg1 harg1 x0 hx0 1 256 rfl _) (hc 1)) (dkv_l H arg5 harg5 x4 hx4 1 (512 * (i 0).val) hR _ (k2_off6_eq i) _ _))
        (dkv_g H arg4 harg4 x3 hx3 1 (512 * (i 0).val) hR _ (k2_off5_eq i) _)⟩,
      ⟨dkStep_apply (H 2) _ _ _ (dkvHeld_init (H 2) _).1 (dsDiag_apply (H 2) _ hi8 _ _ _ _ _ _ (dkv_q H arg3 harg3 x2 hx2 2 (512 * (i 0).val) hR _ (k2_off7_eq i) _)
        (dkv_k H i arg1 harg1 x0 hx0 2 512 rfl _) (dkv_g H arg4 harg4 x3 hx3 2 (512 * (i 0).val) hR _ (k2_off8_eq i) _)
        (dkv_v H i arg2 harg2 x1 hx1 2 256 rfl _) (dkv_l H arg5 harg5 x4 hx4 2 (512 * (i 0).val) hR _ (k2_off9_eq i) _ _)
        (dkv_d H arg6 harg6 x5 hx5 2 (512 * (i 0).val) hR _ (k2_off9_eq i) _ _) (hc 2))
        (dkv_q H arg3 harg3 x2 hx2 2 (512 * (i 0).val) hR _ (k2_off7_eq i) _),
      dvStep_apply (H 2) _ _ _ (dkvHeld_init (H 2) _).2 (probDiag_apply (H 2) _ hi8 _ _ (score_apply (H 2) _ _ _ _ (dkv_q H arg3 harg3 x2 hx2 2 (512 * (i 0).val) hR _ (k2_off7_eq i) _)
        (dkv_k H i arg1 harg1 x0 hx0 2 512 rfl _) (hc 2)) (dkv_l H arg5 harg5 x4 hx4 2 (512 * (i 0).val) hR _ (k2_off9_eq i) _ _))
        (dkv_g H arg4 harg4 x3 hx3 2 (512 * (i 0).val) hR _ (k2_off8_eq i) _)⟩,
      ⟨dkStep_apply (H 3) _ _ _ (dkvHeld_init (H 3) _).1 (dsDiag_apply (H 3) _ hi8 _ _ _ _ _ _ (dkv_q H arg3 harg3 x2 hx2 3 (512 * (i 0).val) hR _ (k2_off10_eq i) _)
        (dkv_k H i arg1 harg1 x0 hx0 3 768 rfl _) (dkv_g H arg4 harg4 x3 hx3 3 (512 * (i 0).val) hR _ (k2_off11_eq i) _)
        (dkv_v H i arg2 harg2 x1 hx1 3 384 rfl _) (dkv_l H arg5 harg5 x4 hx4 3 (512 * (i 0).val) hR _ (k2_off12_eq i) _ _)
        (dkv_d H arg6 harg6 x5 hx5 3 (512 * (i 0).val) hR _ (k2_off12_eq i) _ _) (hc 3))
        (dkv_q H arg3 harg3 x2 hx2 3 (512 * (i 0).val) hR _ (k2_off10_eq i) _),
      dvStep_apply (H 3) _ _ _ (dkvHeld_init (H 3) _).2 (probDiag_apply (H 3) _ hi8 _ _ (score_apply (H 3) _ _ _ _ (dkv_q H arg3 harg3 x2 hx2 3 (512 * (i 0).val) hR _ (k2_off10_eq i) _)
        (dkv_k H i arg1 harg1 x0 hx0 3 768 rfl _) (hc 3)) (dkv_l H arg5 harg5 x4 hx4 3 (512 * (i 0).val) hR _ (k2_off12_eq i) _ _))
        (dkv_g H arg4 harg4 x3 hx3 3 (512 * (i 0).val) hR _ (k2_off11_eq i) _)⟩⟩

include hc hx0 hx1 hx2 hx3 hx4 hx5 in
/-- Before trip `k` the queries before the trip's block have been summed over. -/
theorem dkv_loop (k : ℕ) (hk : k ≤ (k2_t1_loop i).trips) : DkvHeld4 H (i 0).val (512 * ((i 0).val + k + 1)) (dkvSt c i arg1 harg1 arg2 harg2 arg3 harg3 arg4 harg4 arg5 harg5 arg6 harg6 arg7 harg7 arg8 harg8 x0 x1 x2 x3 x4 x5 k) := by
  induction k with
  | zero => exact dkv_diag H i arg1 harg1 arg2 harg2 arg3 harg3 arg4 harg4 arg5 harg5 arg6 harg6 x0 x1 x2 x3 x4 x5 hc hx0 hx1 hx2 hx3 hx4 hx5
  | succ k ih =>
    have hlt : k < (k2_t1_loop i).trips := hk
    have hi := dkv_trips i
    have h := ih (Nat.le_of_lt hlt)
    have hR : 512 * ((i 0).val + k + 1) + 512 ≤ 4096 := by omega
    have hN : 512 * (i 0).val + 512 ≤ 512 * ((i 0).val + k + 1) := by omega
    have row : 512 * (i 0).val + 512 * k + 512 = 512 * ((i 0).val + k + 1) := by ring
    have hoff0 : (![512 * (i 0).val + 512 * k + 512, 0] : Fin 2 → ℕ) = ![512 * ((i 0).val + k + 1), 0] := by rw [row]
    have hoff128 : (![512 * (i 0).val + 512 * k + 512, 128] : Fin 2 → ℕ) = ![512 * ((i 0).val + k + 1), 128] := by rw [row]
    have hoff256 : (![512 * (i 0).val + 512 * k + 512, 256] : Fin 2 → ℕ) = ![512 * ((i 0).val + k + 1), 256] := by rw [row]
    have hoff384 : (![512 * (i 0).val + 512 * k + 512, 384] : Fin 2 → ℕ) = ![512 * ((i 0).val + k + 1), 384] := by rw [row]
    have hoff512 : (![512 * (i 0).val + 512 * k + 512, 512] : Fin 2 → ℕ) = ![512 * ((i 0).val + k + 1), 512] := by rw [row]
    have hoff768 : (![512 * (i 0).val + 512 * k + 512, 768] : Fin 2 → ℕ) = ![512 * ((i 0).val + k + 1), 768] := by rw [row]
    unfold dkvSt at h ⊢
    rw [st_k2_t1_succ Variants.none c none i arg1 harg1 arg2 harg2 arg3 harg3 arg4 harg4 arg5 harg5 arg6 harg6 arg7 harg7 arg8 harg8 _ _ _ _ _ _ _ _ _ _ _ _ _ _ _ _ _ _ _ _ _ _ _ _ _ _ _ ⟨k, hlt⟩, dkv_trip]
    unfold dkv4
    exact ⟨⟨dkStep_apply (H 0) _ _ _ h.1.1 (ds_apply (H 0) hR hN _ _ _ _ _ _ (dkv_q H arg3 harg3 x2 hx2 0 (512 * ((i 0).val + k + 1)) hR _ ((k2_off13_eq i ⟨k, hlt⟩).trans hoff0) _)
        (dkv_k H i arg1 harg1 x0 hx0 0 0 rfl _) (dkv_g H arg4 harg4 x3 hx3 0 (512 * ((i 0).val + k + 1)) hR _ ((k2_off14_eq i ⟨k, hlt⟩).trans hoff0) _)
        (dkv_v H i arg2 harg2 x1 hx1 0 0 rfl _) (dkv_l H arg5 harg5 x4 hx4 0 (512 * ((i 0).val + k + 1)) hR _ ((k2_off15_eq i ⟨k, hlt⟩).trans hoff0) _ _)
        (dkv_d H arg6 harg6 x5 hx5 0 (512 * ((i 0).val + k + 1)) hR _ ((k2_off15_eq i ⟨k, hlt⟩).trans hoff0) _ _) (hc 0))
        (dkv_q H arg3 harg3 x2 hx2 0 (512 * ((i 0).val + k + 1)) hR _ ((k2_off13_eq i ⟨k, hlt⟩).trans hoff0) _),
      dvStep_apply (H 0) _ _ _ h.1.2 (prob_apply (H 0) hR hN _ _ (score_apply (H 0) _ _ _ _ (dkv_q H arg3 harg3 x2 hx2 0 (512 * ((i 0).val + k + 1)) hR _ ((k2_off13_eq i ⟨k, hlt⟩).trans hoff0) _)
        (dkv_k H i arg1 harg1 x0 hx0 0 0 rfl _) (hc 0)) (dkv_l H arg5 harg5 x4 hx4 0 (512 * ((i 0).val + k + 1)) hR _ ((k2_off15_eq i ⟨k, hlt⟩).trans hoff0) _ _))
        (dkv_g H arg4 harg4 x3 hx3 0 (512 * ((i 0).val + k + 1)) hR _ ((k2_off14_eq i ⟨k, hlt⟩).trans hoff0) _)⟩,
      ⟨dkStep_apply (H 1) _ _ _ h.2.1.1 (ds_apply (H 1) hR hN _ _ _ _ _ _ (dkv_q H arg3 harg3 x2 hx2 1 (512 * ((i 0).val + k + 1)) hR _ ((k2_off16_eq i ⟨k, hlt⟩).trans hoff256) _)
        (dkv_k H i arg1 harg1 x0 hx0 1 256 rfl _) (dkv_g H arg4 harg4 x3 hx3 1 (512 * ((i 0).val + k + 1)) hR _ ((k2_off17_eq i ⟨k, hlt⟩).trans hoff128) _)
        (dkv_v H i arg2 harg2 x1 hx1 1 128 rfl _) (dkv_l H arg5 harg5 x4 hx4 1 (512 * ((i 0).val + k + 1)) hR _ ((k2_off18_eq i ⟨k, hlt⟩).trans hoff128) _ _)
        (dkv_d H arg6 harg6 x5 hx5 1 (512 * ((i 0).val + k + 1)) hR _ ((k2_off18_eq i ⟨k, hlt⟩).trans hoff128) _ _) (hc 1))
        (dkv_q H arg3 harg3 x2 hx2 1 (512 * ((i 0).val + k + 1)) hR _ ((k2_off16_eq i ⟨k, hlt⟩).trans hoff256) _),
      dvStep_apply (H 1) _ _ _ h.2.1.2 (prob_apply (H 1) hR hN _ _ (score_apply (H 1) _ _ _ _ (dkv_q H arg3 harg3 x2 hx2 1 (512 * ((i 0).val + k + 1)) hR _ ((k2_off16_eq i ⟨k, hlt⟩).trans hoff256) _)
        (dkv_k H i arg1 harg1 x0 hx0 1 256 rfl _) (hc 1)) (dkv_l H arg5 harg5 x4 hx4 1 (512 * ((i 0).val + k + 1)) hR _ ((k2_off18_eq i ⟨k, hlt⟩).trans hoff128) _ _))
        (dkv_g H arg4 harg4 x3 hx3 1 (512 * ((i 0).val + k + 1)) hR _ ((k2_off17_eq i ⟨k, hlt⟩).trans hoff128) _)⟩,
      ⟨dkStep_apply (H 2) _ _ _ h.2.2.1.1 (ds_apply (H 2) hR hN _ _ _ _ _ _ (dkv_q H arg3 harg3 x2 hx2 2 (512 * ((i 0).val + k + 1)) hR _ ((k2_off19_eq i ⟨k, hlt⟩).trans hoff512) _)
        (dkv_k H i arg1 harg1 x0 hx0 2 512 rfl _) (dkv_g H arg4 harg4 x3 hx3 2 (512 * ((i 0).val + k + 1)) hR _ ((k2_off20_eq i ⟨k, hlt⟩).trans hoff256) _)
        (dkv_v H i arg2 harg2 x1 hx1 2 256 rfl _) (dkv_l H arg5 harg5 x4 hx4 2 (512 * ((i 0).val + k + 1)) hR _ ((k2_off21_eq i ⟨k, hlt⟩).trans hoff256) _ _)
        (dkv_d H arg6 harg6 x5 hx5 2 (512 * ((i 0).val + k + 1)) hR _ ((k2_off21_eq i ⟨k, hlt⟩).trans hoff256) _ _) (hc 2))
        (dkv_q H arg3 harg3 x2 hx2 2 (512 * ((i 0).val + k + 1)) hR _ ((k2_off19_eq i ⟨k, hlt⟩).trans hoff512) _),
      dvStep_apply (H 2) _ _ _ h.2.2.1.2 (prob_apply (H 2) hR hN _ _ (score_apply (H 2) _ _ _ _ (dkv_q H arg3 harg3 x2 hx2 2 (512 * ((i 0).val + k + 1)) hR _ ((k2_off19_eq i ⟨k, hlt⟩).trans hoff512) _)
        (dkv_k H i arg1 harg1 x0 hx0 2 512 rfl _) (hc 2)) (dkv_l H arg5 harg5 x4 hx4 2 (512 * ((i 0).val + k + 1)) hR _ ((k2_off21_eq i ⟨k, hlt⟩).trans hoff256) _ _))
        (dkv_g H arg4 harg4 x3 hx3 2 (512 * ((i 0).val + k + 1)) hR _ ((k2_off20_eq i ⟨k, hlt⟩).trans hoff256) _)⟩,
      ⟨dkStep_apply (H 3) _ _ _ h.2.2.2.1 (ds_apply (H 3) hR hN _ _ _ _ _ _ (dkv_q H arg3 harg3 x2 hx2 3 (512 * ((i 0).val + k + 1)) hR _ ((k2_off22_eq i ⟨k, hlt⟩).trans hoff768) _)
        (dkv_k H i arg1 harg1 x0 hx0 3 768 rfl _) (dkv_g H arg4 harg4 x3 hx3 3 (512 * ((i 0).val + k + 1)) hR _ ((k2_off23_eq i ⟨k, hlt⟩).trans hoff384) _)
        (dkv_v H i arg2 harg2 x1 hx1 3 384 rfl _) (dkv_l H arg5 harg5 x4 hx4 3 (512 * ((i 0).val + k + 1)) hR _ ((k2_off24_eq i ⟨k, hlt⟩).trans hoff384) _ _)
        (dkv_d H arg6 harg6 x5 hx5 3 (512 * ((i 0).val + k + 1)) hR _ ((k2_off24_eq i ⟨k, hlt⟩).trans hoff384) _ _) (hc 3))
        (dkv_q H arg3 harg3 x2 hx2 3 (512 * ((i 0).val + k + 1)) hR _ ((k2_off22_eq i ⟨k, hlt⟩).trans hoff768) _),
      dvStep_apply (H 3) _ _ _ h.2.2.2.2 (prob_apply (H 3) hR hN _ _ (score_apply (H 3) _ _ _ _ (dkv_q H arg3 harg3 x2 hx2 3 (512 * ((i 0).val + k + 1)) hR _ ((k2_off22_eq i ⟨k, hlt⟩).trans hoff768) _)
        (dkv_k H i arg1 harg1 x0 hx0 3 768 rfl _) (hc 3)) (dkv_l H arg5 harg5 x4 hx4 3 (512 * ((i 0).val + k + 1)) hR _ ((k2_off24_eq i ⟨k, hlt⟩).trans hoff384) _ _))
        (dkv_g H arg4 harg4 x3 hx3 3 (512 * ((i 0).val + k + 1)) hR _ ((k2_off23_eq i ⟨k, hlt⟩).trans hoff384) _)⟩⟩

include hc hx0 hx1 hx2 hx3 hx4 hx5 in
/-- After the last trip every query has been summed over. -/
theorem dkv_fin : DkvHeld4 H (i 0).val 4096 (dkvFin c i arg1 harg1 arg2 harg2 arg3 harg3 arg4 harg4 arg5 harg5 arg6 harg6 arg7 harg7 arg8 harg8 x0 x1 x2 x3 x4 x5) := by
  have hi := dkv_trips i
  have h0 := dkv_loop H c i arg1 harg1 arg2 harg2 arg3 harg3 arg4 harg4 arg5 harg5 arg6 harg6 arg7 harg7 arg8 harg8 x0 x1 x2 x3 x4 x5 hc hx0 hx1 hx2 hx3 hx4 hx5 _ le_rfl
  have e : 512 * ((i 0).val + (k2_t1_loop i).trips + 1) = 4096 := by omega
  rw [e] at h0
  unfold dkvFin
  rw [dkv_trips2 i, st_k2_t2_zero]
  exact h0

include hc hx0 hx1 hx2 hx3 hx4 hx5 in
/-- The block of the keys' gradient. -/
theorem out2_6_apply (h : Fin 4) (r : Fin 512) (d : Fin 256) :
    Run.out2_A_6 c i arg1 harg1 arg2 harg2 arg3 harg3 arg4 harg4 arg5 harg5 arg6 harg6 arg7 harg7 arg8 harg8 x0 x1 x2 x3 x4 x5 (ix2 r (wide h d)) = ((H h).DK (512 * (i 0).val + r) d : EReal) := by
  have hf := dkv_fin H c i arg1 harg1 arg2 harg2 arg3 harg3 arg4 harg4 arg5 harg5 arg6 harg6 arg7 harg7 arg8 harg8 x0 x1 x2 x3 x4 x5 hc hx0 hx1 hx2 hx3 hx4 hx5
  rw [out2_6_eq]
  refine (read_quarters Run.VO2_6 _ 256 512 768 rfl rfl rfl _ _ _ _ _ _ _ _ h r d (wide h d) rfl).trans ?_
  fin_cases h
  · exact hf.1.1 r d
  · exact hf.2.1.1 r d
  · exact hf.2.2.1.1 r d
  · exact hf.2.2.2.1 r d

include hc hx0 hx1 hx2 hx3 hx4 hx5 in
/-- The block of the values' gradient. -/
theorem out2_7_apply (h : Fin 4) (r : Fin 512) (d : Fin 128) :
    Run.out2_A_7 c i arg1 harg1 arg2 harg2 arg3 harg3 arg4 harg4 arg5 harg5 arg6 harg6 arg7 harg7 arg8 harg8 x0 x1 x2 x3 x4 x5 (ix2 r (slim h d)) = ((H h).DV (512 * (i 0).val + r) d : EReal) := by
  have hf := dkv_fin H c i arg1 harg1 arg2 harg2 arg3 harg3 arg4 harg4 arg5 harg5 arg6 harg6 arg7 harg7 arg8 harg8 x0 x1 x2 x3 x4 x5 hc hx0 hx1 hx2 hx3 hx4 hx5
  rw [out2_7_eq]
  refine (read_quarters Run.VO2_7 _ 128 256 384 rfl rfl rfl _ _ _ _ _ _ _ _ h r d (slim h d) rfl).trans ?_
  fin_cases h
  · exact hf.1.2 r d
  · exact hf.2.1.2 r d
  · exact hf.2.2.1.2 r d
  · exact hf.2.2.2.2 r d

end Cert.KernelIdeal.Att

end
-- ==== Proof.DkvArray.lean ====
/-
  The arrays the keys' and values' gradients call leaves, from the arrays it finds.
-/
module

public import proofs.«01_k».proof.Proof.DkvValue
public import proofs.«01_k».proof.Proof.FwdArray

@[expose] public section

set_option maxRecDepth 16384

noncomputable section

open Idealize.ShloMosaic Idealize.ShloMosaic.TcCoe Idealize.ShloMosaic.Tactic

namespace Cert.KernelIdeal.Att

open Cert.KernelIdeal Cert.KernelIdeal.Gen Cert.Att

/-- The block of window 0 moves with the grid point. -/
theorem dkv_index0 : ∀ t : Fin cfg2.N, win2_0.index t (0 : Fin 2) = (grid2.coords t 0).val ∧ win2_0.index t (1 : Fin 2) = 0 :=
  (by decide +kernel : ∀ t : Fin grid2.N, _)
/-- The block of window 1 moves with the grid point. -/
theorem dkv_index1 : ∀ t : Fin cfg2.N, win2_1.index t (0 : Fin 2) = (grid2.coords t 0).val ∧ win2_1.index t (1 : Fin 2) = 0 :=
  (by decide +kernel : ∀ t : Fin grid2.N, _)
/-- The block of window 2 is the whole array. -/
theorem dkv_index2 : ∀ t : Fin cfg2.N, win2_2.index t (0 : Fin 2) = 0 ∧ win2_2.index t (1 : Fin 2) = 0 :=
  (by decide +kernel : ∀ t : Fin grid2.N, _)
/-- The block of window 3 is the whole array. -/
theorem dkv_index3 : ∀ t : Fin cfg2.N, win2_3.index t (0 : Fin 2) = 0 ∧ win2_3.index t (1 : Fin 2) = 0 :=
  (by decide +kernel : ∀ t : Fin grid2.N, _)
/-- The block of window 4 is the whole array. -/
theorem dkv_index4 : ∀ t : Fin cfg2.N, win2_4.index t (0 : Fin 2) = 0 ∧ win2_4.index t (1 : Fin 2) = 0 :=
  (by decide +kernel : ∀ t : Fin grid2.N, _)
/-- The block of window 5 is the whole array. -/
theorem dkv_index5 : ∀ t : Fin cfg2.N, win2_5.index t (0 : Fin 2) = 0 ∧ win2_5.index t (1 : Fin 2) = 0 :=
  (by decide +kernel : ∀ t : Fin grid2.N, _)
/-- The block of window 6 moves with the grid point. -/
theorem dkv_index6 : ∀ t : Fin cfg2.N, win2_6.index t (0 : Fin 2) = (grid2.coords t 0).val ∧ win2_6.index t (1 : Fin 2) = 0 :=
  (by decide +kernel : ∀ t : Fin grid2.N, _)
/-- The block of window 7 moves with the grid point. -/
theorem dkv_index7 : ∀ t : Fin cfg2.N, win2_7.index t (0 : Fin 2) = (grid2.coords t 0).val ∧ win2_7.index t (1 : Fin 2) = 0 :=
  (by decide +kernel : ∀ t : Fin grid2.N, _)

section Blocks

variable {F : FTy → Type} [FloatOps F] [Named F]
variable (V : (c : Dev nD) → (b : Ref sig .tc) → Buf (Elt F) ((c : Thread nD τ).loc b)) (c : Dev nD) (t : Fin cfg2.N)

/-- What window 0's block at a point holds. -/
theorem dkv_blk0 (r : Fin 512) (l : Fin 1024) (i : Fin 4096) (hi : i.val = 512 * (grid2.coords t 0).val + r.val) :
    Run.iblk2 V c 0 t (ix2 r l) = V c main_arg1 (ix2 i l) := by
  obtain ⟨e0, e1⟩ := dkv_index0 t
  show V c main_arg1 (((cfg2.win 0).blk t).view.emb (ix2 r l)) = V c main_arg1 (ix2 i l)
  congr 1
  funext a
  apply Fin.ext
  match a with
  | ⟨0, _⟩ => show win2_0.index t (0 : Fin 2) * 512 + 1 * r.val = i.val; rw [e0, hi]; omega
  | ⟨1, _⟩ => show win2_0.index t (1 : Fin 2) * 1024 + 1 * l.val = l.val; rw [e1]; omega

/-- What window 1's block at a point holds. -/
theorem dkv_blk1 (r : Fin 512) (l : Fin 512) (i : Fin 4096) (hi : i.val = 512 * (grid2.coords t 0).val + r.val) :
    Run.iblk2 V c 1 t (ix2 r l) = V c main_arg2 (ix2 i l) := by
  obtain ⟨e0, e1⟩ := dkv_index1 t
  show V c main_arg2 (((cfg2.win 1).blk t).view.emb (ix2 r l)) = V c main_arg2 (ix2 i l)
  congr 1
  funext a
  apply Fin.ext
  match a with
  | ⟨0, _⟩ => show win2_1.index t (0 : Fin 2) * 512 + 1 * r.val = i.val; rw [e0, hi]; omega
  | ⟨1, _⟩ => show win2_1.index t (1 : Fin 2) * 512 + 1 * l.val = l.val; rw [e1]; omega

/-- What window 2's block at a point holds. -/
theorem dkv_blk2 (i : Fin 4096) (l : Fin 1024) :
    Run.iblk2 V c 2 t (ix2 i l) = V c main_arg0 (ix2 i l) := by
  obtain ⟨e0, e1⟩ := dkv_index2 t
  show V c main_arg0 (((cfg2.win 2).blk t).view.emb (ix2 i l)) = V c main_arg0 (ix2 i l)
  congr 1
  funext a
  apply Fin.ext
  match a with
  | ⟨0, _⟩ => show win2_2.index t (0 : Fin 2) * 4096 + 1 * i.val = i.val; rw [e0]; omega
  | ⟨1, _⟩ => show win2_2.index t (1 : Fin 2) * 1024 + 1 * l.val = l.val; rw [e1]; omega

/-- What window 3's block at a point holds. -/
theorem dkv_blk3 (i : Fin 4096) (l : Fin 512) :
    Run.iblk2 V c 3 t (ix2 i l) = V c main_arg3 (ix2 i l) := by
  obtain ⟨e0, e1⟩ := dkv_index3 t
  show V c main_arg3 (((cfg2.win 3).blk t).view.emb (ix2 i l)) = V c main_arg3 (ix2 i l)
  congr 1
  funext a
  apply Fin.ext
  match a with
  | ⟨0, _⟩ => show win2_3.index t (0 : Fin 2) * 4096 + 1 * i.val = i.val; rw [e0]; omega
  | ⟨1, _⟩ => show win2_3.index t (1 : Fin 2) * 512 + 1 * l.val = l.val; rw [e1]; omega

/-- What window 4's block at a point holds. -/
theorem dkv_blk4 (i : Fin 4096) (l : Fin 512) :
    Run.iblk2 V c 4 t (ix2 i l) = V c main_v0_1 (ix2 i l) := by
  obtain ⟨e0, e1⟩ := dkv_index4 t
  show V c main_v0_1 (((cfg2.win 4).blk t).view.emb (ix2 i l)) = V c main_v0_1 (ix2 i l)
  congr 1
  funext a
  apply Fin.ext
  match a with
  | ⟨0, _⟩ => show win2_4.index t (0 : Fin 2) * 4096 + 1 * i.val = i.val; rw [e0]; omega
  | ⟨1, _⟩ => show win2_4.index t (1 : Fin 2) * 512 + 1 * l.val = l.val; rw [e1]; omega

/-- What window 5's block at a point holds. -/
theorem dkv_blk5 (i : Fin 4096) (l : Fin 512) :
    Run.iblk2 V c 5 t (ix2 i l) = V c main_v1_1 (ix2 i l) := by
  obtain ⟨e0, e1⟩ := dkv_index5 t
  show V c main_v1_1 (((cfg2.win 5).blk t).view.emb (ix2 i l)) = V c main_v1_1 (ix2 i l)
  congr 1
  funext a
  apply Fin.ext
  match a with
  | ⟨0, _⟩ => show win2_5.index t (0 : Fin 2) * 4096 + 1 * i.val = i.val; rw [e0]; omega
  | ⟨1, _⟩ => show win2_5.index t (1 : Fin 2) * 512 + 1 * l.val = l.val; rw [e1]; omega

end Blocks

variable (V : (c : Dev nD) → (b : Ref sig .tc) → Buf (Elt Ideal) ((c : Thread nD τ).loc b)) (c : Dev nD)
variable (H : Fin 4 → Head)
variable (hc : ∀ h, (H h).c = scale)
  (hk : ∀ (h : Fin 4) (i : Fin 4096) (d : Fin 256), V c main_arg1 (ix2 i (wide h d)) = ((H h).k i d : EReal))
  (hv : ∀ (h : Fin 4) (i : Fin 4096) (d : Fin 128), V c main_arg2 (ix2 i (slim h d)) = ((H h).v i d : EReal))
  (hq : ∀ (h : Fin 4) (i : Fin 4096) (d : Fin 256), V c main_arg0 (ix2 i (wide h d)) = ((H h).q i d : EReal))
  (hg : ∀ (h : Fin 4) (i : Fin 4096) (d : Fin 128), V c main_arg3 (ix2 i (slim h d)) = ((H h).g i d : EReal))
  (hl : ∀ (h : Fin 4) (i : Fin 4096) (d : Fin 128), V c main_v0_1 (ix2 i (slim h d)) = (Real.log ((H h).Z i) : EReal))
  (hD : ∀ (h : Fin 4) (i : Fin 4096) (d : Fin 128), V c main_v1_1 (ix2 i (slim h d)) = ((H h).D i : EReal))

include hc hk hv hq hg hl hD in
/-- The array of the keys' gradient. -/
theorem dkv_outk (h : Fin 4) (i : Fin 4096) (d : Fin 256) :
    (Run.dat2 V c).arrAt 6 cfg2.N (ix2 i (wide h d)) = ((H h).DK i d : EReal) := by
  refine (Run.dat2 V c).arrAt_forall_of_covers 6 (fun y v => ∀ (h : Fin 4) (i : Fin 4096) (d : Fin 256), y = ix2 i (wide h d) → v = ((H h).DK i d : EReal))
    (by decide +kernel) (fun t hf y h i d e => ?_) _ (Memref.isWhole_whole _) h i d rfl
  obtain ⟨e0, e1⟩ := dkv_index6 t
  have hi8 := dkv_lt (grid2.coords t)
  have r0 : win2_6.index t (0 : Fin 2) * 512 + 1 * (y 0).val = i.val := congrArg (fun z : S4096x1024.Idx => (z 0).val) e
  have r1 : win2_6.index t (1 : Fin 2) * 1024 + 1 * (y 1).val = 256 * h.val + d.val := congrArg (fun z : S4096x1024.Idx => (z 1).val) e
  rw [e0] at r0
  rw [e1] at r1
  have hy : y = ix2 (⟨(y 0).val, (y 0).isLt⟩ : Fin 512) (wide h d) := by
    funext a
    apply Fin.ext
    match a with
    | ⟨0, _⟩ => rfl
    | ⟨1, _⟩ => show (y 1).val = 256 * h.val + d.val; omega
  rw [hy]
  have key := out2_6_apply H c (grid2.coords t) (Run.ms2_0 t) (Run.hs2_0 t) (Run.ms2_1 t) (Run.hs2_1 t) (Run.ms2_2 t) (Run.hs2_2 t) (Run.ms2_3 t) (Run.hs2_3 t) (Run.ms2_4 t) (Run.hs2_4 t) (Run.ms2_5 t) (Run.hs2_5 t) (Run.ms2_6 t) (Run.hs2_6 t) (Run.ms2_7 t) (Run.hs2_7 t)
    (Run.iblk2 V c 0 t) (Run.iblk2 V c 1 t) (Run.iblk2 V c 2 t) (Run.iblk2 V c 3 t) (Run.iblk2 V c 4 t) (Run.iblk2 V c 5 t) hc (fun h r d => (dkv_blk0 V c t r (wide h d) ⟨_, row_lt hi8 r⟩ rfl).trans (hk h _ d))
    (fun h r d => (dkv_blk1 V c t r (slim h d) ⟨_, row_lt hi8 r⟩ rfl).trans (hv h _ d))
    (fun h j d => (dkv_blk2 V c t j (wide h d)).trans (hq h j d))
    (fun h j d => (dkv_blk3 V c t j (slim h d)).trans (hg h j d))
    (fun h j d => (dkv_blk4 V c t j (slim h d)).trans (hl h j d))
    (fun h j d => (dkv_blk5 V c t j (slim h d)).trans (hD h j d)) h (⟨(y 0).val, (y 0).isLt⟩ : Fin 512) d
  refine Eq.trans ?_ (key.trans ?_)
  · show (Run.dat2 V c).after 6 t (ix2 (⟨(y 0).val, (y 0).isLt⟩ : Fin 512) (wide h d)) = _
    rw [Run.after2_6]
    unfold Run.outsAt2
    dsimp only
  · have : 512 * (grid2.coords t 0).val + (y 0).val = i.val := by omega
    show ((H h).DK (512 * (grid2.coords t 0).val + (y 0).val) d : EReal) = _
    rw [this]

include hc hk hv hq hg hl hD in
/-- The array of the values' gradient. -/
theorem dkv_outv (h : Fin 4) (i : Fin 4096) (d : Fin 128) :
    (Run.dat2 V c).arrAt 7 cfg2.N (ix2 i (slim h d)) = ((H h).DV i d : EReal) := by
  refine (Run.dat2 V c).arrAt_forall_of_covers 7 (fun y v => ∀ (h : Fin 4) (i : Fin 4096) (d : Fin 128), y = ix2 i (slim h d) → v = ((H h).DV i d : EReal))
    (by decide +kernel) (fun t hf y h i d e => ?_) _ (Memref.isWhole_whole _) h i d rfl
  obtain ⟨e0, e1⟩ := dkv_index7 t
  have hi8 := dkv_lt (grid2.coords t)
  have r0 : win2_7.index t (0 : Fin 2) * 512 + 1 * (y 0).val = i.val := congrArg (fun z : S4096x512.Idx => (z 0).val) e
  have r1 : win2_7.index t (1 : Fin 2) * 512 + 1 * (y 1).val = 128 * h.val + d.val := congrArg (fun z : S4096x512.Idx => (z 1).val) e
  rw [e0] at r0
  rw [e1] at r1
  have hy : y = ix2 (⟨(y 0).val, (y 0).isLt⟩ : Fin 512) (slim h d) := by
    funext a
    apply Fin.ext
    match a with
    | ⟨0, _⟩ => rfl
    | ⟨1, _⟩ => show (y 1).val = 128 * h.val + d.val; omega
  rw [hy]
  have key := out2_7_apply H c (grid2.coords t) (Run.ms2_0 t) (Run.hs2_0 t) (Run.ms2_1 t) (Run.hs2_1 t) (Run.ms2_2 t) (Run.hs2_2 t) (Run.ms2_3 t) (Run.hs2_3 t) (Run.ms2_4 t) (Run.hs2_4 t) (Run.ms2_5 t) (Run.hs2_5 t) (Run.ms2_6 t) (Run.hs2_6 t) (Run.ms2_7 t) (Run.hs2_7 t)
    (Run.iblk2 V c 0 t) (Run.iblk2 V c 1 t) (Run.iblk2 V c 2 t) (Run.iblk2 V c 3 t) (Run.iblk2 V c 4 t) (Run.iblk2 V c 5 t) hc (fun h r d => (dkv_blk0 V c t r (wide h d) ⟨_, row_lt hi8 r⟩ rfl).trans (hk h _ d))
    (fun h r d => (dkv_blk1 V c t r (slim h d) ⟨_, row_lt hi8 r⟩ rfl).trans (hv h _ d))
    (fun h j d => (dkv_blk2 V c t j (wide h d)).trans (hq h j d))
    (fun h j d => (dkv_blk3 V c t j (slim h d)).trans (hg h j d))
    (fun h j d => (dkv_blk4 V c t j (slim h d)).trans (hl h j d))
    (fun h j d => (dkv_blk5 V c t j (slim h d)).trans (hD h j d)) h (⟨(y 0).val, (y 0).isLt⟩ : Fin 512) d
  refine Eq.trans ?_ (key.trans ?_)
  · show (Run.dat2 V c).after 7 t (ix2 (⟨(y 0).val, (y 0).isLt⟩ : Fin 512) (slim h d)) = _
    rw [Run.after2_7]
    unfold Run.outsAt2
    dsimp only
  · have : 512 * (grid2.coords t 0).val + (y 0).val = i.val := by omega
    show ((H h).DV (512 * (grid2.coords t 0).val + (y 0).val) d : EReal) = _
    rw [this]

end Cert.KernelIdeal.Att

end
-- ==== Proof.Launch.lean ====
/-
  @main from the launch to the return: what every buffer holds at each boundary between the three regions, the regions
  as segments over that, and the run with its results named.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.RegionFwd
public import proofs.«01_k».proof.Proof.RegionDq
public import proofs.«01_k».proof.Proof.RegionDkv

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- A reference that is none of region 2's OUTPUT arrays keeps its entry contents across it: an input window's
    array is never written back (`Dat.arrAt_in`, `A_eq2`); any other buffer is left as is. -/
theorem W3_of (c : Dev nD) (r : Ref sig .tc) (h : ∀ w : Fin cfg2.W, Pipeline.arrRef spec2 w = r → (cfg2.win w).isOut = false) :
    W3 m ρ c (Proc.devRef .tc r) = W2 m ρ c (Proc.devRef .tc r) := by
  by_cases hw : ∃ w : Fin cfg2.W, Pipeline.arrRef spec2 w = r
  · obtain ⟨w, rfl⟩ := hw
    exact (W3_arr m ρ c w).trans (((dat2 (V2 m ρ) c).arrAt_in w (h w rfl) _).trans (A_eq2 (V2 m ρ) c w))
  · exact W3_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn2 a ha)).trans (W2_args m ρ c a ha)
/-- The same read at the TensorCore's references (region 2's exit contents). -/
abbrev V3 : (c : Dev nD) → (b : Ref sig .tc) → Buf (Elt F) ((c : Thread nD τ).loc b) := fun c b => W3 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) (A_eq2 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN, over any float operations: @main run from any memory returns, with the four results at the contents the
    regions leave (`W3`), the arguments as launched, and every semaphore counter at zero. -/
theorem run_main : θ_run defs (onTc (τ := τ) (main (F := F))) ⟨m, fun _ => 0, ρ⟩ (fun r => (∀ c : Dev nD,
      r.2.mem ((c.tc : Thread nD τ).loc main_v0_0) = W3 m ρ c (Proc.devRef .tc main_v0_0)
      ∧ r.2.mem ((c.tc : Thread nD τ).loc main_v1_0) = W3 m ρ c (Proc.devRef .tc main_v1_0)
      ∧ r.2.mem ((c.tc : Thread nD τ).loc main_v2_0) = W3 m ρ c (Proc.devRef .tc main_v2_0)
      ∧ r.2.mem ((c.tc : Thread nD τ).loc main_v2_1) = W3 m ρ c (Proc.devRef .tc main_v2_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨h c _ (mem_uc main_v0_0 (by decide)),
       h c _ (mem_uc main_v1_0 (by decide)),
       h c _ (mem_uc main_v2_0 (by decide)),
       h c _ (mem_uc main_v2_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩), funext fun g => hz g (.inr (no_unscoped g.2))⟩)

end Cert.KernelIdeal.Run

end
-- ==== Proof.KernelValue.lean ====
/-
  What the three calls leave in the four result arrays, from the four arguments.
-/
module

public import proofs.«01_k».proof.Proof.DqArray
public import proofs.«01_k».proof.Proof.DkvArray
public import proofs.«01_k».proof.Proof.Launch

@[expose] public section

set_option maxRecDepth 16384

noncomputable section

open Idealize.ShloMosaic Idealize.ShloMosaic.TcCoe Idealize.ShloMosaic.Tactic

namespace Cert.KernelIdeal.Att

open Cert.KernelIdeal Cert.KernelIdeal.Gen Cert.Att

variable (m : (ℓ : Loc nD τ sig) → Buf (Elt Ideal) ℓ) (ρ : Dev nD → PrngReg) (c : Dev nD)
variable (H : Fin 4 → Head)
variable (hc : ∀ h, (H h).c = scale)
  (hq : ∀ (h : Fin 4) (i : Fin 4096) (d : Fin 256), m ((c : Thread nD τ).loc main_arg0) (ix2 i (wide h d)) = ((H h).q i d : EReal))
  (hk : ∀ (h : Fin 4) (i : Fin 4096) (d : Fin 256), m ((c : Thread nD τ).loc main_arg1) (ix2 i (wide h d)) = ((H h).k i d : EReal))
  (hv : ∀ (h : Fin 4) (i : Fin 4096) (d : Fin 128), m ((c : Thread nD τ).loc main_arg2) (ix2 i (slim h d)) = ((H h).v i d : EReal))
  (hg : ∀ (h : Fin 4) (i : Fin 4096) (d : Fin 128), m ((c : Thread nD τ).loc main_arg3) (ix2 i (slim h d)) = ((H h).g i d : EReal))

/-- The arguments as the second call finds them. -/
theorem args1 (a : Ref sig .tc) (ha : a ∈ Run.argRefs) : Run.V1 m ρ c a = m ((c : Thread nD τ).loc a) := Run.W1_args m ρ c a ha
/-- The arguments as the third call finds them. -/
theorem args2 (a : Ref sig .tc) (ha : a ∈ Run.argRefs) : Run.V2 m ρ c a = m ((c : Thread nD τ).loc a) := Run.W2_args m ρ c a ha

include hc hq hk hv

/-- The first call's output, as the second finds it. -/
theorem v1_out (h : Fin 4) (i : Fin 4096) (d : Fin 128) : Run.V1 m ρ c main_v0_0 (ix2 i (slim h d)) = ((H h).O i d : EReal) :=
  (congrFun (Run.W1_arr m ρ c 3) _).trans (fwd_out (Run.V0 m ρ) c H hc hq hk hv h i d)
/-- The first call's log-sums, as the second finds them. -/
theorem v1_lse (h : Fin 4) (i : Fin 4096) (d : Fin 128) : Run.V1 m ρ c main_v0_1 (ix2 i (slim h d)) = (Real.log ((H h).Z i) : EReal) :=
  (congrFun (Run.W1_arr m ρ c 4) _).trans (fwd_lse (Run.V0 m ρ) c H hc hq hk hv h i d)
/-- The first call's log-sums, as the third finds them. -/
theorem v2_lse (h : Fin 4) (i : Fin 4096) (d : Fin 128) : Run.V2 m ρ c main_v0_1 (ix2 i (slim h d)) = (Real.log ((H h).Z i) : EReal) :=
  (congrFun (Run.W2_of m ρ c main_v0_1 (by decide +kernel)) _).trans (v1_lse m ρ c H hc hq hk hv h i d)

include hg

/-- The second call's inner products, as the third finds them. -/
theorem v2_dot (h : Fin 4) (i : Fin 4096) (d : Fin 128) : Run.V2 m ρ c main_v1_1 (ix2 i (slim h d)) = ((H h).D i : EReal) :=
  (congrFun (Run.W2_arr m ρ c 7) _).trans (dq_dot (Run.V1 m ρ) c H (v1_out m ρ c H hc hq hk hv)
    (fun h i d => (congrFun (args1 m ρ c main_arg3 (by decide)) _).trans (hg h i d)) h i d)

omit hg in
/-- The output at the end. -/
theorem end_out (h : Fin 4) (i : Fin 4096) (d : Fin 128) :
    Run.W3 m ρ c (Proc.devRef .tc main_v0_0) (ix2 i (slim h d)) = ((H h).O i d : EReal) :=
  ((congrFun (Run.W3_of m ρ c main_v0_0 (by decide +kernel)) _).trans (congrFun (Run.W2_of m ρ c main_v0_0 (by decide +kernel)) _)).trans
    (v1_out m ρ c H hc hq hk hv h i d)

/-- The queries' gradient at the end. -/
theorem end_dq (h : Fin 4) (i : Fin 4096) (d : Fin 256) :
    Run.W3 m ρ c (Proc.devRef .tc main_v1_0) (ix2 i (wide h d)) = ((H h).DQ i d : EReal) :=
  ((congrFun (Run.W3_of m ρ c main_v1_0 (by decide +kernel)) _).trans (congrFun (Run.W2_arr m ρ c 6) _)).trans
    (dq_out (Run.V1 m ρ) c H hc (fun h i d => (congrFun (args1 m ρ c main_arg0 (by decide)) _).trans (hq h i d))
      (fun h i d => (congrFun (args1 m ρ c main_arg1 (by decide)) _).trans (hk h i d))
      (fun h i d => (congrFun (args1 m ρ c main_arg2 (by decide)) _).trans (hv h i d))
      (v1_out m ρ c H hc hq hk hv) (v1_lse m ρ c H hc hq hk hv)
      (fun h i d => (congrFun (args1 m ρ c main_arg3 (by decide)) _).trans (hg h i d)) h i d)

/-- The keys' gradient at the end. -/
theorem end_dk (h : Fin 4) (i : Fin 4096) (d : Fin 256) :
    Run.W3 m ρ c (Proc.devRef .tc main_v2_0) (ix2 i (wide h d)) = ((H h).DK i d : EReal) :=
  (congrFun (Run.W3_arr m ρ c 6) _).trans
    (dkv_outk (Run.V2 m ρ) c H hc (fun h i d => (congrFun (args2 m ρ c main_arg1 (by decide)) _).trans (hk h i d))
      (fun h i d => (congrFun (args2 m ρ c main_arg2 (by decide)) _).trans (hv h i d))
      (fun h i d => (congrFun (args2 m ρ c main_arg0 (by decide)) _).trans (hq h i d))
      (fun h i d => (congrFun (args2 m ρ c main_arg3 (by decide)) _).trans (hg h i d))
      (v2_lse m ρ c H hc hq hk hv) (v2_dot m ρ c H hc hq hk hv hg) h i d)

/-- The values' gradient at the end. -/
theorem end_dv (h : Fin 4) (i : Fin 4096) (d : Fin 128) :
    Run.W3 m ρ c (Proc.devRef .tc main_v2_1) (ix2 i (slim h d)) = ((H h).DV i d : EReal) :=
  (congrFun (Run.W3_arr m ρ c 7) _).trans
    (dkv_outv (Run.V2 m ρ) c H hc (fun h i d => (congrFun (args2 m ρ c main_arg1 (by decide)) _).trans (hk h i d))
      (fun h i d => (congrFun (args2 m ρ c main_arg2 (by decide)) _).trans (hv h i d))
      (fun h i d => (congrFun (args2 m ρ c main_arg0 (by decide)) _).trans (hq h i d))
      (fun h i d => (congrFun (args2 m ρ c main_arg3 (by decide)) _).trans (hg h i d))
      (v2_lse m ρ c H hc hq hk hv) (v2_dot m ρ c H hc hq hk hv hg) h i d)

end Cert.KernelIdeal.Att

end
-- ==== Proof.Reference.lean ====
/-
  The reference's four results, entry by entry: the output of causal softmax attention and the gradients that reverse
  differentiation gives, over the real numbers of one head. The reference subtracts each row's largest score before
  the exponential; that number is written `μ` below and cancels.
-/
module

public import proofs.«01_k».proof.Proof.Softmax
public import proofs.«01_k».proof.Proof.Gen.ReferenceIdeal.Read

@[expose] public section

set_option maxRecDepth 16384

noncomputable section

open Idealize.ShloMosaic Idealize.ShloMosaic.TcCoe Idealize.ShloMosaic.StableHlo

namespace Cert.ReferenceIdeal.Att

open Cert.ReferenceIdeal Cert.ReferenceIdeal.Gen Cert.ReferenceIdeal.Read Cert.Att

/-- An array of queries or keys: four heads of 256 columns. -/
abbrev Wide := (⟨S4096x1024, .bf16⟩ : BufTy).Contents (Elt Ideal)
/-- An array of values or outputs: four heads of 128 columns. -/
abbrev Slim := (⟨S4096x512, .bf16⟩ : BufTy).Contents (Elt Ideal)

/-- Division of real numbers among the extended reals. -/
theorem div_real (x : ℝ) {y : ℝ} (h : y ≠ 0) : Ideal.div (x : EReal) (y : EReal) = ((x / y : ℝ) : EReal) := by
  rw [Ideal.div_coe h, ← EReal.coe_mul]; congr 1; ring

/-- The word of `-∞`. -/
theorem word_bot : Ideal.ofBits .f32 0xFF800000#32 = ⊥ := by simp [Ideal.ofBits, Ideal.ieee]
/-- The word of zero. -/
theorem word_zero : Ideal.ofBits .f32 0x00000000#32 = 0 := by simp [Ideal.ofBits, Ideal.ieee]
/-- The word of one. -/
theorem word_one : Ideal.ofBits .f32 0x3F800000#32 = ((1 : ℝ) : EReal) := by
  simp [Ideal.ofBits, Ideal.ieee]
  rw [← EReal.coe_mul]
  norm_num

variable (x0 x1 : Wide) (x2 x3 : Slim) (H : ℕ → Head)
variable (hq : ∀ i : S4096x1024.Idx, x0 i = ((H ((i 1).val / 256)).q (i 0).val ((i 1).val % 256) : EReal))
  (hk : ∀ i : S4096x1024.Idx, x1 i = ((H ((i 1).val / 256)).k (i 0).val ((i 1).val % 256) : EReal))
  (hv : ∀ i : S4096x512.Idx, x2 i = ((H ((i 1).val / 128)).v (i 0).val ((i 1).val % 128) : EReal))
  (hg : ∀ i : S4096x512.Idx, x3 i = ((H ((i 1).val / 128)).g (i 0).val ((i 1).val % 128) : EReal))
  (hc : ∀ n, Ideal.ofBits .f32 0x3D93CD3A#32 = ((H n).c : EReal))

/-- A flat index of a reshaped array, taken apart: row, head and column of a width `w`. -/
theorem split_idx (w n h d W : ℕ) (hW : W = 4 * w) (hh : h < 4) (hd : d < w) :
    ((n * 4 + h) * w + d) / W = n ∧ ((n * 4 + h) * w + d) % W / w = h ∧ ((n * 4 + h) * w + d) % W % w = d := by
  subst hW
  have e : (n * 4 + h) * w + d = (h * w + d) + 4 * w * n := by ring
  have hlt : h * w + d < 4 * w := by nlinarith
  rw [e, Nat.add_mul_div_left _ _ (by omega), Nat.add_mul_mod_self_left, Nat.mod_eq_of_lt hlt, Nat.div_eq_of_lt hlt, zero_add]
  refine ⟨rfl, ?_, ?_⟩
  · rw [Nat.add_comm, Nat.add_mul_div_right _ _ (by omega), Nat.div_eq_of_lt hd, zero_add]
  · rw [Nat.add_comm, Nat.add_mul_mod_self_right, Nat.mod_eq_of_lt hd]

include hq in
/-- The queries by row, head and column. -/
theorem r_q (i : S4096x4x256.Idx) : val_main_v0 (F := Ideal) x0 i = ((H (i 1).val).q (i 0).val (i 2).val : EReal) := by
  obtain ⟨e0, e1, e2⟩ := split_idx 256 (i 0).val (i 1).val (i 2).val 1024 rfl (i 1).isLt (i 2).isLt
  rw [val_main_v0_apply, hq]
  show ((H (_ % 1024 / 256)).q (_ / 1024) (_ % 1024 % 256) : EReal) = _
  rw [e0, e1, e2]

include hk in
/-- The keys by row, head and column. -/
theorem r_k (i : S4096x4x256.Idx) : val_main_v1 (F := Ideal) x1 i = ((H (i 1).val).k (i 0).val (i 2).val : EReal) := by
  obtain ⟨e0, e1, e2⟩ := split_idx 256 (i 0).val (i 1).val (i 2).val 1024 rfl (i 1).isLt (i 2).isLt
  rw [val_main_v1_apply, hk]
  show ((H (_ % 1024 / 256)).k (_ / 1024) (_ % 1024 % 256) : EReal) = _
  rw [e0, e1, e2]

include hv in
/-- The values by row, head and column. -/
theorem r_v (i : S4096x4x128.Idx) : val_main_v2 (F := Ideal) x2 i = ((H (i 1).val).v (i 0).val (i 2).val : EReal) := by
  obtain ⟨e0, e1, e2⟩ := split_idx 128 (i 0).val (i 1).val (i 2).val 512 rfl (i 1).isLt (i 2).isLt
  rw [val_main_v2_apply, hv]
  show ((H (_ % 512 / 128)).v (_ / 512) (_ % 512 % 128) : EReal) = _
  rw [e0, e1, e2]

include hg in
/-- The output's gradient by row, head and column. -/
theorem r_g (i : S4096x4x128.Idx) : val_main_v46 (F := Ideal) x3 i = ((H (i 1).val).g (i 0).val (i 2).val : EReal) := by
  obtain ⟨e0, e1, e2⟩ := split_idx 128 (i 0).val (i 1).val (i 2).val 512 rfl (i 1).isLt (i 2).isLt
  rw [val_main_v46_apply, hg]
  show ((H (_ % 512 / 128)).g (_ / 512) (_ % 512 % 128) : EReal) = _
  rw [e0, e1, e2]

include hg in
/-- The output's gradient by head, column and row. -/
theorem r_gt (i : S4x128x4096.Idx) : val_main_v48 (F := Ideal) x3 i = ((H (i 0).val).g (i 2).val (i 1).val : EReal) := by
  rw [val_main_v48_apply, val_main_v47_apply, Ideal.extf_def, r_g x3 H hg]

include hq hk hc in
/-- The scaled scores. -/
theorem r_sc (i : S4x4096x4096.Idx) :
    val_main_v5 (F := Ideal) x0 x1 i = ((H (i 0).val).sc (i 1).val (i 2).val : EReal) := by
  rw [val_main_v5_apply, val_main_v4_apply, val_main_cst_apply, Ideal.ofBits_def, Ideal.mulf_def, hc (i 0).val, val_main_v3_apply,
    Finset.sum_congr rfl fun k _ => congrArg₂ (· * ·) (r_q x0 H hq (lidx_main_v3 i k)) (r_k x1 H hk (ridx_main_v3 i k))]
  unfold Head.sc
  rw [EReal.coe_mul, coe_sum]
  simp only [EReal.coe_mul]

/-- The causal mask: whether the key comes no later than the query. -/
theorem r_mask (i : S4x4096x4096.Idx) : val_main_v12_1 (F := Ideal) i = BitVec.ofBool (decide ((i 2).val ≤ (i 1).val)) := by
  have h1 : (i 1).val < 4096 := (i 1).isLt
  have h2 : (i 2).val < 4096 := (i 2).isLt
  have h : ∀ x : ℕ, x < 4096 → (BitVec.ofNat 32 x).toInt = x := by
    intro x hx
    rw [BitVec.toInt_eq_toNat_of_lt] <;> rw [BitVec.toNat_ofNat, Nat.mod_eq_of_lt (by omega)]; omega
  rw [val_main_v12_1_apply, val_main_v11_apply, val_main_v9_apply, val_main_v10_apply, val_main_v7_apply, val_main_v8_apply,
    val_main_v6_apply, val_main_v6_apply]
  show BitVec.ofBool (BitVec.sle (BitVec.ofNat 32 (i 2).val) (BitVec.ofNat 32 (i 1).val)) = _
  unfold BitVec.sle
  rw [h _ h1, h _ h2]
  exact congrArg BitVec.ofBool (decide_eq_decide.2 (by omega))

/-- A choice by the mask. -/
theorem sel_mask (p : Prop) [Decidable p] (a b : EReal) :
    Scalar.select (BitVec.ofBool (decide p)) a b = if p then a else b := by
  by_cases h : p <;> simp [h, Scalar.select]

include hq hk hc in
/-- The masked scores. -/
theorem r_msc (i : S4x4096x4096.Idx) : val_main_v12_0 (F := Ideal) x0 x1 i
    = if (i 2).val ≤ (i 1).val then ((H (i 0).val).sc (i 1).val (i 2).val : EReal) else ⊥ := by
  rw [val_main_v12_0_apply, r_mask, r_sc x0 x1 H hq hk hc, val_main_call0_v2_apply, val_main_call0_v0_apply, val_main_cst_0_apply,
    Ideal.ofBits_def, word_bot]
  exact sel_mask _ _ _

include hq hk hc in
/-- Every row's largest score is a real number. -/
theorem max_real (i : S4x4096.Idx) : ∃ μ : ℝ, val_main_v13 (F := Ideal) x0 x1 i = (μ : EReal) := by
  unfold val_main_v13
  have hr : (⟨3, ![4, 4096, 4096]⟩ : Shape).Reduces [2] (⟨2, ![4, 4096]⟩ : Shape) := by decide
  rw [Host.reduce_eq_fold_single (FloatOps.maximumf (F := Ideal) (φ := .f32)) _ _ reducesTo_S4x4096x4096_S4x4096_d2 hr h_S_ i]
  rw [val_main_cst_1_apply, Ideal.ofBits_def, word_bot]
  refine fold_max_real (n := 4096) (val_main_v12_0 (F := Ideal) x0 x1 ∘ hr.lift i) (fun c => ?_) ⟨(i 1).val, (i 1).isLt⟩ ?_
  · show val_main_v12_0 (F := Ideal) x0 x1 (hr.lift i c) ≠ ⊤
    rw [r_msc x0 x1 H hq hk hc]
    split <;> simp
  · show val_main_v12_0 (F := Ideal) x0 x1 (hr.lift i _) ≠ ⊥
    rw [r_msc x0 x1 H hq hk hc, if_pos]
    · simp
    · exact le_rfl

variable (μ : ℕ → ℕ → ℝ) (hμ : ∀ i : S4x4096.Idx, val_main_v13 (F := Ideal) x0 x1 i = (μ (i 0).val (i 1).val : EReal))

include hq hk hc hμ

/-- The exponential of a masked score less its row's largest. -/
theorem r_e (i : S4x4096x4096.Idx) : val_main_v33 (F := Ideal) x0 x1 i
    = ((Real.exp (-μ (i 0).val (i 1).val) * (H (i 0).val).E (i 1).val (i 2).val : ℝ) : EReal) := by
  rw [val_main_v33_apply, val_main_v32_apply, val_main_v31_apply, val_main_v30_apply, val_main_v20_apply, val_main_v19_apply,
    val_main_cst_3_apply, Ideal.ofBits_def, word_bot, hμ, r_msc x0 x1 H hq hk hc, Ideal.hostUnary_exp_def, Ideal.subf_def,
    Ideal.maximumf_def, max_eq_right bot_le]
  show Ideal.exp ((if (i 2).val ≤ (i 1).val then _ else _) - ((μ (i 0).val (i 1).val : ℝ) : EReal)) = _
  unfold Head.E
  split
  · rw [← EReal.coe_sub, Ideal.exp_coe, ← Real.exp_add]; congr 2; ring
  · rw [EReal.bot_sub, Ideal.exp_bot]; simp

/-- A row's sum of exponentials. -/
theorem r_z (i : S4x4096.Idx) : val_main_v34 (F := Ideal) x0 x1 i
    = ((Real.exp (-μ (i 0).val (i 1).val) * (H (i 0).val).Z (i 1).val : ℝ) : EReal) := by
  rw [val_main_v34_apply, val_main_cst_9_apply, Ideal.ofBits_def, word_zero, zero_add,
    Finset.sum_congr rfl fun k _ => r_e x0 x1 H hq hk hc μ hμ (idx_main_v34 i k), ← coe_sum]
  unfold Head.Z
  rw [Finset.mul_sum, Finset.sum_range]

omit hq hk hc hμ in
/-- A row's sum of exponentials is not zero. -/
theorem z_ne (i : S4x4096x4096.Idx) : Real.exp (-μ (i 0).val (i 1).val) * (H (i 0).val).Z (i 1).val ≠ 0 :=
  mul_ne_zero (Real.exp_pos _).ne' ((H _).Z_pos (i 1).isLt).ne'

/-- The softmax probabilities. -/
theorem r_p (i : S4x4096x4096.Idx) : val_main_v37 (F := Ideal) x0 x1 i = ((H (i 0).val).P (i 1).val (i 2).val : EReal) := by
  have h := z_ne H μ i
  rw [val_main_v37_apply, val_main_v36_apply, val_main_v35_apply, r_e x0 x1 H hq hk hc μ hμ, r_z x0 x1 H hq hk hc μ hμ,
    Ideal.hostDivf_def]
  refine (div_real _ h).trans ?_
  congr 1
  unfold Head.P
  exact mul_div_mul_left _ _ (Real.exp_pos _).ne'

include hv in
/-- The output by head, column and row. -/
theorem r_o (i : S4x128x4096.Idx) : val_main_v42 (F := Ideal) x0 x1 x2 i = ((H (i 0).val).O (i 2).val (i 1).val : EReal) := by
  rw [val_main_v42_apply, Finset.sum_congr rfl fun k _ => congrArg₂ (· * ·) (r_v x2 H hv (lidx_main_v42 i k))
    ((val_main_v41_apply (F := Ideal) x0 x1 (ridx_main_v42 i k)).trans (r_p x0 x1 H hq hk hc μ hμ (ridx_main_v42 i k)))]
  unfold Head.O
  rw [Finset.sum_range, coe_sum]
  exact Finset.sum_congr rfl fun k _ => by rw [EReal.coe_mul, mul_comm]

include hg in
/-- The values' gradient by head, column and row. -/
theorem r_dv (i : S4x128x4096.Idx) : val_main_v51 (F := Ideal) x0 x1 x3 i = ((H (i 0).val).DV (i 2).val (i 1).val : EReal) := by
  rw [val_main_v51_apply, Finset.sum_congr rfl fun k _ => congrArg₂ (· * ·) (r_gt x3 H hg (lidx_main_v51 i k))
    ((val_main_v41_apply (F := Ideal) x0 x1 (ridx_main_v51 i k)).trans (r_p x0 x1 H hq hk hc μ hμ (ridx_main_v51 i k)))]
  unfold Head.DV
  rw [Finset.sum_range, coe_sum]
  exact Finset.sum_congr rfl fun k _ => by rw [EReal.coe_mul, mul_comm]

include hv hg

omit hq hk hc hμ in
/-- The gradient with respect to a probability. -/
theorem r_dp (i : S4x4096x4096.Idx) : val_main_v54 (F := Ideal) x2 x3 i = ((H (i 0).val).DP (i 1).val (i 2).val : EReal) := by
  rw [val_main_v54_apply, val_main_v50_apply, Ideal.extf_def, Ideal.truncf_def, val_main_v49_apply,
    Finset.sum_congr rfl fun k _ => congrArg₂ (· * ·) (r_gt x3 H hg (lidx_main_v49 i k)) (r_v x2 H hv (ridx_main_v49 i k))]
  unfold Head.DP
  rw [coe_sum]
  exact Finset.sum_congr rfl fun k _ => (EReal.coe_mul _ _).symm

/-- One term of the gradient of a row's sum of exponentials. -/
theorem r_t (i : S4x4096x4096.Idx) : val_main_v57 (F := Ideal) x0 x1 x2 x3 i
    = (((H (i 0).val).P (i 1).val (i 2).val * (H (i 0).val).DP (i 1).val (i 2).val
        / (Real.exp (-μ (i 0).val (i 1).val) * (H (i 0).val).Z (i 1).val) : ℝ) : EReal) := by
  have h := z_ne H μ i
  rw [val_main_v57_apply, val_main_v56_apply, val_main_v55_apply, val_main_v40_apply, val_main_v39_apply, val_main_cst_10_apply,
    val_main_v38_apply, val_main_v35_apply, r_z x0 x1 H hq hk hc μ hμ, r_e x0 x1 H hq hk hc μ hμ, r_dp x2 x3 H hv hg,
    Ideal.ofBits_def, word_one, Ideal.hostDivf_def, Ideal.mulf_def, Ideal.mulf_def, Ideal.mulf_def, ← EReal.coe_mul]
  refine (congrArg (fun y => ((H (i 0).val).DP (i 1).val (i 2).val : EReal) * y
    * ((Real.exp (-μ (i 0).val (i 1).val) * (H (i 0).val).E (i 1).val (i 2).val : ℝ) : EReal)) (div_real 1 (mul_ne_zero h h))).trans ?_
  rw [← EReal.coe_mul, ← EReal.coe_mul]
  congr 1
  have he := (Real.exp_pos (-μ (i 0).val (i 1).val)).ne'
  have hz := right_ne_zero_of_mul h
  unfold Head.P
  field_simp

/-- The gradient of a row's sum of exponentials, with its sign. -/
theorem r_u (i : S4x4096.Idx) : val_main_v63 (F := Ideal) x0 x1 x2 x3 i
    = ((-((H (i 0).val).D (i 1).val / (Real.exp (-μ (i 0).val (i 1).val) * (H (i 0).val).Z (i 1).val)) : ℝ) : EReal) := by
  have hd : ∀ j : S4x4096.Idx, val_main_v58 (F := Ideal) x0 x1 x2 x3 j
      = (((H (j 0).val).D (j 1).val / (Real.exp (-μ (j 0).val (j 1).val) * (H (j 0).val).Z (j 1).val) : ℝ) : EReal) := by
    intro j
    rw [val_main_v58_apply, val_main_cst_11_apply, Ideal.ofBits_def, word_zero, zero_add,
      Finset.sum_congr rfl fun k _ => r_t x0 x1 x2 x3 H hq hk hv hg hc μ hμ (idx_main_v58 j k), ← coe_sum, Head.D_eq,
      Finset.sum_div, Finset.sum_range]
  have h0 : (i 0).val < 4 := (i 0).isLt
  have h1 : (i 1).val < 4096 := (i 1).isLt
  rw [val_main_v63_apply, val_main_cst_12_apply, Ideal.ofBits_def, word_zero, zero_add, Fin.sum_univ_one, val_main_v60_apply,
    val_main_v59_apply, hd, Ideal.hostNegf_def, Ideal.negf_def, ← EReal.coe_neg]
  have e0 : ((idx_main_v59 (idx_main_v63 i 0)) 0).val = (i 0).val := by
    show (((i 0).val * 4096 + (i 1).val) * 1 + 0) / 4096 = (i 0).val
    omega
  have e1 : ((idx_main_v59 (idx_main_v63 i 0)) 1).val = (i 1).val := by
    show (((i 0).val * 4096 + (i 1).val) * 1 + 0) % 4096 = (i 1).val
    omega
  rw [e0, e1]

/-- The gradient with respect to an unscaled score. -/
theorem r_ds (i : S4x4096x4096.Idx) : val_main_v69 (F := Ideal) x0 x1 x2 x3 i = ((H (i 0).val).DS (i 1).val (i 2).val : EReal) := by
  have h := z_ne H μ i
  rw [val_main_v69_apply, val_main_v68_apply, val_main_cst_13_apply, val_main_v67_apply, r_mask, val_main_call1_v0_apply,
    val_main_call1_cst_apply, val_main_v66_apply, val_main_v65_apply, val_main_v64_apply, val_main_v62_apply, val_main_v61_apply,
    val_main_v35_apply, r_z x0 x1 H hq hk hc μ hμ, r_e x0 x1 H hq hk hc μ hμ, r_dp x2 x3 H hv hg,
    r_u x0 x1 x2 x3 H hq hk hv hg hc μ hμ, Ideal.ofBits_def, Ideal.ofBits_def, word_zero, hc (i 0).val, Ideal.mulf_def,
    Ideal.mulf_def, Ideal.addf_def, Ideal.hostDivf_def]
  rw [sel_mask]
  refine (congrArg (fun y : EReal => (if (i 2).val ≤ (i 1).val then (y + ((-((H (i 0).val).D (i 1).val
    / (Real.exp (-μ (i 0).val (i 1).val) * (H (i 0).val).Z (i 1).val)) : ℝ) : EReal))
    * ((Real.exp (-μ (i 0).val (i 1).val) * (H (i 0).val).E (i 1).val (i 2).val : ℝ) : EReal) else 0) * ((H (i 0).val).c : EReal))
    (div_real ((H (i 0).val).DP (i 1).val (i 2).val) h)).trans ?_
  split
  · rw [← EReal.coe_add, ← EReal.coe_mul, ← EReal.coe_mul]
    congr 1
    have he := (Real.exp_pos (-μ (i 0).val (i 1).val)).ne'
    have hz := right_ne_zero_of_mul h
    unfold Head.DS Head.P
    field_simp
    ring
  · rename_i hlt
    rw [Head.DS_of_lt _ (by omega), zero_mul]; simp

/-- The keys' gradient by head, row and column. -/
theorem r_dk (i : S4x4096x256.Idx) : val_main_v70 (F := Ideal) x0 x1 x2 x3 i = ((H (i 0).val).DK (i 1).val (i 2).val : EReal) := by
  rw [val_main_v70_apply, Finset.sum_congr rfl fun k _ => congrArg₂ (· * ·)
    (r_ds x0 x1 x2 x3 H hq hk hv hg hc μ hμ (lidx_main_v70 i k)) (r_q x0 H hq (ridx_main_v70 i k))]
  unfold Head.DK
  rw [Finset.sum_range, coe_sum]
  exact Finset.sum_congr rfl fun k _ => (EReal.coe_mul _ _).symm

/-- The queries' gradient by head, row and column. -/
theorem r_dq (i : S4x4096x256.Idx) : val_main_v73 (F := Ideal) x0 x1 x2 x3 i = ((H (i 0).val).DQ (i 1).val (i 2).val : EReal) := by
  rw [val_main_v73_apply, Finset.sum_congr rfl fun k _ => congrArg₂ (· * ·)
    (r_ds x0 x1 x2 x3 H hq hk hv hg hc μ hμ (lidx_main_v73 i k)) (r_k x1 H hk (ridx_main_v73 i k))]
  unfold Head.DQ
  rw [Finset.sum_range, coe_sum]
  exact Finset.sum_congr rfl fun k _ => (EReal.coe_mul _ _).symm

omit hq hk hc hμ hv hg in
/-- A column of a flat array, put in its place of the reshaped one. -/
theorem join_idx (w n e W : ℕ) (hw : 0 < w) (hW : W = 4 * w) (he : e < W) :
    (n * W + e) / W = n ∧ (n * W + e) / w % 4 = e / w ∧ (n * W + e) % w = e % w := by
  subst hW
  have h4 : e / w < 4 := (Nat.div_lt_iff_lt_mul hw).2 he
  refine ⟨?_, ?_, ?_⟩
  · rw [Nat.mul_comm, Nat.mul_add_div (by omega), Nat.div_eq_of_lt he, add_zero]
  · rw [show n * (4 * w) + e = w * (4 * n) + e by ring, Nat.mul_add_div hw, Nat.mul_add_mod, Nat.mod_eq_of_lt h4]
  · rw [show n * (4 * w) + e = w * (n * 4) + e by ring, Nat.mul_add_mod]

omit hg in
/-- The first result: the output. -/
theorem ref_out (i : S4096x512.Idx) :
    val_main_v45 (F := Ideal) x0 x1 x2 i = ((H ((i 1).val / 128)).O (i 0).val ((i 1).val % 128) : EReal) := by
  obtain ⟨e0, e1, e2⟩ := join_idx 128 (i 0).val (i 1).val 512 (by omega) rfl (i 1).isLt
  rw [val_main_v45_apply, val_main_v44_apply, Ideal.truncf_def, val_main_v43_apply, r_o x0 x1 x2 H hq hk hv hc μ hμ]
  show ((H (_ / 128 % 4)).O (_ / 512) (_ % 128) : EReal) = _
  rw [e0, e1, e2]

omit hv in
/-- The fourth result: the values' gradient. -/
theorem ref_dv (i : S4096x512.Idx) :
    val_main_v76 (F := Ideal) x0 x1 x3 i = ((H ((i 1).val / 128)).DV (i 0).val ((i 1).val % 128) : EReal) := by
  obtain ⟨e0, e1, e2⟩ := join_idx 128 (i 0).val (i 1).val 512 (by omega) rfl (i 1).isLt
  rw [val_main_v76_apply, val_main_v53_apply, Ideal.truncf_def, val_main_v52_apply, r_dv x0 x1 x3 H hq hk hg hc μ hμ]
  show ((H (_ / 128 % 4)).DV (_ / 512) (_ % 128) : EReal) = _
  rw [e0, e1, e2]

/-- The third result: the keys' gradient. -/
theorem ref_dk (i : S4096x1024.Idx) :
    val_main_v77 (F := Ideal) x0 x1 x2 x3 i = ((H ((i 1).val / 256)).DK (i 0).val ((i 1).val % 256) : EReal) := by
  obtain ⟨e0, e1, e2⟩ := join_idx 256 (i 0).val (i 1).val 1024 (by omega) rfl (i 1).isLt
  rw [val_main_v77_apply, val_main_v72_apply, Ideal.truncf_def, val_main_v71_apply, r_dk x0 x1 x2 x3 H hq hk hv hg hc μ hμ]
  show ((H (_ / 256 % 4)).DK (_ / 1024) (_ % 256) : EReal) = _
  rw [e0, e1, e2]

/-- The second result: the queries' gradient. -/
theorem ref_dq (i : S4096x1024.Idx) :
    val_main_v78 (F := Ideal) x0 x1 x2 x3 i = ((H ((i 1).val / 256)).DQ (i 0).val ((i 1).val % 256) : EReal) := by
  obtain ⟨e0, e1, e2⟩ := join_idx 256 (i 0).val (i 1).val 1024 (by omega) rfl (i 1).isLt
  rw [val_main_v78_apply, val_main_v75_apply, Ideal.truncf_def, val_main_v74_apply, r_dq x0 x1 x2 x3 H hq hk hv hg hc μ hμ]
  show ((H (_ / 256 % 4)).DQ (_ / 1024) (_ % 256) : EReal) = _
  rw [e0, e1, e2]

omit hq hk hc hμ hv hg in
include hq hk hc in
/-- The rows' largest scores as one function. -/
theorem exists_max : ∃ μ : ℕ → ℕ → ℝ, ∀ i : S4x4096.Idx, val_main_v13 (F := Ideal) x0 x1 i = (μ (i 0).val (i 1).val : EReal) := by
  choose f hf using max_real x0 x1 H hq hk hc
  refine ⟨fun a b => if h : a < 4 ∧ b < 4096 then f (fun x => match x with | ⟨0, _⟩ => ⟨a, h.1⟩ | ⟨1, _⟩ => ⟨b, h.2⟩) else 0, fun i => ?_⟩
  have h : (i 0).val < 4 ∧ (i 1).val < 4096 := ⟨(i 0).isLt, (i 1).isLt⟩
  rw [hf i]
  refine congrArg _ (Eq.trans ?_ (dif_pos h).symm)
  refine congrArg f ?_
  funext x
  match x with
  | ⟨0, _⟩ => rfl
  | ⟨1, _⟩ => rfl

end Cert.ReferenceIdeal.Att

end
-- ==== Proof.Agree.lean ====
/-
  The kernel's four results and the reference's are the same arrays, wherever the arguments hold real numbers.
-/
module

public import proofs.«01_k».proof.Proof.KernelValue
public import proofs.«01_k».proof.Proof.Reference
public import proofs.«01_k».proof.Proof.Gen.Pre_finite

@[expose] public section

set_option maxRecDepth 16384

noncomputable section

open Idealize.ShloMosaic Idealize.ShloMosaic.TcCoe Idealize.ShloMosaic.Tactic

namespace Cert.Agree

open Cert.Att Cert.ReferenceIdeal.Att Cert.KernelIdeal.Att

/-- The four heads' real numbers, read off the four argument arrays. -/
def heads (x0 x1 : Wide) (x2 x3 : Slim) (n : ℕ) : Head where
  q i d := if h : i < 4096 ∧ 256 * n + d < 1024 then EReal.toReal (x0 (ix2 ⟨i, h.1⟩ ⟨256 * n + d, h.2⟩)) else 0
  k i d := if h : i < 4096 ∧ 256 * n + d < 1024 then EReal.toReal (x1 (ix2 ⟨i, h.1⟩ ⟨256 * n + d, h.2⟩)) else 0
  v i d := if h : i < 4096 ∧ 128 * n + d < 512 then EReal.toReal (x2 (ix2 ⟨i, h.1⟩ ⟨128 * n + d, h.2⟩)) else 0
  g i d := if h : i < 4096 ∧ 128 * n + d < 512 then EReal.toReal (x3 (ix2 ⟨i, h.1⟩ ⟨128 * n + d, h.2⟩)) else 0
  c := scale

/-- A wide array of real numbers, read through its heads. -/
theorem wide_read (x : Wide) (hx : ∀ i, x i = ((EReal.toReal (x i) : ℝ) : EReal)) (i : Cert.ReferenceIdeal.S4096x1024.Idx) :
    x i = ((if h : (i 0).val < 4096 ∧ 256 * ((i 1).val / 256) + (i 1).val % 256 < 1024 then
      EReal.toReal (x (ix2 ⟨(i 0).val, h.1⟩ ⟨256 * ((i 1).val / 256) + (i 1).val % 256, h.2⟩)) else 0 : ℝ) : EReal) := by
  have h1 : (i 1).val < 1024 := (i 1).isLt
  have h : (i 0).val < 4096 ∧ 256 * ((i 1).val / 256) + (i 1).val % 256 < 1024 := ⟨(i 0).isLt, by omega⟩
  rw [dif_pos h]
  have e : i = ix2 ⟨(i 0).val, h.1⟩ ⟨256 * ((i 1).val / 256) + (i 1).val % 256, h.2⟩ := by
    funext a
    match a with
    | ⟨0, _⟩ => rfl
    | ⟨1, _⟩ => exact Fin.ext (Nat.div_add_mod (i 1).val 256).symm
  exact (hx i).trans (congrArg (fun j => ((EReal.toReal (x j) : ℝ) : EReal)) e)

/-- A slim array of real numbers, read through its heads. -/
theorem slim_read (x : Slim) (hx : ∀ i, x i = ((EReal.toReal (x i) : ℝ) : EReal)) (i : Cert.ReferenceIdeal.S4096x512.Idx) :
    x i = ((if h : (i 0).val < 4096 ∧ 128 * ((i 1).val / 128) + (i 1).val % 128 < 512 then
      EReal.toReal (x (ix2 ⟨(i 0).val, h.1⟩ ⟨128 * ((i 1).val / 128) + (i 1).val % 128, h.2⟩)) else 0 : ℝ) : EReal) := by
  have h1 : (i 1).val < 512 := (i 1).isLt
  have h : (i 0).val < 4096 ∧ 128 * ((i 1).val / 128) + (i 1).val % 128 < 512 := ⟨(i 0).isLt, by omega⟩
  rw [dif_pos h]
  have e : i = ix2 ⟨(i 0).val, h.1⟩ ⟨128 * ((i 1).val / 128) + (i 1).val % 128, h.2⟩ := by
    funext a
    match a with
    | ⟨0, _⟩ => rfl
    | ⟨1, _⟩ => exact Fin.ext (Nat.div_add_mod (i 1).val 128).symm
  exact (hx i).trans (congrArg (fun j => ((EReal.toReal (x j) : ℝ) : EReal)) e)

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The queries at launch. -/
abbrev a0 : Wide := m ((c : Thread Cert.KernelIdeal.nD Cert.KernelIdeal.τ).loc Cert.KernelIdeal.main_arg0)
/-- The keys at launch. -/
abbrev a1 : Wide := m ((c : Thread Cert.KernelIdeal.nD Cert.KernelIdeal.τ).loc Cert.KernelIdeal.main_arg1)
/-- The values at launch. -/
abbrev a2 : Slim := m ((c : Thread Cert.KernelIdeal.nD Cert.KernelIdeal.τ).loc Cert.KernelIdeal.main_arg2)
/-- The output's gradient at launch. -/
abbrev a3 : Slim := m ((c : Thread Cert.KernelIdeal.nD Cert.KernelIdeal.τ).loc Cert.KernelIdeal.main_arg3)

/-- The heads of the launch contents. -/
abbrev hs (n : ℕ) : Head := heads (a0 m c) (a1 m c) (a2 m c) (a3 m c) n

variable (f0 : ∀ i, a0 m c i = ((EReal.toReal (a0 m c i) : ℝ) : EReal)) (f1 : ∀ i, a1 m c i = ((EReal.toReal (a1 m c i) : ℝ) : EReal))
  (f2 : ∀ i, a2 m c i = ((EReal.toReal (a2 m c i) : ℝ) : EReal)) (f3 : ∀ i, a3 m c i = ((EReal.toReal (a3 m c i) : ℝ) : EReal))

include f0 in
/-- The queries as the kernel's value theorems ask for them. -/
theorem kq (h : Fin 4) (i : Fin 4096) (d : Fin 256) : a0 m c (ix2 i (wide h d)) = ((hs m c h).q i d : EReal) := by
  have e := wide_read _ f0 (ix2 i (wide h d))
  have e1 : (wide h d).val / 256 = h := by show (256 * (h : ℕ) + d) / 256 = h; omega
  have e2 : (wide h d).val % 256 = d := by show (256 * (h : ℕ) + d) % 256 = d; omega
  exact e.trans (by show (((hs m c ((wide h d).val / 256)).q i ((wide h d).val % 256) : ℝ) : EReal) = _; rw [e1, e2])

include f1 in
/-- The keys as the kernel's value theorems ask for them. -/
theorem kk (h : Fin 4) (i : Fin 4096) (d : Fin 256) : a1 m c (ix2 i (wide h d)) = ((hs m c h).k i d : EReal) := by
  have e := wide_read _ f1 (ix2 i (wide h d))
  have e1 : (wide h d).val / 256 = h := by show (256 * (h : ℕ) + d) / 256 = h; omega
  have e2 : (wide h d).val % 256 = d := by show (256 * (h : ℕ) + d) % 256 = d; omega
  exact e.trans (by show (((hs m c ((wide h d).val / 256)).k i ((wide h d).val % 256) : ℝ) : EReal) = _; rw [e1, e2])

include f2 in
/-- The values as the kernel's value theorems ask for them. -/
theorem kv (h : Fin 4) (i : Fin 4096) (d : Fin 128) : a2 m c (ix2 i (slim h d)) = ((hs m c h).v i d : EReal) := by
  have e := slim_read _ f2 (ix2 i (slim h d))
  have e1 : (slim h d).val / 128 = h := by show (128 * (h : ℕ) + d) / 128 = h; omega
  have e2 : (slim h d).val % 128 = d := by show (128 * (h : ℕ) + d) % 128 = d; omega
  exact e.trans (by show (((hs m c ((slim h d).val / 128)).v i ((slim h d).val % 128) : ℝ) : EReal) = _; rw [e1, e2])

include f3 in
/-- The output's gradient as the kernel's value theorems ask for it. -/
theorem kg (h : Fin 4) (i : Fin 4096) (d : Fin 128) : a3 m c (ix2 i (slim h d)) = ((hs m c h).g i d : EReal) := by
  have e := slim_read _ f3 (ix2 i (slim h d))
  have e1 : (slim h d).val / 128 = h := by show (128 * (h : ℕ) + d) / 128 = h; omega
  have e2 : (slim h d).val % 128 = d := by show (128 * (h : ℕ) + d) % 128 = d; omega
  exact e.trans (by show (((hs m c ((slim h d).val / 128)).g i ((slim h d).val % 128) : ℝ) : EReal) = _; rw [e1, e2])

/-- A wide index is a row, a head and a column. -/
theorem wide_idx (i : Cert.ReferenceIdeal.S4096x1024.Idx) : ∃ (h : Fin 4) (r : Fin 4096) (d : Fin 256),
    i = ix2 r (wide h d) ∧ (i 0).val = r ∧ (i 1).val / 256 = h ∧ (i 1).val % 256 = d := by
  have h1 : (i 1).val < 1024 := (i 1).isLt
  refine ⟨⟨(i 1).val / 256, by omega⟩, ⟨(i 0).val, (i 0).isLt⟩, ⟨(i 1).val % 256, by omega⟩, ?_, rfl, rfl, rfl⟩
  funext a
  match a with
  | ⟨0, _⟩ => rfl
  | ⟨1, _⟩ => exact Fin.ext (Nat.div_add_mod (i 1).val 256).symm

/-- A slim index is a row, a head and a column. -/
theorem slim_idx (i : Cert.ReferenceIdeal.S4096x512.Idx) : ∃ (h : Fin 4) (r : Fin 4096) (d : Fin 128),
    i = ix2 r (slim h d) ∧ (i 0).val = r ∧ (i 1).val / 128 = h ∧ (i 1).val % 128 = d := by
  have h1 : (i 1).val < 512 := (i 1).isLt
  refine ⟨⟨(i 1).val / 128, by omega⟩, ⟨(i 0).val, (i 0).isLt⟩, ⟨(i 1).val % 128, by omega⟩, ?_, rfl, rfl, rfl⟩
  funext a
  match a with
  | ⟨0, _⟩ => rfl
  | ⟨1, _⟩ => exact Fin.ext (Nat.div_add_mod (i 1).val 128).symm

include f0 f1 f2

/-- The output. -/
theorem agree_out : Cert.ReferenceIdeal.Read.val_main_v45 (F := Ideal) (a0 m c) (a1 m c) (a2 m c)
    = Cert.KernelIdeal.Run.W3 m ρ c (Proc.devRef .tc Cert.KernelIdeal.main_v0_0) := by
  obtain ⟨μ, hμ⟩ := exists_max (a0 m c) (a1 m c) (hs m c) (wide_read _ f0) (wide_read _ f1) (fun _ => scale_eq)
  funext i
  obtain ⟨h, r, d, e, er, eh, ed⟩ := slim_idx i
  refine (ref_out (a0 m c) (a1 m c) (a2 m c) (hs m c) (wide_read _ f0) (wide_read _ f1) (slim_read _ f2) (fun _ => scale_eq) μ hμ i).trans ?_
  rw [er, eh, ed, e]
  exact (end_out m ρ c (fun h => hs m c h) (fun _ => rfl) (kq m c f0) (kk m c f1) (kv m c f2) h r d).symm

include f3

/-- The queries' gradient. -/
theorem agree_dq : Cert.ReferenceIdeal.Read.val_main_v78 (F := Ideal) (a0 m c) (a1 m c) (a2 m c) (a3 m c)
    = Cert.KernelIdeal.Run.W3 m ρ c (Proc.devRef .tc Cert.KernelIdeal.main_v1_0) := by
  obtain ⟨μ, hμ⟩ := exists_max (a0 m c) (a1 m c) (hs m c) (wide_read _ f0) (wide_read _ f1) (fun _ => scale_eq)
  funext i
  obtain ⟨h, r, d, e, er, eh, ed⟩ := wide_idx i
  refine (ref_dq (a0 m c) (a1 m c) (a2 m c) (a3 m c) (hs m c) (wide_read _ f0) (wide_read _ f1) (slim_read _ f2) (slim_read _ f3)
    (fun _ => scale_eq) μ hμ i).trans ?_
  rw [er, eh, ed, e]
  exact (end_dq m ρ c (fun h => hs m c h) (fun _ => rfl) (kq m c f0) (kk m c f1) (kv m c f2) (kg m c f3) h r d).symm

/-- The keys' gradient. -/
theorem agree_dk : Cert.ReferenceIdeal.Read.val_main_v77 (F := Ideal) (a0 m c) (a1 m c) (a2 m c) (a3 m c)
    = Cert.KernelIdeal.Run.W3 m ρ c (Proc.devRef .tc Cert.KernelIdeal.main_v2_0) := by
  obtain ⟨μ, hμ⟩ := exists_max (a0 m c) (a1 m c) (hs m c) (wide_read _ f0) (wide_read _ f1) (fun _ => scale_eq)
  funext i
  obtain ⟨h, r, d, e, er, eh, ed⟩ := wide_idx i
  refine (ref_dk (a0 m c) (a1 m c) (a2 m c) (a3 m c) (hs m c) (wide_read _ f0) (wide_read _ f1) (slim_read _ f2) (slim_read _ f3)
    (fun _ => scale_eq) μ hμ i).trans ?_
  rw [er, eh, ed, e]
  exact (end_dk m ρ c (fun h => hs m c h) (fun _ => rfl) (kq m c f0) (kk m c f1) (kv m c f2) (kg m c f3) h r d).symm

/-- The values' gradient. -/
theorem agree_dv : Cert.ReferenceIdeal.Read.val_main_v76 (F := Ideal) (a0 m c) (a1 m c) (a3 m c)
    = Cert.KernelIdeal.Run.W3 m ρ c (Proc.devRef .tc Cert.KernelIdeal.main_v2_1) := by
  obtain ⟨μ, hμ⟩ := exists_max (a0 m c) (a1 m c) (hs m c) (wide_read _ f0) (wide_read _ f1) (fun _ => scale_eq)
  funext i
  obtain ⟨h, r, d, e, er, eh, ed⟩ := slim_idx i
  refine (ref_dv (a0 m c) (a1 m c) (a3 m c) (hs m c) (wide_read _ f0) (wide_read _ f1) (slim_read _ f3)
    (fun _ => scale_eq) μ hμ i).trans ?_
  rw [er, eh, ed, e]
  exact (end_dv m ρ c (fun h => hs m c h) (fun _ => rfl) (kq m c f0) (kk m c f1) (kv m c f2) (kg m c f3) h r d).symm

omit f0 f1 f2 f3

/-- The word of `+∞`. -/
theorem word_top : Ideal.ofBits .f32 0x7F800000#32 = ⊤ := by simp [Ideal.ofBits, Ideal.ieee]

/-- A number whose absolute value is below `+∞` is real. -/
theorem real_of_lt (x : EReal) (h : Ideal.cmp .olt (max x (-x)) (Ideal.ofBits .f32 0x7F800000#32) = 1#1) :
    x = ((EReal.toReal x : ℝ) : EReal) := by
  rw [word_top] at h
  induction x with
  | bot => simp [Ideal.cmp] at h
  | top => simp [Ideal.cmp] at h
  | coe r => rfl

/-- Where the precondition holds, every argument holds real numbers. -/
theorem real_args (x0 x1 : Wide) (x2 x3 : Slim)
    (h : (Cert.Pre_finite.fn (F := Ideal) x0 x1 x2 x3).1 = (fun _ => 1#1)
      ∧ (Cert.Pre_finite.fn (F := Ideal) x0 x1 x2 x3).2.1 = (fun _ => 1#1)
      ∧ (Cert.Pre_finite.fn (F := Ideal) x0 x1 x2 x3).2.2.1 = (fun _ => 1#1)
      ∧ (Cert.Pre_finite.fn (F := Ideal) x0 x1 x2 x3).2.2.2 = (fun _ => 1#1)) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal)) :=
  ⟨fun i => real_of_lt _ (congrFun h.1 i), fun i => real_of_lt _ (congrFun h.2.1 i),
    fun i => real_of_lt _ (congrFun h.2.2.1 i), fun i => real_of_lt _ (congrFun h.2.2.2 i)⟩

end Cert.Agree

end
-- ==== Proof.Product.lean ====
/-
  The product calls' common parts: products of arrays as sums, and whole-block loads and stores.
-/
module

public import Idealize.ShloMosaic.Lib.Pipeline.ValueKit.Geometry
public import Idealize.ShloMosaic.Lib.Pointwise
public import Idealize.ShloMosaic.Lib.MatmulPlain
public import Idealize.ShloMosaic.Lib.WritesUnit

@[expose] public section

noncomputable section

open Idealize.ShloMosaic Idealize.ShloMosaic.TcCoe

namespace Cert.Product

/-- The sum of the products of two lists of numbers. -/
def dotp {K : ℕ} (f g : Fin K → EReal) : EReal := ∑ k : Fin K, f k * g k

/-- Equal lists have equal sums of products. -/
theorem dotp_congr {K : ℕ} {f g f' g' : Fin K → EReal} (hf : ∀ k, f k = f' k) (hg : ∀ k, g k = g' k) : dotp f g = dotp f' g' :=
  Finset.sum_congr rfl fun k _ => congrArg₂ (· * ·) (hf k) (hg k)

/-- The order of the two lists does not matter. -/
theorem dotp_comm {K : ℕ} (f g : Fin K → EReal) : dotp f g = dotp g f := Finset.sum_congr rfl fun _ _ => mul_comm _ _

/-- The product of a transposed array with another: the sum over all positions. -/
def gram {K M N : ℕ} (x : (⟨2, ![K, M]⟩ : Shape).Idx → EReal) (y : (⟨2, ![K, N]⟩ : Shape).Idx → EReal) (a : Fin M) (b : Fin N) : EReal :=
  ∑ k : Fin K, x (ix2 k a) * y (ix2 k b)

/-- The sum depends on the two columns alone. -/
theorem gram_congr {K M N M' N' : ℕ} {x : (⟨2, ![K, M]⟩ : Shape).Idx → EReal} {y : (⟨2, ![K, N]⟩ : Shape).Idx → EReal}
    {x' : (⟨2, ![K, M']⟩ : Shape).Idx → EReal} {y' : (⟨2, ![K, N']⟩ : Shape).Idx → EReal} {a : Fin M} {b : Fin N} {a' : Fin M'} {b' : Fin N'}
    (hx : ∀ k, x (ix2 k a) = x' (ix2 k a')) (hy : ∀ k, y (ix2 k b) = y' (ix2 k b')) : gram x y a b = gram x' y' a' b' :=
  Finset.sum_congr rfl fun k _ => congrArg₂ (· * ·) (hx k) (hy k)

/-- The zero offset, as a function. -/
theorem zero2 : (![0, 0] : Fin 2 → ℕ) = fun _ => 0 := by
  funext a
  match a with
  | ⟨0, _⟩ => rfl
  | ⟨1, _⟩ => rfl

/-- A sum over 6144 columns is the sum over each half. -/
theorem sum_halves (f : Fin 6144 → EReal) : ∑ k, f k = ∑ k : Fin 3072, f ⟨k.val, by omega⟩ + ∑ k : Fin 3072, f ⟨3072 + k.val, by omega⟩ :=
  Fin.sum_univ_add (a := 3072) (b := 3072) f

variable {sig : RefSig}

/-- A load of a whole block reads the block. -/
theorem readAt_whole {F : FTy → Type} {R C : ℕ} {e : EltTy} (a : Memref sig .tc .vmem (⟨2, ![R, C]⟩ : Shape) e) (ha : a.IsWhole)
    (inb : ∀ x : Fin 2, (![0, 0] : Fin 2 → ℕ) x + (![R, C] : Fin 2 → ℕ) x ≤ (![R, C] : Fin 2 → ℕ) x)
    (x : (⟨2, ![R, C]⟩ : Shape).Idx → Elt F e) :
    View.readAt (Elt F) a.view (Rect.unit (s := (⟨2, ![R, C]⟩ : Shape)) ![0, 0] ![R, C] inb).toLoadRect (ha.unread x) = x :=
  (View.readAt_eq_ld _ _ _).trans ((congrArg (fun y => View.ld y _) (ha.read_unread x)).trans
    (View.ld_unit_zero (S := (⟨2, ![R, C]⟩ : Shape)) zero2 inb x))

/-- A store of a whole block leaves the block. -/
theorem read_store {Val : EltTy → Type} {sp : Space} {κ' : Kind} {R C : ℕ} {e : EltTy} (v : View sig κ' sp (⟨2, ![R, C]⟩ : Shape) e)
    (f : v.ty.Contents Val) (inb : ∀ x : Fin 2, (![0, 0] : Fin 2 → ℕ) x + (![R, C] : Fin 2 → ℕ) x ≤ (![R, C] : Fin 2 → ℕ) x)
    (p : (⟨2, ![R, C]⟩ : Shape).Idx → Val e) (L : List (View.Piece Val (⟨2, ![R, C]⟩ : Shape) e)) (r : Fin R) (l : Fin C) :
    v.read Val (v.writes Val f ((⟨Rect.unit (s := (⟨2, ![R, C]⟩ : Shape)) ![0, 0] ![R, C] inb, p⟩ : View.Piece Val _ e) :: L)) (ix2 r l) = p (ix2 r l) :=
  View.read_writes_cons_unit_of_mem v f inb p L _ (ix2 r l) rfl (fun a => by
    fin_cases a
    · exact (Nat.zero_add _).symm
    · exact (Nat.zero_add _).symm)

end Cert.Product
-- ==== Proof.Added.lean ====
/-
  A product's entry with a further number added to it.
-/
module

public import proofs.«01_k».proof.Proof.Product

@[expose] public section

noncomputable section

namespace Cert.Product

/-- The sum of the products `f k * g k` over all `k`, and `z` added to it. -/
def dotpAdd {n : ℕ} (f g : Fin n → EReal) (z : EReal) : EReal := dotp f g + z

/-- Equal factors and an equal summand give an equal value. -/
theorem dotpAdd_congr {n : ℕ} {f f' g g' : Fin n → EReal} {z z' : EReal} (hf : ∀ k, f k = f' k) (hg : ∀ k, g k = g' k) (hz : z = z') :
    dotpAdd f g z = dotpAdd f' g' z' :=
  congrArg₂ (· + ·) (dotp_congr hf hg) hz

end Cert.Product

end
-- ==== Proof.Blocks.lean ====
/-
  Indices by their coordinates, and sums over blocks.
-/
module

public import proofs.«01_k».proof.Proof.Added

@[expose] public section

noncomputable section

open Idealize.ShloMosaic

namespace Cert.Product

/-- An array of two dimensions, of extended reals. -/
abbrev Mat (M N : ℕ) := (⟨2, ![M, N]⟩ : Shape).Idx → EReal

/-- An index is the pair of its coordinates. -/
theorem at2 {M N : ℕ} {i : (⟨2, ![M, N]⟩ : Shape).Idx} {a : Fin M} {b : Fin N} (h0 : (i 0).val = a.val) (h1 : (i 1).val = b.val) : i = ix2 a b := by
  funext x
  apply Fin.ext
  match x with
  | ⟨0, _⟩ => exact h0
  | ⟨1, _⟩ => exact h1

/-- An index, written as a pair. -/
theorem eta2 {M N : ℕ} (i : (⟨2, ![M, N]⟩ : Shape).Idx) : i = ix2 (⟨(i 0).val, (i 0).isLt⟩ : Fin M) (⟨(i 1).val, (i 1).isLt⟩ : Fin N) := at2 rfl rfl

/-- The index of an entry of a single column. -/
theorem col0 {M : ℕ} (i : (⟨2, ![M, 1]⟩ : Shape).Idx) (a : Fin M) (h : (i 0).val = a.val) : i = ix2 a (0 : Fin 1) := at2 h (Nat.lt_one_iff.mp (i 1).isLt)

/-- The index of an entry of a single row. -/
theorem row0 {N : ℕ} (i : (⟨2, ![1, N]⟩ : Shape).Idx) (b : Fin N) (h : (i 1).val = b.val) : i = ix2 (0 : Fin 1) b := at2 (Nat.lt_one_iff.mp (i 0).isLt) h

/-- A sum over `m * n` numbers, block by block. -/
theorem sum_blocks (m n : ℕ) (f : ℕ → EReal) : ∑ q ∈ Finset.range n, ∑ r ∈ Finset.range m, f (m * q + r) = ∑ i ∈ Finset.range (m * n), f i := by
  induction n with
  | zero => rfl
  | succ n ih => rw [Finset.sum_range_succ, ih, Nat.mul_succ, Finset.sum_range_add]

/-- A finite factor that is not negative comes out of a sum. -/
theorem sum_scale {ι : Type} (s : Finset ι) (f : ι → EReal) {z : EReal} (h0 : 0 ≤ z) (h1 : z ≠ ⊤) : ∑ i ∈ s, f i * z = (∑ i ∈ s, f i) * z := by
  classical
  induction s using Finset.induction_on with
  | empty => exact (zero_mul z).symm
  | insert a s h ih => rw [Finset.sum_insert h, Finset.sum_insert h, ih, mul_comm _ z, mul_comm _ z, mul_comm _ z, EReal.left_distrib_of_nonneg_of_ne_top h0 h1]

end Cert.Product

end
-- ==== Proof.UpGrad.lean ====
/-
  The gradient of the feed-forward layer's first weights: the call's blocks, its array, and the reference's product.
-/
module

public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Blocks
public import proofs.«01_k».proof.Defs

@[expose] public section

set_option maxRecDepth 16384

noncomputable section

open Idealize.ShloMosaic Idealize.ShloMosaic.TcCoe Idealize.ShloMosaic.Tactic Idealize.SL.Sem

namespace Cert.UpGrad

open Cert.Product

/-- Two arrays of 3072 columns side by side. -/
def side (u v : Mat 4096 3072) (k : Fin 4096) (b : Fin 6144) : EReal :=
  if h : b.val < 3072 then u (ix2 k ⟨b.val, h⟩) else v (ix2 k ⟨b.val - 3072, by omega⟩)

/-- The gradient's entry: the sum over all positions. -/
def grad (x : Mat 4096 1024) (u v : Mat 4096 3072) (a : Fin 1024) (b : Fin 6144) : EReal :=
  ∑ k : Fin 4096, x (ix2 k a) * side u v k b

section Call

open Kernel2Ideal Kernel2Ideal.Gen

/-- Where the first factor's block lies. -/
theorem index0 : ∀ t : Fin cfg0.N, win0_0.index t (0 : Fin 2) = 0 ∧ win0_0.index t (1 : Fin 2) = 0 :=
  (by decide +kernel : ∀ t : Fin grid0.N, _)
/-- Where the gates' block lies, at the points that read it. -/
theorem index1 : ∀ t : Fin cfg0.N, t.val < 6 → win0_1.index t (0 : Fin 2) = 0 ∧ win0_1.index t (1 : Fin 2) = t.val :=
  (by decide +kernel : ∀ t : Fin grid0.N, _)
/-- Where the values' block lies, at the points that read it. -/
theorem index2 : ∀ t : Fin cfg0.N, 6 ≤ t.val → win0_2.index t (0 : Fin 2) = 0 ∧ win0_2.index t (1 : Fin 2) = t.val - 6 :=
  (by decide +kernel : ∀ t : Fin grid0.N, _)
/-- Where the result's block lies. -/
theorem index3 : ∀ t : Fin cfg0.N, win0_3.index t (0 : Fin 2) = 0 ∧ win0_3.index t (1 : Fin 2) = t.val :=
  (by decide +kernel : ∀ t : Fin grid0.N, _)

/-- One block of the product with the gates. -/
theorem pay1_apply (x0 : Vec Ideal S4096x1024 .bf16) (x1 : Vec Ideal S4096x512 .bf16) (r : Fin 1024) (l : Fin 512) :
    k0_pay1 (F := Ideal) x0 x1 (ix2 r l) = gram x0 x1 r l := by
  unfold k0_pay1 gram
  pointwise
/-- One block of the product with the values. -/
theorem pay2_apply (x0 : Vec Ideal S4096x1024 .bf16) (x1 : Vec Ideal S4096x512 .bf16) (r : Fin 1024) (l : Fin 512) :
    k0_pay2 (F := Ideal) x0 x1 (ix2 r l) = gram x0 x1 r l := by
  unfold k0_pay2 gram
  pointwise

variable (m : (ℓ : Loc nD τ sig) → Buf (Elt Ideal) ℓ) (c : Dev nD)

section Point

variable (i : grid0.Coords) (arg2 : Memref sig .tc .vmem S4096x1024 .bf16) (harg2 : arg2.IsWhole)

/-- What a point of case A leaves in the result's block. -/
theorem out_A (arg3 : Memref sig .tc .vmem S4096x512 .bf16)
    (harg3 : arg3.IsWhole) (arg4 : Memref sig .tc .vmem S4096x512 .bf16) (harg4 : arg4.IsWhole) (arg5 : Memref sig .tc .vmem S1024x512 .bf16)
    (harg5 : arg5.IsWhole) (hc0 : cond0_0 i) (hc1 : ¬cond0_1 i) (x0 : Vec Ideal S4096x1024 .bf16) (x1 x2 : Vec Ideal S4096x512 .bf16) (r : Fin 1024) (l : Fin 512) :
    out0_A_3 (F := Ideal) c i arg2 harg2 arg3 harg3 arg4 harg4 arg5 harg5 hc0 hc1 x0 x1 x2 (ix2 r l) = gram x0 x1 r l := by
  unfold out0_A_3 kernelRun0_A
  dsimp only
  refine (read_store VO0_3 _ _ _ _ r l).trans ?_
  sl_unfold_words
  rw [readAt_whole arg2 harg2, readAt_whole arg3 harg3]
  exact pay1_apply _ _ _ _

/-- What a point of case B leaves in the result's block. -/
theorem out_B (arg3 : Memref sig .tc .vmem S4096x512 .bf16)
    (harg3 : arg3.IsWhole) (arg4 : Memref sig .tc .vmem S4096x512 .bf16) (harg4 : arg4.IsWhole) (arg5 : Memref sig .tc .vmem S1024x512 .bf16)
    (harg5 : arg5.IsWhole) (hc0 : ¬cond0_0 i) (hc1 : cond0_1 i) (x0 : Vec Ideal S4096x1024 .bf16) (x1 x2 : Vec Ideal S4096x512 .bf16) (r : Fin 1024) (l : Fin 512) :
    out0_B_3 (F := Ideal) c i arg2 harg2 arg3 harg3 arg4 harg4 arg5 harg5 hc0 hc1 x0 x1 x2 (ix2 r l) = gram x0 x2 r l := by
  unfold out0_B_3 kernelRun0_B
  dsimp only
  refine (read_store VO0_3 _ _ _ _ r l).trans ?_
  sl_unfold_words
  rw [readAt_whole arg2 harg2, readAt_whole arg4 harg4]
  exact pay2_apply _ _ _ _

end Point

/-- What the first factor's block holds. -/
theorem blk0 (t : Fin cfg0.N) (k : Fin 4096) (r : Fin 1024) : iblk m c 0 t (ix2 k r) = V m c main_arg0 (ix2 k r) := by
  have e := index0 t
  exact congrArg (V m c main_arg0) (at2 (show win0_0.index t (0 : Fin 2) * 4096 + 1 * k.val = k.val by omega) (show win0_0.index t (1 : Fin 2) * 1024 + 1 * r.val = r.val by omega))

/-- What the gates' block holds. -/
theorem blk1 (t : Fin cfg0.N) (ht : t.val < 6) (k : Fin 4096) (l : Fin 512) (b : Fin 3072) (h : b.val = 512 * t.val + l.val) :
    iblk m c 1 t (ix2 k l) = V m c main_arg2 (ix2 k b) := by
  obtain ⟨e0, e1⟩ := index1 t ht
  exact congrArg (V m c main_arg2) (at2 (show win0_1.index t (0 : Fin 2) * 4096 + 1 * k.val = k.val by omega) (show win0_1.index t (1 : Fin 2) * 512 + 1 * l.val = b.val by omega))

/-- What the values' block holds. -/
theorem blk2 (t : Fin cfg0.N) (ht : 6 ≤ t.val) (k : Fin 4096) (l : Fin 512) (b : Fin 3072) (h : b.val = 512 * (t.val - 6) + l.val) :
    iblk m c 2 t (ix2 k l) = V m c main_arg3 (ix2 k b) := by
  obtain ⟨e0, e1⟩ := index2 t ht
  exact congrArg (V m c main_arg3) (at2 (show win0_2.index t (0 : Fin 2) * 4096 + 1 * k.val = k.val by omega) (show win0_2.index t (1 : Fin 2) * 512 + 1 * l.val = b.val by omega))

/-- The array the call leaves. -/
theorem out (a : Fin 1024) (b : Fin 6144) :
    (dats m 0 c).arrAt 3 cfg0.N (ix2 a b) = grad (V m c main_arg0) (V m c main_arg2) (V m c main_arg3) a b := by
  refine (dats m 0 c).arrAt_forall_of_covers 3 (fun y v => ∀ (a : Fin 1024) (b : Fin 6144), y = ix2 a b → v = grad (V m c main_arg0) (V m c main_arg2) (V m c main_arg3) a b)
    (by decide +kernel) (fun t hf y a b e => ?_) _ (Memref.isWhole_whole _) a b rfl
  have r0 : win0_3.index t (0 : Fin 2) * 1024 + 1 * (y 0).val = a.val := congrArg (fun z : S1024x6144.Idx => (z 0).val) e
  have r1 : win0_3.index t (1 : Fin 2) * 512 + 1 * (y 1).val = b.val := congrArg (fun z : S1024x6144.Idx => (z 1).val) e
  obtain ⟨e0, e1⟩ := index3 t
  rw [e0] at r0
  rw [e1] at r1
  have ha : (⟨(y 0).val, (y 0).isLt⟩ : Fin 1024) = a := Fin.ext (by show (y 0).val = a.val; omega)
  have hl : (y 1).val < 512 := (y 1).isLt
  have hy : y = ix2 (⟨(y 0).val, (y 0).isLt⟩ : Fin 1024) (⟨(y 1).val, hl⟩ : Fin 512) := by
    exact at2 rfl rfl
  have hN : t.val < 12 := lt_of_lt_of_eq t.isLt (show cfg0.N = 12 from N_0)
  show (dats m 0 c).after 3 t y = _
  rw [after0_3, hy, ha]
  unfold grad
  by_cases ht : t.val < 6
  · rw [outsAt0_A m c t ht (by omega)]
    refine (out_A c _ _ _ _ _ _ _ _ _ _ _ _ _ _ _ _).trans (Finset.sum_congr rfl fun k _ => congrArg₂ (· * ·) (blk0 m c t k a) ?_)
    have hb : b.val < 3072 := by omega
    exact (blk1 m c t ht k _ ⟨b.val, hb⟩ (by show b.val = 512 * t.val + (y 1).val; omega)).trans (Eq.symm (dif_pos hb))
  · have hb : ¬ b.val < 3072 := by omega
    rw [outsAt0_B m c t ht (by omega)]
    refine (out_B c _ _ _ _ _ _ _ _ _ _ _ _ _ _ _ _).trans (Finset.sum_congr rfl fun k _ => congrArg₂ (· * ·) (blk0 m c t k a) ?_)
    exact (blk2 m c t (by omega) k _ ⟨b.val - 3072, by omega⟩ (by show b.val - 3072 = 512 * (t.val - 6) + (y 1).val; omega)).trans (Eq.symm (dif_neg hb))

end Call

section Ref

open Reference2Ideal Reference2Ideal.Read Reference2Ideal.Gen

/-- The reference's two halves side by side. -/
theorem ref_side (x2 x3 : (⟨S4096x3072, .bf16⟩ : BufTy).Contents (Elt Ideal)) (k : Fin 4096) (b : Fin 6144) :
    val_main_v5 (F := Ideal) x2 x3 (ix2 k b) = side x2 x3 k b := by
  unfold val_main_v5 side
  by_cases h : b.val < 3072
  · refine (concatenate_pair_apply_left (s₁ := S4096x3072) (s₂ := S4096x3072) (1 : Fin 2) _ _ _ (ix2 k b) rfl (ix2 k ⟨b.val, h⟩) (fun x => ?_)).trans
      (Eq.trans ?_ (dif_pos h).symm)
    · fin_cases x <;> rfl
    · rw [val_main_v3_apply, Ideal.extf_def]
  · refine (concatenate_pair_apply_right (s₁ := S4096x3072) (s₂ := S4096x3072) (1 : Fin 2) _ _ _ (ix2 k b) rfl rfl (ix2 k ⟨b.val - 3072, by omega⟩)
      (fun x hx => ?_) ?_).trans (Eq.trans ?_ (dif_neg h).symm)
    · fin_cases x
      · rfl
      · exact absurd rfl hx
    · show b.val - 3072 + 3072 = b.val
      omega
    · rw [val_main_v4_apply, Ideal.extf_def]

/-- The reference's entry: the sum over all positions. -/
theorem ref (x0 : (⟨S4096x1024, .bf16⟩ : BufTy).Contents (Elt Ideal)) (x2 x3 : (⟨S4096x3072, .bf16⟩ : BufTy).Contents (Elt Ideal))
    (a : Fin 1024) (b : Fin 6144) :
    val_main_v8 (F := Ideal) x0 x2 x3 (ix2 a b) = grad x0 x2 x3 a b := by
  rw [val_main_v8_apply, Ideal.truncf_def, val_main_v7_apply, val_main_v6_apply]
  refine Finset.sum_congr rfl fun k _ => (mul_comm _ _).trans (congrArg₂ (· * ·) (congrArg x0 ?_) (Eq.trans (congrArg (val_main_v5 (F := Ideal) x2 x3) ?_) (ref_side x2 x3 k b)))
  · exact at2 rfl rfl
  · exact at2 rfl rfl

end Ref

/-- The reference runs, leaves its arguments and declares no semaphore. -/
theorem frame_reference : quiescent_Reference2Ideal := fun m ρ _ =>
  (θ_run Reference2Ideal.defs _ _).mono (fun r h => ⟨fun c => (h c).2, sem_eq_zero_of_no_sems (by decide) r.2⟩)
    (Reference2Ideal.Value.run (F := Ideal) m ρ)

/-- The call and the reference leave the same array. -/
theorem values : algebraic_Kernel2Ideal_Reference2Ideal := by
  intro m g m' g' _ ha
  refine ⟨fun c => (Kernel2Ideal.Gen.dats m 0 c).arrAt 3 Kernel2Ideal.cfg0.N, Kernel2Ideal.Value.run_blocks m g,
    (θ_run Reference2Ideal.defs _ _).mono (fun r h c => ⟨(h c).1.trans ?_, (h c).2⟩)
      (Reference2Ideal.Value.run (F := Ideal) m' g')⟩
  obtain ⟨h0, h1, h2, h3⟩ := ha c
  rw [Reference2Ideal.Read.val_main_v8_eq, h0, h2, h3]
  funext i
  rw [eta2 (M := 1024) (N := 6144) i]
  exact (ref _ _ _ _ _).trans (out m c _ _).symm

end Cert.UpGrad
-- ==== Proof.Rect.lean ====
/-
  The products of two matrices, neither, the second or the first of them transposed: what their entries are, and when two entries are equal.
-/
module

public import proofs.«01_k».proof.Proof.Blocks
public import proofs.«01_k».proof.Proof.Product

@[expose] public section

noncomputable section

open Idealize.ShloMosaic

namespace Cert.Product

variable {M K N M' N' : ℕ}

/-- The row of an index. -/
def row2 (i : (⟨2, ![M, N]⟩ : Shape).Idx) : Fin M := ⟨(i 0).val, (i 0).isLt⟩

/-- The column of an index. -/
def col2 (i : (⟨2, ![M, N]⟩ : Shape).Idx) : Fin N := ⟨(i 1).val, (i 1).isLt⟩

/-- The product of two matrices. -/
def nn (x : Mat M K) (w : Mat K N) : Mat M N := fun i => dotp (fun k => x (ix2 (row2 i) k)) (fun k => w (ix2 k (col2 i)))

/-- The product with the second matrix transposed. -/
def nt (x : Mat M K) (w : Mat N K) : Mat M N := fun i => dotp (fun k => x (ix2 (row2 i) k)) (fun k => w (ix2 (col2 i) k))

/-- The product with the first matrix transposed. -/
def tn (x : Mat K M) (w : Mat K N) : Mat M N := fun i => dotp (fun k => x (ix2 k (row2 i))) (fun k => w (ix2 k (col2 i)))

/-- A block index's own entry: the block starts at `a * n` in both arrays. -/
theorem same {a b : ℕ} (h : a = b) (n r : ℕ) : a * n + 1 * r = b * n + 1 * r := by rw [h]

/-- The whole axis is one block. -/
theorem full {a : ℕ} (h : a = 0) (n r : ℕ) : a * n + 1 * r = r := by rw [h]; omega

end Cert.Product

end
-- ==== Proof.GateIn.lean ====
/-
  The gradient of the feed-forward layer's normed input through the gates: the call's blocks, its array, and the reference's product.
-/
module

public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Rect
public import proofs.«01_k».proof.Defs

@[expose] public section

set_option maxRecDepth 16384

noncomputable section

open Idealize.ShloMosaic Idealize.ShloMosaic.TcCoe Idealize.ShloMosaic.Tactic Idealize.SL.Sem

namespace Cert.GateIn

open Cert.Product

section Call

open Kernel4Ideal Kernel4Ideal.Gen

/-- One block of the product: the whole sum. -/
theorem pay_apply (x0 : Vec Ideal S1024x3072 .bf16) (x1 : Vec Ideal S1024x3072 .bf16) (r : Fin 1024) (l : Fin 1024) :
    k0_pay1 (F := Ideal) x0 x1 (ix2 r l) = dotp (fun k : Fin 3072 => x0 (ix2 r k)) (fun k => x1 (ix2 l k)) := by
  unfold k0_pay1 dotp
  pointwise

/-- The gates' half of the weight, transposed, times the gates' cotangent: every entry that the call leaves. -/
theorem out (m : (ℓ : Loc nD τ sig) → Buf (Elt Ideal) ℓ) (c : Dev nD) (y : S4096x1024.Idx) :
    (dats m 0 c).arrAt 2 cfg0.N y = dotp (fun k : Fin 3072 => V m c main_arg2 (ix2 (row2 (M := 4096) (N := 1024) y) k)) (fun k => V m c main_arg1 (ix2 (col2 (M := 4096) (N := 1024) y) (⟨0 + k.val, by omega⟩ : Fin 6144))) := by
  refine (dats m 0 c).arrAt_forall_of_covers 2 (fun y v => v = dotp (fun k : Fin 3072 => V m c main_arg2 (ix2 (row2 (M := 4096) (N := 1024) y) k)) (fun k => V m c main_arg1 (ix2 (col2 (M := 4096) (N := 1024) y) (⟨0 + k.val, by omega⟩ : Fin 6144))))
    (by decide +kernel) (fun t hf y => ?_) _ (Memref.isWhole_whole _)
  obtain ⟨e0, e1, e2, e3⟩ := (by decide +kernel : ∀ t : Fin grid0.N, win0_0.index t (0 : Fin 2) = win0_2.index t (0 : Fin 2) ∧ win0_0.index t (1 : Fin 2) = 0 ∧ win0_1.index t (0 : Fin 2) = win0_2.index t (1 : Fin 2) ∧ win0_1.index t (1 : Fin 2) = 0) t
  show (dats m 0 c).after 2 t y = _
  rw [after0_2]
  unfold out0_2
  rw [View.canon_unit_zero zero2, View.ld_unit_zero (S := S1024x3072) zero2, View.ld_unit_zero (S := S1024x3072) zero2, eta2 (M := 1024) (N := 1024) y]
  exact (pay_apply _ _ _ _).trans (dotp_congr
    (fun k => congrArg (V m c main_arg2) (at2 (same e0 1024 (y 0).val) (full e1 3072 k.val)))
    (fun k => congrArg (V m c main_arg1) (at2 (same e2 1024 (y 1).val) ((full e3 3072 k.val).trans (Nat.zero_add _).symm))))

end Call

section Ref

open Reference4Ideal Reference4Ideal.Read Reference4Ideal.Gen

/-- The gates' cotangent with zeros on its right: its left half. -/
theorem ref_left (x2 : (⟨S4096x3072, .bf16⟩ : BufTy).Contents (Elt Ideal)) (a : Fin 4096) (k : Fin 3072) :
    val_main_v6 (F := Ideal) x2 (ix2 a (⟨k.val, by omega⟩ : Fin 6144)) = x2 (ix2 a k) := by
  unfold val_main_v6
  refine (concatenate_pair_apply_left (s₁ := S4096x3072) (s₂ := S4096x3072) (1 : Fin 2) _ _ _ (ix2 a (⟨k.val, by omega⟩ : Fin 6144)) rfl (ix2 a k) (fun x => ?_)).trans ?_
  · fin_cases x <;> rfl
  · rw [val_main_v4_apply, Ideal.extf_def]

/-- The gates' cotangent with zeros on its right: its right half. -/
theorem ref_right (x2 : (⟨S4096x3072, .bf16⟩ : BufTy).Contents (Elt Ideal)) (a : Fin 4096) (k : Fin 3072) :
    val_main_v6 (F := Ideal) x2 (ix2 a (⟨3072 + k.val, by omega⟩ : Fin 6144)) = 0 := by
  unfold val_main_v6
  refine (concatenate_pair_apply_right (s₁ := S4096x3072) (s₂ := S4096x3072) (1 : Fin 2) _ _ _ (ix2 a (⟨3072 + k.val, by omega⟩ : Fin 6144)) rfl rfl (ix2 a k) (fun x hx => ?_) ?_).trans ?_
  · fin_cases x
    · rfl
    · exact absurd rfl hx
  · show k.val + 3072 = 3072 + k.val
    omega
  · exact Ideal.ofBits_zero_f32

/-- The reference's entry: the whole sum, the zeros left out. -/
theorem ref (x1 : (⟨S1024x6144, .bf16⟩ : BufTy).Contents (Elt Ideal)) (x2 : (⟨S4096x3072, .bf16⟩ : BufTy).Contents (Elt Ideal))
    (a : Fin 4096) (b : Fin 1024) :
    val_main_v9 (F := Ideal) x1 x2 (ix2 a b) = dotp (fun k : Fin 3072 => x2 (ix2 a k)) (fun k => x1 (ix2 b (⟨0 + k.val, by omega⟩ : Fin 6144))) := by
  rw [val_main_v9_apply, Ideal.extf_def, val_main_v8_apply, Ideal.truncf_def, val_main_v7_apply]
  have hl : ∀ k, lidx_main_v7 (ix2 a b) k = ix2 a k := fun k => at2 rfl rfl
  have hr : ∀ k, ridx_main_v7 (ix2 a b) k = ix2 b k := fun k => at2 rfl rfl
  simp only [hl, hr]
  rw [sum_halves]
  simp only [ref_left, ref_right, zero_mul, Finset.sum_const_zero, add_zero]
  unfold dotp
  exact Finset.sum_congr rfl fun k _ => congrArg (x2 (ix2 a k) * x1 ·) (at2 rfl (Nat.zero_add _).symm)

end Ref

/-- The reference runs, leaves its arguments and declares no semaphore. -/
theorem frame_reference : quiescent_Reference4Ideal := fun m ρ _ =>
  (θ_run Reference4Ideal.defs _ _).mono (fun r h => ⟨fun c => (h c).2, sem_eq_zero_of_no_sems (by decide) r.2⟩)
    (Reference4Ideal.Value.run (F := Ideal) m ρ)

/-- The call and the reference leave the same array. -/
theorem values : algebraic_Kernel4Ideal_Reference4Ideal := by
  intro m g m' g' _ ha
  refine ⟨fun c => (Kernel4Ideal.Gen.dats m 0 c).arrAt 2 Kernel4Ideal.cfg0.N, Kernel4Ideal.Value.run_blocks m g,
    (θ_run Reference4Ideal.defs _ _).mono (fun r h c => ⟨(h c).1.trans ?_, (h c).2⟩)
      (Reference4Ideal.Value.run (F := Ideal) m' g')⟩
  obtain ⟨h0, h1, h2⟩ := ha c
  rw [Reference4Ideal.Read.val_main_v9_eq, h1, h2]
  funext i
  refine Eq.trans ?_ (out m c i).symm
  rw [eta2 (M := 4096) (N := 1024) i]
  exact ref _ _ _ _

end Cert.GateIn
-- ==== Proof.Norm.lean ====
/-
  The gradient of root-mean-square normalisation, one row at a time: the plain functions the calls and the references share.
-/
module

public import proofs.«01_k».proof.Proof.Product

@[expose] public section

noncomputable section

open Idealize.ShloMosaic

namespace Cert.Norm

/-- Mean of the squares of a row of 1024, plus the small constant. -/
def meanSq (x : Fin 1024 → EReal) : EReal :=
  Ideal.div (∑ k, x k * x k) (Ideal.ofBits .f32 0x44800000#32) + Ideal.ofBits .f32 0x358637BD#32

/-- The factor that normalises the row. -/
def inv (x : Fin 1024 → EReal) : EReal := Ideal.rsqrt (meanSq x)

/-- The gradient that comes back through the factor, shared by the whole row. -/
def pull (x p : Fin 1024 → EReal) : EReal :=
  Ideal.div ((∑ k, x k * p k) * (Ideal.ofBits .f32 0xBF000000#32 * Ideal.div (inv x) (meanSq x))) (Ideal.ofBits .f32 0x44800000#32)

/-- The row's gradient, given the gradient `p` of the normalised row. -/
def back (x p : Fin 1024 → EReal) (l : Fin 1024) : EReal := p l * inv x + x l * pull x p + pull x p * x l

/-- A row of an array. -/
def row {M : ℕ} (x : (⟨2, ![M, 1024]⟩ : Shape).Idx → EReal) (a : Fin M) (k : Fin 1024) : EReal := x (ix2 a k)

/-- The gradient of the array that was normalised: what comes past the normalisation, and what comes through it. -/
def dx (x : (⟨2, ![4096, 1024]⟩ : Shape).Idx → EReal) (g : (⟨2, ![1, 1024]⟩ : Shape).Idx → EReal) (y : Fin 4096 → Fin 1024 → EReal)
    (o : (⟨2, ![4096, 1024]⟩ : Shape).Idx → EReal) (a : Fin 4096) (l : Fin 1024) : EReal :=
  o (ix2 a l) + back (row x a) (fun l => y a l * g (ix2 0 l)) l

/-- One position's part of the gradient of the gain; nothing beyond the last position. -/
def part (x : (⟨2, ![4096, 1024]⟩ : Shape).Idx → EReal) (y : Fin 4096 → Fin 1024 → EReal) (l : Fin 1024) (j : ℕ) : EReal :=
  if h : j < 4096 then x (ix2 ⟨j, h⟩ l) * inv (row x ⟨j, h⟩) * y ⟨j, h⟩ l else 0

/-- The gradient of the gain: the sum over all positions. -/
def dgain (x : (⟨2, ![4096, 1024]⟩ : Shape).Idx → EReal) (y : Fin 4096 → Fin 1024 → EReal) (l : Fin 1024) : EReal :=
  ∑ a : Fin 4096, x (ix2 a l) * inv (row x a) * y a l

/-- The sum over all positions, counted up. -/
theorem dgain_range (x : (⟨2, ![4096, 1024]⟩ : Shape).Idx → EReal) (y : Fin 4096 → Fin 1024 → EReal) (l : Fin 1024) :
    ∑ j ∈ Finset.range 4096, part x y l j = dgain x y l := by
  rw [Finset.sum_range]
  exact Finset.sum_congr rfl fun a _ => dif_pos a.isLt

/-- The positions of one block of rows, added to those before. -/
theorem part_block (x : (⟨2, ![4096, 1024]⟩ : Shape).Idx → EReal) (y : Fin 4096 → Fin 1024 → EReal) (l : Fin 1024) (B t : ℕ)
    (f : Fin B → EReal) (h : ∀ r : Fin B, f r = part x y l (B * t + r.val)) :
    ∑ j ∈ Finset.range (B * t), part x y l j + ∑ r, f r = ∑ j ∈ Finset.range (B * (t + 1)), part x y l j := by
  rw [Nat.mul_succ, Finset.sum_range_add, Finset.sum_range (fun j => part x y l (B * t + j))]
  exact congrArg (_ + ·) (Finset.sum_congr rfl fun r _ => h r)

end Cert.Norm
-- ==== Proof.NormGrad.lean ====
/-
  The gradient of the feed-forward layer's input: the call that adds the values' part of the normed input's gradient,
  goes back through the normalisation and sums the gradient of its gain.
-/
module

public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Norm
public import proofs.«01_k».proof.Proof.Blocks
public import proofs.«01_k».proof.Defs

@[expose] public section

set_option maxRecDepth 16384

noncomputable section

open Idealize.ShloMosaic Idealize.ShloMosaic.TcCoe Idealize.ShloMosaic.Tactic Idealize.SL.Sem

namespace Cert.NormGrad

open Cert.Product Cert.Norm

/-- One entry of the normed input's gradient: the product with the values' half of the weights, and the other half's part. -/
def cot (w : Mat 1024 6144) (u : Mat 4096 3072) (d : Mat 4096 1024)
    (a : Fin 4096) (l : Fin 1024) : EReal :=
  dotp (fun k : Fin 3072 => u (ix2 a k)) (fun k => w (ix2 l (⟨3072 + k.val, by omega⟩ : Fin 6144))) + d (ix2 a l)

section Call

open Kernel5Ideal Kernel5Ideal.Gen

/-- One entry of the normed input's gradient within a block of rows. -/
def bcot (v0 : Mat 512 3072) (v1 : Mat 1024 3072) (v3 : Mat 512 1024)
    (r : Fin 512) (l : Fin 1024) : EReal := dotp (fun k : Fin 3072 => v0 (ix2 r k)) (fun k => v1 (ix2 l k)) + v3 (ix2 r l)

/-- One block's part of the gain's gradient. -/
def bsum (v0 : Mat 512 3072) (v1 : Mat 1024 3072) (v3 v5 : Mat 512 1024)
    (l : Fin 1024) : EReal := ∑ r : Fin 512, row v5 r l * inv (row v5 r) * bcot v0 v1 v3 r l

/-- One entry of the gradient within a block of rows. -/
def bdx (v0 : Mat 512 3072) (v1 : Mat 1024 3072) (v3 v5 : Mat 512 1024)
    (v6 : Mat 1 1024) (v40 : Mat 512 1024) (r : Fin 512) (l : Fin 1024) : EReal :=
  v40 (ix2 r l) + back (row v5 r) (fun l => bcot v0 v1 v3 r l * v6 (ix2 0 l)) l

/-- The block's product, added to what the other call left. -/
theorem pay4_apply (v0 : Vec Ideal S512x3072 .bf16) (v1 : Vec Ideal S1024x3072 .bf16) (v3 : Vec Ideal S512x1024 .f32) (r : Fin 512) (l : Fin 1024) :
    k0_pay4 (F := Ideal) v0 v1 v3 (ix2 r l) = bcot v0 v1 v3 r l := by
  unfold k0_pay4 bcot dotp
  pointwise

/-- The rows' mean squares. -/
theorem pay5_apply (x : Vec Ideal S512x1024 .f32) (r : Fin 512) : k0_pay5 (F := Ideal) x (ix2 r 0) = meanSq (row x r) := by
  unfold k0_pay5
  pointwise
  rfl

/-- The rows' factors. -/
theorem pay6_apply (x : Vec Ideal S512x1024 .f32) (r : Fin 512) : k0_pay6 (F := Ideal) x (ix2 r 0) = inv (row x r) := by
  unfold k0_pay6
  pointwise
  rw [pay5_apply]
  rfl

/-- The block's part of the gain's gradient. -/
theorem pay7_apply (v0 : Vec Ideal S512x3072 .bf16) (v1 : Vec Ideal S1024x3072 .bf16) (v3 v5 : Vec Ideal S512x1024 .f32) (l : Fin 1024) :
    k0_pay7 (F := Ideal) v0 v1 v3 v5 (ix2 0 l) = bsum v0 v1 v3 v5 l := by
  unfold k0_pay7
  pointwise
  exact Finset.sum_congr rfl fun r _ => by rw [pay6_apply, pay4_apply]; rfl

/-- The gradient of the normalised row. -/
theorem pay8_apply (v0 : Vec Ideal S512x3072 .bf16) (v1 : Vec Ideal S1024x3072 .bf16) (v3 : Vec Ideal S512x1024 .f32) (v6 : Vec Ideal S1x1024 .f32) (r : Fin 512) (l : Fin 1024) :
    k0_pay8 (F := Ideal) v0 v1 v3 v6 (ix2 r l) = bcot v0 v1 v3 r l * v6 (ix2 0 l) := by
  unfold k0_pay8
  pointwise
  rw [pay4_apply]

/-- What comes back through the factor. -/
theorem pay9_apply (v0 : Vec Ideal S512x3072 .bf16) (v1 : Vec Ideal S1024x3072 .bf16) (v3 v5 : Vec Ideal S512x1024 .f32) (v6 : Vec Ideal S1x1024 .f32) (r : Fin 512) (l : Fin 1024) :
    k0_pay9 (F := Ideal) v0 v1 v3 v5 v6 (ix2 r l) = pull (row v5 r) (fun l => bcot v0 v1 v3 r l * v6 (ix2 0 l)) := by
  unfold k0_pay9
  pointwise
  simp only [Finset.univ_unique, Finset.sum_singleton, pay8_apply]
  exact congrArg (fun z : EReal => Ideal.div ((∑ k : Fin 1024, row v5 r k * (bcot v0 v1 v3 r k * v6 (ix2 0 k))) * (Ideal.ofBits .f32 0xBF000000#32 * z)) (Ideal.ofBits .f32 0x44800000#32))
    (congrArg₂ Ideal.div (pay6_apply v5 r) (pay5_apply v5 r))

/-- The block of the gradient that the call stores. -/
theorem pay1_apply (v0 : Vec Ideal S512x3072 .bf16) (v1 : Vec Ideal S1024x3072 .bf16) (v3 v5 : Vec Ideal S512x1024 .f32) (v6 : Vec Ideal S1x1024 .f32) (v40 : Vec Ideal S512x1024 .f32) (r : Fin 512) (l : Fin 1024) :
    k0_pay1 (F := Ideal) (k0_pay10 v0 v1 v3 v5 v6) (k0_pay11 v0 v1 v3 v5 v6) v40 (ix2 r l)
      = bdx v0 v1 v3 v5 v6 v40 r l := by
  unfold k0_pay1 k0_pay10 k0_pay11
  pointwise
  rw [pay8_apply, pay6_apply, pay9_apply]
  rfl

/-- The running sum of the gain's gradient, one block further. -/
theorem pay3_apply (v22 v46 : Vec Ideal S1x1024 .f32) (l : Fin 1024) :
    k0_pay3 (F := Ideal) v22 v46 (ix2 0 l) = v46 (ix2 0 l) + v22 (ix2 0 l) := by
  unfold k0_pay3
  pointwise

/-- The running sum starts at zero. -/
theorem pay2_apply (l : Fin 1024) : k0_pay2 (F := Ideal) (ix2 0 l) = 0 := by
  unfold k0_pay2
  pointwise

variable (m : (ℓ : Loc nD τ sig) → Buf (Elt Ideal) ℓ) (c : Dev nD)

section Point

variable (i : grid0.Coords) (arg2 : Memref sig .tc .vmem S512x3072 .bf16) (harg2 : arg2.IsWhole) (arg3 : Memref sig .tc .vmem S1024x3072 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole)

/-- The gradient block of the first point. -/
theorem out_A_6 (hc0 : cond0_0 i)
    (x0 : Vec Ideal S512x3072 .bf16) (x1 : Vec Ideal S1024x3072 .bf16) (x2 : Vec Ideal S512x1024 .f32) (x3 : Vec Ideal S512x1024 .f32) (x4 : Vec Ideal S1x1024 .f32) (x5 : Vec Ideal S512x1024 .f32) (r : Fin 512) (l : Fin 1024) :
    out0_A_6 (F := Ideal) c i arg2 harg2 arg3 harg3 arg4 harg4 arg5 harg5 arg6 harg6 arg7 harg7 arg8 harg8 arg9 harg9 hc0 x0 x1 x2 x3 x4 x5 (ix2 r l) = bdx x0 x1 x2 x3 x4 x5 r l := by
  unfold out0_A_6 kernelRun0_A
  dsimp only
  refine (read_store VO0_6 _ _ _ _ r l).trans ?_
  sl_unfold_words
  rw [readAt_whole arg2 harg2, readAt_whole arg3 harg3, readAt_whole arg4 harg4, readAt_whole arg5 harg5, readAt_whole arg6 harg6, readAt_whole arg7 harg7]
  exact pay1_apply _ _ _ _ _ _ _ _

/-- The gradient block of a later point. -/
theorem out_B_6 (hc0 : ¬cond0_0 i)
    (x0 : Vec Ideal S512x3072 .bf16) (x1 : Vec Ideal S1024x3072 .bf16) (x2 : Vec Ideal S512x1024 .f32) (x3 : Vec Ideal S512x1024 .f32) (x4 : Vec Ideal S1x1024 .f32) (x5 : Vec Ideal S512x1024 .f32) (xo7 : Vec Ideal S1x1024 .f32) (r : Fin 512) (l : Fin 1024) :
    out0_B_6 (F := Ideal) c i arg2 harg2 arg3 harg3 arg4 harg4 arg5 harg5 arg6 harg6 arg7 harg7 arg8 harg8 arg9 harg9 hc0 x0 x1 x2 x3 x4 x5 xo7 (ix2 r l) = bdx x0 x1 x2 x3 x4 x5 r l := by
  unfold out0_B_6 kernelRun0_B
  dsimp only
  refine (read_store VO0_6 _ _ _ _ r l).trans ?_
  sl_unfold_words
  rw [readAt_whole arg2 harg2, readAt_whole arg3 harg3, readAt_whole arg4 harg4, readAt_whole arg5 harg5, readAt_whole arg6 harg6, readAt_whole arg7 harg7]
  exact pay1_apply _ _ _ _ _ _ _ _

/-- The running sum after the first point. -/
theorem out_A_7 (hc0 : cond0_0 i)
    (x0 : Vec Ideal S512x3072 .bf16) (x1 : Vec Ideal S1024x3072 .bf16) (x2 : Vec Ideal S512x1024 .f32) (x3 : Vec Ideal S512x1024 .f32) (x4 : Vec Ideal S1x1024 .f32) (x5 : Vec Ideal S512x1024 .f32) (l : Fin 1024) :
    out0_A_7 (F := Ideal) c i arg2 harg2 arg3 harg3 arg4 harg4 arg5 harg5 arg6 harg6 arg7 harg7 arg8 harg8 arg9 harg9 hc0 x0 x1 x2 x3 x4 x5 (ix2 0 l) = bsum x0 x1 x2 x3 l := by
  unfold out0_A_7 kernelRun0_A
  dsimp only
  refine (read_store VO0_7 _ _ _ _ 0 l).trans ?_
  sl_unfold_words
  rw [readAt_whole arg2 harg2, readAt_whole arg3 harg3, readAt_whole arg4 harg4, readAt_whole arg5 harg5]
  refine (pay3_apply _ _ _).trans ?_
  rw [pay7_apply, View.readCov_cons_toLoadRect, pay2_apply, zero_add]

/-- The running sum after a later point. -/
theorem out_B_7 (hc0 : ¬cond0_0 i)
    (x0 : Vec Ideal S512x3072 .bf16) (x1 : Vec Ideal S1024x3072 .bf16) (x2 : Vec Ideal S512x1024 .f32) (x3 : Vec Ideal S512x1024 .f32) (x4 : Vec Ideal S1x1024 .f32) (x5 : Vec Ideal S512x1024 .f32) (xo7 : Vec Ideal S1x1024 .f32) (l : Fin 1024) :
    out0_B_7 (F := Ideal) c i arg2 harg2 arg3 harg3 arg4 harg4 arg5 harg5 arg6 harg6 arg7 harg7 arg8 harg8 arg9 harg9 hc0 x0 x1 x2 x3 x4 x5 xo7 (ix2 0 l) = xo7 (ix2 0 l) + bsum x0 x1 x2 x3 l := by
  unfold out0_B_7 kernelRun0_B
  dsimp only
  refine (read_store VO0_7 _ _ _ _ 0 l).trans ?_
  sl_unfold_words
  rw [readAt_whole arg2 harg2, readAt_whole arg3 harg3, readAt_whole arg4 harg4, readAt_whole arg5 harg5, readAt_whole arg9 harg9]
  refine (pay3_apply _ _ _).trans ?_
  rw [pay7_apply]

end Point

/-- Where the values' cotangent's block lies. -/
theorem index0 : ∀ t : Fin cfg0.N, win0_0.index t (0 : Fin 2) = t.val ∧ win0_0.index t (1 : Fin 2) = 0 :=
  (by decide +kernel : ∀ t : Fin grid0.N, _)
/-- Where the weights' block lies: the values' half. -/
theorem index1 : ∀ t : Fin cfg0.N, win0_1.index t (0 : Fin 2) = 0 ∧ win0_1.index t (1 : Fin 2) = 1 :=
  (by decide +kernel : ∀ t : Fin grid0.N, _)
/-- Where the other call's block lies. -/
theorem index2 : ∀ t : Fin cfg0.N, win0_2.index t (0 : Fin 2) = t.val ∧ win0_2.index t (1 : Fin 2) = 0 :=
  (by decide +kernel : ∀ t : Fin grid0.N, _)
/-- Where the layer's input's block lies. -/
theorem index3 : ∀ t : Fin cfg0.N, win0_3.index t (0 : Fin 2) = t.val ∧ win0_3.index t (1 : Fin 2) = 0 :=
  (by decide +kernel : ∀ t : Fin grid0.N, _)
/-- Where the gain lies. -/
theorem index4 : ∀ t : Fin cfg0.N, win0_4.index t (0 : Fin 2) = 0 ∧ win0_4.index t (1 : Fin 2) = 0 :=
  (by decide +kernel : ∀ t : Fin grid0.N, _)
/-- Where the block of the cotangent past the layer lies. -/
theorem index5 : ∀ t : Fin cfg0.N, win0_5.index t (0 : Fin 2) = t.val ∧ win0_5.index t (1 : Fin 2) = 0 :=
  (by decide +kernel : ∀ t : Fin grid0.N, _)
/-- Where the gradient's block lies. -/
theorem index6 : ∀ t : Fin cfg0.N, win0_6.index t (0 : Fin 2) = t.val ∧ win0_6.index t (1 : Fin 2) = 0 :=
  (by decide +kernel : ∀ t : Fin grid0.N, _)
/-- Where the gain's gradient lies. -/
theorem index7 : ∀ t : Fin cfg0.N, win0_7.index t (0 : Fin 2) = 0 ∧ win0_7.index t (1 : Fin 2) = 0 :=
  (by decide +kernel : ∀ t : Fin grid0.N, _)

/-- What the values' cotangent's block holds. -/
theorem blk0 (t : Fin cfg0.N) (r : Fin 512) (k : Fin 3072) (a : Fin 4096) (h : a.val = 512 * t.val + r.val) : iblk m c 0 t (ix2 r k) = V m c main_arg3 (ix2 a k) := by
  have e := index0 t
  exact congrArg (V m c main_arg3) (at2 (show win0_0.index t (0 : Fin 2) * 512 + 1 * r.val = a.val by omega) (show win0_0.index t (1 : Fin 2) * 3072 + 1 * k.val = k.val by omega))

/-- What the weights' block holds. -/
theorem blk1 (t : Fin cfg0.N) (l : Fin 1024) (k : Fin 3072) : iblk m c 1 t (ix2 l k) = V m c main_arg2 (ix2 l (⟨3072 + k.val, by omega⟩ : Fin 6144)) := by
  have e := index1 t
  exact congrArg (V m c main_arg2) (at2 (show win0_1.index t (0 : Fin 2) * 1024 + 1 * l.val = l.val by omega) (show win0_1.index t (1 : Fin 2) * 3072 + 1 * k.val = 3072 + k.val by omega))

/-- What the other call's block holds. -/
theorem blk2 (t : Fin cfg0.N) (r : Fin 512) (k : Fin 1024) (a : Fin 4096) (h : a.val = 512 * t.val + r.val) : iblk m c 2 t (ix2 r k) = V m c main_arg4 (ix2 a k) := by
  have e := index2 t
  exact congrArg (V m c main_arg4) (at2 (show win0_2.index t (0 : Fin 2) * 512 + 1 * r.val = a.val by omega) (show win0_2.index t (1 : Fin 2) * 1024 + 1 * k.val = k.val by omega))

/-- What the layer's input's block holds. -/
theorem blk3 (t : Fin cfg0.N) (r : Fin 512) (k : Fin 1024) (a : Fin 4096) (h : a.val = 512 * t.val + r.val) : iblk m c 3 t (ix2 r k) = V m c main_arg0 (ix2 a k) := by
  have e := index3 t
  exact congrArg (V m c main_arg0) (at2 (show win0_3.index t (0 : Fin 2) * 512 + 1 * r.val = a.val by omega) (show win0_3.index t (1 : Fin 2) * 1024 + 1 * k.val = k.val by omega))

/-- What the block of the cotangent past the layer holds. -/
theorem blk5 (t : Fin cfg0.N) (r : Fin 512) (k : Fin 1024) (a : Fin 4096) (h : a.val = 512 * t.val + r.val) : iblk m c 5 t (ix2 r k) = V m c main_arg5 (ix2 a k) := by
  have e := index5 t
  exact congrArg (V m c main_arg5) (at2 (show win0_5.index t (0 : Fin 2) * 512 + 1 * r.val = a.val by omega) (show win0_5.index t (1 : Fin 2) * 1024 + 1 * k.val = k.val by omega))

/-- What the gain's block holds. -/
theorem blk4 (t : Fin cfg0.N) (k : Fin 1024) : iblk m c 4 t (ix2 0 k) = V m c main_arg1 (ix2 0 k) := by
  have e := index4 t
  exact congrArg (V m c main_arg1) (at2 (show win0_4.index t (0 : Fin 2) * 1 + 1 * 0 = 0 by omega) (show win0_4.index t (1 : Fin 2) * 1024 + 1 * k.val = k.val by omega))

/-- A block's entry of the normed input's gradient is the whole array's. -/
theorem bcot_eq (t : Fin cfg0.N) (r : Fin 512) (l : Fin 1024) (a : Fin 4096) (h : a.val = 512 * t.val + r.val) :
    bcot (iblk m c 0 t) (iblk m c 1 t) (iblk m c 2 t) r l = cot (V m c main_arg2) (V m c main_arg3) (V m c main_arg4) a l :=
  congrArg₂ (· + ·) (dotp_congr (fun k => blk0 m c t r k a h) (fun k => blk1 m c t l k)) (blk2 m c t r l a h)

/-- A block's row of the layer's input is the whole array's. -/
theorem row_eq (t : Fin cfg0.N) (r : Fin 512) (a : Fin 4096) (h : a.val = 512 * t.val + r.val) :
    row (M := 512) (iblk m c 3 t) r = row (M := 4096) (V m c main_arg0) a := funext fun k => blk3 m c t r k a h

/-- The part of the gain's gradient from one block of rows. -/
theorem bsum_eq (t : Fin cfg0.N) (l : Fin 1024) :
    bsum (iblk m c 0 t) (iblk m c 1 t) (iblk m c 2 t) (iblk m c 3 t) l = ∑ r : Fin 512, part (V m c main_arg0) (cot (V m c main_arg2) (V m c main_arg3) (V m c main_arg4)) l (512 * t.val + r.val) := by
  unfold bsum
  refine Finset.sum_congr rfl fun r _ => ?_
  have hN : t.val < 8 := lt_of_lt_of_eq t.isLt (show cfg0.N = 8 from N_0)
  have ha : 512 * t.val + r.val < 4096 := by omega
  rw [bcot_eq m c t r l ⟨_, ha⟩ rfl, row_eq m c t r ⟨_, ha⟩ rfl]
  unfold part
  rw [dif_pos ha]
  rfl

/-- The running sum after the first point. -/
theorem step_A (t : Fin cfg0.N) (ht : t.val % 8 = 0) (l : Fin 1024) : (outsAt0 m c t.val t.isLt).2 (ix2 0 l) = bsum (iblk m c 0 t) (iblk m c 1 t) (iblk m c 2 t) (iblk m c 3 t) l := by
  rw [outsAt0_A m c t ht]
  dsimp only
  exact out_A_7 c _ _ _ _ _ _ _ _ _ _ _ _ _ _ _ _ _ _ _ _ _ _ _ _ _

/-- The running sum after a later point. -/
theorem step_B (t : Fin cfg0.N) (ht : ¬t.val % 8 = 0) (l : Fin 1024) : (outsAt0 m c t.val t.isLt).2 (ix2 0 l)
    = ((outsAt0 m c (t.val - 1) (Nat.lt_of_le_of_lt (Nat.sub_le _ _) t.isLt)).2 (ix2 0 l) : EReal) + bsum (iblk m c 0 t) (iblk m c 1 t) (iblk m c 2 t) (iblk m c 3 t) l := by
  rw [outsAt0_B m c t ht]
  dsimp only
  exact out_B_7 c _ _ _ _ _ _ _ _ _ _ _ _ _ _ _ _ _ _ _ _ _ _ _ _ _ _

/-- The gradient's block after any point. -/
theorem step_6 (t : Fin cfg0.N) (r : Fin 512) (l : Fin 1024) : (outsAt0 m c t.val t.isLt).1 (ix2 r l) = bdx (iblk m c 0 t) (iblk m c 1 t) (iblk m c 2 t) (iblk m c 3 t) (iblk m c 4 t) (iblk m c 5 t) r l := by
  by_cases ht : t.val % 8 = 0
  · rw [outsAt0_A m c t ht]
    dsimp only
    exact out_A_6 c _ _ _ _ _ _ _ _ _ _ _ _ _ _ _ _ _ _ _ _ _ _ _ _ _ _
  · rw [outsAt0_B m c t ht]
    dsimp only
    exact out_B_6 c _ _ _ _ _ _ _ _ _ _ _ _ _ _ _ _ _ _ _ _ _ _ _ _ _ _ _

/-- The running sum after each point: all the positions up to it. -/
theorem running (l : Fin 1024) : ∀ (n : ℕ) (hn : n < cfg0.N), (outsAt0 m c n hn).2 (ix2 0 l) = ∑ j ∈ Finset.range (512 * (n + 1)), part (V m c main_arg0) (cot (V m c main_arg2) (V m c main_arg3) (V m c main_arg4)) l j := by
  intro n
  induction n with
  | zero =>
    intro hn
    rw [← part_block _ _ _ 512 0 _ (fun r => rfl), Nat.mul_zero, Finset.sum_range_zero, zero_add]
    exact (step_A m c ⟨0, hn⟩ rfl l).trans (bsum_eq m c ⟨0, hn⟩ l)
  | succ n ih =>
    intro hn
    have hN : n + 1 < 8 := lt_of_lt_of_eq hn (show cfg0.N = 8 from N_0)
    rw [← part_block _ _ _ 512 (n + 1) _ (fun r => rfl), ← ih (Nat.lt_of_succ_lt hn)]
    exact (step_B m c ⟨n + 1, hn⟩ (by show ¬ (n + 1) % 8 = 0; omega) l).trans (congrArg (_ + ·) (bsum_eq m c ⟨n + 1, hn⟩ l))

/-- A block's entry of the gradient is the whole array's. -/
theorem bdx_eq (t : Fin cfg0.N) (r : Fin 512) (l : Fin 1024) (a : Fin 4096) (h : a.val = 512 * t.val + r.val) :
    bdx (iblk m c 0 t) (iblk m c 1 t) (iblk m c 2 t) (iblk m c 3 t) (iblk m c 4 t) (iblk m c 5 t) r l
      = dx (V m c main_arg0) (V m c main_arg1) (cot (V m c main_arg2) (V m c main_arg3) (V m c main_arg4)) (V m c main_arg5) a l := by
  unfold bdx dx
  rw [row_eq m c t r a h]
  exact congrArg₂ (· + ·) (blk5 m c t r l a h) (congrArg (fun p => back (row (M := 4096) (V m c main_arg0) a) p l)
    (funext fun l => congrArg₂ (· * ·) (bcot_eq m c t r l a h) (blk4 m c t l)))

/-- The gradient array the call leaves. -/
theorem out6 (a : Fin 4096) (b : Fin 1024) :
    (dats m 0 c).arrAt 6 cfg0.N (ix2 a b) = dx (V m c main_arg0) (V m c main_arg1) (cot (V m c main_arg2) (V m c main_arg3) (V m c main_arg4)) (V m c main_arg5) a b := by
  refine (dats m 0 c).arrAt_forall_of_covers 6 (fun y v => ∀ (a : Fin 4096) (b : Fin 1024), y = ix2 a b → v = dx (V m c main_arg0) (V m c main_arg1) (cot (V m c main_arg2) (V m c main_arg3) (V m c main_arg4)) (V m c main_arg5) a b)
    (by decide +kernel) (fun t hf y a b e => ?_) _ (Memref.isWhole_whole _) a b rfl
  have r0 : win0_6.index t (0 : Fin 2) * 512 + 1 * (y 0).val = a.val := congrArg (fun z : S4096x1024.Idx => (z 0).val) e
  have r1 : win0_6.index t (1 : Fin 2) * 1024 + 1 * (y 1).val = b.val := congrArg (fun z : S4096x1024.Idx => (z 1).val) e
  obtain ⟨e0, e1⟩ := index6 t
  rw [e0] at r0
  rw [e1] at r1
  have hl : (y 0).val < 512 := (y 0).isLt
  have hb : (⟨(y 1).val, (y 1).isLt⟩ : Fin 1024) = b := Fin.ext (by show (y 1).val = b.val; omega)
  have hy : y = ix2 (⟨(y 0).val, hl⟩ : Fin 512) (⟨(y 1).val, (y 1).isLt⟩ : Fin 1024) := at2 rfl rfl
  have h : a.val = 512 * t.val + (⟨(y 0).val, hl⟩ : Fin 512).val := by show a.val = 512 * t.val + (y 0).val; omega
  show (dats m 0 c).after 6 t y = _
  rw [after0_6, hy, hb]
  exact (step_6 m c t _ b).trans (bdx_eq m c t _ b a h)

/-- The gain's gradient the call leaves. -/
theorem out7 (b : Fin 1024) :
    (dats m 0 c).arrAt 7 cfg0.N (ix2 0 b) = dgain (V m c main_arg0) (cot (V m c main_arg2) (V m c main_arg3) (V m c main_arg4)) b := by
  refine (dats m 0 c).arrAt_forall_of_covers 7 (fun y v => ∀ b : Fin 1024, y = ix2 0 b → v = dgain (V m c main_arg0) (cot (V m c main_arg2) (V m c main_arg3) (V m c main_arg4)) b)
    (by decide +kernel) (fun t hf y b e => ?_) _ (Memref.isWhole_whole _) b rfl
  have r1 : win0_7.index t (1 : Fin 2) * 1024 + 1 * (y 1).val = b.val := congrArg (fun z : S1x1024.Idx => (z 1).val) e
  obtain ⟨e0, e1⟩ := index7 t
  rw [e1] at r1
  have hb : (⟨(y 1).val, (y 1).isLt⟩ : Fin 1024) = b := Fin.ext (by show (y 1).val = b.val; omega)
  have hy : y = ix2 (0 : Fin 1) (⟨(y 1).val, (y 1).isLt⟩ : Fin 1024) := row0 y _ rfl
  have ht : t.val = 7 := (by decide +kernel : ∀ t : Fin grid0.N, (cfg0.win 7).flush t = true → t.val = 7) t hf
  show (dats m 0 c).after 7 t y = _
  rw [after0_7, hy, hb, running m c b t.val t.isLt, ht]
  exact dgain_range _ _ _

end Call

section Ref

open Reference5Ideal Reference5Ideal.Read Reference5Ideal.Gen

variable (x0 : (⟨S4096x1024, .f32⟩ : BufTy).Contents (Elt Ideal)) (x1 : (⟨S1x1024, .f32⟩ : BufTy).Contents (Elt Ideal))
  (x2 : (⟨S1024x6144, .bf16⟩ : BufTy).Contents (Elt Ideal)) (x3 : (⟨S4096x3072, .bf16⟩ : BufTy).Contents (Elt Ideal))
  (x4 x5 : (⟨S4096x1024, .f32⟩ : BufTy).Contents (Elt Ideal))

/-- The reference's mean squares. -/
theorem ref_meanSq (a : Fin 4096) : val_main_v6 (F := Ideal) x0 (ix2 a 0) = meanSq (row (M := 4096) x0 a) := by
  rw [val_main_v6_apply, val_main_v4_apply, val_main_v2_apply, val_main_v1_apply, val_main_v3_apply, val_main_cst_0_apply, val_main_v5_apply, val_main_cst_1_apply,
    val_main_cst_apply, Ideal.addf_def, Ideal.hostDivf_def]
  have hi : ∀ k, idx_main_v1 (idx_main_v2 (ix2 a (0 : Fin 1))) k = ix2 a k := fun k => at2 rfl rfl
  simp only [hi, val_main_v0_apply, Ideal.mulf_def]
  exact congrArg (fun z : EReal => Ideal.div z (Ideal.ofBits .f32 0x44800000#32) + Ideal.ofBits .f32 0x358637BD#32)
    ((congrArg (· + ∑ k : Fin 1024, x0 (ix2 a k) * x0 (ix2 a k)) Ideal.ofBits_zero_f32).trans (zero_add _))

/-- The reference's factors. -/
theorem ref_inv (a : Fin 4096) : val_main_v7 (F := Ideal) x0 (ix2 a 0) = inv (row (M := 4096) x0 a) := by
  rw [val_main_v7_apply, ref_meanSq]
  rfl

/-- The values' cotangent with zeros on its left: its left half. -/
theorem ref_left (a : Fin 4096) (k : Fin 3072) : val_main_v21 (F := Ideal) x3 (ix2 a (⟨k.val, by omega⟩ : Fin 6144)) = 0 := by
  unfold val_main_v21
  refine (concatenate_pair_apply_left (s₁ := S4096x3072) (s₂ := S4096x3072) (1 : Fin 2) _ _ _ (ix2 a (⟨k.val, by omega⟩ : Fin 6144)) rfl (ix2 a k) (fun x => ?_)).trans ?_
  · fin_cases x <;> rfl
  · exact Ideal.ofBits_zero_f32

/-- The values' cotangent with zeros on its left: its right half. -/
theorem ref_right (a : Fin 4096) (k : Fin 3072) : val_main_v21 (F := Ideal) x3 (ix2 a (⟨3072 + k.val, by omega⟩ : Fin 6144)) = x3 (ix2 a k) := by
  unfold val_main_v21
  refine (concatenate_pair_apply_right (s₁ := S4096x3072) (s₂ := S4096x3072) (1 : Fin 2) _ _ _ (ix2 a (⟨3072 + k.val, by omega⟩ : Fin 6144)) rfl rfl (ix2 a k) (fun x hx => ?_) ?_).trans ?_
  · fin_cases x
    · rfl
    · exact absurd rfl hx
  · show k.val + 3072 = 3072 + k.val
    omega
  · rw [val_main_v19_apply, Ideal.extf_def]

/-- The reference's gradient of the normed input, the zeros left out. -/
theorem ref_cot (a : Fin 4096) (b : Fin 1024) : val_main_v25 (F := Ideal) x2 x3 x4 (ix2 a b) = cot x2 x3 x4 a b := by
  rw [val_main_v25_apply, val_main_v24_apply, Ideal.extf_def, val_main_v23_apply, Ideal.truncf_def, val_main_v22_apply, Ideal.addf_def]
  have hl : ∀ k, lidx_main_v22 (ix2 a b) k = ix2 a k := fun k => at2 rfl rfl
  have hr : ∀ k, ridx_main_v22 (ix2 a b) k = ix2 b k := fun k => at2 rfl rfl
  simp only [hl, hr]
  rw [sum_halves]
  simp only [ref_left, ref_right, zero_mul, Finset.sum_const_zero, zero_add]
  exact add_comm _ _

/-- The reference's normalised entry. -/
theorem ref_normed (a : Fin 4096) (b : Fin 1024) : val_main_v12 (F := Ideal) x0 (ix2 a b) = x0 (ix2 a b) * inv (row (M := 4096) x0 a) := by
  rw [val_main_v12_apply, val_main_v11_apply, Ideal.mulf_def, col0 (idx_main_v11 (ix2 a b)) a rfl, ref_inv]

/-- The reference's gradient of the normalised entry. -/
theorem ref_scaled (a : Fin 4096) (b : Fin 1024) : val_main_v30 (F := Ideal) x1 x2 x3 x4 (ix2 a b) = cot x2 x3 x4 a b * x1 (ix2 0 b) := by
  rw [val_main_v30_apply, val_main_v29_apply, Ideal.mulf_def, row0 (idx_main_v29 (ix2 a b)) b rfl, ref_cot]

/-- What comes back through the reference's factor. -/
theorem ref_pull (a : Fin 4096) (b : Fin 1024) :
    val_main_v41 (F := Ideal) x0 x1 x2 x3 x4 (ix2 a b) = pull (row (M := 4096) x0 a) (fun l => cot x2 x3 x4 a l * x1 (ix2 0 l)) := by
  rw [val_main_v41_apply, val_main_v40_apply, val_main_cst_7_apply]
  have h40 : ∀ k, idx_main_v40 (idx_main_v41 (ix2 a b)) k = ix2 a (0 : Fin 1) := fun k => at2 rfl (Nat.lt_one_iff.mp k.isLt)
  have h32 : ∀ k, idx_main_v32 (idx_main_v33 (ix2 a (0 : Fin 1))) k = ix2 a k := fun k => at2 (show a.val * 1 + 0 = a.val by omega) rfl
  simp only [h40, Finset.univ_unique, Finset.sum_singleton]
  rw [val_main_v39_apply, val_main_v37_apply, val_main_v38_apply, val_main_cst_6_apply, val_main_v33_apply, val_main_v32_apply, val_main_cst_5_apply,
    val_main_v10_apply, val_main_v9_apply, val_main_cst_2_apply, val_main_v8_apply, ref_inv, ref_meanSq]
  simp only [h32, val_main_v31_apply, ref_scaled, Ideal.mulf_def, Ideal.hostDivf_def]
  refine (congrArg (· + _) Ideal.ofBits_zero_f32).trans ((zero_add _).trans ?_)
  exact congrArg (fun z : EReal => Ideal.div (z * (Ideal.ofBits .f32 0xBF000000#32 * Ideal.div (inv (row (M := 4096) x0 a)) (meanSq (row (M := 4096) x0 a)))) (Ideal.ofBits .f32 0x44800000#32))
    ((congrArg (· + ∑ k : Fin 1024, x0 (ix2 a k) * (cot x2 x3 x4 a k * x1 (ix2 0 k))) Ideal.ofBits_zero_f32).trans (zero_add _))

/-- The reference's gradient of the layer's input. -/
theorem ref_dx (a : Fin 4096) (b : Fin 1024) : val_main_v45 (F := Ideal) x0 x1 x2 x3 x4 x5 (ix2 a b) = dx x0 x1 (cot x2 x3 x4) x5 a b := by
  rw [val_main_v45_apply, val_main_v43_apply, val_main_v36_apply, val_main_v35_apply, val_main_v42_apply, val_main_v44_apply, val_main_v34_apply,
    ref_pull, ref_scaled, col0 (idx_main_v34 (ix2 a b)) a rfl, ref_inv]
  simp only [Ideal.addf_def, Ideal.mulf_def]
  unfold dx back
  exact (add_assoc _ _ _).trans ((add_assoc _ _ _).trans (congrArg (_ + ·) (add_assoc _ _ _).symm))

/-- The reference's gradient of the gain. -/
theorem ref_dgain (b : Fin 1024) : val_main_v28 (F := Ideal) x0 x2 x3 x4 (ix2 0 b) = dgain x0 (cot x2 x3 x4) b := by
  rw [val_main_v28_apply, val_main_v27_apply, val_main_cst_4_apply]
  have hi : ∀ k, idx_main_v27 (idx_main_v28 (ix2 (0 : Fin 1) b)) k = ix2 k b := fun k => at2 rfl (show 0 * 1024 + b.val = b.val by omega)
  simp only [hi, val_main_v26_apply, ref_normed, ref_cot, Ideal.mulf_def]
  exact (congrArg (· + _) Ideal.ofBits_zero_f32).trans (zero_add _)

end Ref

/-- The reference runs, leaves its arguments and declares no semaphore. -/
theorem frame_reference : quiescent_Reference5Ideal := fun m ρ _ =>
  (θ_run Reference5Ideal.defs _ _).mono (fun r h => ⟨fun c => (h c).2.2, sem_eq_zero_of_no_sems (by decide) r.2⟩)
    (Reference5Ideal.Value.run (F := Ideal) m ρ)

/-- The call and the reference leave the same two arrays. -/
theorem values : algebraic_Kernel5Ideal_Reference5Ideal := by
  intro m g m' g' _ ha
  refine ⟨fun c => (Kernel5Ideal.Gen.dats m 0 c).arrAt 6 Kernel5Ideal.cfg0.N, fun c => (Kernel5Ideal.Gen.dats m 0 c).arrAt 7 Kernel5Ideal.cfg0.N,
    Kernel5Ideal.Value.run_blocks m g,
    (θ_run Reference5Ideal.defs _ _).mono (fun r h c => ⟨(h c).1.trans ?_, (h c).2.1.trans ?_, (h c).2.2⟩)
      (Reference5Ideal.Value.run (F := Ideal) m' g')⟩
  · obtain ⟨h0, h1, h2, h3, h4, h5⟩ := ha c
    rw [Reference5Ideal.Read.val_main_v45_eq, h0, h1, h2, h3, h4, h5]
    funext i
    rw [eta2 (M := 4096) (N := 1024) i]
    exact (ref_dx _ _ _ _ _ _ _ _).trans (out6 m c _ _).symm
  · obtain ⟨h0, h1, h2, h3, h4, h5⟩ := ha c
    rw [Reference5Ideal.Read.val_main_v28_eq, h0, h2, h3, h4]
    funext i
    have eta2 (M := 4096) (N := 1024) i : i = ix2 (0 : Fin 1) (⟨(i 1).val, (i 1).isLt⟩ : Fin 1024) := by
      funext a
      match a with
      | ⟨0, _⟩ => exact Fin.ext (Nat.lt_one_iff.mp (i 0).isLt)
      | ⟨1, _⟩ => rfl
    rw [eta2 (M := 4096) (N := 1024) i]
    exact (ref_dgain _ _ _ _ _).trans (out7 m c _).symm

end Cert.NormGrad
-- ==== Proof.Products.lean ====
/-
  A projection, the mixer's first product, the feed-forward layer's last one, and the gradients that come back through the output projection and the gated unit: one entry of a call is the whole sum, as in the reference.
-/
module

public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Rect
public import proofs.«01_k».proof.Defs

@[expose] public section

set_option maxRecDepth 16384

noncomputable section

open Idealize.ShloMosaic Idealize.ShloMosaic.TcCoe Idealize.ShloMosaic.Tactic Idealize.SL.Sem Cert.Product

namespace Cert.Project

section Call

open Kernel6Ideal Kernel6Ideal.Gen

/-- One block of the product: the whole sum. -/
theorem pay_apply (x0 : Vec Ideal S1024x1024 .bf16) (x1 : Vec Ideal S1024x1024 .bf16) (i : S1024x1024.Idx) :
    k0_pay1 (F := Ideal) x0 x1 i = nn (M := 1024) (K := 1024) (N := 1024) x0 x1 i := by
  unfold k0_pay1 nn dotp
  pointwise
  rfl

/-- A projection: every entry that the call leaves. -/
theorem out (m : (ℓ : Loc nD τ sig) → Buf (Elt Ideal) ℓ) (c : Dev nD) (y : S4096x1024.Idx) :
    (dats m 0 c).arrAt 2 cfg0.N y = nn (M := 4096) (K := 1024) (N := 1024) (V m c main_arg0) (V m c main_arg1) y := by
  refine (dats m 0 c).arrAt_forall_of_covers 2 (fun y v => v = nn (M := 4096) (K := 1024) (N := 1024) (V m c main_arg0) (V m c main_arg1) y) (by decide +kernel) (fun t hf y => ?_) _ (Memref.isWhole_whole _)
  obtain ⟨e0, e1, e2, e3⟩ := (by decide +kernel : ∀ t : Fin grid0.N, win0_0.index t (0 : Fin 2) = win0_2.index t (0 : Fin 2) ∧ win0_0.index t (1 : Fin 2) = 0 ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S1024x1024) zero2, View.ld_unit_zero (S := S1024x1024) zero2]
  exact (pay_apply _ _ _).trans (dotp_congr
    (fun k => congrArg (V m c main_arg0) (at2 (same e0 1024 (y 0).val) (full e1 1024 k.val)))
    (fun k => congrArg (V m c main_arg1) (at2 (full e2 1024 k.val) (same e3 1024 (y 1).val))))

end Call

section Ref

open Reference6Ideal Reference6Ideal.Read Reference6Ideal.Gen

/-- The reference's entry: the same. -/
theorem ref (x0 : (⟨S4096x1024, .bf16⟩ : BufTy).Contents (Elt Ideal)) (x1 : (⟨S1024x1024, .bf16⟩ : BufTy).Contents (Elt Ideal)) (i : S4096x1024.Idx) :
    val_main_v1 (F := Ideal) x0 x1 i = nn (M := 4096) (K := 1024) (N := 1024) x0 x1 i := by
  rw [val_main_v1_apply, Ideal.truncf_def, val_main_v0_apply]
  exact Finset.sum_congr rfl fun k _ => congrArg₂ (· * ·) (congrArg x0 (at2 rfl rfl)) (congrArg x1 (at2 rfl rfl))

end Ref

/-- The reference runs, leaves its arguments and declares no semaphore. -/
theorem frame_reference : quiescent_Reference6Ideal := fun m ρ _ =>
  (θ_run Reference6Ideal.defs _ _).mono (fun r h => ⟨fun c => (h c).2, sem_eq_zero_of_no_sems (by decide) r.2⟩)
    (Reference6Ideal.Value.run (F := Ideal) m ρ)

/-- The call and the reference leave the same array. -/
theorem values : algebraic_Kernel6Ideal_Reference6Ideal := by
  intro m g m' g' _ ha
  refine ⟨fun c => (Kernel6Ideal.Gen.dats m 0 c).arrAt 2 Kernel6Ideal.cfg0.N, Kernel6Ideal.Value.run_blocks m g,
    (θ_run Reference6Ideal.defs _ _).mono (fun r h c => ⟨(h c).1.trans ?_, (h c).2⟩)
      (Reference6Ideal.Value.run (F := Ideal) m' g')⟩
  obtain ⟨h0, h1⟩ := ha c
  rw [Reference6Ideal.Read.val_main_v1_eq, h0, h1]
  exact funext fun i => (ref _ _ i).trans (out m c i).symm

end Cert.Project

namespace Cert.OutGrad

section Call

open Kernel7Ideal Kernel7Ideal.Gen

/-- One block of the product: the whole sum. -/
theorem pay_apply (x0 : Vec Ideal S1024x1024 .f32) (x1 : Vec Ideal S1024x1024 .bf16) (i : S1024x1024.Idx) :
    k0_pay1 (F := Ideal) x0 x1 i = nt (M := 1024) (K := 1024) (N := 1024) x0 x1 i := by
  unfold k0_pay1 nt dotp
  pointwise
  rfl

/-- The gradient of the output projection's input: every entry that the call leaves. -/
theorem out (m : (ℓ : Loc nD τ sig) → Buf (Elt Ideal) ℓ) (c : Dev nD) (y : S4096x1024.Idx) :
    (dats m 0 c).arrAt 2 cfg0.N y = nt (M := 4096) (K := 1024) (N := 1024) (V m c main_arg2) (V m c main_arg1) y := by
  refine (dats m 0 c).arrAt_forall_of_covers 2 (fun y v => v = nt (M := 4096) (K := 1024) (N := 1024) (V m c main_arg2) (V m c main_arg1) y) (by decide +kernel) (fun t hf y => ?_) _ (Memref.isWhole_whole _)
  obtain ⟨e0, e1, e2, e3⟩ := (by decide +kernel : ∀ t : Fin grid0.N, win0_0.index t (0 : Fin 2) = win0_2.index t (0 : Fin 2) ∧ win0_0.index t (1 : Fin 2) = 0 ∧ win0_1.index t (0 : Fin 2) = win0_2.index t (1 : Fin 2) ∧ win0_1.index t (1 : Fin 2) = 0) t
  show (dats m 0 c).after 2 t y = _
  rw [after0_2]
  unfold out0_2
  rw [View.canon_unit_zero zero2, View.ld_unit_zero (S := S1024x1024) zero2, View.ld_unit_zero (S := S1024x1024) zero2]
  exact (pay_apply _ _ _).trans (dotp_congr
    (fun k => congrArg (V m c main_arg2) (at2 (same e0 1024 (y 0).val) (full e1 1024 k.val)))
    (fun k => congrArg (V m c main_arg1) (at2 (same e2 1024 (y 1).val) (full e3 1024 k.val))))

end Call

section Ref

open Reference7Ideal Reference7Ideal.Read Reference7Ideal.Gen

/-- The reference's entry: the same. -/
theorem ref (x1 : (⟨S1024x1024, .bf16⟩ : BufTy).Contents (Elt Ideal)) (x2 : (⟨S4096x1024, .f32⟩ : BufTy).Contents (Elt Ideal)) (i : S4096x1024.Idx) :
    val_main_v2 (F := Ideal) x1 x2 i = nt (M := 4096) (K := 1024) (N := 1024) x2 x1 i := by
  rw [val_main_v2_apply, Ideal.truncf_def, val_main_v1_apply]
  exact Finset.sum_congr rfl fun k _ => congrArg₂ (· * ·) (congrArg x2 (at2 rfl rfl)) (congrArg x1 (at2 rfl rfl))

end Ref

/-- The reference runs, leaves its arguments and declares no semaphore. -/
theorem frame_reference : quiescent_Reference7Ideal := fun m ρ _ =>
  (θ_run Reference7Ideal.defs _ _).mono (fun r h => ⟨fun c => (h c).2, sem_eq_zero_of_no_sems (by decide) r.2⟩)
    (Reference7Ideal.Value.run (F := Ideal) m ρ)

/-- The call and the reference leave the same array. -/
theorem values : algebraic_Kernel7Ideal_Reference7Ideal := by
  intro m g m' g' _ ha
  refine ⟨fun c => (Kernel7Ideal.Gen.dats m 0 c).arrAt 2 Kernel7Ideal.cfg0.N, Kernel7Ideal.Value.run_blocks m g,
    (θ_run Reference7Ideal.defs _ _).mono (fun r h c => ⟨(h c).1.trans ?_, (h c).2⟩)
      (Reference7Ideal.Value.run (F := Ideal) m' g')⟩
  obtain ⟨h0, h1, h2⟩ := ha c
  rw [Reference7Ideal.Read.val_main_v2_eq, h1, h2]
  exact funext fun i => (ref _ _ i).trans (out m c i).symm

end Cert.OutGrad

namespace Cert.GluA

section Call

open Kernel10Ideal Kernel10Ideal.Gen

/-- One block of the product: the whole sum. -/
theorem pay_apply (x0 : Vec Ideal S1024x1024 .bf16) (x1 : Vec Ideal S1024x1024 .bf16) (i : S1024x1024.Idx) :
    k0_pay1 (F := Ideal) x0 x1 i = nt (M := 1024) (K := 1024) (N := 1024) x0 x1 i := by
  unfold k0_pay1 nt dotp
  pointwise
  rfl

/-- The first half of the gradient of the gated unit's input: every entry that the call leaves. -/
theorem out (m : (ℓ : Loc nD τ sig) → Buf (Elt Ideal) ℓ) (c : Dev nD) (y : S4096x1024.Idx) :
    (dats m 0 c).arrAt 2 cfg0.N y = nt (M := 4096) (K := 1024) (N := 1024) (V m c main_arg2) (V m c main_arg1) y := by
  refine (dats m 0 c).arrAt_forall_of_covers 2 (fun y v => v = nt (M := 4096) (K := 1024) (N := 1024) (V m c main_arg2) (V m c main_arg1) y) (by decide +kernel) (fun t hf y => ?_) _ (Memref.isWhole_whole _)
  obtain ⟨e0, e1, e2, e3⟩ := (by decide +kernel : ∀ t : Fin grid0.N, win0_0.index t (0 : Fin 2) = win0_2.index t (0 : Fin 2) ∧ win0_0.index t (1 : Fin 2) = 0 ∧ win0_1.index t (0 : Fin 2) = win0_2.index t (1 : Fin 2) ∧ win0_1.index t (1 : Fin 2) = 0) t
  show (dats m 0 c).after 2 t y = _
  rw [after0_2]
  unfold out0_2
  rw [View.canon_unit_zero zero2, View.ld_unit_zero (S := S1024x1024) zero2, View.ld_unit_zero (S := S1024x1024) zero2]
  exact (pay_apply _ _ _).trans (dotp_congr
    (fun k => congrArg (V m c main_arg2) (at2 (same e0 1024 (y 0).val) (full e1 1024 k.val)))
    (fun k => congrArg (V m c main_arg1) (at2 (same e2 1024 (y 1).val) (full e3 1024 k.val))))

end Call

section Ref

open Reference10Ideal Reference10Ideal.Read Reference10Ideal.Gen

/-- The reference's entry: the same. -/
theorem ref (x1 : (⟨S1024x1024, .bf16⟩ : BufTy).Contents (Elt Ideal)) (x2 : (⟨S4096x1024, .bf16⟩ : BufTy).Contents (Elt Ideal)) (i : S4096x1024.Idx) :
    val_main_v6 (F := Ideal) x1 x2 i = nt (M := 4096) (K := 1024) (N := 1024) x2 x1 i := by
  rw [val_main_v6_apply, Ideal.extf_def, val_main_v5_apply, Ideal.truncf_def, val_main_v4_apply]
  simp only [val_main_v3_apply, Ideal.extf_def]
  exact Finset.sum_congr rfl fun k _ => congrArg₂ (· * ·) (congrArg x2 (at2 rfl rfl)) (congrArg x1 (at2 rfl rfl))

end Ref

/-- The reference runs, leaves its arguments and declares no semaphore. -/
theorem frame_reference : quiescent_Reference10Ideal := fun m ρ _ =>
  (θ_run Reference10Ideal.defs _ _).mono (fun r h => ⟨fun c => (h c).2, sem_eq_zero_of_no_sems (by decide) r.2⟩)
    (Reference10Ideal.Value.run (F := Ideal) m ρ)

/-- The call and the reference leave the same array. -/
theorem values : algebraic_Kernel10Ideal_Reference10Ideal := by
  intro m g m' g' _ ha
  refine ⟨fun c => (Kernel10Ideal.Gen.dats m 0 c).arrAt 2 Kernel10Ideal.cfg0.N, Kernel10Ideal.Value.run_blocks m g,
    (θ_run Reference10Ideal.defs _ _).mono (fun r h c => ⟨(h c).1.trans ?_, (h c).2⟩)
      (Reference10Ideal.Value.run (F := Ideal) m' g')⟩
  obtain ⟨h0, h1, h2⟩ := ha c
  rw [Reference10Ideal.Read.val_main_v6_eq, h1, h2]
  exact funext fun i => (ref _ _ i).trans (out m c i).symm

end Cert.GluA

namespace Cert.GluB

section Call

open Kernel11Ideal Kernel11Ideal.Gen

/-- One block of the product: the whole sum and the summand. -/
theorem pay_apply (x0 : Vec Ideal S1024x1024 .bf16) (x1 : Vec Ideal S1024x1024 .bf16) (x2 : Vec Ideal S1024x1024 .f32) (i : S1024x1024.Idx) :
    k0_pay1 (F := Ideal) x0 x1 x2 i = nt (M := 1024) (K := 1024) (N := 1024) x0 x1 i + x2 i := by
  unfold k0_pay1 nt dotp
  pointwise
  rfl

/-- The gradient of the gated unit's input: every entry that the call leaves. -/
theorem out (m : (ℓ : Loc nD τ sig) → Buf (Elt Ideal) ℓ) (c : Dev nD) (y : S4096x1024.Idx) :
    (dats m 0 c).arrAt 3 cfg0.N y = nt (M := 4096) (K := 1024) (N := 1024) (V m c main_arg2) (V m c main_arg1) y + V m c main_arg3 y := by
  refine (dats m 0 c).arrAt_forall_of_covers 3 (fun y v => v = nt (M := 4096) (K := 1024) (N := 1024) (V m c main_arg2) (V m c main_arg1) y + V m c main_arg3 y) (by decide +kernel) (fun t hf y => ?_) _ (Memref.isWhole_whole _)
  obtain ⟨e0, e1, e2, e3, e4, e5⟩ := (by decide +kernel : ∀ t : Fin grid0.N, win0_0.index t (0 : Fin 2) = win0_3.index t (0 : Fin 2) ∧ win0_0.index t (1 : Fin 2) = 0 ∧ win0_1.index t (0 : Fin 2) = win0_3.index t (1 : Fin 2) ∧ win0_1.index t (1 : Fin 2) = 0 ∧ win0_2.index t (0 : Fin 2) = win0_3.index t (0 : Fin 2) ∧ win0_2.index t (1 : Fin 2) = win0_3.index t (1 : Fin 2)) t
  show (dats m 0 c).after 3 t y = _
  rw [after0_3]
  unfold out0_3
  rw [View.canon_unit_zero zero2, View.ld_unit_zero (S := S1024x1024) zero2, View.ld_unit_zero (S := S1024x1024) zero2, View.ld_unit_zero (S := S1024x1024) zero2]
  exact (pay_apply _ _ _ _).trans (congrArg₂ (· + ·) (dotp_congr
    (fun k => congrArg (V m c main_arg2) (at2 (same e0 1024 (y 0).val) (full e1 1024 k.val)))
    (fun k => congrArg (V m c main_arg1) (at2 (same e2 1024 (y 1).val) (full e3 1024 k.val))))
    (congrArg (V m c main_arg3) ((at2 (same e4 1024 (y 0).val) (same e5 1024 (y 1).val)).trans (at2 rfl rfl).symm)))

end Call

section Ref

open Reference11Ideal Reference11Ideal.Read Reference11Ideal.Gen

/-- The reference's entry: the same. -/
theorem ref (x1 : (⟨S1024x1024, .bf16⟩ : BufTy).Contents (Elt Ideal)) (x2 : (⟨S4096x1024, .bf16⟩ : BufTy).Contents (Elt Ideal)) (x3 : (⟨S4096x1024, .f32⟩ : BufTy).Contents (Elt Ideal)) (i : S4096x1024.Idx) :
    val_main_v7 (F := Ideal) x1 x2 x3 i = nt (M := 4096) (K := 1024) (N := 1024) x2 x1 i + x3 i := by
  rw [val_main_v7_apply, Ideal.addf_def, val_main_v6_apply, Ideal.truncf_def, val_main_v5_apply, Ideal.truncf_def, val_main_v4_apply]
  simp only [val_main_v3_apply, Ideal.extf_def]
  exact congrArg (· + x3 i) (Finset.sum_congr rfl fun k _ => congrArg₂ (· * ·) (congrArg x2 (at2 rfl rfl)) (congrArg x1 (at2 rfl rfl)))

end Ref

/-- The reference runs, leaves its arguments and declares no semaphore. -/
theorem frame_reference : quiescent_Reference11Ideal := fun m ρ _ =>
  (θ_run Reference11Ideal.defs _ _).mono (fun r h => ⟨fun c => (h c).2, sem_eq_zero_of_no_sems (by decide) r.2⟩)
    (Reference11Ideal.Value.run (F := Ideal) m ρ)

/-- The call and the reference leave the same array. -/
theorem values : algebraic_Kernel11Ideal_Reference11Ideal := by
  intro m g m' g' _ ha
  refine ⟨fun c => (Kernel11Ideal.Gen.dats m 0 c).arrAt 3 Kernel11Ideal.cfg0.N, Kernel11Ideal.Value.run_blocks m g,
    (θ_run Reference11Ideal.defs _ _).mono (fun r h c => ⟨(h c).1.trans ?_, (h c).2⟩)
      (Reference11Ideal.Value.run (F := Ideal) m' g')⟩
  obtain ⟨h0, h1, h2, h3⟩ := ha c
  rw [Reference11Ideal.Read.val_main_v7_eq, h1, h2, h3]
  exact funext fun i => (ref _ _ _ i).trans (out m c i).symm

end Cert.GluB

namespace Cert.MixIn

section Call

open Kernel12Ideal Kernel12Ideal.Gen

/-- One block of the product: the whole sum. -/
theorem pay_apply (x0 : Vec Ideal S1024x1024 .bf16) (x1 : Vec Ideal S1024x512 .bf16) (i : S1024x512.Idx) :
    k0_pay1 (F := Ideal) x0 x1 i = nn (M := 1024) (K := 1024) (N := 512) x0 x1 i := by
  unfold k0_pay1 nn dotp
  pointwise
  rfl

/-- The mixer's first product: every entry that the call leaves. -/
theorem out (m : (ℓ : Loc nD τ sig) → Buf (Elt Ideal) ℓ) (c : Dev nD) (y : S4096x2560.Idx) :
    (dats m 0 c).arrAt 2 cfg0.N y = nn (M := 4096) (K := 1024) (N := 2560) (V m c main_arg0) (V m c main_arg1) y := by
  refine (dats m 0 c).arrAt_forall_of_covers 2 (fun y v => v = nn (M := 4096) (K := 1024) (N := 2560) (V m c main_arg0) (V m c main_arg1) y) (by decide +kernel) (fun t hf y => ?_) _ (Memref.isWhole_whole _)
  obtain ⟨e0, e1, e2, e3⟩ := (by decide +kernel : ∀ t : Fin grid0.N, win0_0.index t (0 : Fin 2) = win0_2.index t (0 : Fin 2) ∧ win0_0.index t (1 : Fin 2) = 0 ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S1024x1024) zero2, View.ld_unit_zero (S := S1024x512) zero2]
  exact (pay_apply _ _ _).trans (dotp_congr
    (fun k => congrArg (V m c main_arg0) (at2 (same e0 1024 (y 0).val) (full e1 1024 k.val)))
    (fun k => congrArg (V m c main_arg1) (at2 (full e2 1024 k.val) (same e3 512 (y 1).val))))

end Call

section Ref

open Reference12Ideal Reference12Ideal.Read Reference12Ideal.Gen

/-- The reference's entry: the same. -/
theorem ref (x0 : (⟨S4096x1024, .bf16⟩ : BufTy).Contents (Elt Ideal)) (x1 : (⟨S1024x2560, .bf16⟩ : BufTy).Contents (Elt Ideal)) (i : S4096x2560.Idx) :
    val_main_v0 (F := Ideal) x0 x1 i = nn (M := 4096) (K := 1024) (N := 2560) x0 x1 i := by
  rw [val_main_v0_apply]
  exact Finset.sum_congr rfl fun k _ => congrArg₂ (· * ·) (congrArg x0 (at2 rfl rfl)) (congrArg x1 (at2 rfl rfl))

end Ref

/-- The reference runs, leaves its arguments and declares no semaphore. -/
theorem frame_reference : quiescent_Reference12Ideal := fun m ρ _ =>
  (θ_run Reference12Ideal.defs _ _).mono (fun r h => ⟨fun c => (h c).2, sem_eq_zero_of_no_sems (by decide) r.2⟩)
    (Reference12Ideal.Value.run (F := Ideal) m ρ)

/-- The call and the reference leave the same array. -/
theorem values : algebraic_Kernel12Ideal_Reference12Ideal := by
  intro m g m' g' _ ha
  refine ⟨fun c => (Kernel12Ideal.Gen.dats m 0 c).arrAt 2 Kernel12Ideal.cfg0.N, Kernel12Ideal.Value.run_blocks m g,
    (θ_run Reference12Ideal.defs _ _).mono (fun r h c => ⟨(h c).1.trans ?_, (h c).2⟩)
      (Reference12Ideal.Value.run (F := Ideal) m' g')⟩
  obtain ⟨h0, h1⟩ := ha c
  rw [Reference12Ideal.Read.val_main_v0_eq, h0, h1]
  exact funext fun i => (ref _ _ i).trans (out m c i).symm

end Cert.MixIn

namespace Cert.Down

section Call

open Kernel14Ideal Kernel14Ideal.Gen

/-- One block of the product: the whole sum and the summand. -/
theorem pay_apply (x0 : Vec Ideal S1024x3072 .bf16) (x1 : Vec Ideal S3072x512 .bf16) (x2 : Vec Ideal S1024x512 .f32) (i : S1024x512.Idx) :
    k0_pay1 (F := Ideal) x0 x1 x2 i = nn (M := 1024) (K := 3072) (N := 512) x0 x1 i + x2 i := by
  unfold k0_pay1 nn dotp
  pointwise
  rfl

/-- The feed-forward layer's last product with its residual: every entry that the call leaves. -/
theorem out (m : (ℓ : Loc nD τ sig) → Buf (Elt Ideal) ℓ) (c : Dev nD) (y : S4096x1024.Idx) :
    (dats m 0 c).arrAt 3 cfg0.N y = nn (M := 4096) (K := 3072) (N := 1024) (V m c main_arg0) (V m c main_arg1) y + V m c main_arg2 y := by
  refine (dats m 0 c).arrAt_forall_of_covers 3 (fun y v => v = nn (M := 4096) (K := 3072) (N := 1024) (V m c main_arg0) (V m c main_arg1) y + V m c main_arg2 y) (by decide +kernel) (fun t hf y => ?_) _ (Memref.isWhole_whole _)
  obtain ⟨e0, e1, e2, e3, e4, e5⟩ := (by decide +kernel : ∀ t : Fin grid0.N, win0_0.index t (0 : Fin 2) = win0_3.index t (0 : Fin 2) ∧ win0_0.index t (1 : Fin 2) = 0 ∧ win0_1.index t (0 : Fin 2) = 0 ∧ win0_1.index t (1 : Fin 2) = win0_3.index t (1 : Fin 2) ∧ win0_2.index t (0 : Fin 2) = win0_3.index t (0 : Fin 2) ∧ win0_2.index t (1 : Fin 2) = win0_3.index t (1 : Fin 2)) t
  show (dats m 0 c).after 3 t y = _
  rw [after0_3]
  unfold out0_3
  rw [View.canon_unit_zero zero2, View.ld_unit_zero (S := S1024x3072) zero2, View.ld_unit_zero (S := S3072x512) zero2, View.ld_unit_zero (S := S1024x512) zero2]
  exact (pay_apply _ _ _ _).trans (congrArg₂ (· + ·) (dotp_congr
    (fun k => congrArg (V m c main_arg0) (at2 (same e0 1024 (y 0).val) (full e1 3072 k.val)))
    (fun k => congrArg (V m c main_arg1) (at2 (full e2 3072 k.val) (same e3 512 (y 1).val))))
    (congrArg (V m c main_arg2) ((at2 (same e4 1024 (y 0).val) (same e5 512 (y 1).val)).trans (at2 rfl rfl).symm)))

end Call

section Ref

open Reference14Ideal Reference14Ideal.Read Reference14Ideal.Gen

/-- The reference's entry: the same. -/
theorem ref (x0 : (⟨S4096x3072, .bf16⟩ : BufTy).Contents (Elt Ideal)) (x1 : (⟨S3072x1024, .bf16⟩ : BufTy).Contents (Elt Ideal)) (x2 : (⟨S4096x1024, .f32⟩ : BufTy).Contents (Elt Ideal)) (i : S4096x1024.Idx) :
    val_main_v1 (F := Ideal) x0 x1 x2 i = nn (M := 4096) (K := 3072) (N := 1024) x0 x1 i + x2 i := by
  rw [val_main_v1_apply, Ideal.addf_def, val_main_v0_apply]
  exact (add_comm _ _).trans (congrArg (· + x2 i) (Finset.sum_congr rfl fun k _ => congrArg₂ (· * ·) (congrArg x0 (at2 rfl rfl)) (congrArg x1 (at2 rfl rfl))))

end Ref

/-- The reference runs, leaves its arguments and declares no semaphore. -/
theorem frame_reference : quiescent_Reference14Ideal := fun m ρ _ =>
  (θ_run Reference14Ideal.defs _ _).mono (fun r h => ⟨fun c => (h c).2, sem_eq_zero_of_no_sems (by decide) r.2⟩)
    (Reference14Ideal.Value.run (F := Ideal) m ρ)

/-- The call and the reference leave the same array. -/
theorem values : algebraic_Kernel14Ideal_Reference14Ideal := by
  intro m g m' g' _ ha
  refine ⟨fun c => (Kernel14Ideal.Gen.dats m 0 c).arrAt 3 Kernel14Ideal.cfg0.N, Kernel14Ideal.Value.run_blocks m g,
    (θ_run Reference14Ideal.defs _ _).mono (fun r h c => ⟨(h c).1.trans ?_, (h c).2⟩)
      (Reference14Ideal.Value.run (F := Ideal) m' g')⟩
  obtain ⟨h0, h1, h2⟩ := ha c
  rw [Reference14Ideal.Read.val_main_v1_eq, h0, h1, h2]
  exact funext fun i => (ref _ _ _ i).trans (out m c i).symm

end Cert.Down
-- ==== Proof.Weights.lean ====
/-
  The gradients of the weights of the feed-forward layer's last product, of the output projection, of a projection and of the mixer's first product: one entry of a call is the sum over all positions, as in the reference.
-/
module

public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Rect
public import proofs.«01_k».proof.Defs

@[expose] public section

set_option maxRecDepth 16384

noncomputable section

open Idealize.ShloMosaic Idealize.ShloMosaic.TcCoe Idealize.ShloMosaic.Tactic Idealize.SL.Sem Cert.Product

namespace Cert.DownGrad

section Call

open Kernel3Ideal Kernel3Ideal.Gen

/-- One block of the product: the whole sum. -/
theorem pay_apply (x0 : Vec Ideal S4096x1024 .bf16) (x1 : Vec Ideal S4096x512 .f32) (i : S1024x512.Idx) :
    k0_pay1 (F := Ideal) x0 x1 i = tn (M := 1024) (K := 4096) (N := 512) x0 x1 i := by
  unfold k0_pay1 tn dotp
  pointwise
  rfl

/-- The gradient of the feed-forward layer's second weight: every entry that the call leaves. -/
theorem out (m : (ℓ : Loc nD τ sig) → Buf (Elt Ideal) ℓ) (c : Dev nD) (y : S3072x1024.Idx) :
    (dats m 0 c).arrAt 2 cfg0.N y = tn (M := 3072) (K := 4096) (N := 1024) (V m c main_arg0) (V m c main_arg2) y := by
  refine (dats m 0 c).arrAt_forall_of_covers 2 (fun y v => v = tn (M := 3072) (K := 4096) (N := 1024) (V m c main_arg0) (V m c main_arg2) y) (by decide +kernel) (fun t hf y => ?_) _ (Memref.isWhole_whole _)
  obtain ⟨e0, e1, e2, e3⟩ := (by decide +kernel : ∀ t : Fin grid0.N, win0_0.index t (0 : Fin 2) = 0 ∧ win0_0.index t (1 : Fin 2) = win0_2.index t (0 : Fin 2) ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S4096x1024) zero2, View.ld_unit_zero (S := S4096x512) zero2]
  exact (pay_apply _ _ _).trans (dotp_congr
    (fun k => congrArg (V m c main_arg0) (at2 (full e0 4096 k.val) (same e1 1024 (y 0).val)))
    (fun k => congrArg (V m c main_arg2) (at2 (full e2 4096 k.val) (same e3 512 (y 1).val))))

end Call

section Ref

open Reference3Ideal Reference3Ideal.Read Reference3Ideal.Gen

/-- The reference's entry: the same. -/
theorem ref (x0 : (⟨S4096x3072, .bf16⟩ : BufTy).Contents (Elt Ideal)) (x2 : (⟨S4096x1024, .f32⟩ : BufTy).Contents (Elt Ideal)) (i : S3072x1024.Idx) :
    val_main_v3 (F := Ideal) x0 x2 i = tn (M := 3072) (K := 4096) (N := 1024) x0 x2 i := by
  rw [val_main_v3_apply, Ideal.truncf_def, val_main_v2_apply, val_main_v1_apply]
  exact Finset.sum_congr rfl fun k _ => (mul_comm _ _).trans (congrArg₂ (· * ·) (congrArg x0 (at2 rfl rfl)) (congrArg x2 (at2 rfl rfl)))

end Ref

/-- The reference runs, leaves its arguments and declares no semaphore. -/
theorem frame_reference : quiescent_Reference3Ideal := fun m ρ _ =>
  (θ_run Reference3Ideal.defs _ _).mono (fun r h => ⟨fun c => (h c).2, sem_eq_zero_of_no_sems (by decide) r.2⟩)
    (Reference3Ideal.Value.run (F := Ideal) m ρ)

/-- The call and the reference leave the same array. -/
theorem values : algebraic_Kernel3Ideal_Reference3Ideal := by
  intro m g m' g' _ ha
  refine ⟨fun c => (Kernel3Ideal.Gen.dats m 0 c).arrAt 2 Kernel3Ideal.cfg0.N, Kernel3Ideal.Value.run_blocks m g,
    (θ_run Reference3Ideal.defs _ _).mono (fun r h c => ⟨(h c).1.trans ?_, (h c).2⟩)
      (Reference3Ideal.Value.run (F := Ideal) m' g')⟩
  obtain ⟨h0, h1, h2⟩ := ha c
  rw [Reference3Ideal.Read.val_main_v3_eq, h0, h2]
  exact funext fun i => (ref _ _ i).trans (out m c i).symm

end Cert.DownGrad

namespace Cert.OutWeight

section Call

open Kernel8Ideal Kernel8Ideal.Gen

/-- One block of the product: the whole sum. -/
theorem pay_apply (x0 : Vec Ideal S4096x1024 .bf16) (x1 : Vec Ideal S4096x512 .f32) (i : S1024x512.Idx) :
    k0_pay1 (F := Ideal) x0 x1 i = tn (M := 1024) (K := 4096) (N := 512) x0 x1 i := by
  unfold k0_pay1 tn dotp
  pointwise
  rfl

/-- The gradient of the output projection's weight: every entry that the call leaves. -/
theorem out (m : (ℓ : Loc nD τ sig) → Buf (Elt Ideal) ℓ) (c : Dev nD) (y : S1024x1024.Idx) :
    (dats m 0 c).arrAt 2 cfg0.N y = tn (M := 1024) (K := 4096) (N := 1024) (V m c main_arg0) (V m c main_arg2) y := by
  refine (dats m 0 c).arrAt_forall_of_covers 2 (fun y v => v = tn (M := 1024) (K := 4096) (N := 1024) (V m c main_arg0) (V m c main_arg2) y) (by decide +kernel) (fun t hf y => ?_) _ (Memref.isWhole_whole _)
  obtain ⟨e0, e1, e2, e3⟩ := (by decide +kernel : ∀ t : Fin grid0.N, win0_0.index t (0 : Fin 2) = 0 ∧ win0_0.index t (1 : Fin 2) = win0_2.index t (0 : Fin 2) ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S4096x1024) zero2, View.ld_unit_zero (S := S4096x512) zero2]
  exact (pay_apply _ _ _).trans (dotp_congr
    (fun k => congrArg (V m c main_arg0) (at2 (full e0 4096 k.val) (same e1 1024 (y 0).val)))
    (fun k => congrArg (V m c main_arg2) (at2 (full e2 4096 k.val) (same e3 512 (y 1).val))))

end Call

section Ref

open Reference8Ideal Reference8Ideal.Read Reference8Ideal.Gen

/-- The reference's entry: the same. -/
theorem ref (x0 : (⟨S4096x1024, .bf16⟩ : BufTy).Contents (Elt Ideal)) (x2 : (⟨S4096x1024, .f32⟩ : BufTy).Contents (Elt Ideal)) (i : S1024x1024.Idx) :
    val_main_v3 (F := Ideal) x0 x2 i = tn (M := 1024) (K := 4096) (N := 1024) x0 x2 i := by
  rw [val_main_v3_apply, Ideal.truncf_def, val_main_v2_apply, val_main_v1_apply]
  exact Finset.sum_congr rfl fun k _ => (mul_comm _ _).trans (congrArg₂ (· * ·) (congrArg x0 (at2 rfl rfl)) (congrArg x2 (at2 rfl rfl)))

end Ref

/-- The reference runs, leaves its arguments and declares no semaphore. -/
theorem frame_reference : quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

/-- The call and the reference leave the same array. -/
theorem values : algebraic_Kernel8Ideal_Reference8Ideal := by
  intro m g m' g' _ ha
  refine ⟨fun c => (Kernel8Ideal.Gen.dats m 0 c).arrAt 2 Kernel8Ideal.cfg0.N, Kernel8Ideal.Value.run_blocks m g,
    (θ_run Reference8Ideal.defs _ _).mono (fun r h c => ⟨(h c).1.trans ?_, (h c).2⟩)
      (Reference8Ideal.Value.run (F := Ideal) m' g')⟩
  obtain ⟨h0, h1, h2⟩ := ha c
  rw [Reference8Ideal.Read.val_main_v3_eq, h0, h2]
  exact funext fun i => (ref _ _ i).trans (out m c i).symm

end Cert.OutWeight

namespace Cert.ProjectWeight

section Call

open Kernel9Ideal Kernel9Ideal.Gen

/-- One block of the product: the whole sum. -/
theorem pay_apply (x0 : Vec Ideal S4096x1024 .bf16) (x1 : Vec Ideal S4096x1024 .bf16) (i : S1024x1024.Idx) :
    k0_pay1 (F := Ideal) x0 x1 i = tn (M := 1024) (K := 4096) (N := 1024) x0 x1 i := by
  unfold k0_pay1 tn dotp
  pointwise
  rfl

/-- The gradient of a projection's weight: every entry that the call leaves. -/
theorem out (m : (ℓ : Loc nD τ sig) → Buf (Elt Ideal) ℓ) (c : Dev nD) (y : S1024x1024.Idx) :
    (dats m 0 c).arrAt 2 cfg0.N y = tn (M := 1024) (K := 4096) (N := 1024) (V m c main_arg0) (V m c main_arg2) y := by
  refine (dats m 0 c).arrAt_forall_of_covers 2 (fun y v => v = tn (M := 1024) (K := 4096) (N := 1024) (V m c main_arg0) (V m c main_arg2) y) (by decide +kernel) (fun t hf y => ?_) _ (Memref.isWhole_whole _)
  obtain ⟨e0, e1, e2, e3⟩ := (by decide +kernel : ∀ t : Fin grid0.N, win0_0.index t (0 : Fin 2) = 0 ∧ win0_0.index t (1 : Fin 2) = win0_2.index t (0 : Fin 2) ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S4096x1024) zero2, View.ld_unit_zero (S := S4096x1024) zero2]
  exact (pay_apply _ _ _).trans (dotp_congr
    (fun k => congrArg (V m c main_arg0) (at2 (full e0 4096 k.val) (same e1 1024 (y 0).val)))
    (fun k => congrArg (V m c main_arg2) (at2 (full e2 4096 k.val) (same e3 1024 (y 1).val))))

end Call

section Ref

open Reference9Ideal Reference9Ideal.Read Reference9Ideal.Gen

/-- The reference's entry: the same. -/
theorem ref (x0 : (⟨S4096x1024, .bf16⟩ : BufTy).Contents (Elt Ideal)) (x2 : (⟨S4096x1024, .bf16⟩ : BufTy).Contents (Elt Ideal)) (i : S1024x1024.Idx) :
    val_main_v5 (F := Ideal) x0 x2 i = tn (M := 1024) (K := 4096) (N := 1024) x0 x2 i := by
  rw [val_main_v5_apply, Ideal.truncf_def, val_main_v4_apply, val_main_v3_apply]
  simp only [val_main_v2_apply, Ideal.extf_def]
  exact Finset.sum_congr rfl fun k _ => (mul_comm _ _).trans (congrArg₂ (· * ·) (congrArg x0 (at2 rfl rfl)) (congrArg x2 (at2 rfl rfl)))

end Ref

/-- The reference runs, leaves its arguments and declares no semaphore. -/
theorem frame_reference : quiescent_Reference9Ideal := fun m ρ _ =>
  (θ_run Reference9Ideal.defs _ _).mono (fun r h => ⟨fun c => (h c).2, sem_eq_zero_of_no_sems (by decide) r.2⟩)
    (Reference9Ideal.Value.run (F := Ideal) m ρ)

/-- The call and the reference leave the same array. -/
theorem values : algebraic_Kernel9Ideal_Reference9Ideal := by
  intro m g m' g' _ ha
  refine ⟨fun c => (Kernel9Ideal.Gen.dats m 0 c).arrAt 2 Kernel9Ideal.cfg0.N, Kernel9Ideal.Value.run_blocks m g,
    (θ_run Reference9Ideal.defs _ _).mono (fun r h c => ⟨(h c).1.trans ?_, (h c).2⟩)
      (Reference9Ideal.Value.run (F := Ideal) m' g')⟩
  obtain ⟨h0, h1, h2⟩ := ha c
  rw [Reference9Ideal.Read.val_main_v5_eq, h0, h2]
  exact funext fun i => (ref _ _ i).trans (out m c i).symm

end Cert.ProjectWeight

namespace Cert.MixWeight

section Call

open Kernel13Ideal Kernel13Ideal.Gen

/-- One block of the product: the whole sum. -/
theorem pay_apply (x0 : Vec Ideal S4096x512 .bf16) (x1 : Vec Ideal S4096x1024 .bf16) (i : S512x1024.Idx) :
    k0_pay1 (F := Ideal) x0 x1 i = tn (M := 512) (K := 4096) (N := 1024) x0 x1 i := by
  unfold k0_pay1 tn dotp
  pointwise
  rfl

/-- The gradient of the mixer's first weight: every entry that the call leaves. -/
theorem out (m : (ℓ : Loc nD τ sig) → Buf (Elt Ideal) ℓ) (c : Dev nD) (y : S2560x1024.Idx) :
    (dats m 0 c).arrAt 2 cfg0.N y = tn (M := 2560) (K := 4096) (N := 1024) (V m c main_arg2) (V m c main_arg0) y := by
  refine (dats m 0 c).arrAt_forall_of_covers 2 (fun y v => v = tn (M := 2560) (K := 4096) (N := 1024) (V m c main_arg2) (V m c main_arg0) y) (by decide +kernel) (fun t hf y => ?_) _ (Memref.isWhole_whole _)
  obtain ⟨e0, e1, e2, e3⟩ := (by decide +kernel : ∀ t : Fin grid0.N, win0_0.index t (0 : Fin 2) = 0 ∧ win0_0.index t (1 : Fin 2) = win0_2.index t (0 : Fin 2) ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S4096x512) zero2, View.ld_unit_zero (S := S4096x1024) zero2]
  exact (pay_apply _ _ _).trans (dotp_congr
    (fun k => congrArg (V m c main_arg2) (at2 (full e0 4096 k.val) (same e1 512 (y 0).val)))
    (fun k => congrArg (V m c main_arg0) (at2 (full e2 4096 k.val) (same e3 1024 (y 1).val))))

end Call

section Ref

open Reference13Ideal Reference13Ideal.Read Reference13Ideal.Gen

/-- The reference's entry: the same. -/
theorem ref (x0 : (⟨S4096x1024, .bf16⟩ : BufTy).Contents (Elt Ideal)) (x2 : (⟨S4096x2560, .bf16⟩ : BufTy).Contents (Elt Ideal)) (i : S2560x1024.Idx) :
    val_main_v8 (F := Ideal) x0 x2 i = tn (M := 2560) (K := 4096) (N := 1024) x2 x0 i := by
  rw [val_main_v8_apply, val_main_v7_apply, Ideal.extf_def, val_main_v6_apply, Ideal.truncf_def, val_main_v5_apply, val_main_v4_apply]
  simp only [val_main_v3_apply, Ideal.extf_def]
  exact Finset.sum_congr rfl fun k _ => congrArg₂ (· * ·) (congrArg x2 (at2 rfl rfl)) (congrArg x0 (at2 rfl rfl))

end Ref

/-- The reference runs, leaves its arguments and declares no semaphore. -/
theorem frame_reference : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)

/-- The call and the reference leave the same array. -/
theorem values : algebraic_Kernel13Ideal_Reference13Ideal := by
  intro m g m' g' _ ha
  refine ⟨fun c => (Kernel13Ideal.Gen.dats m 0 c).arrAt 2 Kernel13Ideal.cfg0.N, Kernel13Ideal.Value.run_blocks m g,
    (θ_run Reference13Ideal.defs _ _).mono (fun r h c => ⟨(h c).1.trans ?_, (h c).2⟩)
      (Reference13Ideal.Value.run (F := Ideal) m' g')⟩
  obtain ⟨h0, h1, h2⟩ := ha c
  rw [Reference13Ideal.Read.val_main_v8_eq, h0, h2]
  exact funext fun i => (ref _ _ i).trans (out m c i).symm

end Cert.MixWeight
-- ==== Proof.OutNorm.lean ====
/-
  An output projection with its residual and the next norm: both results of the call are the reference's.
-/
module

public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Blocks
public import proofs.«01_k».proof.Proof.Norm
public import proofs.«01_k».proof.Defs

@[expose] public section

set_option maxRecDepth 16384

noncomputable section

open Idealize.ShloMosaic Idealize.ShloMosaic.TcCoe Idealize.ShloMosaic.Tactic Idealize.SL.Sem

namespace Cert.OutNorm

open Cert.Product Cert.Norm

/-- One entry of the first result: the product with the weights, and the layer's input. -/
def res (x : Mat 4096 1024) (w : Mat 1024 1024) (h : Mat 4096 1024)
    (a : Fin 4096) (b : Fin 1024) : EReal :=
  dotpAdd (fun k : Fin 1024 => x (ix2 a k)) (fun k => w (ix2 k b)) (h (ix2 a b))

/-- One entry of the second result: the first one normalised along its row, times the gain. -/
def normed (x : Mat 4096 1024) (w : Mat 1024 1024) (h : Mat 4096 1024)
    (g : Mat 1 1024) (a : Fin 4096) (b : Fin 1024) : EReal :=
  res x w h a b * inv (res x w h a) * g (ix2 0 b)

section Call

open Kernel15Ideal Kernel15Ideal.Gen

/-- Where the first factor's block lies. -/
theorem index0 : ∀ t : Fin cfg0.N, win0_0.index t (0 : Fin 2) = (grid0.coords t 0).val ∧ win0_0.index t (1 : Fin 2) = 0 :=
  (by decide +kernel : ∀ t : Fin grid0.N, _)
/-- Where the second factor's block lies. -/
theorem index1 : ∀ t : Fin cfg0.N, win0_1.index t (0 : Fin 2) = 0 ∧ win0_1.index t (1 : Fin 2) = (grid0.coords t 1).val :=
  (by decide +kernel : ∀ t : Fin grid0.N, _)
/-- Where the summand's block lies. -/
theorem index2 : ∀ t : Fin cfg0.N, win0_2.index t (0 : Fin 2) = (grid0.coords t 0).val ∧ win0_2.index t (1 : Fin 2) = (grid0.coords t 1).val :=
  (by decide +kernel : ∀ t : Fin grid0.N, _)

/-- Where the gain lies. -/
theorem index3 : ∀ t : Fin cfg0.N, win0_3.index t (0 : Fin 2) = 0 ∧ win0_3.index t (1 : Fin 2) = 0 :=
  (by decide +kernel : ∀ t : Fin grid0.N, _)
/-- Where the first result's block lies. -/
theorem index4 : ∀ t : Fin cfg0.N, win0_4.index t (0 : Fin 2) = (grid0.coords t 0).val ∧ win0_4.index t (1 : Fin 2) = 0 :=
  (by decide +kernel : ∀ t : Fin grid0.N, _)
/-- Where the second result's block lies. -/
theorem index5 : ∀ t : Fin cfg0.N, win0_5.index t (0 : Fin 2) = (grid0.coords t 0).val ∧ win0_5.index t (1 : Fin 2) = 0 :=
  (by decide +kernel : ∀ t : Fin grid0.N, _)
/-- There is one block of columns. -/
theorem coord1 : ∀ t : Fin cfg0.N, (grid0.coords t 1).val = 0 :=
  (by decide +kernel : ∀ t : Fin grid0.N, _)

/-- One entry of the first result within a block of rows. -/
def bres (v0 v1 v3 : Mat 1024 1024) (r l : Fin 1024) : EReal :=
  dotpAdd (fun k : Fin 1024 => v0 (ix2 r k)) (fun k => v1 (ix2 k l)) (v3 (ix2 r l))

/-- One entry of the second result within a block of rows. -/
def bnormed (v0 v1 v3 : Mat 1024 1024) (v6 : Mat 1 1024) (r l : Fin 1024) : EReal :=
  bres v0 v1 v3 r l * inv (bres v0 v1 v3 r) * v6 (ix2 0 l)

/-- The block of the first result. -/
theorem pay1_apply (v0 v1 : Vec Ideal S1024x1024 .bf16) (v3 : Vec Ideal S1024x1024 .f32) (r l : Fin 1024) :
    k0_pay1 (F := Ideal) v0 v1 v3 (ix2 r l) = bres v0 v1 v3 r l := by
  unfold k0_pay1 bres dotpAdd dotp
  pointwise

/-- The block of the second result. -/
theorem pay2_apply (v0 v1 : Vec Ideal S1024x1024 .bf16) (v3 : Vec Ideal S1024x1024 .f32) (v6 : Vec Ideal S1x1024 .f32) (r l : Fin 1024) :
    k0_pay2 (F := Ideal) v0 v1 v3 v6 (ix2 r l) = bnormed v0 v1 v3 v6 r l := by
  unfold k0_pay2
  pointwise
  simp only [pay1_apply]
  rfl

variable (m : (ℓ : Loc nD τ sig) → Buf (Elt Ideal) ℓ) (c : Dev nD)

/-- What the first factor's block at a point holds. -/
theorem blk0 (t : Fin cfg0.N) (k : Fin 1024) (r : Fin 1024) (a : Fin 4096) (h : a.val = 1024 * (grid0.coords t 0).val + r.val) :
    iblk m c 0 t (ix2 r k) = V m c main_arg0 (ix2 a k) := by
  have e := index0 t
  exact congrArg (V m c main_arg0) (at2 (show win0_0.index t (0 : Fin 2) * 1024 + 1 * r.val = a.val by omega) (show win0_0.index t (1 : Fin 2) * 1024 + 1 * k.val = k.val by omega))

/-- What the second factor's block at a point holds. -/
theorem blk1 (t : Fin cfg0.N) (k : Fin 1024) (r : Fin 1024) (a : Fin 1024) (h : a.val = 1024 * (grid0.coords t 1).val + r.val) :
    iblk m c 1 t (ix2 k r) = V m c main_arg1 (ix2 k a) := by
  have e := index1 t
  exact congrArg (V m c main_arg1) (at2 (show win0_1.index t (0 : Fin 2) * 1024 + 1 * k.val = k.val by omega) (show win0_1.index t (1 : Fin 2) * 1024 + 1 * r.val = a.val by omega))

/-- What the summand's block at a point holds. -/
theorem blk2 (t : Fin cfg0.N) (r : Fin 1024) (l : Fin 1024) (a : Fin 4096) (b : Fin 1024) (ha : a.val = 1024 * (grid0.coords t 0).val + r.val)
    (hb : b.val = 1024 * (grid0.coords t 1).val + l.val) :
    iblk m c 2 t (ix2 r l) = V m c main_arg2 (ix2 a b) := by
  have e := index2 t
  exact congrArg (V m c main_arg2) (at2 (show win0_2.index t (0 : Fin 2) * 1024 + 1 * r.val = a.val by omega) (show win0_2.index t (1 : Fin 2) * 1024 + 1 * l.val = b.val by omega))

/-- What the gain's block holds. -/
theorem blk3 (t : Fin cfg0.N) (k : Fin 1024) : iblk m c 3 t (ix2 0 k) = V m c main_arg3 (ix2 0 k) := by
  have e := index3 t
  exact congrArg (V m c main_arg3) (at2 (show win0_3.index t (0 : Fin 2) * 1 + 1 * 0 = 0 by omega) (show win0_3.index t (1 : Fin 2) * 1024 + 1 * k.val = k.val by omega))

/-- A block's entry of the first result is the whole array's. -/
theorem bres_eq (t : Fin cfg0.N) (r l : Fin 1024) (a : Fin 4096) (h : a.val = 1024 * (grid0.coords t 0).val + r.val) :
    bres (iblk m c 0 t) (iblk m c 1 t) (iblk m c 2 t) r l = res (V m c main_arg0) (V m c main_arg1) (V m c main_arg2) a l := by
  have hc : l.val = 1024 * (grid0.coords t 1).val + l.val := by rw [coord1 t]; omega
  exact dotpAdd_congr (fun k => blk0 m c t k r a h) (fun k => blk1 m c t k l l hc) (blk2 m c t r l a l h hc)

/-- A block's entry of the second result is the whole array's. -/
theorem bnormed_eq (t : Fin cfg0.N) (r l : Fin 1024) (a : Fin 4096) (h : a.val = 1024 * (grid0.coords t 0).val + r.val) :
    bnormed (iblk m c 0 t) (iblk m c 1 t) (iblk m c 2 t) (iblk m c 3 t) r l
      = normed (V m c main_arg0) (V m c main_arg1) (V m c main_arg2) (V m c main_arg3) a l := by
  unfold bnormed normed
  rw [show bres (iblk m c 0 t) (iblk m c 1 t) (iblk m c 2 t) r = res (V m c main_arg0) (V m c main_arg1) (V m c main_arg2) a from
    funext fun l => bres_eq m c t r l a h]
  exact congrArg (_ * ·) (blk3 m c t l)

/-- The first array the call leaves. -/
theorem out4 (a : Fin 4096) (b : Fin 1024) :
    (dats m 0 c).arrAt 4 cfg0.N (ix2 a b) = res (V m c main_arg0) (V m c main_arg1) (V m c main_arg2) a b := by
  refine (dats m 0 c).arrAt_forall_of_covers 4 (fun y v => ∀ (a : Fin 4096) (b : Fin 1024), y = ix2 a b → v = res (V m c main_arg0) (V m c main_arg1) (V m c main_arg2) a b)
    (by decide +kernel) (fun t hf y a b e => ?_) _ (Memref.isWhole_whole _) a b rfl
  have r0 : win0_4.index t (0 : Fin 2) * 1024 + 1 * (y 0).val = a.val := congrArg (fun z : S4096x1024.Idx => (z 0).val) e
  have r1 : win0_4.index t (1 : Fin 2) * 1024 + 1 * (y 1).val = b.val := congrArg (fun z : S4096x1024.Idx => (z 1).val) e
  obtain ⟨e0, e1⟩ := index4 t
  rw [e0] at r0
  rw [e1] at r1
  have hb : (⟨(y 1).val, (y 1).isLt⟩ : Fin 1024) = b := Fin.ext (by show (y 1).val = b.val; omega)
  show (dats m 0 c).after 4 t y = _
  rw [after0_4]
  unfold out0_4
  rw [View.canon_unit_zero zero2, View.ld_unit_zero (S := S1024x1024) zero2, View.ld_unit_zero (S := S1024x1024) zero2, View.ld_unit_zero (S := S1024x1024) zero2, eta2 (M := 1024) (N := 1024) y, hb]
  exact (pay1_apply _ _ _ _ b).trans (bres_eq m c t _ b a (by show a.val = 1024 * (grid0.coords t 0).val + (y 0).val; omega))

/-- The second array the call leaves. -/
theorem out5 (a : Fin 4096) (b : Fin 1024) :
    (dats m 0 c).arrAt 5 cfg0.N (ix2 a b) = normed (V m c main_arg0) (V m c main_arg1) (V m c main_arg2) (V m c main_arg3) a b := by
  refine (dats m 0 c).arrAt_forall_of_covers 5 (fun y v => ∀ (a : Fin 4096) (b : Fin 1024), y = ix2 a b → v = normed (V m c main_arg0) (V m c main_arg1) (V m c main_arg2) (V m c main_arg3) a b)
    (by decide +kernel) (fun t hf y a b e => ?_) _ (Memref.isWhole_whole _) a b rfl
  have r0 : win0_5.index t (0 : Fin 2) * 1024 + 1 * (y 0).val = a.val := congrArg (fun z : S4096x1024.Idx => (z 0).val) e
  have r1 : win0_5.index t (1 : Fin 2) * 1024 + 1 * (y 1).val = b.val := congrArg (fun z : S4096x1024.Idx => (z 1).val) e
  obtain ⟨e0, e1⟩ := index5 t
  rw [e0] at r0
  rw [e1] at r1
  have hb : (⟨(y 1).val, (y 1).isLt⟩ : Fin 1024) = b := Fin.ext (by show (y 1).val = b.val; omega)
  show (dats m 0 c).after 5 t y = _
  rw [after0_5]
  unfold out0_5
  rw [View.canon_unit_zero zero2, View.ld_unit_zero (S := S1024x1024) zero2, View.ld_unit_zero (S := S1024x1024) zero2, View.ld_unit_zero (S := S1024x1024) zero2, View.ld_unit_zero (S := S1x1024) zero2, eta2 (M := 1024) (N := 1024) y, hb]
  exact (pay2_apply _ _ _ _ _ b).trans (bnormed_eq m c t _ b a (by show a.val = 1024 * (grid0.coords t 0).val + (y 0).val; omega))

end Call

section Ref

open Reference15Ideal Reference15Ideal.Read Reference15Ideal.Gen

/-- The reference's first entry: the whole sum and the layer's input. -/
theorem ref (x0 : (⟨S4096x1024, .bf16⟩ : BufTy).Contents (Elt Ideal)) (x1 : (⟨S1024x1024, .bf16⟩ : BufTy).Contents (Elt Ideal)) (x2 : (⟨S4096x1024, .f32⟩ : BufTy).Contents (Elt Ideal))
    (a : Fin 4096) (b : Fin 1024) :
    val_main_v1 (F := Ideal) x0 x1 x2 (ix2 a b) = res x0 x1 x2 a b := by
  rw [val_main_v1_apply, Ideal.addf_def, val_main_v0_apply]
  refine (add_comm _ _).trans (congrArg₂ (· + ·) (Finset.sum_congr rfl fun k _ => (congrArg₂ (· * ·) (congrArg x0 ?_) (congrArg x1 ?_))) rfl)
  · exact at2 rfl rfl
  · exact at2 rfl rfl

variable (x0 : (⟨S4096x1024, .bf16⟩ : BufTy).Contents (Elt Ideal)) (x1 : (⟨S1024x1024, .bf16⟩ : BufTy).Contents (Elt Ideal))
  (x2 : (⟨S4096x1024, .f32⟩ : BufTy).Contents (Elt Ideal)) (x3 : (⟨S1x1024, .f32⟩ : BufTy).Contents (Elt Ideal))

/-- The reference's mean squares. -/
theorem ref_meanSq (a : Fin 4096) : val_main_v8 (F := Ideal) x0 x1 x2 (ix2 a 0) = meanSq (res x0 x1 x2 a) := by
  rw [val_main_v8_apply, val_main_v6_apply, val_main_v4_apply, val_main_v3_apply, val_main_v5_apply, val_main_cst_0_apply, val_main_v7_apply, val_main_cst_1_apply,
    val_main_cst_apply, Ideal.addf_def, Ideal.hostDivf_def]
  have hi : ∀ k, idx_main_v3 (idx_main_v4 (ix2 a (0 : Fin 1))) k = ix2 a k := fun k => at2 rfl rfl
  simp only [hi, val_main_v2_apply, Ideal.mulf_def, ref]
  exact congrArg (fun z : EReal => Ideal.div z (Ideal.ofBits .f32 0x44800000#32) + Ideal.ofBits .f32 0x358637BD#32)
    ((congrArg (· + ∑ k : Fin 1024, res x0 x1 x2 a k * res x0 x1 x2 a k) Ideal.ofBits_zero_f32).trans (zero_add _))

/-- The reference's second entry. -/
theorem ref_normed (a : Fin 4096) (b : Fin 1024) : val_main_v14 (F := Ideal) x0 x1 x2 x3 (ix2 a b) = normed x0 x1 x2 x3 a b := by
  rw [val_main_v14_apply, Ideal.truncf_def, val_main_v13_apply, Ideal.mulf_def, val_main_v11_apply, Ideal.mulf_def, val_main_v10_apply, val_main_v12_apply,
    col0 (idx_main_v10 (ix2 a b)) a rfl, row0 (idx_main_v12 (ix2 a b)) b rfl, val_main_v9_apply, ref_meanSq, ref]
  rfl

end Ref

/-- The reference runs, leaves its arguments and declares no semaphore. -/
theorem frame_reference : quiescent_Reference15Ideal := fun m ρ _ =>
  (θ_run Reference15Ideal.defs _ _).mono (fun r h => ⟨fun c => (h c).2.2, sem_eq_zero_of_no_sems (by decide) r.2⟩)
    (Reference15Ideal.Value.run (F := Ideal) m ρ)

/-- The call and the reference leave the same two arrays. -/
theorem values : algebraic_Kernel15Ideal_Reference15Ideal := by
  intro m g m' g' _ ha
  refine ⟨fun c => (Kernel15Ideal.Gen.dats m 0 c).arrAt 4 Kernel15Ideal.cfg0.N, fun c => (Kernel15Ideal.Gen.dats m 0 c).arrAt 5 Kernel15Ideal.cfg0.N,
    Kernel15Ideal.Value.run_blocks m g,
    (θ_run Reference15Ideal.defs _ _).mono (fun r h c => ⟨(h c).1.trans ?_, (h c).2.1.trans ?_, (h c).2.2⟩)
      (Reference15Ideal.Value.run (F := Ideal) m' g')⟩
  · obtain ⟨h0, h1, h2, h3⟩ := ha c
    rw [Reference15Ideal.Read.val_main_v1_eq, h0, h1, h2]
    funext i
    rw [eta2 (M := 4096) (N := 1024) i]
    exact (ref _ _ _ _ _).trans (out4 m c _ _).symm
  · obtain ⟨h0, h1, h2, h3⟩ := ha c
    rw [Reference15Ideal.Read.val_main_v14_eq, h0, h1, h2, h3]
    funext i
    have eta2 (M := 4096) (N := 1024) i : i = ix2 (⟨(i 0).val, (i 0).isLt⟩ : Fin 4096) (⟨(i 1).val, (i 1).isLt⟩ : Fin 1024) := at2 rfl rfl
    rw [eta2 (M := 4096) (N := 1024) i]
    exact (ref_normed _ _ _ _ _ _).trans (out5 m c _ _).symm

end Cert.OutNorm
-- ==== Proof.ProjectNorm.lean ====
/-
  The gradient of cross attention's input: the product with the query weights and the norm's gradient,
  with the gain's gradient summed over the blocks of rows.
-/
module

public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Norm
public import proofs.«01_k».proof.Proof.Blocks
public import proofs.«01_k».proof.Defs

@[expose] public section

set_option maxRecDepth 16384

noncomputable section

open Idealize.ShloMosaic Idealize.ShloMosaic.TcCoe Idealize.ShloMosaic.Tactic Idealize.SL.Sem

namespace Cert.ProjectNorm

open Cert.Product Cert.Norm

/-- One entry of the normed input's gradient: the product with the weights. -/
def cot (w : Mat 1024 1024) (u : Mat 4096 1024) (a : Fin 4096) (l : Fin 1024) : EReal :=
  dotp (fun k : Fin 1024 => u (ix2 a k)) (fun k => w (ix2 l k))

section Call

open Kernel16Ideal Kernel16Ideal.Gen

/-- One entry of the normed input's gradient within a block of rows. -/
def bcot (v0 : Mat 1024 1024) (v1 : Mat 1024 1024) (r : Fin 1024) (l : Fin 1024) : EReal := dotp (fun k : Fin 1024 => v0 (ix2 r k)) (fun k => v1 (ix2 l k))

/-- One block's part of the gain's gradient. -/
def bsum (v0 : Mat 1024 1024) (v1 : Mat 1024 1024) (v3 : Mat 1024 1024) (l : Fin 1024) : EReal :=
  ∑ r : Fin 1024, row v3 r l * inv (row v3 r) * bcot v0 v1 r l

/-- One entry of the gradient within a block of rows. -/
def bdx (v0 : Mat 1024 1024) (v1 : Mat 1024 1024) (v3 : Mat 1024 1024)
    (v4 : Mat 1 1024) (v38 : Mat 1024 1024) (r : Fin 1024) (l : Fin 1024) : EReal :=
  v38 (ix2 r l) + back (row v3 r) (fun l => bcot v0 v1 r l * v4 (ix2 0 l)) l

/-- The block's product. -/
theorem pay4_apply (v0 : Vec Ideal S1024x1024 .bf16) (v1 : Vec Ideal S1024x1024 .bf16) (r : Fin 1024) (l : Fin 1024) :
    k0_pay4 (F := Ideal) v0 v1 (ix2 r l) = bcot v0 v1 r l := by
  unfold k0_pay4 bcot dotp
  pointwise

/-- The rows' mean squares. -/
theorem pay5_apply (x : Vec Ideal S1024x1024 .f32) (r : Fin 1024) : k0_pay5 (F := Ideal) x (ix2 r 0) = meanSq (row x r) := by
  unfold k0_pay5
  pointwise
  rfl

/-- The rows' factors. -/
theorem pay6_apply (x : Vec Ideal S1024x1024 .f32) (r : Fin 1024) : k0_pay6 (F := Ideal) x (ix2 r 0) = inv (row x r) := by
  unfold k0_pay6
  pointwise
  rw [pay5_apply]
  rfl

/-- The block's part of the gain's gradient. -/
theorem pay7_apply (v0 : Vec Ideal S1024x1024 .bf16) (v1 : Vec Ideal S1024x1024 .bf16) (v3 : Vec Ideal S1024x1024 .f32) (l : Fin 1024) :
    k0_pay7 (F := Ideal) v0 v1 v3 (ix2 0 l) = bsum v0 v1 v3 l := by
  unfold k0_pay7
  pointwise
  exact Finset.sum_congr rfl fun r _ => by rw [pay6_apply, pay4_apply]; rfl

/-- The block's gradient through the normalisation. -/
theorem pay8_apply (v0 : Vec Ideal S1024x1024 .bf16) (v1 : Vec Ideal S1024x1024 .bf16) (v3 : Vec Ideal S1024x1024 .f32) (v4 : Vec Ideal S1x1024 .f32) (r : Fin 1024) (l : Fin 1024) :
    k0_pay8 (F := Ideal) v0 v1 v3 v4 (ix2 r l) = back (row v3 r) (fun l => bcot v0 v1 r l * v4 (ix2 0 l)) l := by
  unfold k0_pay8
  pointwise
  simp only [Finset.univ_unique, Finset.sum_singleton, pay4_apply]
  unfold back pull
  exact congrArg₂ (fun i s : EReal => bcot v0 v1 r l * v4 (ix2 0 l) * i + row v3 r l * Ideal.div ((∑ k : Fin 1024, row v3 r k * (bcot v0 v1 r k * v4 (ix2 0 k))) * (Ideal.ofBits .f32 0xBF000000#32 * Ideal.div i s)) (Ideal.ofBits .f32 0x44800000#32)
      + Ideal.div ((∑ k : Fin 1024, row v3 r k * (bcot v0 v1 r k * v4 (ix2 0 k))) * (Ideal.ofBits .f32 0xBF000000#32 * Ideal.div i s)) (Ideal.ofBits .f32 0x44800000#32) * row v3 r l)
    (pay6_apply v3 r) (pay5_apply v3 r)

/-- The block of the gradient that the call stores. -/
theorem pay1_apply (v0 : Vec Ideal S1024x1024 .bf16) (v1 : Vec Ideal S1024x1024 .bf16) (v3 : Vec Ideal S1024x1024 .f32) (v4 : Vec Ideal S1x1024 .f32) (v38 : Vec Ideal S1024x1024 .f32) (r : Fin 1024) (l : Fin 1024) :
    k0_pay1 (F := Ideal) (k0_pay8 v0 v1 v3 v4) v38 (ix2 r l) = bdx v0 v1 v3 v4 v38 r l := by
  unfold k0_pay1
  pointwise
  rw [pay8_apply]
  rfl

/-- The running sum of the gain's gradient, one block further. -/
theorem pay3_apply (v22 v46 : Vec Ideal S1x1024 .f32) (l : Fin 1024) :
    k0_pay3 (F := Ideal) v22 v46 (ix2 0 l) = v46 (ix2 0 l) + v22 (ix2 0 l) := by
  unfold k0_pay3
  pointwise

/-- The running sum starts at zero. -/
theorem pay2_apply (l : Fin 1024) : k0_pay2 (F := Ideal) (ix2 0 l) = 0 := by
  unfold k0_pay2
  pointwise

variable (m : (ℓ : Loc nD τ sig) → Buf (Elt Ideal) ℓ) (c : Dev nD)

section Point

variable (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole)

/-- The gradient block of the first point. -/
theorem out_A_5 (hc0 : cond0_0 i)
    (x0 : Vec Ideal S1024x1024 .bf16) (x1 : Vec Ideal S1024x1024 .bf16) (x2 : Vec Ideal S1024x1024 .f32) (x3 : Vec Ideal S1x1024 .f32) (x4 : Vec Ideal S1024x1024 .f32) (r : Fin 1024) (l : Fin 1024) :
    out0_A_5 (F := Ideal) c i arg2 harg2 arg3 harg3 arg4 harg4 arg5 harg5 arg6 harg6 arg7 harg7 arg8 harg8 hc0 x0 x1 x2 x3 x4 (ix2 r l) = bdx x0 x1 x2 x3 x4 r l := by
  unfold out0_A_5 kernelRun0_A
  dsimp only
  refine (read_store VO0_5 _ _ _ _ r l).trans ?_
  sl_unfold_words
  rw [readAt_whole arg2 harg2, readAt_whole arg3 harg3, readAt_whole arg4 harg4, readAt_whole arg5 harg5, readAt_whole arg6 harg6]
  exact pay1_apply _ _ _ _ _ _ _

/-- The gradient block of a later point. -/
theorem out_B_5 (hc0 : ¬cond0_0 i)
    (x0 : Vec Ideal S1024x1024 .bf16) (x1 : Vec Ideal S1024x1024 .bf16) (x2 : Vec Ideal S1024x1024 .f32) (x3 : Vec Ideal S1x1024 .f32) (x4 : Vec Ideal S1024x1024 .f32) (xo6 : Vec Ideal S1x1024 .f32) (r : Fin 1024) (l : Fin 1024) :
    out0_B_5 (F := Ideal) c i arg2 harg2 arg3 harg3 arg4 harg4 arg5 harg5 arg6 harg6 arg7 harg7 arg8 harg8 hc0 x0 x1 x2 x3 x4 xo6 (ix2 r l) = bdx x0 x1 x2 x3 x4 r l := by
  unfold out0_B_5 kernelRun0_B
  dsimp only
  refine (read_store VO0_5 _ _ _ _ r l).trans ?_
  sl_unfold_words
  rw [readAt_whole arg2 harg2, readAt_whole arg3 harg3, readAt_whole arg4 harg4, readAt_whole arg5 harg5, readAt_whole arg6 harg6]
  exact pay1_apply _ _ _ _ _ _ _

/-- The running sum after the first point. -/
theorem out_A_6 (hc0 : cond0_0 i)
    (x0 : Vec Ideal S1024x1024 .bf16) (x1 : Vec Ideal S1024x1024 .bf16) (x2 : Vec Ideal S1024x1024 .f32) (x3 : Vec Ideal S1x1024 .f32) (x4 : Vec Ideal S1024x1024 .f32) (l : Fin 1024) :
    out0_A_6 (F := Ideal) c i arg2 harg2 arg3 harg3 arg4 harg4 arg5 harg5 arg6 harg6 arg7 harg7 arg8 harg8 hc0 x0 x1 x2 x3 x4 (ix2 0 l) = bsum x0 x1 x2 l := by
  unfold out0_A_6 kernelRun0_A
  dsimp only
  refine (read_store VO0_6 _ _ _ _ 0 l).trans ?_
  sl_unfold_words
  rw [readAt_whole arg2 harg2, readAt_whole arg3 harg3, readAt_whole arg4 harg4]
  refine (pay3_apply _ _ _).trans ?_
  rw [pay7_apply, View.readCov_cons_toLoadRect, pay2_apply, zero_add]

/-- The running sum after a later point. -/
theorem out_B_6 (hc0 : ¬cond0_0 i)
    (x0 : Vec Ideal S1024x1024 .bf16) (x1 : Vec Ideal S1024x1024 .bf16) (x2 : Vec Ideal S1024x1024 .f32) (x3 : Vec Ideal S1x1024 .f32) (x4 : Vec Ideal S1024x1024 .f32) (xo6 : Vec Ideal S1x1024 .f32) (l : Fin 1024) :
    out0_B_6 (F := Ideal) c i arg2 harg2 arg3 harg3 arg4 harg4 arg5 harg5 arg6 harg6 arg7 harg7 arg8 harg8 hc0 x0 x1 x2 x3 x4 xo6 (ix2 0 l) = xo6 (ix2 0 l) + bsum x0 x1 x2 l := by
  unfold out0_B_6 kernelRun0_B
  dsimp only
  refine (read_store VO0_6 _ _ _ _ 0 l).trans ?_
  sl_unfold_words
  rw [readAt_whole arg2 harg2, readAt_whole arg3 harg3, readAt_whole arg4 harg4, readAt_whole arg8 harg8]
  refine (pay3_apply _ _ _).trans ?_
  rw [pay7_apply]

end Point

/-- Where the incoming cotangent's block lies. -/
theorem index0 : ∀ t : Fin cfg0.N, win0_0.index t (0 : Fin 2) = t.val ∧ win0_0.index t (1 : Fin 2) = 0 :=
  (by decide +kernel : ∀ t : Fin grid0.N, _)
/-- Where the weights' block lies. -/
theorem index1 : ∀ t : Fin cfg0.N, win0_1.index t (0 : Fin 2) = 0 ∧ win0_1.index t (1 : Fin 2) = 0 :=
  (by decide +kernel : ∀ t : Fin grid0.N, _)
/-- Where the layer's input's block lies. -/
theorem index2 : ∀ t : Fin cfg0.N, win0_2.index t (0 : Fin 2) = t.val ∧ win0_2.index t (1 : Fin 2) = 0 :=
  (by decide +kernel : ∀ t : Fin grid0.N, _)
/-- Where the gain lies. -/
theorem index3 : ∀ t : Fin cfg0.N, win0_3.index t (0 : Fin 2) = 0 ∧ win0_3.index t (1 : Fin 2) = 0 :=
  (by decide +kernel : ∀ t : Fin grid0.N, _)
/-- Where the block of the cotangent past the layer lies. -/
theorem index4 : ∀ t : Fin cfg0.N, win0_4.index t (0 : Fin 2) = t.val ∧ win0_4.index t (1 : Fin 2) = 0 :=
  (by decide +kernel : ∀ t : Fin grid0.N, _)
/-- Where the gradient's block lies. -/
theorem index5 : ∀ t : Fin cfg0.N, win0_5.index t (0 : Fin 2) = t.val ∧ win0_5.index t (1 : Fin 2) = 0 :=
  (by decide +kernel : ∀ t : Fin grid0.N, _)
/-- Where the gain's gradient lies. -/
theorem index6 : ∀ t : Fin cfg0.N, win0_6.index t (0 : Fin 2) = 0 ∧ win0_6.index t (1 : Fin 2) = 0 :=
  (by decide +kernel : ∀ t : Fin grid0.N, _)

/-- What the incoming cotangent's block holds. -/
theorem blk0 (t : Fin cfg0.N) (r : Fin 1024) (k : Fin 1024) (a : Fin 4096) (h : a.val = 1024 * t.val + r.val) : iblk m c 0 t (ix2 r k) = V m c main_arg3 (ix2 a k) := by
  have e := index0 t
  exact congrArg (V m c main_arg3) (at2 (show win0_0.index t (0 : Fin 2) * 1024 + 1 * r.val = a.val by omega) (show win0_0.index t (1 : Fin 2) * 1024 + 1 * k.val = k.val by omega))

/-- What the weights' block holds. -/
theorem blk1 (t : Fin cfg0.N) (l : Fin 1024) (k : Fin 1024) : iblk m c 1 t (ix2 l k) = V m c main_arg2 (ix2 l k) := by
  have e := index1 t
  exact congrArg (V m c main_arg2) (at2 (show win0_1.index t (0 : Fin 2) * 1024 + 1 * l.val = l.val by omega) (show win0_1.index t (1 : Fin 2) * 1024 + 1 * k.val = k.val by omega))

/-- What the layer's input's block holds. -/
theorem blk2 (t : Fin cfg0.N) (r : Fin 1024) (k : Fin 1024) (a : Fin 4096) (h : a.val = 1024 * t.val + r.val) : iblk m c 2 t (ix2 r k) = V m c main_arg0 (ix2 a k) := by
  have e := index2 t
  exact congrArg (V m c main_arg0) (at2 (show win0_2.index t (0 : Fin 2) * 1024 + 1 * r.val = a.val by omega) (show win0_2.index t (1 : Fin 2) * 1024 + 1 * k.val = k.val by omega))

/-- What the block of the cotangent past the layer holds. -/
theorem blk4 (t : Fin cfg0.N) (r : Fin 1024) (k : Fin 1024) (a : Fin 4096) (h : a.val = 1024 * t.val + r.val) : iblk m c 4 t (ix2 r k) = V m c main_arg4 (ix2 a k) := by
  have e := index4 t
  exact congrArg (V m c main_arg4) (at2 (show win0_4.index t (0 : Fin 2) * 1024 + 1 * r.val = a.val by omega) (show win0_4.index t (1 : Fin 2) * 1024 + 1 * k.val = k.val by omega))

/-- What the gain's block holds. -/
theorem blk3 (t : Fin cfg0.N) (k : Fin 1024) : iblk m c 3 t (ix2 0 k) = V m c main_arg1 (ix2 0 k) := by
  have e := index3 t
  exact congrArg (V m c main_arg1) (at2 (show win0_3.index t (0 : Fin 2) * 1 + 1 * 0 = 0 by omega) (show win0_3.index t (1 : Fin 2) * 1024 + 1 * k.val = k.val by omega))

/-- A block's entry of the normed input's gradient is the whole array's. -/
theorem bcot_eq (t : Fin cfg0.N) (r : Fin 1024) (l : Fin 1024) (a : Fin 4096) (h : a.val = 1024 * t.val + r.val) :
    bcot (iblk m c 0 t) (iblk m c 1 t) r l = cot (V m c main_arg2) (V m c main_arg3) a l :=
  dotp_congr (fun k => blk0 m c t r k a h) (fun k => blk1 m c t l k)

/-- A block's row of the layer's input is the whole array's. -/
theorem row_eq (t : Fin cfg0.N) (r : Fin 1024) (a : Fin 4096) (h : a.val = 1024 * t.val + r.val) :
    row (M := 1024) (iblk m c 2 t) r = row (M := 4096) (V m c main_arg0) a := funext fun k => blk2 m c t r k a h

/-- The part of the gain's gradient from one block of rows. -/
theorem bsum_eq (t : Fin cfg0.N) (l : Fin 1024) :
    bsum (iblk m c 0 t) (iblk m c 1 t) (iblk m c 2 t) l = ∑ r : Fin 1024, part (V m c main_arg0) (cot (V m c main_arg2) (V m c main_arg3)) l (1024 * t.val + r.val) := by
  unfold bsum
  refine Finset.sum_congr rfl fun r _ => ?_
  have hN : t.val < 4 := lt_of_lt_of_eq t.isLt (show cfg0.N = 4 from N_0)
  have ha : 1024 * t.val + r.val < 4096 := by omega
  rw [bcot_eq m c t r l ⟨_, ha⟩ rfl, row_eq m c t r ⟨_, ha⟩ rfl]
  unfold part
  rw [dif_pos ha]
  rfl

/-- The running sum after the first point. -/
theorem step_A (t : Fin cfg0.N) (ht : t.val % 4 = 0) (l : Fin 1024) : (outsAt0 m c t.val t.isLt).2 (ix2 0 l) = bsum (iblk m c 0 t) (iblk m c 1 t) (iblk m c 2 t) l := by
  rw [outsAt0_A m c t ht]
  dsimp only
  exact out_A_6 c _ _ _ _ _ _ _ _ _ _ _ _ _ _ _ _ _ _ _ _ _ _

/-- The running sum after a later point. -/
theorem step_B (t : Fin cfg0.N) (ht : ¬t.val % 4 = 0) (l : Fin 1024) : (outsAt0 m c t.val t.isLt).2 (ix2 0 l)
    = ((outsAt0 m c (t.val - 1) (Nat.lt_of_le_of_lt (Nat.sub_le _ _) t.isLt)).2 (ix2 0 l) : EReal) + bsum (iblk m c 0 t) (iblk m c 1 t) (iblk m c 2 t) l := by
  rw [outsAt0_B m c t ht]
  dsimp only
  exact out_B_6 c _ _ _ _ _ _ _ _ _ _ _ _ _ _ _ _ _ _ _ _ _ _ _

/-- The gradient's block after any point. -/
theorem step_5 (t : Fin cfg0.N) (r : Fin 1024) (l : Fin 1024) : (outsAt0 m c t.val t.isLt).1 (ix2 r l) = bdx (iblk m c 0 t) (iblk m c 1 t) (iblk m c 2 t) (iblk m c 3 t) (iblk m c 4 t) r l := by
  by_cases ht : t.val % 4 = 0
  · rw [outsAt0_A m c t ht]
    dsimp only
    exact out_A_5 c _ _ _ _ _ _ _ _ _ _ _ _ _ _ _ _ _ _ _ _ _ _ _
  · rw [outsAt0_B m c t ht]
    dsimp only
    exact out_B_5 c _ _ _ _ _ _ _ _ _ _ _ _ _ _ _ _ _ _ _ _ _ _ _ _

/-- The running sum after each point: all the positions up to it. -/
theorem running (l : Fin 1024) : ∀ (n : ℕ) (hn : n < cfg0.N), (outsAt0 m c n hn).2 (ix2 0 l) = ∑ j ∈ Finset.range (1024 * (n + 1)), part (V m c main_arg0) (cot (V m c main_arg2) (V m c main_arg3)) l j := by
  intro n
  induction n with
  | zero =>
    intro hn
    rw [← part_block _ _ _ 1024 0 _ (fun r => rfl), Nat.mul_zero, Finset.sum_range_zero, zero_add]
    exact (step_A m c ⟨0, hn⟩ rfl l).trans (bsum_eq m c ⟨0, hn⟩ l)
  | succ n ih =>
    intro hn
    have hN : n + 1 < 4 := lt_of_lt_of_eq hn (show cfg0.N = 4 from N_0)
    rw [← part_block _ _ _ 1024 (n + 1) _ (fun r => rfl), ← ih (Nat.lt_of_succ_lt hn)]
    exact (step_B m c ⟨n + 1, hn⟩ (by show ¬ (n + 1) % 4 = 0; omega) l).trans (congrArg (_ + ·) (bsum_eq m c ⟨n + 1, hn⟩ l))

/-- A block's entry of the gradient is the whole array's. -/
theorem bdx_eq (t : Fin cfg0.N) (r : Fin 1024) (l : Fin 1024) (a : Fin 4096) (h : a.val = 1024 * t.val + r.val) :
    bdx (iblk m c 0 t) (iblk m c 1 t) (iblk m c 2 t) (iblk m c 3 t) (iblk m c 4 t) r l
      = dx (V m c main_arg0) (V m c main_arg1) (cot (V m c main_arg2) (V m c main_arg3)) (V m c main_arg4) a l := by
  unfold bdx dx
  rw [row_eq m c t r a h]
  exact congrArg₂ (· + ·) (blk4 m c t r l a h) (congrArg (fun p => back (row (M := 4096) (V m c main_arg0) a) p l)
    (funext fun l => congrArg₂ (· * ·) (bcot_eq m c t r l a h) (blk3 m c t l)))

/-- The gradient array the call leaves. -/
theorem out5 (a : Fin 4096) (b : Fin 1024) :
    (dats m 0 c).arrAt 5 cfg0.N (ix2 a b) = dx (V m c main_arg0) (V m c main_arg1) (cot (V m c main_arg2) (V m c main_arg3)) (V m c main_arg4) a b := by
  refine (dats m 0 c).arrAt_forall_of_covers 5 (fun y v => ∀ (a : Fin 4096) (b : Fin 1024), y = ix2 a b → v = dx (V m c main_arg0) (V m c main_arg1) (cot (V m c main_arg2) (V m c main_arg3)) (V m c main_arg4) a b)
    (by decide +kernel) (fun t hf y a b e => ?_) _ (Memref.isWhole_whole _) a b rfl
  have r0 : win0_5.index t (0 : Fin 2) * 1024 + 1 * (y 0).val = a.val := congrArg (fun z : S4096x1024.Idx => (z 0).val) e
  have r1 : win0_5.index t (1 : Fin 2) * 1024 + 1 * (y 1).val = b.val := congrArg (fun z : S4096x1024.Idx => (z 1).val) e
  obtain ⟨e0, e1⟩ := index5 t
  rw [e0] at r0
  rw [e1] at r1
  have hl : (y 0).val < 1024 := (y 0).isLt
  have hb : (⟨(y 1).val, (y 1).isLt⟩ : Fin 1024) = b := Fin.ext (by show (y 1).val = b.val; omega)
  have hy : y = ix2 (⟨(y 0).val, hl⟩ : Fin 1024) (⟨(y 1).val, (y 1).isLt⟩ : Fin 1024) := at2 rfl rfl
  have h : a.val = 1024 * t.val + (⟨(y 0).val, hl⟩ : Fin 1024).val := by show a.val = 1024 * t.val + (y 0).val; omega
  show (dats m 0 c).after 5 t y = _
  rw [after0_5, hy, hb]
  exact (step_5 m c t _ b).trans (bdx_eq m c t _ b a h)

/-- The gain's gradient the call leaves. -/
theorem out6 (b : Fin 1024) :
    (dats m 0 c).arrAt 6 cfg0.N (ix2 0 b) = dgain (V m c main_arg0) (cot (V m c main_arg2) (V m c main_arg3)) b := by
  refine (dats m 0 c).arrAt_forall_of_covers 6 (fun y v => ∀ b : Fin 1024, y = ix2 0 b → v = dgain (V m c main_arg0) (cot (V m c main_arg2) (V m c main_arg3)) b)
    (by decide +kernel) (fun t hf y b e => ?_) _ (Memref.isWhole_whole _) b rfl
  have r1 : win0_6.index t (1 : Fin 2) * 1024 + 1 * (y 1).val = b.val := congrArg (fun z : S1x1024.Idx => (z 1).val) e
  obtain ⟨e0, e1⟩ := index6 t
  rw [e1] at r1
  have hb : (⟨(y 1).val, (y 1).isLt⟩ : Fin 1024) = b := Fin.ext (by show (y 1).val = b.val; omega)
  have hy : y = ix2 (0 : Fin 1) (⟨(y 1).val, (y 1).isLt⟩ : Fin 1024) := row0 y _ rfl
  have ht : t.val = 3 := (by decide +kernel : ∀ t : Fin grid0.N, (cfg0.win 6).flush t = true → t.val = 3) t hf
  show (dats m 0 c).after 6 t y = _
  rw [after0_6, hy, hb, running m c b t.val t.isLt, ht]
  exact dgain_range _ _ _

end Call

section Ref

open Reference16Ideal Reference16Ideal.Read Reference16Ideal.Gen

variable (x0 : (⟨S4096x1024, .f32⟩ : BufTy).Contents (Elt Ideal)) (x1 : (⟨S1x1024, .f32⟩ : BufTy).Contents (Elt Ideal))
  (x2 : (⟨S1024x1024, .bf16⟩ : BufTy).Contents (Elt Ideal)) (x3 : (⟨S4096x1024, .bf16⟩ : BufTy).Contents (Elt Ideal))
  (x4 : (⟨S4096x1024, .f32⟩ : BufTy).Contents (Elt Ideal))

/-- The reference's mean squares. -/
theorem ref_meanSq (a : Fin 4096) : val_main_v6 (F := Ideal) x0 (ix2 a 0) = meanSq (row (M := 4096) x0 a) := by
  rw [val_main_v6_apply, val_main_v4_apply, val_main_v2_apply, val_main_v1_apply, val_main_v3_apply, val_main_cst_0_apply, val_main_v5_apply, val_main_cst_1_apply,
    val_main_cst_apply, Ideal.addf_def, Ideal.hostDivf_def]
  have hi : ∀ k, idx_main_v1 (idx_main_v2 (ix2 a (0 : Fin 1))) k = ix2 a k := fun k => at2 rfl rfl
  simp only [hi, val_main_v0_apply, Ideal.mulf_def]
  exact congrArg (fun z : EReal => Ideal.div z (Ideal.ofBits .f32 0x44800000#32) + Ideal.ofBits .f32 0x358637BD#32)
    ((congrArg (· + ∑ k : Fin 1024, x0 (ix2 a k) * x0 (ix2 a k)) Ideal.ofBits_zero_f32).trans (zero_add _))

/-- The reference's factors. -/
theorem ref_inv (a : Fin 4096) : val_main_v7 (F := Ideal) x0 (ix2 a 0) = inv (row (M := 4096) x0 a) := by
  rw [val_main_v7_apply, ref_meanSq]
  rfl

/-- The reference's gradient of the normed input. -/
theorem ref_cot (a : Fin 4096) (b : Fin 1024) : val_main_v21 (F := Ideal) x2 x3 (ix2 a b) = cot x2 x3 a b := by
  rw [val_main_v21_apply, Ideal.extf_def, val_main_v20_apply, Ideal.truncf_def, val_main_v19_apply]
  have hl : ∀ k, lidx_main_v19 (ix2 a b) k = ix2 a k := fun k => at2 rfl rfl
  have hr : ∀ k, ridx_main_v19 (ix2 a b) k = ix2 b k := fun k => at2 rfl rfl
  simp only [hl, hr, val_main_v18_apply, Ideal.extf_def]
  rfl

/-- The reference's normalised entry. -/
theorem ref_normed (a : Fin 4096) (b : Fin 1024) : val_main_v12 (F := Ideal) x0 (ix2 a b) = x0 (ix2 a b) * inv (row (M := 4096) x0 a) := by
  rw [val_main_v12_apply, val_main_v11_apply, Ideal.mulf_def, col0 (idx_main_v11 (ix2 a b)) a rfl, ref_inv]

/-- The reference's gradient of the normalised entry. -/
theorem ref_scaled (a : Fin 4096) (b : Fin 1024) : val_main_v26 (F := Ideal) x1 x2 x3 (ix2 a b) = cot x2 x3 a b * x1 (ix2 0 b) := by
  rw [val_main_v26_apply, val_main_v25_apply, Ideal.mulf_def, row0 (idx_main_v25 (ix2 a b)) b rfl, ref_cot]

/-- What comes back through the reference's factor. -/
theorem ref_pull (a : Fin 4096) (b : Fin 1024) :
    val_main_v37 (F := Ideal) x0 x1 x2 x3 (ix2 a b) = pull (row (M := 4096) x0 a) (fun l => cot x2 x3 a l * x1 (ix2 0 l)) := by
  rw [val_main_v37_apply, val_main_v36_apply, val_main_cst_6_apply]
  have h36 : ∀ k, idx_main_v36 (idx_main_v37 (ix2 a b)) k = ix2 a (0 : Fin 1) := fun k => at2 rfl (Nat.lt_one_iff.mp k.isLt)
  have h28 : ∀ k, idx_main_v28 (idx_main_v29 (ix2 a (0 : Fin 1))) k = ix2 a k := fun k => at2 (show a.val * 1 + 0 = a.val by omega) rfl
  simp only [h36, Finset.univ_unique, Finset.sum_singleton]
  rw [val_main_v35_apply, val_main_v33_apply, val_main_v34_apply, val_main_cst_5_apply, val_main_v29_apply, val_main_v28_apply, val_main_cst_4_apply,
    val_main_v10_apply, val_main_v9_apply, val_main_cst_2_apply, val_main_v8_apply, ref_inv, ref_meanSq]
  simp only [h28, val_main_v27_apply, ref_scaled, Ideal.mulf_def, Ideal.hostDivf_def]
  refine (congrArg (· + _) Ideal.ofBits_zero_f32).trans ((zero_add _).trans ?_)
  exact congrArg (fun z : EReal => Ideal.div (z * (Ideal.ofBits .f32 0xBF000000#32 * Ideal.div (inv (row (M := 4096) x0 a)) (meanSq (row (M := 4096) x0 a)))) (Ideal.ofBits .f32 0x44800000#32))
    ((congrArg (· + ∑ k : Fin 1024, x0 (ix2 a k) * (cot x2 x3 a k * x1 (ix2 0 k))) Ideal.ofBits_zero_f32).trans (zero_add _))

/-- The reference's gradient of the layer's input. -/
theorem ref_dx (a : Fin 4096) (b : Fin 1024) : val_main_v41 (F := Ideal) x0 x1 x2 x3 x4 (ix2 a b) = dx x0 x1 (cot x2 x3) x4 a b := by
  rw [val_main_v41_apply, val_main_v39_apply, val_main_v32_apply, val_main_v31_apply, val_main_v38_apply, val_main_v40_apply, val_main_v30_apply,
    ref_pull, ref_scaled, col0 (idx_main_v30 (ix2 a b)) a rfl, ref_inv]
  simp only [Ideal.addf_def, Ideal.mulf_def]
  unfold dx back
  exact (add_assoc _ _ _).trans ((add_assoc _ _ _).trans (congrArg (_ + ·) (add_assoc _ _ _).symm))

/-- The reference's gradient of the gain. -/
theorem ref_dgain (b : Fin 1024) : val_main_v24 (F := Ideal) x0 x2 x3 (ix2 0 b) = dgain x0 (cot x2 x3) b := by
  rw [val_main_v24_apply, val_main_v23_apply, val_main_cst_3_apply]
  have hi : ∀ k, idx_main_v23 (idx_main_v24 (ix2 (0 : Fin 1) b)) k = ix2 k b := fun k => at2 rfl (show 0 * 1024 + b.val = b.val by omega)
  simp only [hi, val_main_v22_apply, ref_normed, ref_cot, Ideal.mulf_def]
  exact (congrArg (· + _) Ideal.ofBits_zero_f32).trans (zero_add _)

end Ref

/-- The reference runs, leaves its arguments and declares no semaphore. -/
theorem frame_reference : quiescent_Reference16Ideal := fun m ρ _ =>
  (θ_run Reference16Ideal.defs _ _).mono (fun r h => ⟨fun c => (h c).2.2, sem_eq_zero_of_no_sems (by decide) r.2⟩)
    (Reference16Ideal.Value.run (F := Ideal) m ρ)

/-- The call and the reference leave the same two arrays. -/
theorem values : algebraic_Kernel16Ideal_Reference16Ideal := by
  intro m g m' g' _ ha
  refine ⟨fun c => (Kernel16Ideal.Gen.dats m 0 c).arrAt 5 Kernel16Ideal.cfg0.N, fun c => (Kernel16Ideal.Gen.dats m 0 c).arrAt 6 Kernel16Ideal.cfg0.N,
    Kernel16Ideal.Value.run_blocks m g,
    (θ_run Reference16Ideal.defs _ _).mono (fun r h c => ⟨(h c).1.trans ?_, (h c).2.1.trans ?_, (h c).2.2⟩)
      (Reference16Ideal.Value.run (F := Ideal) m' g')⟩
  · obtain ⟨h0, h1, h2, h3, h4⟩ := ha c
    rw [Reference16Ideal.Read.val_main_v41_eq, h0, h1, h2, h3, h4]
    funext i
    rw [eta2 (M := 4096) (N := 1024) i]
    exact (ref_dx _ _ _ _ _ _ _).trans (out5 m c _ _).symm
  · obtain ⟨h0, h1, h2, h3, h4⟩ := ha c
    rw [Reference16Ideal.Read.val_main_v24_eq, h0, h2, h3]
    funext i
    have eta2 (M := 4096) (N := 1024) i : i = ix2 (0 : Fin 1) (⟨(i 1).val, (i 1).isLt⟩ : Fin 1024) := by
      funext a
      match a with
      | ⟨0, _⟩ => exact Fin.ext (Nat.lt_one_iff.mp (i 0).isLt)
      | ⟨1, _⟩ => rfl
    rw [eta2 (M := 4096) (N := 1024) i]
    exact (ref_dgain _ _ _ _).trans (out6 m c _).symm

end Cert.ProjectNorm
-- ==== Proof.MixNorm.lean ====
/-
  The gradient of the mixer's input: the product with the first weights and the norm's gradient,
  with the gain's gradient summed over the blocks of rows.
-/
module

public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Norm
public import proofs.«01_k».proof.Proof.Blocks
public import proofs.«01_k».proof.Defs

@[expose] public section

set_option maxRecDepth 16384

noncomputable section

open Idealize.ShloMosaic Idealize.ShloMosaic.TcCoe Idealize.ShloMosaic.Tactic Idealize.SL.Sem

namespace Cert.MixNorm

open Cert.Product Cert.Norm

/-- One entry of the normed input's gradient: the product with the weights. -/
def cot (w : Mat 1024 2560) (u : Mat 4096 2560) (a : Fin 4096) (l : Fin 1024) : EReal :=
  dotp (fun k : Fin 2560 => u (ix2 a k)) (fun k => w (ix2 l k))

section Call

open Kernel17Ideal Kernel17Ideal.Gen

/-- One entry of the normed input's gradient within a block of rows. -/
def bcot (v0 : Mat 512 2560) (v1 : Mat 1024 2560) (r : Fin 512) (l : Fin 1024) : EReal := dotp (fun k : Fin 2560 => v0 (ix2 r k)) (fun k => v1 (ix2 l k))

/-- One block's part of the gain's gradient. -/
def bsum (v0 : Mat 512 2560) (v1 : Mat 1024 2560) (v3 : Mat 512 1024) (l : Fin 1024) : EReal :=
  ∑ r : Fin 512, row v3 r l * inv (row v3 r) * bcot v0 v1 r l

/-- One entry of the gradient within a block of rows. -/
def bdx (v0 : Mat 512 2560) (v1 : Mat 1024 2560) (v3 : Mat 512 1024)
    (v4 : Mat 1 1024) (v38 : Mat 512 1024) (r : Fin 512) (l : Fin 1024) : EReal :=
  v38 (ix2 r l) + back (row v3 r) (fun l => bcot v0 v1 r l * v4 (ix2 0 l)) l

/-- The block's product. -/
theorem pay4_apply (v0 : Vec Ideal S512x2560 .bf16) (v1 : Vec Ideal S1024x2560 .bf16) (r : Fin 512) (l : Fin 1024) :
    k0_pay4 (F := Ideal) v0 v1 (ix2 r l) = bcot v0 v1 r l := by
  unfold k0_pay4 bcot dotp
  pointwise

/-- The rows' mean squares. -/
theorem pay5_apply (x : Vec Ideal S512x1024 .f32) (r : Fin 512) : k0_pay5 (F := Ideal) x (ix2 r 0) = meanSq (row x r) := by
  unfold k0_pay5
  pointwise
  rfl

/-- The rows' factors. -/
theorem pay6_apply (x : Vec Ideal S512x1024 .f32) (r : Fin 512) : k0_pay6 (F := Ideal) x (ix2 r 0) = inv (row x r) := by
  unfold k0_pay6
  pointwise
  rw [pay5_apply]
  rfl

/-- The block's part of the gain's gradient. -/
theorem pay7_apply (v0 : Vec Ideal S512x2560 .bf16) (v1 : Vec Ideal S1024x2560 .bf16) (v3 : Vec Ideal S512x1024 .f32) (l : Fin 1024) :
    k0_pay7 (F := Ideal) v0 v1 v3 (ix2 0 l) = bsum v0 v1 v3 l := by
  unfold k0_pay7
  pointwise
  exact Finset.sum_congr rfl fun r _ => by rw [pay6_apply, pay4_apply]; rfl

/-- The block's gradient through the normalisation. -/
theorem pay8_apply (v0 : Vec Ideal S512x2560 .bf16) (v1 : Vec Ideal S1024x2560 .bf16) (v3 : Vec Ideal S512x1024 .f32) (v4 : Vec Ideal S1x1024 .f32) (r : Fin 512) (l : Fin 1024) :
    k0_pay8 (F := Ideal) v0 v1 v3 v4 (ix2 r l) = back (row v3 r) (fun l => bcot v0 v1 r l * v4 (ix2 0 l)) l := by
  unfold k0_pay8
  pointwise
  simp only [Finset.univ_unique, Finset.sum_singleton, pay4_apply]
  unfold back pull
  exact congrArg₂ (fun i s : EReal => bcot v0 v1 r l * v4 (ix2 0 l) * i + row v3 r l * Ideal.div ((∑ k : Fin 1024, row v3 r k * (bcot v0 v1 r k * v4 (ix2 0 k))) * (Ideal.ofBits .f32 0xBF000000#32 * Ideal.div i s)) (Ideal.ofBits .f32 0x44800000#32)
      + Ideal.div ((∑ k : Fin 1024, row v3 r k * (bcot v0 v1 r k * v4 (ix2 0 k))) * (Ideal.ofBits .f32 0xBF000000#32 * Ideal.div i s)) (Ideal.ofBits .f32 0x44800000#32) * row v3 r l)
    (pay6_apply v3 r) (pay5_apply v3 r)

/-- The block of the gradient that the call stores. -/
theorem pay1_apply (v0 : Vec Ideal S512x2560 .bf16) (v1 : Vec Ideal S1024x2560 .bf16) (v3 : Vec Ideal S512x1024 .f32) (v4 : Vec Ideal S1x1024 .f32) (v38 : Vec Ideal S512x1024 .f32) (r : Fin 512) (l : Fin 1024) :
    k0_pay1 (F := Ideal) (k0_pay8 v0 v1 v3 v4) v38 (ix2 r l) = bdx v0 v1 v3 v4 v38 r l := by
  unfold k0_pay1
  pointwise
  rw [pay8_apply]
  rfl

/-- The running sum of the gain's gradient, one block further. -/
theorem pay3_apply (v22 v46 : Vec Ideal S1x1024 .f32) (l : Fin 1024) :
    k0_pay3 (F := Ideal) v22 v46 (ix2 0 l) = v46 (ix2 0 l) + v22 (ix2 0 l) := by
  unfold k0_pay3
  pointwise

/-- The running sum starts at zero. -/
theorem pay2_apply (l : Fin 1024) : k0_pay2 (F := Ideal) (ix2 0 l) = 0 := by
  unfold k0_pay2
  pointwise

variable (m : (ℓ : Loc nD τ sig) → Buf (Elt Ideal) ℓ) (c : Dev nD)

section Point

variable (i : grid0.Coords) (arg2 : Memref sig .tc .vmem S512x2560 .bf16) (harg2 : arg2.IsWhole) (arg3 : Memref sig .tc .vmem S1024x2560 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole)

/-- The gradient block of the first point. -/
theorem out_A_5 (hc0 : cond0_0 i)
    (x0 : Vec Ideal S512x2560 .bf16) (x1 : Vec Ideal S1024x2560 .bf16) (x2 : Vec Ideal S512x1024 .f32) (x3 : Vec Ideal S1x1024 .f32) (x4 : Vec Ideal S512x1024 .f32) (r : Fin 512) (l : Fin 1024) :
    out0_A_5 (F := Ideal) c i arg2 harg2 arg3 harg3 arg4 harg4 arg5 harg5 arg6 harg6 arg7 harg7 arg8 harg8 hc0 x0 x1 x2 x3 x4 (ix2 r l) = bdx x0 x1 x2 x3 x4 r l := by
  unfold out0_A_5 kernelRun0_A
  dsimp only
  refine (read_store VO0_5 _ _ _ _ r l).trans ?_
  sl_unfold_words
  rw [readAt_whole arg2 harg2, readAt_whole arg3 harg3, readAt_whole arg4 harg4, readAt_whole arg5 harg5, readAt_whole arg6 harg6]
  exact pay1_apply _ _ _ _ _ _ _

/-- The gradient block of a later point. -/
theorem out_B_5 (hc0 : ¬cond0_0 i)
    (x0 : Vec Ideal S512x2560 .bf16) (x1 : Vec Ideal S1024x2560 .bf16) (x2 : Vec Ideal S512x1024 .f32) (x3 : Vec Ideal S1x1024 .f32) (x4 : Vec Ideal S512x1024 .f32) (xo6 : Vec Ideal S1x1024 .f32) (r : Fin 512) (l : Fin 1024) :
    out0_B_5 (F := Ideal) c i arg2 harg2 arg3 harg3 arg4 harg4 arg5 harg5 arg6 harg6 arg7 harg7 arg8 harg8 hc0 x0 x1 x2 x3 x4 xo6 (ix2 r l) = bdx x0 x1 x2 x3 x4 r l := by
  unfold out0_B_5 kernelRun0_B
  dsimp only
  refine (read_store VO0_5 _ _ _ _ r l).trans ?_
  sl_unfold_words
  rw [readAt_whole arg2 harg2, readAt_whole arg3 harg3, readAt_whole arg4 harg4, readAt_whole arg5 harg5, readAt_whole arg6 harg6]
  exact pay1_apply _ _ _ _ _ _ _

/-- The running sum after the first point. -/
theorem out_A_6 (hc0 : cond0_0 i)
    (x0 : Vec Ideal S512x2560 .bf16) (x1 : Vec Ideal S1024x2560 .bf16) (x2 : Vec Ideal S512x1024 .f32) (x3 : Vec Ideal S1x1024 .f32) (x4 : Vec Ideal S512x1024 .f32) (l : Fin 1024) :
    out0_A_6 (F := Ideal) c i arg2 harg2 arg3 harg3 arg4 harg4 arg5 harg5 arg6 harg6 arg7 harg7 arg8 harg8 hc0 x0 x1 x2 x3 x4 (ix2 0 l) = bsum x0 x1 x2 l := by
  unfold out0_A_6 kernelRun0_A
  dsimp only
  refine (read_store VO0_6 _ _ _ _ 0 l).trans ?_
  sl_unfold_words
  rw [readAt_whole arg2 harg2, readAt_whole arg3 harg3, readAt_whole arg4 harg4]
  refine (pay3_apply _ _ _).trans ?_
  rw [pay7_apply, View.readCov_cons_toLoadRect, pay2_apply, zero_add]

/-- The running sum after a later point. -/
theorem out_B_6 (hc0 : ¬cond0_0 i)
    (x0 : Vec Ideal S512x2560 .bf16) (x1 : Vec Ideal S1024x2560 .bf16) (x2 : Vec Ideal S512x1024 .f32) (x3 : Vec Ideal S1x1024 .f32) (x4 : Vec Ideal S512x1024 .f32) (xo6 : Vec Ideal S1x1024 .f32) (l : Fin 1024) :
    out0_B_6 (F := Ideal) c i arg2 harg2 arg3 harg3 arg4 harg4 arg5 harg5 arg6 harg6 arg7 harg7 arg8 harg8 hc0 x0 x1 x2 x3 x4 xo6 (ix2 0 l) = xo6 (ix2 0 l) + bsum x0 x1 x2 l := by
  unfold out0_B_6 kernelRun0_B
  dsimp only
  refine (read_store VO0_6 _ _ _ _ 0 l).trans ?_
  sl_unfold_words
  rw [readAt_whole arg2 harg2, readAt_whole arg3 harg3, readAt_whole arg4 harg4, readAt_whole arg8 harg8]
  refine (pay3_apply _ _ _).trans ?_
  rw [pay7_apply]

end Point

/-- Where the incoming cotangent's block lies. -/
theorem index0 : ∀ t : Fin cfg0.N, win0_0.index t (0 : Fin 2) = t.val ∧ win0_0.index t (1 : Fin 2) = 0 :=
  (by decide +kernel : ∀ t : Fin grid0.N, _)
/-- Where the weights' block lies. -/
theorem index1 : ∀ t : Fin cfg0.N, win0_1.index t (0 : Fin 2) = 0 ∧ win0_1.index t (1 : Fin 2) = 0 :=
  (by decide +kernel : ∀ t : Fin grid0.N, _)
/-- Where the layer's input's block lies. -/
theorem index2 : ∀ t : Fin cfg0.N, win0_2.index t (0 : Fin 2) = t.val ∧ win0_2.index t (1 : Fin 2) = 0 :=
  (by decide +kernel : ∀ t : Fin grid0.N, _)
/-- Where the gain lies. -/
theorem index3 : ∀ t : Fin cfg0.N, win0_3.index t (0 : Fin 2) = 0 ∧ win0_3.index t (1 : Fin 2) = 0 :=
  (by decide +kernel : ∀ t : Fin grid0.N, _)
/-- Where the block of the cotangent past the layer lies. -/
theorem index4 : ∀ t : Fin cfg0.N, win0_4.index t (0 : Fin 2) = t.val ∧ win0_4.index t (1 : Fin 2) = 0 :=
  (by decide +kernel : ∀ t : Fin grid0.N, _)
/-- Where the gradient's block lies. -/
theorem index5 : ∀ t : Fin cfg0.N, win0_5.index t (0 : Fin 2) = t.val ∧ win0_5.index t (1 : Fin 2) = 0 :=
  (by decide +kernel : ∀ t : Fin grid0.N, _)
/-- Where the gain's gradient lies. -/
theorem index6 : ∀ t : Fin cfg0.N, win0_6.index t (0 : Fin 2) = 0 ∧ win0_6.index t (1 : Fin 2) = 0 :=
  (by decide +kernel : ∀ t : Fin grid0.N, _)

/-- What the incoming cotangent's block holds. -/
theorem blk0 (t : Fin cfg0.N) (r : Fin 512) (k : Fin 2560) (a : Fin 4096) (h : a.val = 512 * t.val + r.val) : iblk m c 0 t (ix2 r k) = V m c main_arg3 (ix2 a k) := by
  have e := index0 t
  exact congrArg (V m c main_arg3) (at2 (show win0_0.index t (0 : Fin 2) * 512 + 1 * r.val = a.val by omega) (show win0_0.index t (1 : Fin 2) * 2560 + 1 * k.val = k.val by omega))

/-- What the weights' block holds. -/
theorem blk1 (t : Fin cfg0.N) (l : Fin 1024) (k : Fin 2560) : iblk m c 1 t (ix2 l k) = V m c main_arg2 (ix2 l k) := by
  have e := index1 t
  exact congrArg (V m c main_arg2) (at2 (show win0_1.index t (0 : Fin 2) * 1024 + 1 * l.val = l.val by omega) (show win0_1.index t (1 : Fin 2) * 2560 + 1 * k.val = k.val by omega))

/-- What the layer's input's block holds. -/
theorem blk2 (t : Fin cfg0.N) (r : Fin 512) (k : Fin 1024) (a : Fin 4096) (h : a.val = 512 * t.val + r.val) : iblk m c 2 t (ix2 r k) = V m c main_arg0 (ix2 a k) := by
  have e := index2 t
  exact congrArg (V m c main_arg0) (at2 (show win0_2.index t (0 : Fin 2) * 512 + 1 * r.val = a.val by omega) (show win0_2.index t (1 : Fin 2) * 1024 + 1 * k.val = k.val by omega))

/-- What the block of the cotangent past the layer holds. -/
theorem blk4 (t : Fin cfg0.N) (r : Fin 512) (k : Fin 1024) (a : Fin 4096) (h : a.val = 512 * t.val + r.val) : iblk m c 4 t (ix2 r k) = V m c main_arg4 (ix2 a k) := by
  have e := index4 t
  exact congrArg (V m c main_arg4) (at2 (show win0_4.index t (0 : Fin 2) * 512 + 1 * r.val = a.val by omega) (show win0_4.index t (1 : Fin 2) * 1024 + 1 * k.val = k.val by omega))

/-- What the gain's block holds. -/
theorem blk3 (t : Fin cfg0.N) (k : Fin 1024) : iblk m c 3 t (ix2 0 k) = V m c main_arg1 (ix2 0 k) := by
  have e := index3 t
  exact congrArg (V m c main_arg1) (at2 (show win0_3.index t (0 : Fin 2) * 1 + 1 * 0 = 0 by omega) (show win0_3.index t (1 : Fin 2) * 1024 + 1 * k.val = k.val by omega))

/-- A block's entry of the normed input's gradient is the whole array's. -/
theorem bcot_eq (t : Fin cfg0.N) (r : Fin 512) (l : Fin 1024) (a : Fin 4096) (h : a.val = 512 * t.val + r.val) :
    bcot (iblk m c 0 t) (iblk m c 1 t) r l = cot (V m c main_arg2) (V m c main_arg3) a l :=
  dotp_congr (fun k => blk0 m c t r k a h) (fun k => blk1 m c t l k)

/-- A block's row of the layer's input is the whole array's. -/
theorem row_eq (t : Fin cfg0.N) (r : Fin 512) (a : Fin 4096) (h : a.val = 512 * t.val + r.val) :
    row (M := 512) (iblk m c 2 t) r = row (M := 4096) (V m c main_arg0) a := funext fun k => blk2 m c t r k a h

/-- The part of the gain's gradient from one block of rows. -/
theorem bsum_eq (t : Fin cfg0.N) (l : Fin 1024) :
    bsum (iblk m c 0 t) (iblk m c 1 t) (iblk m c 2 t) l = ∑ r : Fin 512, part (V m c main_arg0) (cot (V m c main_arg2) (V m c main_arg3)) l (512 * t.val + r.val) := by
  unfold bsum
  refine Finset.sum_congr rfl fun r _ => ?_
  have hN : t.val < 8 := lt_of_lt_of_eq t.isLt (show cfg0.N = 8 from N_0)
  have ha : 512 * t.val + r.val < 4096 := by omega
  rw [bcot_eq m c t r l ⟨_, ha⟩ rfl, row_eq m c t r ⟨_, ha⟩ rfl]
  unfold part
  rw [dif_pos ha]
  rfl

/-- The running sum after the first point. -/
theorem step_A (t : Fin cfg0.N) (ht : t.val % 8 = 0) (l : Fin 1024) : (outsAt0 m c t.val t.isLt).2 (ix2 0 l) = bsum (iblk m c 0 t) (iblk m c 1 t) (iblk m c 2 t) l := by
  rw [outsAt0_A m c t ht]
  dsimp only
  exact out_A_6 c _ _ _ _ _ _ _ _ _ _ _ _ _ _ _ _ _ _ _ _ _ _

/-- The running sum after a later point. -/
theorem step_B (t : Fin cfg0.N) (ht : ¬t.val % 8 = 0) (l : Fin 1024) : (outsAt0 m c t.val t.isLt).2 (ix2 0 l)
    = ((outsAt0 m c (t.val - 1) (Nat.lt_of_le_of_lt (Nat.sub_le _ _) t.isLt)).2 (ix2 0 l) : EReal) + bsum (iblk m c 0 t) (iblk m c 1 t) (iblk m c 2 t) l := by
  rw [outsAt0_B m c t ht]
  dsimp only
  exact out_B_6 c _ _ _ _ _ _ _ _ _ _ _ _ _ _ _ _ _ _ _ _ _ _ _

/-- The gradient's block after any point. -/
theorem step_5 (t : Fin cfg0.N) (r : Fin 512) (l : Fin 1024) : (outsAt0 m c t.val t.isLt).1 (ix2 r l) = bdx (iblk m c 0 t) (iblk m c 1 t) (iblk m c 2 t) (iblk m c 3 t) (iblk m c 4 t) r l := by
  by_cases ht : t.val % 8 = 0
  · rw [outsAt0_A m c t ht]
    dsimp only
    exact out_A_5 c _ _ _ _ _ _ _ _ _ _ _ _ _ _ _ _ _ _ _ _ _ _ _
  · rw [outsAt0_B m c t ht]
    dsimp only
    exact out_B_5 c _ _ _ _ _ _ _ _ _ _ _ _ _ _ _ _ _ _ _ _ _ _ _ _

/-- The running sum after each point: all the positions up to it. -/
theorem running (l : Fin 1024) : ∀ (n : ℕ) (hn : n < cfg0.N), (outsAt0 m c n hn).2 (ix2 0 l) = ∑ j ∈ Finset.range (512 * (n + 1)), part (V m c main_arg0) (cot (V m c main_arg2) (V m c main_arg3)) l j := by
  intro n
  induction n with
  | zero =>
    intro hn
    rw [← part_block _ _ _ 512 0 _ (fun r => rfl), Nat.mul_zero, Finset.sum_range_zero, zero_add]
    exact (step_A m c ⟨0, hn⟩ rfl l).trans (bsum_eq m c ⟨0, hn⟩ l)
  | succ n ih =>
    intro hn
    have hN : n + 1 < 8 := lt_of_lt_of_eq hn (show cfg0.N = 8 from N_0)
    rw [← part_block _ _ _ 512 (n + 1) _ (fun r => rfl), ← ih (Nat.lt_of_succ_lt hn)]
    exact (step_B m c ⟨n + 1, hn⟩ (by show ¬ (n + 1) % 8 = 0; omega) l).trans (congrArg (_ + ·) (bsum_eq m c ⟨n + 1, hn⟩ l))

/-- A block's entry of the gradient is the whole array's. -/
theorem bdx_eq (t : Fin cfg0.N) (r : Fin 512) (l : Fin 1024) (a : Fin 4096) (h : a.val = 512 * t.val + r.val) :
    bdx (iblk m c 0 t) (iblk m c 1 t) (iblk m c 2 t) (iblk m c 3 t) (iblk m c 4 t) r l
      = dx (V m c main_arg0) (V m c main_arg1) (cot (V m c main_arg2) (V m c main_arg3)) (V m c main_arg4) a l := by
  unfold bdx dx
  rw [row_eq m c t r a h]
  exact congrArg₂ (· + ·) (blk4 m c t r l a h) (congrArg (fun p => back (row (M := 4096) (V m c main_arg0) a) p l)
    (funext fun l => congrArg₂ (· * ·) (bcot_eq m c t r l a h) (blk3 m c t l)))

/-- The gradient array the call leaves. -/
theorem out5 (a : Fin 4096) (b : Fin 1024) :
    (dats m 0 c).arrAt 5 cfg0.N (ix2 a b) = dx (V m c main_arg0) (V m c main_arg1) (cot (V m c main_arg2) (V m c main_arg3)) (V m c main_arg4) a b := by
  refine (dats m 0 c).arrAt_forall_of_covers 5 (fun y v => ∀ (a : Fin 4096) (b : Fin 1024), y = ix2 a b → v = dx (V m c main_arg0) (V m c main_arg1) (cot (V m c main_arg2) (V m c main_arg3)) (V m c main_arg4) a b)
    (by decide +kernel) (fun t hf y a b e => ?_) _ (Memref.isWhole_whole _) a b rfl
  have r0 : win0_5.index t (0 : Fin 2) * 512 + 1 * (y 0).val = a.val := congrArg (fun z : S4096x1024.Idx => (z 0).val) e
  have r1 : win0_5.index t (1 : Fin 2) * 1024 + 1 * (y 1).val = b.val := congrArg (fun z : S4096x1024.Idx => (z 1).val) e
  obtain ⟨e0, e1⟩ := index5 t
  rw [e0] at r0
  rw [e1] at r1
  have hl : (y 0).val < 512 := (y 0).isLt
  have hb : (⟨(y 1).val, (y 1).isLt⟩ : Fin 1024) = b := Fin.ext (by show (y 1).val = b.val; omega)
  have hy : y = ix2 (⟨(y 0).val, hl⟩ : Fin 512) (⟨(y 1).val, (y 1).isLt⟩ : Fin 1024) := at2 rfl rfl
  have h : a.val = 512 * t.val + (⟨(y 0).val, hl⟩ : Fin 512).val := by show a.val = 512 * t.val + (y 0).val; omega
  show (dats m 0 c).after 5 t y = _
  rw [after0_5, hy, hb]
  exact (step_5 m c t _ b).trans (bdx_eq m c t _ b a h)

/-- The gain's gradient the call leaves. -/
theorem out6 (b : Fin 1024) :
    (dats m 0 c).arrAt 6 cfg0.N (ix2 0 b) = dgain (V m c main_arg0) (cot (V m c main_arg2) (V m c main_arg3)) b := by
  refine (dats m 0 c).arrAt_forall_of_covers 6 (fun y v => ∀ b : Fin 1024, y = ix2 0 b → v = dgain (V m c main_arg0) (cot (V m c main_arg2) (V m c main_arg3)) b)
    (by decide +kernel) (fun t hf y b e => ?_) _ (Memref.isWhole_whole _) b rfl
  have r1 : win0_6.index t (1 : Fin 2) * 1024 + 1 * (y 1).val = b.val := congrArg (fun z : S1x1024.Idx => (z 1).val) e
  obtain ⟨e0, e1⟩ := index6 t
  rw [e1] at r1
  have hb : (⟨(y 1).val, (y 1).isLt⟩ : Fin 1024) = b := Fin.ext (by show (y 1).val = b.val; omega)
  have hy : y = ix2 (0 : Fin 1) (⟨(y 1).val, (y 1).isLt⟩ : Fin 1024) := row0 y _ rfl
  have ht : t.val = 7 := (by decide +kernel : ∀ t : Fin grid0.N, (cfg0.win 6).flush t = true → t.val = 7) t hf
  show (dats m 0 c).after 6 t y = _
  rw [after0_6, hy, hb, running m c b t.val t.isLt, ht]
  exact dgain_range _ _ _

end Call

section Ref

open Reference17Ideal Reference17Ideal.Read Reference17Ideal.Gen

variable (x0 : (⟨S4096x1024, .f32⟩ : BufTy).Contents (Elt Ideal)) (x1 : (⟨S1x1024, .f32⟩ : BufTy).Contents (Elt Ideal))
  (x2 : (⟨S1024x2560, .bf16⟩ : BufTy).Contents (Elt Ideal)) (x3 : (⟨S4096x2560, .bf16⟩ : BufTy).Contents (Elt Ideal))
  (x4 : (⟨S4096x1024, .f32⟩ : BufTy).Contents (Elt Ideal))

/-- The reference's mean squares. -/
theorem ref_meanSq (a : Fin 4096) : val_main_v6 (F := Ideal) x0 (ix2 a 0) = meanSq (row (M := 4096) x0 a) := by
  rw [val_main_v6_apply, val_main_v4_apply, val_main_v2_apply, val_main_v1_apply, val_main_v3_apply, val_main_cst_0_apply, val_main_v5_apply, val_main_cst_1_apply,
    val_main_cst_apply, Ideal.addf_def, Ideal.hostDivf_def]
  have hi : ∀ k, idx_main_v1 (idx_main_v2 (ix2 a (0 : Fin 1))) k = ix2 a k := fun k => at2 rfl rfl
  simp only [hi, val_main_v0_apply, Ideal.mulf_def]
  exact congrArg (fun z : EReal => Ideal.div z (Ideal.ofBits .f32 0x44800000#32) + Ideal.ofBits .f32 0x358637BD#32)
    ((congrArg (· + ∑ k : Fin 1024, x0 (ix2 a k) * x0 (ix2 a k)) Ideal.ofBits_zero_f32).trans (zero_add _))

/-- The reference's factors. -/
theorem ref_inv (a : Fin 4096) : val_main_v7 (F := Ideal) x0 (ix2 a 0) = inv (row (M := 4096) x0 a) := by
  rw [val_main_v7_apply, ref_meanSq]
  rfl

/-- The reference's gradient of the normed input. -/
theorem ref_cot (a : Fin 4096) (b : Fin 1024) : val_main_v20 (F := Ideal) x2 x3 (ix2 a b) = cot x2 x3 a b := by
  rw [val_main_v20_apply, Ideal.extf_def, val_main_v19_apply, Ideal.truncf_def, val_main_v18_apply]
  have hl : ∀ k, lidx_main_v18 (ix2 a b) k = ix2 a k := fun k => at2 rfl rfl
  have hr : ∀ k, ridx_main_v18 (ix2 a b) k = ix2 b k := fun k => at2 rfl rfl
  simp only [hl, hr, val_main_v17_apply, Ideal.extf_def]
  rfl

/-- The reference's normalised entry. -/
theorem ref_normed (a : Fin 4096) (b : Fin 1024) : val_main_v12 (F := Ideal) x0 (ix2 a b) = x0 (ix2 a b) * inv (row (M := 4096) x0 a) := by
  rw [val_main_v12_apply, val_main_v11_apply, Ideal.mulf_def, col0 (idx_main_v11 (ix2 a b)) a rfl, ref_inv]

/-- The reference's gradient of the normalised entry. -/
theorem ref_scaled (a : Fin 4096) (b : Fin 1024) : val_main_v25 (F := Ideal) x1 x2 x3 (ix2 a b) = cot x2 x3 a b * x1 (ix2 0 b) := by
  rw [val_main_v25_apply, val_main_v24_apply, Ideal.mulf_def, row0 (idx_main_v24 (ix2 a b)) b rfl, ref_cot]

/-- What comes back through the reference's factor. -/
theorem ref_pull (a : Fin 4096) (b : Fin 1024) :
    val_main_v36 (F := Ideal) x0 x1 x2 x3 (ix2 a b) = pull (row (M := 4096) x0 a) (fun l => cot x2 x3 a l * x1 (ix2 0 l)) := by
  rw [val_main_v36_apply, val_main_v35_apply, val_main_cst_6_apply]
  have h35 : ∀ k, idx_main_v35 (idx_main_v36 (ix2 a b)) k = ix2 a (0 : Fin 1) := fun k => at2 rfl (Nat.lt_one_iff.mp k.isLt)
  have h27 : ∀ k, idx_main_v27 (idx_main_v28 (ix2 a (0 : Fin 1))) k = ix2 a k := fun k => at2 (show a.val * 1 + 0 = a.val by omega) rfl
  simp only [h35, Finset.univ_unique, Finset.sum_singleton]
  rw [val_main_v34_apply, val_main_v32_apply, val_main_v33_apply, val_main_cst_5_apply, val_main_v28_apply, val_main_v27_apply, val_main_cst_4_apply,
    val_main_v10_apply, val_main_v9_apply, val_main_cst_2_apply, val_main_v8_apply, ref_inv, ref_meanSq]
  simp only [h27, val_main_v26_apply, ref_scaled, Ideal.mulf_def, Ideal.hostDivf_def]
  refine (congrArg (· + _) Ideal.ofBits_zero_f32).trans ((zero_add _).trans ?_)
  exact congrArg (fun z : EReal => Ideal.div (z * (Ideal.ofBits .f32 0xBF000000#32 * Ideal.div (inv (row (M := 4096) x0 a)) (meanSq (row (M := 4096) x0 a)))) (Ideal.ofBits .f32 0x44800000#32))
    ((congrArg (· + ∑ k : Fin 1024, x0 (ix2 a k) * (cot x2 x3 a k * x1 (ix2 0 k))) Ideal.ofBits_zero_f32).trans (zero_add _))

/-- The reference's gradient of the layer's input. -/
theorem ref_dx (a : Fin 4096) (b : Fin 1024) : val_main_v40 (F := Ideal) x0 x1 x2 x3 x4 (ix2 a b) = dx x0 x1 (cot x2 x3) x4 a b := by
  rw [val_main_v40_apply, val_main_v38_apply, val_main_v31_apply, val_main_v30_apply, val_main_v37_apply, val_main_v39_apply, val_main_v29_apply,
    ref_pull, ref_scaled, col0 (idx_main_v29 (ix2 a b)) a rfl, ref_inv]
  simp only [Ideal.addf_def, Ideal.mulf_def]
  unfold dx back
  exact (add_assoc _ _ _).trans ((add_assoc _ _ _).trans (congrArg (_ + ·) (add_assoc _ _ _).symm))

/-- The reference's gradient of the gain. -/
theorem ref_dgain (b : Fin 1024) : val_main_v23 (F := Ideal) x0 x2 x3 (ix2 0 b) = dgain x0 (cot x2 x3) b := by
  rw [val_main_v23_apply, val_main_v22_apply, val_main_cst_3_apply]
  have hi : ∀ k, idx_main_v22 (idx_main_v23 (ix2 (0 : Fin 1) b)) k = ix2 k b := fun k => at2 rfl (show 0 * 1024 + b.val = b.val by omega)
  simp only [hi, val_main_v21_apply, ref_normed, ref_cot, Ideal.mulf_def]
  exact (congrArg (· + _) Ideal.ofBits_zero_f32).trans (zero_add _)

end Ref

/-- The reference runs, leaves its arguments and declares no semaphore. -/
theorem frame_reference : quiescent_Reference17Ideal := fun m ρ _ =>
  (θ_run Reference17Ideal.defs _ _).mono (fun r h => ⟨fun c => (h c).2.2, sem_eq_zero_of_no_sems (by decide) r.2⟩)
    (Reference17Ideal.Value.run (F := Ideal) m ρ)

/-- The call and the reference leave the same two arrays. -/
theorem values : algebraic_Kernel17Ideal_Reference17Ideal := by
  intro m g m' g' _ ha
  refine ⟨fun c => (Kernel17Ideal.Gen.dats m 0 c).arrAt 5 Kernel17Ideal.cfg0.N, fun c => (Kernel17Ideal.Gen.dats m 0 c).arrAt 6 Kernel17Ideal.cfg0.N,
    Kernel17Ideal.Value.run_blocks m g,
    (θ_run Reference17Ideal.defs _ _).mono (fun r h c => ⟨(h c).1.trans ?_, (h c).2.1.trans ?_, (h c).2.2⟩)
      (Reference17Ideal.Value.run (F := Ideal) m' g')⟩
  · obtain ⟨h0, h1, h2, h3, h4⟩ := ha c
    rw [Reference17Ideal.Read.val_main_v40_eq, h0, h1, h2, h3, h4]
    funext i
    rw [eta2 (M := 4096) (N := 1024) i]
    exact (ref_dx _ _ _ _ _ _ _).trans (out5 m c _ _).symm
  · obtain ⟨h0, h1, h2, h3, h4⟩ := ha c
    rw [Reference17Ideal.Read.val_main_v23_eq, h0, h2, h3]
    funext i
    have eta2 (M := 4096) (N := 1024) i : i = ix2 (0 : Fin 1) (⟨(i 1).val, (i 1).isLt⟩ : Fin 1024) := by
      funext a
      match a with
      | ⟨0, _⟩ => exact Fin.ext (Nat.lt_one_iff.mp (i 0).isLt)
      | ⟨1, _⟩ => rfl
    rw [eta2 (M := 4096) (N := 1024) i]
    exact (ref_dgain _ _ _ _).trans (out6 m c _).symm

end Cert.MixNorm
-- ==== Proof.Loss.lean ====
/-
  The loss, with layer 1's last product: the call that adds the product to the residual, compares the sum with the
  target and leaves the loss and its gradient.
-/
module

public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Blocks
public import proofs.«01_k».proof.Defs

@[expose] public section

set_option maxRecDepth 16384

noncomputable section

open Idealize.ShloMosaic Idealize.ShloMosaic.TcCoe Idealize.ShloMosaic.Tactic Idealize.SL.Sem

namespace Cert.Loss

open Cert.Product

/-- How far one entry of the layer's result lies from the target. -/
def diff (x : Mat 4096 3072) (w : Mat 3072 1024) (h y : Mat 4096 1024) (a : Fin 4096) (b : Fin 1024) : EReal :=
  dotpAdd (fun k : Fin 3072 => x (ix2 a k)) (fun k => w (ix2 k b)) (h (ix2 a b)) - y (ix2 a b)

/-- The sum of the squares of an array. -/
def squares (d : Fin 4096 → Fin 1024 → EReal) : EReal := ∑ a : Fin 4096, ∑ b : Fin 1024, d a b * d a b

/-- One square, by its row's and its column's number. -/
def sq (d : Fin 4096 → Fin 1024 → EReal) (a b : ℕ) : EReal :=
  if h : a < 4096 ∧ b < 1024 then d ⟨a, h.1⟩ ⟨b, h.2⟩ * d ⟨a, h.1⟩ ⟨b, h.2⟩ else 0

/-- Within the array it is the square of the entry. -/
theorem sq_eq (d : Fin 4096 → Fin 1024 → EReal) {a b : ℕ} (ha : a < 4096) (hb : b < 1024) : sq d a b = d ⟨a, ha⟩ ⟨b, hb⟩ * d ⟨a, ha⟩ ⟨b, hb⟩ := by
  unfold sq
  exact dif_pos ⟨ha, hb⟩

/-- The sum of the squares of one block of 1024 rows and 512 columns. -/
def tile (d : Fin 4096 → Fin 1024 → EReal) (q j : ℕ) : EReal :=
  ∑ r ∈ Finset.range 1024, ∑ l ∈ Finset.range 512, sq d (1024 * q + r) (512 * j + l)

/-- The eight blocks make up the array. -/
theorem tiles (d : Fin 4096 → Fin 1024 → EReal) : ∑ t ∈ Finset.range 8, tile d (t / 2) (t % 2) = squares d := by
  have e : squares d = ∑ a ∈ Finset.range 4096, ∑ b ∈ Finset.range 1024, sq d a b := by
    rw [Finset.sum_range (fun a => ∑ b ∈ Finset.range 1024, sq d a b)]
    refine Finset.sum_congr rfl fun a _ => ?_
    rw [Finset.sum_range (fun b => sq d a.val b)]
    exact Finset.sum_congr rfl fun b _ => (sq_eq d a.isLt b.isLt).symm
  rw [e, ← sum_blocks 1024 4 (fun a => ∑ b ∈ Finset.range 1024, sq d a b), ← sum_blocks 2 4 (fun t => tile d (t / 2) (t % 2))]
  refine Finset.sum_congr rfl fun q _ => ?_
  have h : ∀ j ∈ Finset.range 2, tile d ((2 * q + j) / 2) ((2 * q + j) % 2) = tile d q j := fun j hj => by
    have := Finset.mem_range.mp hj
    rw [show (2 * q + j) / 2 = q by omega, show (2 * q + j) % 2 = j by omega]
  rw [Finset.sum_congr rfl h]
  unfold tile
  rw [Finset.sum_comm]
  exact Finset.sum_congr rfl fun r _ => sum_blocks 512 2 (fun b => sq d (1024 * q + r) b)

/-- The gradient's factor, as a real number. -/
theorem word_grad : Ideal.ofBits .f32 0x3A800000#32 = ((1 / 1024 : ℝ) : EReal) := by
  simp [Ideal.ofBits, Ideal.ieee]
  rw [← EReal.coe_mul]
  norm_num
/-- The loss's factor, as a real number. -/
theorem word_loss : Ideal.ofBits .f32 0x3A000000#32 = ((1 / 2048 : ℝ) : EReal) := by
  simp [Ideal.ofBits, Ideal.ieee]
  rw [← EReal.coe_mul]
  norm_num
/-- One half, as a real number. -/
theorem word_half : Ideal.ofBits .f32 0x3F000000#32 = ((1 / 2 : ℝ) : EReal) := by
  simp [Ideal.ofBits, Ideal.ieee]
  rw [← EReal.coe_mul]
  norm_num
/-- One, as a real number. -/
theorem word_one : Ideal.ofBits .f32 0x3F800000#32 = ((1 : ℝ) : EReal) := by
  simp [Ideal.ofBits, Ideal.ieee]
  rw [← EReal.coe_mul]
  norm_num
/-- Two, as a real number. -/
theorem word_two : Ideal.ofBits .f32 0x40000000#32 = ((2 : ℝ) : EReal) := by
  simp [Ideal.ofBits, Ideal.ieee]
  rw [← EReal.coe_mul]
  norm_num
/-- The number of columns, as a real number. -/
theorem word_cols : Ideal.ofBits .f32 0x44800000#32 = ((1024 : ℝ) : EReal) := by
  simp [Ideal.ofBits, Ideal.ieee]
  rw [← EReal.coe_mul]
  norm_num

section Call

open Kernel18Ideal Kernel18Ideal.Gen

/-- The difference within a block. -/
def bdiff (v0 : Mat 1024 3072) (v1 : Mat 3072 512) (v3 v5 : Mat 1024 512) (r : Fin 1024) (l : Fin 512) : EReal :=
  dotpAdd (fun k : Fin 3072 => v0 (ix2 r k)) (fun k => v1 (ix2 k l)) (v3 (ix2 r l)) - v5 (ix2 r l)

/-- The sum of a block's squares. -/
def bsum (v0 : Mat 1024 3072) (v1 : Mat 3072 512) (v3 v5 : Mat 1024 512) : EReal :=
  ∑ r : Fin 1024, ∑ l : Fin 512, bdiff v0 v1 v3 v5 r l * bdiff v0 v1 v3 v5 r l

/-- The block of differences. -/
theorem pay1_apply (v0 : Vec Ideal S1024x3072 .bf16) (v1 : Vec Ideal S3072x512 .bf16) (v3 v5 : Vec Ideal S1024x512 .f32) (r : Fin 1024) (l : Fin 512) :
    k0_pay1 (F := Ideal) v0 v1 v3 v5 (ix2 r l) = bdiff v0 v1 v3 v5 r l := by
  unfold k0_pay1 bdiff dotpAdd dotp
  pointwise

/-- The block of the gradient. -/
theorem pay2_apply (v0 : Vec Ideal S1024x3072 .bf16) (v1 : Vec Ideal S3072x512 .bf16) (v3 v5 : Vec Ideal S1024x512 .f32) (r : Fin 1024) (l : Fin 512) :
    k0_pay2 (F := Ideal) v0 v1 v3 v5 (ix2 r l) = bdiff v0 v1 v3 v5 r l * ((1 / 1024 : ℝ) : EReal) := by
  unfold k0_pay2
  pointwise
  rw [pay1_apply, word_grad]

/-- The loss starts at zero. -/
theorem pay3_apply : k0_pay3 (F := Ideal) (ix2 0 0) = 0 := by
  unfold k0_pay3
  pointwise

/-- The loss, one block further. -/
theorem pay4_apply (v0 : Vec Ideal S1024x3072 .bf16) (v1 : Vec Ideal S3072x512 .bf16) (v3 v5 : Vec Ideal S1024x512 .f32) (v15 : Vec Ideal S1x1 .f32) :
    k0_pay4 (F := Ideal) v0 v1 v3 v5 v15 (ix2 0 0) = v15 (ix2 0 0) + bsum v0 v1 v3 v5 * ((1 / 2048 : ℝ) : EReal) := by
  unfold k0_pay4 bsum
  pointwise
  simp only [pay1_apply, word_loss]

variable (m : (ℓ : Loc nD τ sig) → Buf (Elt Ideal) ℓ) (c : Dev nD)

section Point

variable (i : grid0.Coords) (arg2 : Memref sig .tc .vmem S1024x3072 .bf16) (harg2 : arg2.IsWhole) (arg3 : Memref sig .tc .vmem S3072x512 .bf16) (harg3 : arg3.IsWhole)
  (arg4 : Memref sig .tc .vmem S1024x512 .f32) (harg4 : arg4.IsWhole) (arg5 : Memref sig .tc .vmem S1024x512 .f32) (harg5 : arg5.IsWhole)
  (arg6 : Memref sig .tc .vmem S1024x512 .f32) (harg6 : arg6.IsWhole) (arg7 : Memref sig .tc .vmem S1x1 .f32) (harg7 : arg7.IsWhole)
  (x0 : Vec Ideal S1024x3072 .bf16) (x1 : Vec Ideal S3072x512 .bf16) (x2 x3 : Vec Ideal S1024x512 .f32) (xo5 : Vec Ideal S1x1 .f32)

/-- The gradient's block of the first point. -/
theorem out_A_4 (hc0 : cond0_0 i) (r : Fin 1024) (l : Fin 512) :
    out0_A_4 (F := Ideal) c i arg2 harg2 arg3 harg3 arg4 harg4 arg5 harg5 arg6 harg6 arg7 harg7 hc0 x0 x1 x2 x3 (ix2 r l) = bdiff x0 x1 x2 x3 r l * ((1 / 1024 : ℝ) : EReal) := by
  unfold out0_A_4 kernelRun0_A
  dsimp only
  refine (read_store VO0_4 _ _ _ _ r l).trans ?_
  sl_unfold_words
  rw [readAt_whole arg2 harg2, readAt_whole arg3 harg3, readAt_whole arg4 harg4, readAt_whole arg5 harg5]
  exact pay2_apply _ _ _ _ _ _

/-- The gradient's block of a later point. -/
theorem out_B_4 (hc0 : ¬cond0_0 i) (r : Fin 1024) (l : Fin 512) :
    out0_B_4 (F := Ideal) c i arg2 harg2 arg3 harg3 arg4 harg4 arg5 harg5 arg6 harg6 arg7 harg7 hc0 x0 x1 x2 x3 xo5 (ix2 r l) = bdiff x0 x1 x2 x3 r l * ((1 / 1024 : ℝ) : EReal) := by
  unfold out0_B_4 kernelRun0_B
  dsimp only
  refine (read_store VO0_4 _ _ _ _ r l).trans ?_
  sl_unfold_words
  rw [readAt_whole arg2 harg2, readAt_whole arg3 harg3, readAt_whole arg4 harg4, readAt_whole arg5 harg5]
  exact pay2_apply _ _ _ _ _ _

/-- The loss after the first point. -/
theorem out_A_5 (hc0 : cond0_0 i) :
    out0_A_5 (F := Ideal) c i arg2 harg2 arg3 harg3 arg4 harg4 arg5 harg5 arg6 harg6 arg7 harg7 hc0 x0 x1 x2 x3 (ix2 0 0) = bsum x0 x1 x2 x3 * ((1 / 2048 : ℝ) : EReal) := by
  unfold out0_A_5 kernelRun0_A
  dsimp only
  refine (read_store VO0_5 _ _ _ _ 0 0).trans ?_
  sl_unfold_words
  rw [readAt_whole arg2 harg2, readAt_whole arg3 harg3, readAt_whole arg4 harg4, readAt_whole arg5 harg5]
  refine (pay4_apply _ _ _ _ _).trans ?_
  rw [View.readCov_cons_toLoadRect, pay3_apply, zero_add]

/-- The loss after a later point. -/
theorem out_B_5 (hc0 : ¬cond0_0 i) :
    out0_B_5 (F := Ideal) c i arg2 harg2 arg3 harg3 arg4 harg4 arg5 harg5 arg6 harg6 arg7 harg7 hc0 x0 x1 x2 x3 xo5 (ix2 0 0) = xo5 (ix2 0 0) + bsum x0 x1 x2 x3 * ((1 / 2048 : ℝ) : EReal) := by
  unfold out0_B_5 kernelRun0_B
  dsimp only
  refine (read_store VO0_5 _ _ _ _ 0 0).trans ?_
  sl_unfold_words
  rw [readAt_whole arg2 harg2, readAt_whole arg3 harg3, readAt_whole arg4 harg4, readAt_whole arg5 harg5, readAt_whole arg7 harg7]
  exact pay4_apply _ _ _ _ _

end Point

/-- Where the first factor's block lies. -/
theorem index0 : ∀ t : Fin cfg0.N, win0_0.index t (0 : Fin 2) = t.val / 2 ∧ win0_0.index t (1 : Fin 2) = 0 :=
  (by decide +kernel : ∀ t : Fin grid0.N, _)
/-- Where the second factor's block lies. -/
theorem index1 : ∀ t : Fin cfg0.N, win0_1.index t (0 : Fin 2) = 0 ∧ win0_1.index t (1 : Fin 2) = t.val % 2 :=
  (by decide +kernel : ∀ t : Fin grid0.N, _)
/-- Where the residual's block lies. -/
theorem index2 : ∀ t : Fin cfg0.N, win0_2.index t (0 : Fin 2) = t.val / 2 ∧ win0_2.index t (1 : Fin 2) = t.val % 2 :=
  (by decide +kernel : ∀ t : Fin grid0.N, _)
/-- Where the target's block lies. -/
theorem index3 : ∀ t : Fin cfg0.N, win0_3.index t (0 : Fin 2) = t.val / 2 ∧ win0_3.index t (1 : Fin 2) = t.val % 2 :=
  (by decide +kernel : ∀ t : Fin grid0.N, _)
/-- Where the gradient's block lies. -/
theorem index4 : ∀ t : Fin cfg0.N, win0_4.index t (0 : Fin 2) = t.val / 2 ∧ win0_4.index t (1 : Fin 2) = t.val % 2 :=
  (by decide +kernel : ∀ t : Fin grid0.N, _)

/-- What the first factor's block holds. -/
theorem blk0 (t : Fin cfg0.N) (r : Fin 1024) (k : Fin 3072) (a : Fin 4096) (h : a.val = 1024 * (t.val / 2) + r.val) : iblk m c 0 t (ix2 r k) = V m c main_arg0 (ix2 a k) := by
  have e := index0 t
  exact congrArg (V m c main_arg0) (at2 (by show win0_0.index t (0 : Fin 2) * 1024 + 1 * r.val = a.val; omega) (by show win0_0.index t (1 : Fin 2) * 3072 + 1 * k.val = k.val; omega))

/-- What the second factor's block holds. -/
theorem blk1 (t : Fin cfg0.N) (k : Fin 3072) (l : Fin 512) (b : Fin 1024) (h : b.val = 512 * (t.val % 2) + l.val) : iblk m c 1 t (ix2 k l) = V m c main_arg1 (ix2 k b) := by
  have e := index1 t
  exact congrArg (V m c main_arg1) (at2 (by show win0_1.index t (0 : Fin 2) * 3072 + 1 * k.val = k.val; omega) (by show win0_1.index t (1 : Fin 2) * 512 + 1 * l.val = b.val; omega))

/-- What the residual's block holds. -/
theorem blk2 (t : Fin cfg0.N) (r : Fin 1024) (l : Fin 512) (a : Fin 4096) (b : Fin 1024) (ha : a.val = 1024 * (t.val / 2) + r.val) (hb : b.val = 512 * (t.val % 2) + l.val) :
    iblk m c 2 t (ix2 r l) = V m c main_arg2 (ix2 a b) := by
  have e := index2 t
  exact congrArg (V m c main_arg2) (at2 (by show win0_2.index t (0 : Fin 2) * 1024 + 1 * r.val = a.val; omega) (by show win0_2.index t (1 : Fin 2) * 512 + 1 * l.val = b.val; omega))

/-- What the target's block holds. -/
theorem blk3 (t : Fin cfg0.N) (r : Fin 1024) (l : Fin 512) (a : Fin 4096) (b : Fin 1024) (ha : a.val = 1024 * (t.val / 2) + r.val) (hb : b.val = 512 * (t.val % 2) + l.val) :
    iblk m c 3 t (ix2 r l) = V m c main_arg3 (ix2 a b) := by
  have e := index3 t
  exact congrArg (V m c main_arg3) (at2 (by show win0_3.index t (0 : Fin 2) * 1024 + 1 * r.val = a.val; omega) (by show win0_3.index t (1 : Fin 2) * 512 + 1 * l.val = b.val; omega))

/-- The differences of the whole arrays. -/
abbrev D (a : Fin 4096) (b : Fin 1024) : EReal := diff (V m c main_arg0) (V m c main_arg1) (V m c main_arg2) (V m c main_arg3) a b

/-- A block's difference is the whole array's. -/
theorem bdiff_eq (t : Fin cfg0.N) (r : Fin 1024) (l : Fin 512) (a : Fin 4096) (b : Fin 1024) (ha : a.val = 1024 * (t.val / 2) + r.val) (hb : b.val = 512 * (t.val % 2) + l.val) :
    bdiff (iblk m c 0 t) (iblk m c 1 t) (iblk m c 2 t) (iblk m c 3 t) r l = D m c a b :=
  congrArg₂ (· - ·) (dotpAdd_congr (fun k => blk0 m c t r k a ha) (fun k => blk1 m c t k l b hb) (blk2 m c t r l a b ha hb)) (blk3 m c t r l a b ha hb)

/-- A block's squares are the whole array's. -/
theorem bsum_eq (t : Fin cfg0.N) : bsum (iblk m c 0 t) (iblk m c 1 t) (iblk m c 2 t) (iblk m c 3 t) = tile (D m c) (t.val / 2) (t.val % 2) := by
  have hN : t.val < 8 := lt_of_lt_of_eq t.isLt (show cfg0.N = 8 from N_0)
  unfold bsum tile
  rw [Finset.sum_range (fun r => ∑ l ∈ Finset.range 512, sq (D m c) (1024 * (t.val / 2) + r) (512 * (t.val % 2) + l))]
  refine Finset.sum_congr rfl fun r _ => ?_
  rw [Finset.sum_range (fun l => sq (D m c) (1024 * (t.val / 2) + r.val) (512 * (t.val % 2) + l))]
  refine Finset.sum_congr rfl fun l _ => ?_
  have h : 1024 * (t.val / 2) + r.val < 4096 ∧ 512 * (t.val % 2) + l.val < 1024 := ⟨by omega, by omega⟩
  rw [bdiff_eq m c t r l ⟨_, h.1⟩ ⟨_, h.2⟩ rfl rfl]
  exact (sq_eq _ h.1 h.2).symm

/-- The loss after each point: the squares of the blocks up to it. -/
theorem running : ∀ (n : ℕ) (hn : n < cfg0.N), (outsAt0 m c n hn).2 (ix2 0 0) = ∑ t ∈ Finset.range (n + 1), tile (D m c) (t / 2) (t % 2) * ((1 / 2048 : ℝ) : EReal) := by
  intro n
  induction n with
  | zero =>
    intro hn
    rw [Finset.sum_range_one, outsAt0_A m c ⟨0, hn⟩ rfl]
    dsimp only
    refine (out_A_5 c _ _ _ _ _ _ _ _ _ _ _ _ _ _ _ _ _ _).trans ?_
    rw [bsum_eq]
  | succ n ih =>
    intro hn
    have hN : n + 1 < 8 := lt_of_lt_of_eq hn (show cfg0.N = 8 from N_0)
    rw [Finset.sum_range_succ, ← ih (Nat.lt_of_succ_lt hn), outsAt0_B m c ⟨n + 1, hn⟩ (by show ¬ (n + 1) % 8 = 0; omega)]
    dsimp only
    refine (out_B_5 c _ _ _ _ _ _ _ _ _ _ _ _ _ _ _ _ _ _ _).trans ?_
    rw [bsum_eq]
    rfl

/-- The gradient's block after any point. -/
theorem step_4 (t : Fin cfg0.N) (r : Fin 1024) (l : Fin 512) :
    (outsAt0 m c t.val t.isLt).1 (ix2 r l) = bdiff (iblk m c 0 t) (iblk m c 1 t) (iblk m c 2 t) (iblk m c 3 t) r l * ((1 / 1024 : ℝ) : EReal) := by
  by_cases ht : t.val % 8 = 0
  · rw [outsAt0_A m c t ht]
    dsimp only
    exact out_A_4 c _ _ _ _ _ _ _ _ _ _ _ _ _ _ _ _ _ _ _ _
  · rw [outsAt0_B m c t ht]
    dsimp only
    exact out_B_4 c _ _ _ _ _ _ _ _ _ _ _ _ _ _ _ _ _ _ _ _ _

/-- The gradient the call leaves. -/
theorem out4 (a : Fin 4096) (b : Fin 1024) : (dats m 0 c).arrAt 4 cfg0.N (ix2 a b) = D m c a b * ((1 / 1024 : ℝ) : EReal) := by
  refine (dats m 0 c).arrAt_forall_of_covers 4 (fun y v => ∀ (a : Fin 4096) (b : Fin 1024), y = ix2 a b → v = D m c a b * ((1 / 1024 : ℝ) : EReal))
    (by decide +kernel) (fun t hf y a b e => ?_) _ (Memref.isWhole_whole _) a b rfl
  have r0 : win0_4.index t (0 : Fin 2) * 1024 + 1 * (y 0).val = a.val := congrArg (fun z : S4096x1024.Idx => (z 0).val) e
  have r1 : win0_4.index t (1 : Fin 2) * 512 + 1 * (y 1).val = b.val := congrArg (fun z : S4096x1024.Idx => (z 1).val) e
  have e4 := index4 t
  show (dats m 0 c).after 4 t y = _
  rw [after0_4, eta2 (M := 1024) (N := 512) y]
  refine (step_4 m c t _ _).trans (congrArg (· * _) (bdiff_eq m c t _ _ a b ?_ ?_))
  · show a.val = 1024 * (t.val / 2) + (y 0).val
    omega
  · show b.val = 512 * (t.val % 2) + (y 1).val
    omega

/-- The loss the call leaves. -/
theorem out5 : (dats m 0 c).arrAt 5 cfg0.N (ix2 0 0) = squares (D m c) * ((1 / 2048 : ℝ) : EReal) := by
  refine (dats m 0 c).arrAt_forall_of_covers 5 (fun _ v => v = squares (D m c) * ((1 / 2048 : ℝ) : EReal))
    (by decide +kernel) (fun t hf y => ?_) _ (Memref.isWhole_whole _)
  have ht : t.val = 7 := (by decide +kernel : ∀ t : Fin grid0.N, (cfg0.win 5).flush t = true → t.val = 7) t hf
  have hy : y = ix2 (0 : Fin 1) (0 : Fin 1) := at2 (Nat.lt_one_iff.mp (y 0).isLt) (Nat.lt_one_iff.mp (y 1).isLt)
  show (dats m 0 c).after 5 t y = _
  rw [after0_5, hy, running m c t.val t.isLt, ht, sum_scale _ _ (EReal.coe_nonneg.mpr (by norm_num)) (EReal.coe_ne_top _)]
  exact congrArg (· * _) (tiles _)

end Call

section Ref

open Reference18Ideal Reference18Ideal.Read Reference18Ideal.Gen

variable (x0 : (⟨S4096x3072, .bf16⟩ : BufTy).Contents (Elt Ideal)) (x1 : (⟨S3072x1024, .bf16⟩ : BufTy).Contents (Elt Ideal))
  (x2 x3 : (⟨S4096x1024, .f32⟩ : BufTy).Contents (Elt Ideal))

/-- The reference's difference. -/
theorem ref_diff (a : Fin 4096) (b : Fin 1024) : val_main_v2 (F := Ideal) x0 x1 x2 x3 (ix2 a b) = diff x0 x1 x2 x3 a b := by
  rw [val_main_v2_apply, val_main_v1_apply, val_main_v0_apply, Ideal.subf_def, Ideal.addf_def, add_comm]
  refine congrArg (fun z : EReal => z + x2 (ix2 a b) - x3 (ix2 a b)) (Finset.sum_congr rfl fun k _ => congrArg₂ (· * ·) (congrArg x0 ?_) (congrArg x1 ?_))
  · exact at2 rfl rfl
  · exact at2 rfl rfl

/-- The reference's gradient. -/
theorem ref_grad (a : Fin 4096) (b : Fin 1024) : val_main_v16 (F := Ideal) x0 x1 x2 x3 (ix2 a b) = diff x0 x1 x2 x3 a b * ((1 / 1024 : ℝ) : EReal) := by
  rw [val_main_v16_apply, val_main_v15_apply, val_main_v14_apply, val_main_v12_apply, val_main_v11_apply, val_main_cst_4_apply, val_main_cst_5_apply,
    val_main_v13_apply, val_main_cst_6_apply, val_main_v5_apply, val_main_v4_apply, val_main_cst_apply, ref_diff]
  simp only [Ideal.mulf_def, Ideal.hostDivf_def, Ideal.ofBits_def, word_half, word_one, word_two, word_cols]
  rw [Ideal.div_coe (by norm_num), mul_comm (((2 : ℝ) : EReal)), mul_left_comm, ← EReal.coe_mul, ← EReal.coe_mul, ← EReal.coe_mul]
  norm_num

/-- The reference's row of squares, divided by the number of columns. -/
theorem ref_row (j : S4096.Idx) : val_main_v8 (F := Ideal) x0 x1 x2 x3 j
    = (∑ b : Fin 1024, diff x0 x1 x2 x3 (⟨(j 0).val, (j 0).isLt⟩ : Fin 4096) b * diff x0 x1 x2 x3 (⟨(j 0).val, (j 0).isLt⟩ : Fin 4096) b) * ((1 / 1024 : ℝ) : EReal) := by
  rw [val_main_v8_apply, val_main_v7_apply, val_main_cst_1_apply, val_main_v6_apply, val_main_cst_0_apply]
  simp only [Ideal.hostDivf_def, Ideal.ofBits_def, word_cols]
  rw [Ideal.div_coe (by norm_num), Ideal.ofBits_zero_f32, zero_add]
  refine congrArg (· * _) (Finset.sum_congr rfl fun b _ => ?_)
  rw [val_main_v3_apply, Ideal.mulf_def, show idx_main_v6 j b = ix2 (⟨(j 0).val, (j 0).isLt⟩ : Fin 4096) b from at2 rfl rfl, ref_diff]

/-- The reference's loss. -/
theorem ref_loss (i : S1x1.Idx) : val_main_v17 (F := Ideal) x0 x1 x2 x3 i = squares (diff x0 x1 x2 x3) * ((1 / 2048 : ℝ) : EReal) := by
  show val_main_v10 (F := Ideal) x0 x1 x2 x3 _ = _
  rw [val_main_v10_apply, val_main_cst_3_apply, val_main_v9_apply, val_main_cst_2_apply]
  simp only [Ideal.mulf_def, Ideal.ofBits_def, word_half, Ideal.ofBits_zero_f32, zero_add, ref_row]
  rw [sum_scale _ _ (EReal.coe_nonneg.mpr (by norm_num)) (EReal.coe_ne_top _), mul_left_comm, ← EReal.coe_mul, show (1 / 2 * (1 / 1024) : ℝ) = 1 / 2048 by norm_num]
  refine congrArg (· * _) ?_
  exact Fintype.sum_equiv (⟨fun j => ⟨(j 0).val, (j 0).isLt⟩, fun a x => match x with | ⟨0, _⟩ => ⟨a.val, a.isLt⟩, fun j => funext fun x => by fin_cases x; rfl, fun _ => rfl⟩ : S4096.Idx ≃ Fin 4096) _ _ fun j => rfl

end Ref

/-- The reference runs, leaves its arguments and declares no semaphore. -/
theorem frame_reference : quiescent_Reference18Ideal := fun m ρ _ =>
  (θ_run Reference18Ideal.defs _ _).mono (fun r h => ⟨fun c => (h c).2.2, sem_eq_zero_of_no_sems (by decide) r.2⟩)
    (Reference18Ideal.Value.run (F := Ideal) m ρ)

/-- The call and the reference leave the same gradient and the same loss. -/
theorem values : algebraic_Kernel18Ideal_Reference18Ideal := by
  intro m g m' g' _ ha
  refine ⟨fun c => (Kernel18Ideal.Gen.dats m 0 c).arrAt 4 Kernel18Ideal.cfg0.N, fun c => (Kernel18Ideal.Gen.dats m 0 c).arrAt 5 Kernel18Ideal.cfg0.N,
    Kernel18Ideal.Value.run_blocks m g,
    (θ_run Reference18Ideal.defs _ _).mono (fun r h c => ⟨(h c).1.trans ?_, (h c).2.1.trans ?_, (h c).2.2⟩)
      (Reference18Ideal.Value.run (F := Ideal) m' g')⟩
  · obtain ⟨h0, h1, h2, h3⟩ := ha c
    rw [Reference18Ideal.Read.val_main_v16_eq, h0, h1, h2, h3]
    funext i
    rw [eta2 (M := 4096) (N := 1024) i]
    exact (ref_grad _ _ _ _ _ _).trans (out4 m c _ _).symm
  · obtain ⟨h0, h1, h2, h3⟩ := ha c
    rw [Reference18Ideal.Read.val_main_v17_eq, h0, h1, h2, h3]
    funext i
    rw [show i = ix2 (0 : Fin 1) (0 : Fin 1) from at2 (Nat.lt_one_iff.mp (i 0).isLt) (Nat.lt_one_iff.mp (i 1).isLt)]
    exact (ref_loss _ _ _ _ _).trans (out5 m c).symm

end Cert.Loss
-- ==== Proof.LowRank.lean ====
/-
  MLA's two products out of its low ranks and the gradients of both factors of each: one entry of a call is the whole sum, as in the reference.
-/
module

public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Rect
public import proofs.«01_k».proof.Defs

@[expose] public section

set_option maxRecDepth 16384

noncomputable section

open Idealize.ShloMosaic Idealize.ShloMosaic.TcCoe Idealize.ShloMosaic.Tactic Idealize.SL.Sem Cert.Product

namespace Cert.LowQ

section Call

open Kernel19Ideal Kernel19Ideal.Gen

/-- One block of the product: the whole sum. -/
theorem pay_apply (x0 : Vec Ideal S1024x256 .bf16) (x1 : Vec Ideal S256x1024 .bf16) (i : S1024x1024.Idx) :
    k0_pay1 (F := Ideal) x0 x1 i = nn (M := 1024) (K := 256) (N := 1024) x0 x1 i := by
  unfold k0_pay1 nn dotp
  pointwise
  rfl

/-- The queries out of the low rank: every entry that the call leaves. -/
theorem out (m : (ℓ : Loc nD τ sig) → Buf (Elt Ideal) ℓ) (c : Dev nD) (y : S4096x1024.Idx) :
    (dats m 0 c).arrAt 2 cfg0.N y = nn (M := 4096) (K := 256) (N := 1024) (V m c main_arg0) (V m c main_arg1) y := by
  refine (dats m 0 c).arrAt_forall_of_covers 2 (fun y v => v = nn (M := 4096) (K := 256) (N := 1024) (V m c main_arg0) (V m c main_arg1) y) (by decide +kernel) (fun t hf y => ?_) _ (Memref.isWhole_whole _)
  obtain ⟨e0, e1, e2, e3⟩ := (by decide +kernel : ∀ t : Fin grid0.N, win0_0.index t (0 : Fin 2) = win0_2.index t (0 : Fin 2) ∧ win0_0.index t (1 : Fin 2) = 0 ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S1024x256) zero2, View.ld_unit_zero (S := S256x1024) zero2]
  exact (pay_apply _ _ _).trans (dotp_congr
    (fun k => congrArg (V m c main_arg0) (at2 (same e0 1024 (y 0).val) (full e1 256 k.val)))
    (fun k => congrArg (V m c main_arg1) (at2 (full e2 256 k.val) (same e3 1024 (y 1).val))))

end Call

section Ref

open Reference19Ideal Reference19Ideal.Read Reference19Ideal.Gen

/-- The reference's entry: the same. -/
theorem ref (x0 : (⟨S4096x256, .bf16⟩ : BufTy).Contents (Elt Ideal)) (x1 : (⟨S256x1024, .bf16⟩ : BufTy).Contents (Elt Ideal)) (i : S4096x1024.Idx) :
    val_main_v1 (F := Ideal) x0 x1 i = nn (M := 4096) (K := 256) (N := 1024) x0 x1 i := by
  rw [val_main_v1_apply, Ideal.truncf_def, val_main_v0_apply]
  exact Finset.sum_congr rfl fun k _ => congrArg₂ (· * ·) (congrArg x0 (at2 rfl rfl)) (congrArg x1 (at2 rfl rfl))

end Ref

/-- The reference runs, leaves its arguments and declares no semaphore. -/
theorem frame_reference : quiescent_Reference19Ideal := fun m ρ _ =>
  (θ_run Reference19Ideal.defs _ _).mono (fun r h => ⟨fun c => (h c).2, sem_eq_zero_of_no_sems (by decide) r.2⟩)
    (Reference19Ideal.Value.run (F := Ideal) m ρ)

/-- The call and the reference leave the same array. -/
theorem values : algebraic_Kernel19Ideal_Reference19Ideal := by
  intro m g m' g' _ ha
  refine ⟨fun c => (Kernel19Ideal.Gen.dats m 0 c).arrAt 2 Kernel19Ideal.cfg0.N, Kernel19Ideal.Value.run_blocks m g,
    (θ_run Reference19Ideal.defs _ _).mono (fun r h c => ⟨(h c).1.trans ?_, (h c).2⟩)
      (Reference19Ideal.Value.run (F := Ideal) m' g')⟩
  obtain ⟨h0, h1⟩ := ha c
  rw [Reference19Ideal.Read.val_main_v1_eq, h0, h1]
  exact funext fun i => (ref _ _ i).trans (out m c i).symm

end Cert.LowQ

namespace Cert.LowQGrad

section Call

open Kernel20Ideal Kernel20Ideal.Gen

/-- One block of the product: the whole sum. -/
theorem pay_apply (x0 : Vec Ideal S512x1024 .bf16) (x1 : Vec Ideal S256x1024 .bf16) (i : S512x256.Idx) :
    k0_pay1 (F := Ideal) x0 x1 i = nt (M := 512) (K := 1024) (N := 256) x0 x1 i := by
  unfold k0_pay1 nt dotp
  pointwise
  rfl

/-- The gradient of the queries' low rank: every entry that the call leaves. -/
theorem out (m : (ℓ : Loc nD τ sig) → Buf (Elt Ideal) ℓ) (c : Dev nD) (y : S4096x256.Idx) :
    (dats m 0 c).arrAt 2 cfg0.N y = nt (M := 4096) (K := 1024) (N := 256) (V m c main_arg2) (V m c main_arg1) y := by
  refine (dats m 0 c).arrAt_forall_of_covers 2 (fun y v => v = nt (M := 4096) (K := 1024) (N := 256) (V m c main_arg2) (V m c main_arg1) y) (by decide +kernel) (fun t hf y => ?_) _ (Memref.isWhole_whole _)
  obtain ⟨e0, e1, e2, e3⟩ := (by decide +kernel : ∀ t : Fin grid0.N, win0_0.index t (0 : Fin 2) = win0_2.index t (0 : Fin 2) ∧ win0_0.index t (1 : Fin 2) = 0 ∧ win0_1.index t (0 : Fin 2) = win0_2.index t (1 : Fin 2) ∧ win0_1.index t (1 : Fin 2) = 0) t
  show (dats m 0 c).after 2 t y = _
  rw [after0_2]
  unfold out0_2
  rw [View.canon_unit_zero zero2, View.ld_unit_zero (S := S512x1024) zero2, View.ld_unit_zero (S := S256x1024) zero2]
  exact (pay_apply _ _ _).trans (dotp_congr
    (fun k => congrArg (V m c main_arg2) (at2 (same e0 512 (y 0).val) (full e1 1024 k.val)))
    (fun k => congrArg (V m c main_arg1) (at2 (same e2 256 (y 1).val) (full e3 1024 k.val))))

end Call

section Ref

open Reference20Ideal Reference20Ideal.Read Reference20Ideal.Gen

/-- The reference's entry: the same. -/
theorem ref (x1 : (⟨S256x1024, .bf16⟩ : BufTy).Contents (Elt Ideal)) (x2 : (⟨S4096x1024, .bf16⟩ : BufTy).Contents (Elt Ideal)) (i : S4096x256.Idx) :
    val_main_v6 (F := Ideal) x1 x2 i = nt (M := 4096) (K := 1024) (N := 256) x2 x1 i := by
  rw [val_main_v6_apply, Ideal.extf_def, val_main_v5_apply, Ideal.truncf_def, val_main_v4_apply]
  simp only [val_main_v3_apply, Ideal.extf_def]
  exact Finset.sum_congr rfl fun k _ => congrArg₂ (· * ·) (congrArg x2 (at2 rfl rfl)) (congrArg x1 (at2 rfl rfl))

end Ref

/-- The reference runs, leaves its arguments and declares no semaphore. -/
theorem frame_reference : quiescent_Reference20Ideal := fun m ρ _ =>
  (θ_run Reference20Ideal.defs _ _).mono (fun r h => ⟨fun c => (h c).2, sem_eq_zero_of_no_sems (by decide) r.2⟩)
    (Reference20Ideal.Value.run (F := Ideal) m ρ)

/-- The call and the reference leave the same array. -/
theorem values : algebraic_Kernel20Ideal_Reference20Ideal := by
  intro m g m' g' _ ha
  refine ⟨fun c => (Kernel20Ideal.Gen.dats m 0 c).arrAt 2 Kernel20Ideal.cfg0.N, Kernel20Ideal.Value.run_blocks m g,
    (θ_run Reference20Ideal.defs _ _).mono (fun r h c => ⟨(h c).1.trans ?_, (h c).2⟩)
      (Reference20Ideal.Value.run (F := Ideal) m' g')⟩
  obtain ⟨h0, h1, h2⟩ := ha c
  rw [Reference20Ideal.Read.val_main_v6_eq, h1, h2]
  exact funext fun i => (ref _ _ i).trans (out m c i).symm

end Cert.LowQGrad

namespace Cert.LowQWeight

section Call

open Kernel21Ideal Kernel21Ideal.Gen

/-- One block of the product: the whole sum. -/
theorem pay_apply (x0 : Vec Ideal S4096x256 .bf16) (x1 : Vec Ideal S4096x512 .bf16) (i : S256x512.Idx) :
    k0_pay1 (F := Ideal) x0 x1 i = tn (M := 256) (K := 4096) (N := 512) x0 x1 i := by
  unfold k0_pay1 tn dotp
  pointwise
  rfl

/-- The gradient of the queries' weight: every entry that the call leaves. -/
theorem out (m : (ℓ : Loc nD τ sig) → Buf (Elt Ideal) ℓ) (c : Dev nD) (y : S256x1024.Idx) :
    (dats m 0 c).arrAt 2 cfg0.N y = tn (M := 256) (K := 4096) (N := 1024) (V m c main_arg0) (V m c main_arg2) y := by
  refine (dats m 0 c).arrAt_forall_of_covers 2 (fun y v => v = tn (M := 256) (K := 4096) (N := 1024) (V m c main_arg0) (V m c main_arg2) y) (by decide +kernel) (fun t hf y => ?_) _ (Memref.isWhole_whole _)
  obtain ⟨e0, e1, e2, e3⟩ := (by decide +kernel : ∀ t : Fin grid0.N, win0_0.index t (0 : Fin 2) = 0 ∧ win0_0.index t (1 : Fin 2) = win0_2.index t (0 : Fin 2) ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S4096x256) zero2, View.ld_unit_zero (S := S4096x512) zero2]
  exact (pay_apply _ _ _).trans (dotp_congr
    (fun k => congrArg (V m c main_arg0) (at2 (full e0 4096 k.val) (same e1 256 (y 0).val)))
    (fun k => congrArg (V m c main_arg2) (at2 (full e2 4096 k.val) (same e3 512 (y 1).val))))

end Call

section Ref

open Reference21Ideal Reference21Ideal.Read Reference21Ideal.Gen

/-- The reference's entry: the same. -/
theorem ref (x0 : (⟨S4096x256, .bf16⟩ : BufTy).Contents (Elt Ideal)) (x2 : (⟨S4096x1024, .bf16⟩ : BufTy).Contents (Elt Ideal)) (i : S256x1024.Idx) :
    val_main_v7 (F := Ideal) x0 x2 i = tn (M := 256) (K := 4096) (N := 1024) x0 x2 i := by
  rw [val_main_v7_apply, Ideal.extf_def, val_main_v6_apply, Ideal.truncf_def, val_main_v5_apply, val_main_v4_apply]
  simp only [val_main_v3_apply, Ideal.extf_def]
  exact Finset.sum_congr rfl fun k _ => (mul_comm _ _).trans (congrArg₂ (· * ·) (congrArg x0 (at2 rfl rfl)) (congrArg x2 (at2 rfl rfl)))

end Ref

/-- The reference runs, leaves its arguments and declares no semaphore. -/
theorem frame_reference : quiescent_Reference21Ideal := fun m ρ _ =>
  (θ_run Reference21Ideal.defs _ _).mono (fun r h => ⟨fun c => (h c).2, sem_eq_zero_of_no_sems (by decide) r.2⟩)
    (Reference21Ideal.Value.run (F := Ideal) m ρ)

/-- The call and the reference leave the same array. -/
theorem values : algebraic_Kernel21Ideal_Reference21Ideal := by
  intro m g m' g' _ ha
  refine ⟨fun c => (Kernel21Ideal.Gen.dats m 0 c).arrAt 2 Kernel21Ideal.cfg0.N, Kernel21Ideal.Value.run_blocks m g,
    (θ_run Reference21Ideal.defs _ _).mono (fun r h c => ⟨(h c).1.trans ?_, (h c).2⟩)
      (Reference21Ideal.Value.run (F := Ideal) m' g')⟩
  obtain ⟨h0, h1, h2⟩ := ha c
  rw [Reference21Ideal.Read.val_main_v7_eq, h0, h2]
  exact funext fun i => (ref _ _ i).trans (out m c i).symm

end Cert.LowQWeight

namespace Cert.LowKv

section Call

open Kernel22Ideal Kernel22Ideal.Gen

/-- One block of the product: the whole sum. -/
theorem pay_apply (x0 : Vec Ideal S1024x128 .bf16) (x1 : Vec Ideal S128x1024 .bf16) (i : S1024x1024.Idx) :
    k0_pay1 (F := Ideal) x0 x1 i = nn (M := 1024) (K := 128) (N := 1024) x0 x1 i := by
  unfold k0_pay1 nn dotp
  pointwise
  rfl

/-- The keys and values out of the low rank: every entry that the call leaves. -/
theorem out (m : (ℓ : Loc nD τ sig) → Buf (Elt Ideal) ℓ) (c : Dev nD) (y : S4096x1024.Idx) :
    (dats m 0 c).arrAt 2 cfg0.N y = nn (M := 4096) (K := 128) (N := 1024) (V m c main_arg0) (V m c main_arg1) y := by
  refine (dats m 0 c).arrAt_forall_of_covers 2 (fun y v => v = nn (M := 4096) (K := 128) (N := 1024) (V m c main_arg0) (V m c main_arg1) y) (by decide +kernel) (fun t hf y => ?_) _ (Memref.isWhole_whole _)
  obtain ⟨e0, e1, e2, e3⟩ := (by decide +kernel : ∀ t : Fin grid0.N, win0_0.index t (0 : Fin 2) = win0_2.index t (0 : Fin 2) ∧ win0_0.index t (1 : Fin 2) = 0 ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S1024x128) zero2, View.ld_unit_zero (S := S128x1024) zero2]
  exact (pay_apply _ _ _).trans (dotp_congr
    (fun k => congrArg (V m c main_arg0) (at2 (same e0 1024 (y 0).val) (full e1 128 k.val)))
    (fun k => congrArg (V m c main_arg1) (at2 (full e2 128 k.val) (same e3 1024 (y 1).val))))

end Call

section Ref

open Reference22Ideal Reference22Ideal.Read Reference22Ideal.Gen

/-- The reference's entry: the same. -/
theorem ref (x0 : (⟨S4096x128, .bf16⟩ : BufTy).Contents (Elt Ideal)) (x1 : (⟨S128x1024, .bf16⟩ : BufTy).Contents (Elt Ideal)) (i : S4096x1024.Idx) :
    val_main_v1 (F := Ideal) x0 x1 i = nn (M := 4096) (K := 128) (N := 1024) x0 x1 i := by
  rw [val_main_v1_apply, Ideal.truncf_def, val_main_v0_apply]
  exact Finset.sum_congr rfl fun k _ => congrArg₂ (· * ·) (congrArg x0 (at2 rfl rfl)) (congrArg x1 (at2 rfl rfl))

end Ref

/-- The reference runs, leaves its arguments and declares no semaphore. -/
theorem frame_reference : quiescent_Reference22Ideal := fun m ρ _ =>
  (θ_run Reference22Ideal.defs _ _).mono (fun r h => ⟨fun c => (h c).2, sem_eq_zero_of_no_sems (by decide) r.2⟩)
    (Reference22Ideal.Value.run (F := Ideal) m ρ)

/-- The call and the reference leave the same array. -/
theorem values : algebraic_Kernel22Ideal_Reference22Ideal := by
  intro m g m' g' _ ha
  refine ⟨fun c => (Kernel22Ideal.Gen.dats m 0 c).arrAt 2 Kernel22Ideal.cfg0.N, Kernel22Ideal.Value.run_blocks m g,
    (θ_run Reference22Ideal.defs _ _).mono (fun r h c => ⟨(h c).1.trans ?_, (h c).2⟩)
      (Reference22Ideal.Value.run (F := Ideal) m' g')⟩
  obtain ⟨h0, h1⟩ := ha c
  rw [Reference22Ideal.Read.val_main_v1_eq, h0, h1]
  exact funext fun i => (ref _ _ i).trans (out m c i).symm

end Cert.LowKv

namespace Cert.LowKvGrad

section Call

open Kernel23Ideal Kernel23Ideal.Gen

/-- One block of the product: the whole sum. -/
theorem pay_apply (x0 : Vec Ideal S256x1024 .bf16) (x1 : Vec Ideal S128x1024 .bf16) (i : S256x128.Idx) :
    k0_pay1 (F := Ideal) x0 x1 i = nt (M := 256) (K := 1024) (N := 128) x0 x1 i := by
  unfold k0_pay1 nt dotp
  pointwise
  rfl

/-- The gradient of the keys' and values' low rank: every entry that the call leaves. -/
theorem out (m : (ℓ : Loc nD τ sig) → Buf (Elt Ideal) ℓ) (c : Dev nD) (y : S4096x128.Idx) :
    (dats m 0 c).arrAt 2 cfg0.N y = nt (M := 4096) (K := 1024) (N := 128) (V m c main_arg2) (V m c main_arg1) y := by
  refine (dats m 0 c).arrAt_forall_of_covers 2 (fun y v => v = nt (M := 4096) (K := 1024) (N := 128) (V m c main_arg2) (V m c main_arg1) y) (by decide +kernel) (fun t hf y => ?_) _ (Memref.isWhole_whole _)
  obtain ⟨e0, e1, e2, e3⟩ := (by decide +kernel : ∀ t : Fin grid0.N, win0_0.index t (0 : Fin 2) = win0_2.index t (0 : Fin 2) ∧ win0_0.index t (1 : Fin 2) = 0 ∧ win0_1.index t (0 : Fin 2) = win0_2.index t (1 : Fin 2) ∧ win0_1.index t (1 : Fin 2) = 0) t
  show (dats m 0 c).after 2 t y = _
  rw [after0_2]
  unfold out0_2
  rw [View.canon_unit_zero zero2, View.ld_unit_zero (S := S256x1024) zero2, View.ld_unit_zero (S := S128x1024) zero2]
  exact (pay_apply _ _ _).trans (dotp_congr
    (fun k => congrArg (V m c main_arg2) (at2 (same e0 256 (y 0).val) (full e1 1024 k.val)))
    (fun k => congrArg (V m c main_arg1) (at2 (same e2 128 (y 1).val) (full e3 1024 k.val))))

end Call

section Ref

open Reference23Ideal Reference23Ideal.Read Reference23Ideal.Gen

/-- The reference's entry: the same. -/
theorem ref (x1 : (⟨S128x1024, .bf16⟩ : BufTy).Contents (Elt Ideal)) (x2 : (⟨S4096x1024, .bf16⟩ : BufTy).Contents (Elt Ideal)) (i : S4096x128.Idx) :
    val_main_v6 (F := Ideal) x1 x2 i = nt (M := 4096) (K := 1024) (N := 128) x2 x1 i := by
  rw [val_main_v6_apply, Ideal.extf_def, val_main_v5_apply, Ideal.truncf_def, val_main_v4_apply]
  simp only [val_main_v3_apply, Ideal.extf_def]
  exact Finset.sum_congr rfl fun k _ => congrArg₂ (· * ·) (congrArg x2 (at2 rfl rfl)) (congrArg x1 (at2 rfl rfl))

end Ref

/-- The reference runs, leaves its arguments and declares no semaphore. -/
theorem frame_reference : quiescent_Reference23Ideal := fun m ρ _ =>
  (θ_run Reference23Ideal.defs _ _).mono (fun r h => ⟨fun c => (h c).2, sem_eq_zero_of_no_sems (by decide) r.2⟩)
    (Reference23Ideal.Value.run (F := Ideal) m ρ)

/-- The call and the reference leave the same array. -/
theorem values : algebraic_Kernel23Ideal_Reference23Ideal := by
  intro m g m' g' _ ha
  refine ⟨fun c => (Kernel23Ideal.Gen.dats m 0 c).arrAt 2 Kernel23Ideal.cfg0.N, Kernel23Ideal.Value.run_blocks m g,
    (θ_run Reference23Ideal.defs _ _).mono (fun r h c => ⟨(h c).1.trans ?_, (h c).2⟩)
      (Reference23Ideal.Value.run (F := Ideal) m' g')⟩
  obtain ⟨h0, h1, h2⟩ := ha c
  rw [Reference23Ideal.Read.val_main_v6_eq, h1, h2]
  exact funext fun i => (ref _ _ i).trans (out m c i).symm

end Cert.LowKvGrad

namespace Cert.LowKvWeight

section Call

open Kernel24Ideal Kernel24Ideal.Gen

/-- One block of the product: the whole sum. -/
theorem pay_apply (x0 : Vec Ideal S4096x128 .bf16) (x1 : Vec Ideal S4096x256 .bf16) (i : S128x256.Idx) :
    k0_pay1 (F := Ideal) x0 x1 i = tn (M := 128) (K := 4096) (N := 256) x0 x1 i := by
  unfold k0_pay1 tn dotp
  pointwise
  rfl

/-- The gradient of the keys' and values' weight: every entry that the call leaves. -/
theorem out (m : (ℓ : Loc nD τ sig) → Buf (Elt Ideal) ℓ) (c : Dev nD) (y : S128x1024.Idx) :
    (dats m 0 c).arrAt 2 cfg0.N y = tn (M := 128) (K := 4096) (N := 1024) (V m c main_arg0) (V m c main_arg2) y := by
  refine (dats m 0 c).arrAt_forall_of_covers 2 (fun y v => v = tn (M := 128) (K := 4096) (N := 1024) (V m c main_arg0) (V m c main_arg2) y) (by decide +kernel) (fun t hf y => ?_) _ (Memref.isWhole_whole _)
  obtain ⟨e0, e1, e2, e3⟩ := (by decide +kernel : ∀ t : Fin grid0.N, win0_0.index t (0 : Fin 2) = 0 ∧ win0_0.index t (1 : Fin 2) = win0_2.index t (0 : Fin 2) ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S4096x128) zero2, View.ld_unit_zero (S := S4096x256) zero2]
  exact (pay_apply _ _ _).trans (dotp_congr
    (fun k => congrArg (V m c main_arg0) (at2 (full e0 4096 k.val) (same e1 128 (y 0).val)))
    (fun k => congrArg (V m c main_arg2) (at2 (full e2 4096 k.val) (same e3 256 (y 1).val))))

end Call

section Ref

open Reference24Ideal Reference24Ideal.Read Reference24Ideal.Gen

/-- The reference's entry: the same. -/
theorem ref (x0 : (⟨S4096x128, .bf16⟩ : BufTy).Contents (Elt Ideal)) (x2 : (⟨S4096x1024, .bf16⟩ : BufTy).Contents (Elt Ideal)) (i : S128x1024.Idx) :
    val_main_v7 (F := Ideal) x0 x2 i = tn (M := 128) (K := 4096) (N := 1024) x0 x2 i := by
  rw [val_main_v7_apply, Ideal.extf_def, val_main_v6_apply, Ideal.truncf_def, val_main_v5_apply, val_main_v4_apply]
  simp only [val_main_v3_apply, Ideal.extf_def]
  exact Finset.sum_congr rfl fun k _ => (mul_comm _ _).trans (congrArg₂ (· * ·) (congrArg x0 (at2 rfl rfl)) (congrArg x2 (at2 rfl rfl)))

end Ref

/-- The reference runs, leaves its arguments and declares no semaphore. -/
theorem frame_reference : quiescent_Reference24Ideal := fun m ρ _ =>
  (θ_run Reference24Ideal.defs _ _).mono (fun r h => ⟨fun c => (h c).2, sem_eq_zero_of_no_sems (by decide) r.2⟩)
    (Reference24Ideal.Value.run (F := Ideal) m ρ)

/-- The call and the reference leave the same array. -/
theorem values : algebraic_Kernel24Ideal_Reference24Ideal := by
  intro m g m' g' _ ha
  refine ⟨fun c => (Kernel24Ideal.Gen.dats m 0 c).arrAt 2 Kernel24Ideal.cfg0.N, Kernel24Ideal.Value.run_blocks m g,
    (θ_run Reference24Ideal.defs _ _).mono (fun r h c => ⟨(h c).1.trans ?_, (h c).2⟩)
      (Reference24Ideal.Value.run (F := Ideal) m' g')⟩
  obtain ⟨h0, h1, h2⟩ := ha c
  rw [Reference24Ideal.Read.val_main_v7_eq, h0, h2]
  exact funext fun i => (ref _ _ i).trans (out m c i).symm

end Cert.LowKvWeight
-- ==== Proof.Memory.lean ====
/-
  The projection of cross attention's memory and the gradients of its weight and of the memory: one entry of a call is the whole sum, as in the reference.
-/
module

public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Rect
public import proofs.«01_k».proof.Defs

@[expose] public section

set_option maxRecDepth 16384

noncomputable section

open Idealize.ShloMosaic Idealize.ShloMosaic.TcCoe Idealize.ShloMosaic.Tactic Idealize.SL.Sem Cert.Product

namespace Cert.MemKey

section Call

open Kernel25Ideal Kernel25Ideal.Gen

/-- One block of the product: the whole sum. -/
theorem pay_apply (x0 : Vec Ideal S256x1024 .bf16) (x1 : Vec Ideal S1024x512 .bf16) (i : S256x512.Idx) :
    k0_pay1 (F := Ideal) x0 x1 i = nn (M := 256) (K := 1024) (N := 512) x0 x1 i := by
  unfold k0_pay1 nn dotp
  pointwise
  rfl

/-- The projection of the memory: every entry that the call leaves. -/
theorem out (m : (ℓ : Loc nD τ sig) → Buf (Elt Ideal) ℓ) (c : Dev nD) (y : S256x1024.Idx) :
    (dats m 0 c).arrAt 2 cfg0.N y = nn (M := 256) (K := 1024) (N := 1024) (V m c main_arg0) (V m c main_arg1) y := by
  refine (dats m 0 c).arrAt_forall_of_covers 2 (fun y v => v = nn (M := 256) (K := 1024) (N := 1024) (V m c main_arg0) (V m c main_arg1) y) (by decide +kernel) (fun t hf y => ?_) _ (Memref.isWhole_whole _)
  obtain ⟨e0, e1, e2, e3⟩ := (by decide +kernel : ∀ t : Fin grid0.N, win0_0.index t (0 : Fin 2) = win0_2.index t (0 : Fin 2) ∧ win0_0.index t (1 : Fin 2) = 0 ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S256x1024) zero2, View.ld_unit_zero (S := S1024x512) zero2]
  exact (pay_apply _ _ _).trans (dotp_congr
    (fun k => congrArg (V m c main_arg0) (at2 (same e0 256 (y 0).val) (full e1 1024 k.val)))
    (fun k => congrArg (V m c main_arg1) (at2 (full e2 1024 k.val) (same e3 512 (y 1).val))))

end Call

section Ref

open Reference25Ideal Reference25Ideal.Read Reference25Ideal.Gen

/-- The reference's entry: the same. -/
theorem ref (x0 : (⟨S256x1024, .bf16⟩ : BufTy).Contents (Elt Ideal)) (x1 : (⟨S1024x1024, .bf16⟩ : BufTy).Contents (Elt Ideal)) (i : S256x1024.Idx) :
    val_main_v0 (F := Ideal) x0 x1 i = nn (M := 256) (K := 1024) (N := 1024) x0 x1 i := by
  rw [val_main_v0_apply]
  exact Finset.sum_congr rfl fun k _ => congrArg₂ (· * ·) (congrArg x0 (at2 rfl rfl)) (congrArg x1 (at2 rfl rfl))

end Ref

/-- The reference runs, leaves its arguments and declares no semaphore. -/
theorem frame_reference : quiescent_Reference25Ideal := fun m ρ _ =>
  (θ_run Reference25Ideal.defs _ _).mono (fun r h => ⟨fun c => (h c).2, sem_eq_zero_of_no_sems (by decide) r.2⟩)
    (Reference25Ideal.Value.run (F := Ideal) m ρ)

/-- The call and the reference leave the same array. -/
theorem values : algebraic_Kernel25Ideal_Reference25Ideal := by
  intro m g m' g' _ ha
  refine ⟨fun c => (Kernel25Ideal.Gen.dats m 0 c).arrAt 2 Kernel25Ideal.cfg0.N, Kernel25Ideal.Value.run_blocks m g,
    (θ_run Reference25Ideal.defs _ _).mono (fun r h c => ⟨(h c).1.trans ?_, (h c).2⟩)
      (Reference25Ideal.Value.run (F := Ideal) m' g')⟩
  obtain ⟨h0, h1⟩ := ha c
  rw [Reference25Ideal.Read.val_main_v0_eq, h0, h1]
  exact funext fun i => (ref _ _ i).trans (out m c i).symm

end Cert.MemKey

namespace Cert.MemWeight

section Call

open Kernel26Ideal Kernel26Ideal.Gen

/-- One block of the product: the whole sum. -/
theorem pay_apply (x0 : Vec Ideal S256x1024 .bf16) (x1 : Vec Ideal S256x1024 .f32) (i : S1024x1024.Idx) :
    k0_pay1 (F := Ideal) x0 x1 i = tn (M := 1024) (K := 256) (N := 1024) x0 x1 i := by
  unfold k0_pay1 tn dotp
  pointwise
  rfl

/-- The gradient of the weight of the memory's projection: every entry that the call leaves. -/
theorem out (m : (ℓ : Loc nD τ sig) → Buf (Elt Ideal) ℓ) (c : Dev nD) (y : S1024x1024.Idx) :
    (dats m 0 c).arrAt 2 cfg0.N y = tn (M := 1024) (K := 256) (N := 1024) (V m c main_arg0) (V m c main_arg2) y := by
  refine (dats m 0 c).arrAt_forall_of_covers 2 (fun y v => v = tn (M := 1024) (K := 256) (N := 1024) (V m c main_arg0) (V m c main_arg2) y) (by decide +kernel) (fun t hf y => ?_) _ (Memref.isWhole_whole _)
  obtain ⟨e0, e1, e2, e3⟩ := (by decide +kernel : ∀ t : Fin grid0.N, win0_0.index t (0 : Fin 2) = 0 ∧ win0_0.index t (1 : Fin 2) = win0_2.index t (0 : Fin 2) ∧ win0_1.index t (0 : Fin 2) = 0 ∧ win0_1.index t (1 : Fin 2) = win0_2.index t (1 : Fin 2)) t
  show (dats m 0 c).after 2 t y = _
  rw [after0_2]
  unfold out0_2
  rw [View.canon_unit_zero zero2, View.ld_unit_zero (S := S256x1024) zero2, View.ld_unit_zero (S := S256x1024) zero2]
  exact (pay_apply _ _ _).trans (dotp_congr
    (fun k => congrArg (V m c main_arg0) (at2 (full e0 256 k.val) (same e1 1024 (y 0).val)))
    (fun k => congrArg (V m c main_arg2) (at2 (full e2 256 k.val) (same e3 1024 (y 1).val))))

end Call

section Ref

open Reference26Ideal Reference26Ideal.Read Reference26Ideal.Gen

/-- The reference's entry: the same. -/
theorem ref (x0 : (⟨S256x1024, .bf16⟩ : BufTy).Contents (Elt Ideal)) (x2 : (⟨S256x1024, .f32⟩ : BufTy).Contents (Elt Ideal)) (i : S1024x1024.Idx) :
    val_main_v3 (F := Ideal) x0 x2 i = tn (M := 1024) (K := 256) (N := 1024) x0 x2 i := by
  rw [val_main_v3_apply, Ideal.truncf_def, val_main_v2_apply, val_main_v1_apply]
  exact Finset.sum_congr rfl fun k _ => (mul_comm _ _).trans (congrArg₂ (· * ·) (congrArg x0 (at2 rfl rfl)) (congrArg x2 (at2 rfl rfl)))

end Ref

/-- The reference runs, leaves its arguments and declares no semaphore. -/
theorem frame_reference : quiescent_Reference26Ideal := fun m ρ _ =>
  (θ_run Reference26Ideal.defs _ _).mono (fun r h => ⟨fun c => (h c).2, sem_eq_zero_of_no_sems (by decide) r.2⟩)
    (Reference26Ideal.Value.run (F := Ideal) m ρ)

/-- The call and the reference leave the same array. -/
theorem values : algebraic_Kernel26Ideal_Reference26Ideal := by
  intro m g m' g' _ ha
  refine ⟨fun c => (Kernel26Ideal.Gen.dats m 0 c).arrAt 2 Kernel26Ideal.cfg0.N, Kernel26Ideal.Value.run_blocks m g,
    (θ_run Reference26Ideal.defs _ _).mono (fun r h c => ⟨(h c).1.trans ?_, (h c).2⟩)
      (Reference26Ideal.Value.run (F := Ideal) m' g')⟩
  obtain ⟨h0, h1, h2⟩ := ha c
  rw [Reference26Ideal.Read.val_main_v3_eq, h0, h2]
  exact funext fun i => (ref _ _ i).trans (out m c i).symm

end Cert.MemWeight

namespace Cert.MemGrad

section Call

open Kernel27Ideal Kernel27Ideal.Gen

/-- One block of the product: the whole sum. -/
theorem pay_apply (x0 : Vec Ideal S256x1024 .f32) (x1 : Vec Ideal S512x1024 .bf16) (i : S256x512.Idx) :
    k0_pay1 (F := Ideal) x0 x1 i = nt (M := 256) (K := 1024) (N := 512) x0 x1 i := by
  unfold k0_pay1 nt dotp
  pointwise
  rfl

/-- The keys' part of the memory's gradient: every entry that the call leaves. -/
theorem out (m : (ℓ : Loc nD τ sig) → Buf (Elt Ideal) ℓ) (c : Dev nD) (y : S256x1024.Idx) :
    (dats m 0 c).arrAt 2 cfg0.N y = nt (M := 256) (K := 1024) (N := 1024) (V m c main_arg2) (V m c main_arg1) y := by
  refine (dats m 0 c).arrAt_forall_of_covers 2 (fun y v => v = nt (M := 256) (K := 1024) (N := 1024) (V m c main_arg2) (V m c main_arg1) y) (by decide +kernel) (fun t hf y => ?_) _ (Memref.isWhole_whole _)
  obtain ⟨e0, e1, e2, e3⟩ := (by decide +kernel : ∀ t : Fin grid0.N, win0_0.index t (0 : Fin 2) = win0_2.index t (0 : Fin 2) ∧ win0_0.index t (1 : Fin 2) = 0 ∧ win0_1.index t (0 : Fin 2) = win0_2.index t (1 : Fin 2) ∧ win0_1.index t (1 : Fin 2) = 0) t
  show (dats m 0 c).after 2 t y = _
  rw [after0_2]
  unfold out0_2
  rw [View.canon_unit_zero zero2, View.ld_unit_zero (S := S256x1024) zero2, View.ld_unit_zero (S := S512x1024) zero2]
  exact (pay_apply _ _ _).trans (dotp_congr
    (fun k => congrArg (V m c main_arg2) (at2 (same e0 256 (y 0).val) (full e1 1024 k.val)))
    (fun k => congrArg (V m c main_arg1) (at2 (same e2 512 (y 1).val) (full e3 1024 k.val))))

end Call

section Ref

open Reference27Ideal Reference27Ideal.Read Reference27Ideal.Gen

/-- The reference's entry: the same. -/
theorem ref (x1 : (⟨S1024x1024, .bf16⟩ : BufTy).Contents (Elt Ideal)) (x2 : (⟨S256x1024, .f32⟩ : BufTy).Contents (Elt Ideal)) (i : S256x1024.Idx) :
    val_main_v4 (F := Ideal) x1 x2 i = nt (M := 256) (K := 1024) (N := 1024) x2 x1 i := by
  rw [val_main_v4_apply, Ideal.extf_def, val_main_v3_apply, Ideal.truncf_def, val_main_v2_apply]
  exact Finset.sum_congr rfl fun k _ => congrArg₂ (· * ·) (congrArg x2 (at2 rfl rfl)) (congrArg x1 (at2 rfl rfl))

end Ref

/-- The reference runs, leaves its arguments and declares no semaphore. -/
theorem frame_reference : quiescent_Reference27Ideal := fun m ρ _ =>
  (θ_run Reference27Ideal.defs _ _).mono (fun r h => ⟨fun c => (h c).2, sem_eq_zero_of_no_sems (by decide) r.2⟩)
    (Reference27Ideal.Value.run (F := Ideal) m ρ)

/-- The call and the reference leave the same array. -/
theorem values : algebraic_Kernel27Ideal_Reference27Ideal := by
  intro m g m' g' _ ha
  refine ⟨fun c => (Kernel27Ideal.Gen.dats m 0 c).arrAt 2 Kernel27Ideal.cfg0.N, Kernel27Ideal.Value.run_blocks m g,
    (θ_run Reference27Ideal.defs _ _).mono (fun r h c => ⟨(h c).1.trans ?_, (h c).2⟩)
      (Reference27Ideal.Value.run (F := Ideal) m' g')⟩
  obtain ⟨h0, h1, h2⟩ := ha c
  rw [Reference27Ideal.Read.val_main_v4_eq, h1, h2]
  exact funext fun i => (ref _ _ i).trans (out m c i).symm

end Cert.MemGrad

namespace Cert.MemGradAdd

section Call

open Kernel28Ideal Kernel28Ideal.Gen

/-- One block of the product: the whole sum and the summand. -/
theorem pay_apply (x0 : Vec Ideal S256x1024 .f32) (x1 : Vec Ideal S512x1024 .bf16) (x2 : Vec Ideal S256x512 .f32) (i : S256x512.Idx) :
    k0_pay1 (F := Ideal) x0 x1 x2 i = nt (M := 256) (K := 1024) (N := 512) x0 x1 i + x2 i := by
  unfold k0_pay1 nt dotp
  pointwise
  rfl

/-- The memory's whole gradient: every entry that the call leaves. -/
theorem out (m : (ℓ : Loc nD τ sig) → Buf (Elt Ideal) ℓ) (c : Dev nD) (y : S256x1024.Idx) :
    (dats m 0 c).arrAt 3 cfg0.N y = nt (M := 256) (K := 1024) (N := 1024) (V m c main_arg2) (V m c main_arg1) y + V m c main_arg3 y := by
  refine (dats m 0 c).arrAt_forall_of_covers 3 (fun y v => v = nt (M := 256) (K := 1024) (N := 1024) (V m c main_arg2) (V m c main_arg1) y + V m c main_arg3 y) (by decide +kernel) (fun t hf y => ?_) _ (Memref.isWhole_whole _)
  obtain ⟨e0, e1, e2, e3, e4, e5⟩ := (by decide +kernel : ∀ t : Fin grid0.N, win0_0.index t (0 : Fin 2) = win0_3.index t (0 : Fin 2) ∧ win0_0.index t (1 : Fin 2) = 0 ∧ win0_1.index t (0 : Fin 2) = win0_3.index t (1 : Fin 2) ∧ win0_1.index t (1 : Fin 2) = 0 ∧ win0_2.index t (0 : Fin 2) = win0_3.index t (0 : Fin 2) ∧ win0_2.index t (1 : Fin 2) = win0_3.index t (1 : Fin 2)) t
  show (dats m 0 c).after 3 t y = _
  rw [after0_3]
  unfold out0_3
  rw [View.canon_unit_zero zero2, View.ld_unit_zero (S := S256x1024) zero2, View.ld_unit_zero (S := S512x1024) zero2, View.ld_unit_zero (S := S256x512) zero2]
  exact (pay_apply _ _ _ _).trans (congrArg₂ (· + ·) (dotp_congr
    (fun k => congrArg (V m c main_arg2) (at2 (same e0 256 (y 0).val) (full e1 1024 k.val)))
    (fun k => congrArg (V m c main_arg1) (at2 (same e2 512 (y 1).val) (full e3 1024 k.val))))
    (congrArg (V m c main_arg3) ((at2 (same e4 256 (y 0).val) (same e5 512 (y 1).val)).trans (at2 rfl rfl).symm)))

end Call

section Ref

open Reference28Ideal Reference28Ideal.Read Reference28Ideal.Gen

/-- The reference's entry: the same. -/
theorem ref (x1 : (⟨S1024x1024, .bf16⟩ : BufTy).Contents (Elt Ideal)) (x2 : (⟨S256x1024, .f32⟩ : BufTy).Contents (Elt Ideal)) (x3 : (⟨S256x1024, .f32⟩ : BufTy).Contents (Elt Ideal)) (i : S256x1024.Idx) :
    val_main_v5 (F := Ideal) x1 x2 x3 i = nt (M := 256) (K := 1024) (N := 1024) x2 x1 i + x3 i := by
  rw [val_main_v5_apply, Ideal.addf_def, val_main_v4_apply, Ideal.extf_def, val_main_v3_apply, Ideal.truncf_def, val_main_v2_apply]
  exact (add_comm _ _).trans (congrArg (· + x3 i) (Finset.sum_congr rfl fun k _ => congrArg₂ (· * ·) (congrArg x2 (at2 rfl rfl)) (congrArg x1 (at2 rfl rfl))))

end Ref

/-- The reference runs, leaves its arguments and declares no semaphore. -/
theorem frame_reference : quiescent_Reference28Ideal := fun m ρ _ =>
  (θ_run Reference28Ideal.defs _ _).mono (fun r h => ⟨fun c => (h c).2, sem_eq_zero_of_no_sems (by decide) r.2⟩)
    (Reference28Ideal.Value.run (F := Ideal) m ρ)

/-- The call and the reference leave the same array. -/
theorem values : algebraic_Kernel28Ideal_Reference28Ideal := by
  intro m g m' g' _ ha
  refine ⟨fun c => (Kernel28Ideal.Gen.dats m 0 c).arrAt 3 Kernel28Ideal.cfg0.N, Kernel28Ideal.Value.run_blocks m g,
    (θ_run Reference28Ideal.defs _ _).mono (fun r h c => ⟨(h c).1.trans ?_, (h c).2⟩)
      (Reference28Ideal.Value.run (F := Ideal) m' g')⟩
  obtain ⟨h0, h1, h2, h3⟩ := ha c
  rw [Reference28Ideal.Read.val_main_v5_eq, h1, h2, h3]
  exact funext fun i => (ref _ _ _ i).trans (out m c i).symm

end Cert.MemGradAdd
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.ReferenceIdeal.Read
public import proofs.«01_k».proof.Proof.Agree
public import proofs.«01_k».proof.Proof.UpGrad
public import proofs.«01_k».proof.Proof.GateIn
public import proofs.«01_k».proof.Proof.NormGrad
public import proofs.«01_k».proof.Proof.Products
public import proofs.«01_k».proof.Proof.Weights
public import proofs.«01_k».proof.Proof.OutNorm
public import proofs.«01_k».proof.Proof.ProjectNorm
public import proofs.«01_k».proof.Proof.MixNorm
public import proofs.«01_k».proof.Proof.Loss
public import proofs.«01_k».proof.Proof.LowRank
public import proofs.«01_k».proof.Proof.Memory
public import proofs.«01_k».proof.Proof.Launch
public import proofs.«01_k».proof.Proof.Words.Launch
public import Idealize.ShloMosaic.Adequacy
public import Idealize.ShloMosaic.Init

@[expose] public section

noncomputable section

namespace Cert.Proof

open Idealize.ShloMosaic Idealize.SL.Sem

/-- The printed program runs, leaves its arguments and ends quiescent. -/
theorem frame_kernel : Cert.quiescent_Kernel := fun m ρ _ =>
  (θ_run Cert.Kernel.defs _ _).mono (fun _ h => ⟨fun c => (h.1 c).2.2.2.2, h.2⟩)
    (Cert.Kernel.Run.run_main (F := Bits) m ρ)

/-- The idealized program runs, leaves its arguments and ends quiescent. -/
theorem frame_ideal : Cert.quiescent_KernelIdeal := fun m ρ _ =>
  (θ_run Cert.KernelIdeal.defs _ _).mono (fun _ h => ⟨fun c => (h.1 c).2.2.2.2, h.2⟩)
    (Cert.KernelIdeal.Run.run_main (F := Ideal) m ρ)

/-- The reference runs, leaves its arguments and declares no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The idealized kernel and the reference leave the same four arrays, where the arguments hold real numbers. -/
theorem values : Cert.algebraic_KernelIdeal_ReferenceIdeal_pre_finite := by
  intro m g m' g' hp ha
  refine ⟨fun c => Cert.KernelIdeal.Run.W3 m g c (Proc.devRef .tc Cert.KernelIdeal.main_v0_0),
    fun c => Cert.KernelIdeal.Run.W3 m g c (Proc.devRef .tc Cert.KernelIdeal.main_v1_0),
    fun c => Cert.KernelIdeal.Run.W3 m g c (Proc.devRef .tc Cert.KernelIdeal.main_v2_0),
    fun c => Cert.KernelIdeal.Run.W3 m g c (Proc.devRef .tc Cert.KernelIdeal.main_v2_1), ?_, ?_⟩
  · exact (θ_run Cert.KernelIdeal.defs _ _).mono (fun _ h c => h.1 c) (Cert.KernelIdeal.Run.run_main (F := Ideal) m g)
  · refine (θ_run Cert.ReferenceIdeal.defs _ _).mono (fun r h c => ?_) (Cert.ReferenceIdeal.Value.run (F := Ideal) m' g')
    obtain ⟨e0, e1, e2, e3⟩ := ha c
    obtain ⟨f0, f1, f2, f3⟩ := Cert.Agree.real_args _ _ _ _ (hp c)
    refine ⟨(h c).1.trans ((Cert.ReferenceIdeal.Read.val_main_v45_eq m' c).trans ?_),
      (h c).2.1.trans ((Cert.ReferenceIdeal.Read.val_main_v78_eq m' c).trans ?_),
      (h c).2.2.1.trans ((Cert.ReferenceIdeal.Read.val_main_v77_eq m' c).trans ?_),
      (h c).2.2.2.1.trans ((Cert.ReferenceIdeal.Read.val_main_v76_eq m' c).trans ?_), (h c).2.2.2.2⟩
    · rw [e0, e1, e2]; exact Cert.Agree.agree_out m g c f0 f1 f2
    · rw [e0, e1, e2, e3]; exact Cert.Agree.agree_dq m g c f0 f1 f2 f3
    · rw [e0, e1, e2, e3]; exact Cert.Agree.agree_dk m g c f0 f1 f2 f3
    · rw [e0, e1, e3]; exact Cert.Agree.agree_dv m g c f0 f1 f2 f3

theorem claim : Cert.Claim := ⟨Kernel.Gen.facts, KernelIdeal.Gen.facts, ReferenceIdeal.Gen.facts,
  Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Pre_finite.Gen.facts, frame_kernel, frame_ideal, fun m ρ _ => frame_ideal m ρ trivial, frame_reference,
  fun m ρ _ => frame_reference m ρ trivial,
  fun m ρ _ => Kernel2.Gen.frame m ρ, fun m ρ _ => Kernel2Ideal.Gen.frame m ρ, UpGrad.frame_reference,
  fun m ρ _ => Kernel3.Gen.frame m ρ, fun m ρ _ => Kernel3Ideal.Gen.frame m ρ, DownGrad.frame_reference,
  fun m ρ _ => Kernel4.Gen.frame m ρ, fun m ρ _ => Kernel4Ideal.Gen.frame m ρ, GateIn.frame_reference,
  fun m ρ _ => Kernel5.Gen.frame m ρ, fun m ρ _ => Kernel5Ideal.Gen.frame m ρ, NormGrad.frame_reference,
  fun m ρ _ => Kernel6.Gen.frame m ρ, fun m ρ _ => Kernel6Ideal.Gen.frame m ρ, Project.frame_reference,
  fun m ρ _ => Kernel7.Gen.frame m ρ, fun m ρ _ => Kernel7Ideal.Gen.frame m ρ, OutGrad.frame_reference,
  fun m ρ _ => Kernel8.Gen.frame m ρ, fun m ρ _ => Kernel8Ideal.Gen.frame m ρ, OutWeight.frame_reference,
  fun m ρ _ => Kernel9.Gen.frame m ρ, fun m ρ _ => Kernel9Ideal.Gen.frame m ρ, ProjectWeight.frame_reference,
  fun m ρ _ => Kernel10.Gen.frame m ρ, fun m ρ _ => Kernel10Ideal.Gen.frame m ρ, GluA.frame_reference,
  fun m ρ _ => Kernel11.Gen.frame m ρ, fun m ρ _ => Kernel11Ideal.Gen.frame m ρ, GluB.frame_reference,
  fun m ρ _ => Kernel12.Gen.frame m ρ, fun m ρ _ => Kernel12Ideal.Gen.frame m ρ, MixIn.frame_reference,
  fun m ρ _ => Kernel13.Gen.frame m ρ, fun m ρ _ => Kernel13Ideal.Gen.frame m ρ, MixWeight.frame_reference,
  fun m ρ _ => Kernel14.Gen.frame m ρ, fun m ρ _ => Kernel14Ideal.Gen.frame m ρ, Down.frame_reference,
  fun m ρ _ => Kernel15.Gen.frame m ρ, fun m ρ _ => Kernel15Ideal.Gen.frame m ρ, OutNorm.frame_reference,
  fun m ρ _ => Kernel16.Gen.frame m ρ, fun m ρ _ => Kernel16Ideal.Gen.frame m ρ, ProjectNorm.frame_reference,
  fun m ρ _ => Kernel17.Gen.frame m ρ, fun m ρ _ => Kernel17Ideal.Gen.frame m ρ, MixNorm.frame_reference,
  fun m ρ _ => Kernel18.Gen.frame m ρ, fun m ρ _ => Kernel18Ideal.Gen.frame m ρ, Loss.frame_reference,
  fun m ρ _ => Kernel19.Gen.frame m ρ, fun m ρ _ => Kernel19Ideal.Gen.frame m ρ, LowQ.frame_reference,
  fun m ρ _ => Kernel20.Gen.frame m ρ, fun m ρ _ => Kernel20Ideal.Gen.frame m ρ, LowQGrad.frame_reference,
  fun m ρ _ => Kernel21.Gen.frame m ρ, fun m ρ _ => Kernel21Ideal.Gen.frame m ρ, LowQWeight.frame_reference,
  fun m ρ _ => Kernel22.Gen.frame m ρ, fun m ρ _ => Kernel22Ideal.Gen.frame m ρ, LowKv.frame_reference,
  fun m ρ _ => Kernel23.Gen.frame m ρ, fun m ρ _ => Kernel23Ideal.Gen.frame m ρ, LowKvGrad.frame_reference,
  fun m ρ _ => Kernel24.Gen.frame m ρ, fun m ρ _ => Kernel24Ideal.Gen.frame m ρ, LowKvWeight.frame_reference,
  fun m ρ _ => Kernel25.Gen.frame m ρ, fun m ρ _ => Kernel25Ideal.Gen.frame m ρ, MemKey.frame_reference,
  fun m ρ _ => Kernel26.Gen.frame m ρ, fun m ρ _ => Kernel26Ideal.Gen.frame m ρ, MemWeight.frame_reference,
  fun m ρ _ => Kernel27.Gen.frame m ρ, fun m ρ _ => Kernel27Ideal.Gen.frame m ρ, MemGrad.frame_reference,
  fun m ρ _ => Kernel28.Gen.frame m ρ, fun m ρ _ => Kernel28Ideal.Gen.frame m ρ, MemGradAdd.frame_reference,
  IdealRules.named_const.statement Cert.KernelIdeal.κ "mask" .f32 0xF149F2CA#32 ⊥ rfl, values,
  trivial, UpGrad.values, trivial, DownGrad.values, trivial, GateIn.values, trivial, NormGrad.values,
  trivial, Project.values, trivial, OutGrad.values, trivial, OutWeight.values, trivial, ProjectWeight.values, trivial, GluA.values, trivial, GluB.values, trivial, MixIn.values, trivial, MixWeight.values, trivial, Down.values, trivial, OutNorm.values, trivial, ProjectNorm.values, trivial, MixNorm.values, trivial, Loss.values, trivial, LowQ.values, trivial, LowQGrad.values, trivial, LowQWeight.values, trivial, LowKv.values, trivial, LowKvGrad.values, trivial, LowKvWeight.values, trivial, MemKey.values, trivial, MemWeight.values, trivial, MemGrad.values, trivial, MemGradAdd.values⟩

end Cert.Proof

end
